-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Conformer (m : (ℓ : Loc Cert.Conformer.nD Cert.Conformer.τ Cert.Conformer.sig) → Buf (Elt Bits) ℓ) : Prop :=
  True

def Pre_ConformerIdeal (m : (ℓ : Loc Cert.ConformerIdeal.nD Cert.ConformerIdeal.τ Cert.ConformerIdeal.sig) → Buf (Elt Ideal) ℓ) : Prop :=
  True

def Pre_ConformerRefIdeal (m : (ℓ : Loc Cert.ConformerRefIdeal.nD Cert.ConformerRefIdeal.τ Cert.ConformerRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnIdeal_finite_conditioning [hPre_finite_conditioning : Cert.Pre_finite_conditioning.Facts] (m : (ℓ : Loc Cert.AdalnIdeal.nD Cert.AdalnIdeal.τ Cert.AdalnIdeal.sig) → Buf (Elt Ideal) ℓ) : Prop :=
  ∀ c : Dev Cert.AdalnIdeal.nD,
    (Cert.Pre_finite_conditioning.fn (F := Ideal) (m ((c.tc : Thread Cert.AdalnIdeal.nD Cert.AdalnIdeal.τ).loc Cert.AdalnIdeal.main_arg0)) (m ((c.tc : Thread Cert.AdalnIdeal.nD Cert.AdalnIdeal.τ).loc Cert.AdalnIdeal.main_arg1)) (m ((c.tc : Thread Cert.AdalnIdeal.nD Cert.AdalnIdeal.τ).loc Cert.AdalnIdeal.main_arg2))) = (fun _ => 1#1)

def Pre_AdalnRefIdeal (m : (ℓ : Loc Cert.AdalnRefIdeal.nD Cert.AdalnRefIdeal.τ Cert.AdalnRefIdeal.sig) → Buf (Elt Ideal) ℓ) : Prop :=
  True

def Pre_AdalnRefIdeal_finite_conditioning [hPre_finite_conditioning : Cert.Pre_finite_conditioning.Facts] (m : (ℓ : Loc Cert.AdalnRefIdeal.nD Cert.AdalnRefIdeal.τ Cert.AdalnRefIdeal.sig) → Buf (Elt Ideal) ℓ) : Prop :=
  ∀ c : Dev Cert.AdalnRefIdeal.nD,
    (Cert.Pre_finite_conditioning.fn (F := Ideal) (m ((c.tc : Thread Cert.AdalnRefIdeal.nD Cert.AdalnRefIdeal.τ).loc Cert.AdalnRefIdeal.main_arg0)) (m ((c.tc : Thread Cert.AdalnRefIdeal.nD Cert.AdalnRefIdeal.τ).loc Cert.AdalnRefIdeal.main_arg1)) (m ((c.tc : Thread Cert.AdalnRefIdeal.nD Cert.AdalnRefIdeal.τ).loc Cert.AdalnRefIdeal.main_arg2))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProjCtx (m : (ℓ : Loc Cert.InProjCtx.nD Cert.InProjCtx.τ Cert.InProjCtx.sig) → Buf (Elt Bits) ℓ) : Prop :=
  True

def Pre_InProjCtxIdeal (m : (ℓ : Loc Cert.InProjCtxIdeal.nD Cert.InProjCtxIdeal.τ Cert.InProjCtxIdeal.sig) → Buf (Elt Ideal) ℓ) : Prop :=
  True

def Pre_InProjCtxRefIdeal (m : (ℓ : Loc Cert.InProjCtxRefIdeal.nD Cert.InProjCtxRefIdeal.τ Cert.InProjCtxRefIdeal.sig) → Buf (Elt Ideal) ℓ) : Prop :=
  True

def Pre_OutProjCtx (m : (ℓ : Loc Cert.OutProjCtx.nD Cert.OutProjCtx.τ Cert.OutProjCtx.sig) → Buf (Elt Bits) ℓ) : Prop :=
  True

def Pre_OutProjCtxIdeal (m : (ℓ : Loc Cert.OutProjCtxIdeal.nD Cert.OutProjCtxIdeal.τ Cert.OutProjCtxIdeal.sig) → Buf (Elt Ideal) ℓ) : Prop :=
  True

def Pre_OutProjCtxRefIdeal (m : (ℓ : Loc Cert.OutProjCtxRefIdeal.nD Cert.OutProjCtxRefIdeal.τ Cert.OutProjCtxRefIdeal.sig) → Buf (Elt Ideal) ℓ) : Prop :=
  True

def Pre_FfnDownCtx (m : (ℓ : Loc Cert.FfnDownCtx.nD Cert.FfnDownCtx.τ Cert.FfnDownCtx.sig) → Buf (Elt Bits) ℓ) : Prop :=
  True

def Pre_FfnDownCtxIdeal (m : (ℓ : Loc Cert.FfnDownCtxIdeal.nD Cert.FfnDownCtxIdeal.τ Cert.FfnDownCtxIdeal.sig) → Buf (Elt Ideal) ℓ) : Prop :=
  True

def Pre_FfnDownCtxRefIdeal (m : (ℓ : Loc Cert.FfnDownCtxRefIdeal.nD Cert.FfnDownCtxRefIdeal.τ Cert.FfnDownCtxRefIdeal.sig) → Buf (Elt Ideal) ℓ) : Prop :=
  True

def Pre_MergeCtx (m : (ℓ : Loc Cert.MergeCtx.nD Cert.MergeCtx.τ Cert.MergeCtx.sig) → Buf (Elt Bits) ℓ) : Prop :=
  True

def Pre_MergeCtxIdeal (m : (ℓ : Loc Cert.MergeCtxIdeal.nD Cert.MergeCtxIdeal.τ Cert.MergeCtxIdeal.sig) → Buf (Elt Ideal) ℓ) : Prop :=
  True

def Pre_MergeCtxRefIdeal (m : (ℓ : Loc Cert.MergeCtxRefIdeal.nD Cert.MergeCtxRefIdeal.τ Cert.MergeCtxRefIdeal.sig) → Buf (Elt Ideal) ℓ) : Prop :=
  True

def Pre_ConformerCtx (m : (ℓ : Loc Cert.ConformerCtx.nD Cert.ConformerCtx.τ Cert.ConformerCtx.sig) → Buf (Elt Bits) ℓ) : Prop :=
  True

def Pre_ConformerCtxIdeal (m : (ℓ : Loc Cert.ConformerCtxIdeal.nD Cert.ConformerCtxIdeal.τ Cert.ConformerCtxIdeal.sig) → Buf (Elt Ideal) ℓ) : Prop :=
  True

def Pre_ConformerCtxRefIdeal (m : (ℓ : Loc Cert.ConformerCtxRefIdeal.nD Cert.ConformerCtxRefIdeal.τ Cert.ConformerCtxRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Conformer [hConformer : Cert.Conformer.Facts] : Prop :=
  ∀ (m : (ℓ : Loc Cert.Conformer.nD Cert.Conformer.τ Cert.Conformer.sig) → Buf (Elt Bits) ℓ) (g : Dev Cert.Conformer.nD → PrngReg), Pre_Conformer m →
    θ_run (Cert.Conformer.defs (F := Bits)) (onTc (τ := Cert.Conformer.τ) (Cert.Conformer.main (F := Bits))) ⟨m, fun _ => 0, g⟩ (fun r => (∀ c : Dev Cert.Conformer.nD,
      r.2.mem ((c.tc : Thread Cert.Conformer.nD Cert.Conformer.τ).loc Cert.Conformer.main_arg0) = m ((c.tc : Thread Cert.Conformer.nD Cert.Conformer.τ).loc Cert.Conformer.main_arg0)
      ∧ r.2.mem ((c.tc : Thread Cert.Conformer.nD Cert.Conformer.τ).loc Cert.Conformer.main_arg1) = m ((c.tc : Thread Cert.Conformer.nD Cert.Conformer.τ).loc Cert.Conformer.main_arg1)
      ∧ r.2.mem ((c.tc : Thread Cert.Conformer.nD Cert.Conformer.τ).loc Cert.Conformer.main_arg2) = m ((c.tc : Thread Cert.Conformer.nD Cert.Conformer.τ).loc Cert.Conformer.main_arg2)
      ∧ r.2.mem ((c.tc : Thread Cert.Conformer.nD Cert.Conformer.τ).loc Cert.Conformer.main_arg3) = m ((c.tc : Thread Cert.Conformer.nD Cert.Conformer.τ).loc Cert.Conformer.main_arg3)
      ∧ r.2.mem ((c.tc : Thread Cert.Conformer.nD Cert.Conformer.τ).loc Cert.Conformer.main_arg4) = m ((c.tc : Thread Cert.Conformer.nD Cert.Conformer.τ).loc Cert.Conformer.main_arg4))
      ∧ r.2.sem = fun _ => 0)

def quiescent_ConformerIdeal [hConformerIdeal : Cert.ConformerIdeal.Facts] : Prop :=
  ∀ (m : (ℓ : Loc Cert.ConformerIdeal.nD Cert.ConformerIdeal.τ Cert.ConformerIdeal.sig) → Buf (Elt Ideal) ℓ) (g : Dev Cert.ConformerIdeal.nD → PrngReg), Pre_ConformerIdeal m →
    θ_run (Cert.ConformerIdeal.defs (F := Ideal)) (onTc (τ := Cert.ConformerIdeal.τ) (Cert.ConformerIdeal.main (F := Ideal))) ⟨m, fun _ => 0, g⟩ (fun r => (∀ c : Dev Cert.ConformerIdeal.nD,
      r.2.mem ((c.tc : Thread Cert.ConformerIdeal.nD Cert.ConformerIdeal.τ).loc Cert.ConformerIdeal.main_arg0) = m ((c.tc : Thread Cert.ConformerIdeal.nD Cert.ConformerIdeal.τ).loc Cert.ConformerIdeal.main_arg0)
      ∧ r.2.mem ((c.tc : Thread Cert.ConformerIdeal.nD Cert.ConformerIdeal.τ).loc Cert.ConformerIdeal.main_arg1) = m ((c.tc : Thread Cert.ConformerIdeal.nD Cert.ConformerIdeal.τ).loc Cert.ConformerIdeal.main_arg1)
      ∧ r.2.mem ((c.tc : Thread Cert.ConformerIdeal.nD Cert.ConformerIdeal.τ).loc Cert.ConformerIdeal.main_arg2) = m ((c.tc : Thread Cert.ConformerIdeal.nD Cert.ConformerIdeal.τ).loc Cert.ConformerIdeal.main_arg2)
      ∧ r.2.mem ((c.tc : Thread Cert.ConformerIdeal.nD Cert.ConformerIdeal.τ).loc Cert.ConformerIdeal.main_arg3) = m ((c.tc : Thread Cert.ConformerIdeal.nD Cert.ConformerIdeal.τ).loc Cert.ConformerIdeal.main_arg3)
      ∧ r.2.mem ((c.tc : Thread Cert.ConformerIdeal.nD Cert.ConformerIdeal.τ).loc Cert.ConformerIdeal.main_arg4) = m ((c.tc : Thread Cert.ConformerIdeal.nD Cert.ConformerIdeal.τ).loc Cert.ConformerIdeal.main_arg4))
      ∧ r.2.sem = fun _ => 0)

def quiescent_ConformerRefIdeal [hConformerRefIdeal : Cert.ConformerRefIdeal.Facts] : Prop :=
  ∀ (m : (ℓ : Loc Cert.ConformerRefIdeal.nD Cert.ConformerRefIdeal.τ Cert.ConformerRefIdeal.sig) → Buf (Elt Ideal) ℓ) (g : Dev Cert.ConformerRefIdeal.nD → PrngReg), Pre_ConformerRefIdeal m →
    θ_run (Cert.ConformerRefIdeal.defs (F := Ideal)) (onTc (τ := Cert.ConformerRefIdeal.τ) (Cert.ConformerRefIdeal.main (F := Ideal))) ⟨m, fun _ => 0, g⟩ (fun r => (∀ c : Dev Cert.ConformerRefIdeal.nD,
      r.2.mem ((c.tc : Thread Cert.ConformerRefIdeal.nD Cert.ConformerRefIdeal.τ).loc Cert.ConformerRefIdeal.main_arg0) = m ((c.tc : Thread Cert.ConformerRefIdeal.nD Cert.ConformerRefIdeal.τ).loc Cert.ConformerRefIdeal.main_arg0)
      ∧ r.2.mem ((c.tc : Thread Cert.ConformerRefIdeal.nD Cert.ConformerRefIdeal.τ).loc Cert.ConformerRefIdeal.main_arg1) = m ((c.tc : Thread Cert.ConformerRefIdeal.nD Cert.ConformerRefIdeal.τ).loc Cert.ConformerRefIdeal.main_arg1)
      ∧ r.2.mem ((c.tc : Thread Cert.ConformerRefIdeal.nD Cert.ConformerRefIdeal.τ).loc Cert.ConformerRefIdeal.main_arg2) = m ((c.tc : Thread Cert.ConformerRefIdeal.nD Cert.ConformerRefIdeal.τ).loc Cert.ConformerRefIdeal.main_arg2)
      ∧ r.2.mem ((c.tc : Thread Cert.ConformerRefIdeal.nD Cert.ConformerRefIdeal.τ).loc Cert.ConformerRefIdeal.main_arg3) = m ((c.tc : Thread Cert.ConformerRefIdeal.nD Cert.ConformerRefIdeal.τ).loc Cert.ConformerRefIdeal.main_arg3)
      ∧ r.2.mem ((c.tc : Thread Cert.ConformerRefIdeal.nD Cert.ConformerRefIdeal.τ).loc Cert.ConformerRefIdeal.main_arg4) = m ((c.tc : Thread Cert.ConformerRefIdeal.nD Cert.ConformerRefIdeal.τ).loc Cert.ConformerRefIdeal.main_arg4))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnIdeal_pre_finite_conditioning [hAdalnIdeal : Cert.AdalnIdeal.Facts] [hPre_finite_conditioning : Cert.Pre_finite_conditioning.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal_finite_conditioning m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def quiescent_AdalnRefIdeal_pre_finite_conditioning [hAdalnRefIdeal : Cert.AdalnRefIdeal.Facts] [hPre_finite_conditioning : Cert.Pre_finite_conditioning.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal_finite_conditioning m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4)
      ∧ r.2.mem ((c.tc : Thread Cert.FfnUp.nD Cert.FfnUp.τ).loc Cert.FfnUp.main_arg5) = m ((c.tc : Thread Cert.FfnUp.nD Cert.FfnUp.τ).loc Cert.FfnUp.main_arg5))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
      ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4)
      ∧ r.2.mem ((c.tc : Thread Cert.FfnUpRefIdeal.nD Cert.FfnUpRefIdeal.τ).loc Cert.FfnUpRefIdeal.main_arg5) = m ((c.tc : Thread Cert.FfnUpRefIdeal.nD Cert.FfnUpRefIdeal.τ).loc Cert.FfnUpRefIdeal.main_arg5))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_InProjCtx [hInProjCtx : Cert.InProjCtx.Facts] : Prop :=
  ∀ (m : (ℓ : Loc Cert.InProjCtx.nD Cert.InProjCtx.τ Cert.InProjCtx.sig) → Buf (Elt Bits) ℓ) (g : Dev Cert.InProjCtx.nD → PrngReg), Pre_InProjCtx m →
    θ_run (Cert.InProjCtx.defs (F := Bits)) (onTc (τ := Cert.InProjCtx.τ) (Cert.InProjCtx.main (F := Bits))) ⟨m, fun _ => 0, g⟩ (fun r => (∀ c : Dev Cert.InProjCtx.nD,
      r.2.mem ((c.tc : Thread Cert.InProjCtx.nD Cert.InProjCtx.τ).loc Cert.InProjCtx.main_arg0) = m ((c.tc : Thread Cert.InProjCtx.nD Cert.InProjCtx.τ).loc Cert.InProjCtx.main_arg0)
      ∧ r.2.mem ((c.tc : Thread Cert.InProjCtx.nD Cert.InProjCtx.τ).loc Cert.InProjCtx.main_arg1) = m ((c.tc : Thread Cert.InProjCtx.nD Cert.InProjCtx.τ).loc Cert.InProjCtx.main_arg1)
      ∧ r.2.mem ((c.tc : Thread Cert.InProjCtx.nD Cert.InProjCtx.τ).loc Cert.InProjCtx.main_arg2) = m ((c.tc : Thread Cert.InProjCtx.nD Cert.InProjCtx.τ).loc Cert.InProjCtx.main_arg2)
      ∧ r.2.mem ((c.tc : Thread Cert.InProjCtx.nD Cert.InProjCtx.τ).loc Cert.InProjCtx.main_arg3) = m ((c.tc : Thread Cert.InProjCtx.nD Cert.InProjCtx.τ).loc Cert.InProjCtx.main_arg3))
      ∧ r.2.sem = fun _ => 0)

def quiescent_InProjCtxIdeal [hInProjCtxIdeal : Cert.InProjCtxIdeal.Facts] : Prop :=
  ∀ (m : (ℓ : Loc Cert.InProjCtxIdeal.nD Cert.InProjCtxIdeal.τ Cert.InProjCtxIdeal.sig) → Buf (Elt Ideal) ℓ) (g : Dev Cert.InProjCtxIdeal.nD → PrngReg), Pre_InProjCtxIdeal m →
    θ_run (Cert.InProjCtxIdeal.defs (F := Ideal)) (onTc (τ := Cert.InProjCtxIdeal.τ) (Cert.InProjCtxIdeal.main (F := Ideal))) ⟨m, fun _ => 0, g⟩ (fun r => (∀ c : Dev Cert.InProjCtxIdeal.nD,
      r.2.mem ((c.tc : Thread Cert.InProjCtxIdeal.nD Cert.InProjCtxIdeal.τ).loc Cert.InProjCtxIdeal.main_arg0) = m ((c.tc : Thread Cert.InProjCtxIdeal.nD Cert.InProjCtxIdeal.τ).loc Cert.InProjCtxIdeal.main_arg0)
      ∧ r.2.mem ((c.tc : Thread Cert.InProjCtxIdeal.nD Cert.InProjCtxIdeal.τ).loc Cert.InProjCtxIdeal.main_arg1) = m ((c.tc : Thread Cert.InProjCtxIdeal.nD Cert.InProjCtxIdeal.τ).loc Cert.InProjCtxIdeal.main_arg1)
      ∧ r.2.mem ((c.tc : Thread Cert.InProjCtxIdeal.nD Cert.InProjCtxIdeal.τ).loc Cert.InProjCtxIdeal.main_arg2) = m ((c.tc : Thread Cert.InProjCtxIdeal.nD Cert.InProjCtxIdeal.τ).loc Cert.InProjCtxIdeal.main_arg2)
      ∧ r.2.mem ((c.tc : Thread Cert.InProjCtxIdeal.nD Cert.InProjCtxIdeal.τ).loc Cert.InProjCtxIdeal.main_arg3) = m ((c.tc : Thread Cert.InProjCtxIdeal.nD Cert.InProjCtxIdeal.τ).loc Cert.InProjCtxIdeal.main_arg3))
      ∧ r.2.sem = fun _ => 0)

def quiescent_InProjCtxRefIdeal [hInProjCtxRefIdeal : Cert.InProjCtxRefIdeal.Facts] : Prop :=
  ∀ (m : (ℓ : Loc Cert.InProjCtxRefIdeal.nD Cert.InProjCtxRefIdeal.τ Cert.InProjCtxRefIdeal.sig) → Buf (Elt Ideal) ℓ) (g : Dev Cert.InProjCtxRefIdeal.nD → PrngReg), Pre_InProjCtxRefIdeal m →
    θ_run (Cert.InProjCtxRefIdeal.defs (F := Ideal)) (onTc (τ := Cert.InProjCtxRefIdeal.τ) (Cert.InProjCtxRefIdeal.main (F := Ideal))) ⟨m, fun _ => 0, g⟩ (fun r => (∀ c : Dev Cert.InProjCtxRefIdeal.nD,
      r.2.mem ((c.tc : Thread Cert.InProjCtxRefIdeal.nD Cert.InProjCtxRefIdeal.τ).loc Cert.InProjCtxRefIdeal.main_arg0) = m ((c.tc : Thread Cert.InProjCtxRefIdeal.nD Cert.InProjCtxRefIdeal.τ).loc Cert.InProjCtxRefIdeal.main_arg0)
      ∧ r.2.mem ((c.tc : Thread Cert.InProjCtxRefIdeal.nD Cert.InProjCtxRefIdeal.τ).loc Cert.InProjCtxRefIdeal.main_arg1) = m ((c.tc : Thread Cert.InProjCtxRefIdeal.nD Cert.InProjCtxRefIdeal.τ).loc Cert.InProjCtxRefIdeal.main_arg1)
      ∧ r.2.mem ((c.tc : Thread Cert.InProjCtxRefIdeal.nD Cert.InProjCtxRefIdeal.τ).loc Cert.InProjCtxRefIdeal.main_arg2) = m ((c.tc : Thread Cert.InProjCtxRefIdeal.nD Cert.InProjCtxRefIdeal.τ).loc Cert.InProjCtxRefIdeal.main_arg2)
      ∧ r.2.mem ((c.tc : Thread Cert.InProjCtxRefIdeal.nD Cert.InProjCtxRefIdeal.τ).loc Cert.InProjCtxRefIdeal.main_arg3) = m ((c.tc : Thread Cert.InProjCtxRefIdeal.nD Cert.InProjCtxRefIdeal.τ).loc Cert.InProjCtxRefIdeal.main_arg3))
      ∧ r.2.sem = fun _ => 0)

def quiescent_OutProjCtx [hOutProjCtx : Cert.OutProjCtx.Facts] : Prop :=
  ∀ (m : (ℓ : Loc Cert.OutProjCtx.nD Cert.OutProjCtx.τ Cert.OutProjCtx.sig) → Buf (Elt Bits) ℓ) (g : Dev Cert.OutProjCtx.nD → PrngReg), Pre_OutProjCtx m →
    θ_run (Cert.OutProjCtx.defs (F := Bits)) (onTc (τ := Cert.OutProjCtx.τ) (Cert.OutProjCtx.main (F := Bits))) ⟨m, fun _ => 0, g⟩ (fun r => (∀ c : Dev Cert.OutProjCtx.nD,
      r.2.mem ((c.tc : Thread Cert.OutProjCtx.nD Cert.OutProjCtx.τ).loc Cert.OutProjCtx.main_arg0) = m ((c.tc : Thread Cert.OutProjCtx.nD Cert.OutProjCtx.τ).loc Cert.OutProjCtx.main_arg0)
      ∧ r.2.mem ((c.tc : Thread Cert.OutProjCtx.nD Cert.OutProjCtx.τ).loc Cert.OutProjCtx.main_arg1) = m ((c.tc : Thread Cert.OutProjCtx.nD Cert.OutProjCtx.τ).loc Cert.OutProjCtx.main_arg1)
      ∧ r.2.mem ((c.tc : Thread Cert.OutProjCtx.nD Cert.OutProjCtx.τ).loc Cert.OutProjCtx.main_arg2) = m ((c.tc : Thread Cert.OutProjCtx.nD Cert.OutProjCtx.τ).loc Cert.OutProjCtx.main_arg2)
      ∧ r.2.mem ((c.tc : Thread Cert.OutProjCtx.nD Cert.OutProjCtx.τ).loc Cert.OutProjCtx.main_arg3) = m ((c.tc : Thread Cert.OutProjCtx.nD Cert.OutProjCtx.τ).loc Cert.OutProjCtx.main_arg3))
      ∧ r.2.sem = fun _ => 0)

def quiescent_OutProjCtxIdeal [hOutProjCtxIdeal : Cert.OutProjCtxIdeal.Facts] : Prop :=
  ∀ (m : (ℓ : Loc Cert.OutProjCtxIdeal.nD Cert.OutProjCtxIdeal.τ Cert.OutProjCtxIdeal.sig) → Buf (Elt Ideal) ℓ) (g : Dev Cert.OutProjCtxIdeal.nD → PrngReg), Pre_OutProjCtxIdeal m →
    θ_run (Cert.OutProjCtxIdeal.defs (F := Ideal)) (onTc (τ := Cert.OutProjCtxIdeal.τ) (Cert.OutProjCtxIdeal.main (F := Ideal))) ⟨m, fun _ => 0, g⟩ (fun r => (∀ c : Dev Cert.OutProjCtxIdeal.nD,
      r.2.mem ((c.tc : Thread Cert.OutProjCtxIdeal.nD Cert.OutProjCtxIdeal.τ).loc Cert.OutProjCtxIdeal.main_arg0) = m ((c.tc : Thread Cert.OutProjCtxIdeal.nD Cert.OutProjCtxIdeal.τ).loc Cert.OutProjCtxIdeal.main_arg0)
      ∧ r.2.mem ((c.tc : Thread Cert.OutProjCtxIdeal.nD Cert.OutProjCtxIdeal.τ).loc Cert.OutProjCtxIdeal.main_arg1) = m ((c.tc : Thread Cert.OutProjCtxIdeal.nD Cert.OutProjCtxIdeal.τ).loc Cert.OutProjCtxIdeal.main_arg1)
      ∧ r.2.mem ((c.tc : Thread Cert.OutProjCtxIdeal.nD Cert.OutProjCtxIdeal.τ).loc Cert.OutProjCtxIdeal.main_arg2) = m ((c.tc : Thread Cert.OutProjCtxIdeal.nD Cert.OutProjCtxIdeal.τ).loc Cert.OutProjCtxIdeal.main_arg2)
      ∧ r.2.mem ((c.tc : Thread Cert.OutProjCtxIdeal.nD Cert.OutProjCtxIdeal.τ).loc Cert.OutProjCtxIdeal.main_arg3) = m ((c.tc : Thread Cert.OutProjCtxIdeal.nD Cert.OutProjCtxIdeal.τ).loc Cert.OutProjCtxIdeal.main_arg3))
      ∧ r.2.sem = fun _ => 0)

def quiescent_OutProjCtxRefIdeal [hOutProjCtxRefIdeal : Cert.OutProjCtxRefIdeal.Facts] : Prop :=
  ∀ (m : (ℓ : Loc Cert.OutProjCtxRefIdeal.nD Cert.OutProjCtxRefIdeal.τ Cert.OutProjCtxRefIdeal.sig) → Buf (Elt Ideal) ℓ) (g : Dev Cert.OutProjCtxRefIdeal.nD → PrngReg), Pre_OutProjCtxRefIdeal m →
    θ_run (Cert.OutProjCtxRefIdeal.defs (F := Ideal)) (onTc (τ := Cert.OutProjCtxRefIdeal.τ) (Cert.OutProjCtxRefIdeal.main (F := Ideal))) ⟨m, fun _ => 0, g⟩ (fun r => (∀ c : Dev Cert.OutProjCtxRefIdeal.nD,
      r.2.mem ((c.tc : Thread Cert.OutProjCtxRefIdeal.nD Cert.OutProjCtxRefIdeal.τ).loc Cert.OutProjCtxRefIdeal.main_arg0) = m ((c.tc : Thread Cert.OutProjCtxRefIdeal.nD Cert.OutProjCtxRefIdeal.τ).loc Cert.OutProjCtxRefIdeal.main_arg0)
      ∧ r.2.mem ((c.tc : Thread Cert.OutProjCtxRefIdeal.nD Cert.OutProjCtxRefIdeal.τ).loc Cert.OutProjCtxRefIdeal.main_arg1) = m ((c.tc : Thread Cert.OutProjCtxRefIdeal.nD Cert.OutProjCtxRefIdeal.τ).loc Cert.OutProjCtxRefIdeal.main_arg1)
      ∧ r.2.mem ((c.tc : Thread Cert.OutProjCtxRefIdeal.nD Cert.OutProjCtxRefIdeal.τ).loc Cert.OutProjCtxRefIdeal.main_arg2) = m ((c.tc : Thread Cert.OutProjCtxRefIdeal.nD Cert.OutProjCtxRefIdeal.τ).loc Cert.OutProjCtxRefIdeal.main_arg2)
      ∧ r.2.mem ((c.tc : Thread Cert.OutProjCtxRefIdeal.nD Cert.OutProjCtxRefIdeal.τ).loc Cert.OutProjCtxRefIdeal.main_arg3) = m ((c.tc : Thread Cert.OutProjCtxRefIdeal.nD Cert.OutProjCtxRefIdeal.τ).loc Cert.OutProjCtxRefIdeal.main_arg3))
      ∧ r.2.sem = fun _ => 0)

def quiescent_FfnDownCtx [hFfnDownCtx : Cert.FfnDownCtx.Facts] : Prop :=
  ∀ (m : (ℓ : Loc Cert.FfnDownCtx.nD Cert.FfnDownCtx.τ Cert.FfnDownCtx.sig) → Buf (Elt Bits) ℓ) (g : Dev Cert.FfnDownCtx.nD → PrngReg), Pre_FfnDownCtx m →
    θ_run (Cert.FfnDownCtx.defs (F := Bits)) (onTc (τ := Cert.FfnDownCtx.τ) (Cert.FfnDownCtx.main (F := Bits))) ⟨m, fun _ => 0, g⟩ (fun r => (∀ c : Dev Cert.FfnDownCtx.nD,
      r.2.mem ((c.tc : Thread Cert.FfnDownCtx.nD Cert.FfnDownCtx.τ).loc Cert.FfnDownCtx.main_arg0) = m ((c.tc : Thread Cert.FfnDownCtx.nD Cert.FfnDownCtx.τ).loc Cert.FfnDownCtx.main_arg0)
      ∧ r.2.mem ((c.tc : Thread Cert.FfnDownCtx.nD Cert.FfnDownCtx.τ).loc Cert.FfnDownCtx.main_arg1) = m ((c.tc : Thread Cert.FfnDownCtx.nD Cert.FfnDownCtx.τ).loc Cert.FfnDownCtx.main_arg1)
      ∧ r.2.mem ((c.tc : Thread Cert.FfnDownCtx.nD Cert.FfnDownCtx.τ).loc Cert.FfnDownCtx.main_arg2) = m ((c.tc : Thread Cert.FfnDownCtx.nD Cert.FfnDownCtx.τ).loc Cert.FfnDownCtx.main_arg2)
      ∧ r.2.mem ((c.tc : Thread Cert.FfnDownCtx.nD Cert.FfnDownCtx.τ).loc Cert.FfnDownCtx.main_arg3) = m ((c.tc : Thread Cert.FfnDownCtx.nD Cert.FfnDownCtx.τ).loc Cert.FfnDownCtx.main_arg3))
      ∧ r.2.sem = fun _ => 0)

def quiescent_FfnDownCtxIdeal [hFfnDownCtxIdeal : Cert.FfnDownCtxIdeal.Facts] : Prop :=
  ∀ (m : (ℓ : Loc Cert.FfnDownCtxIdeal.nD Cert.FfnDownCtxIdeal.τ Cert.FfnDownCtxIdeal.sig) → Buf (Elt Ideal) ℓ) (g : Dev Cert.FfnDownCtxIdeal.nD → PrngReg), Pre_FfnDownCtxIdeal m →
    θ_run (Cert.FfnDownCtxIdeal.defs (F := Ideal)) (onTc (τ := Cert.FfnDownCtxIdeal.τ) (Cert.FfnDownCtxIdeal.main (F := Ideal))) ⟨m, fun _ => 0, g⟩ (fun r => (∀ c : Dev Cert.FfnDownCtxIdeal.nD,
      r.2.mem ((c.tc : Thread Cert.FfnDownCtxIdeal.nD Cert.FfnDownCtxIdeal.τ).loc Cert.FfnDownCtxIdeal.main_arg0) = m ((c.tc : Thread Cert.FfnDownCtxIdeal.nD Cert.FfnDownCtxIdeal.τ).loc Cert.FfnDownCtxIdeal.main_arg0)
      ∧ r.2.mem ((c.tc : Thread Cert.FfnDownCtxIdeal.nD Cert.FfnDownCtxIdeal.τ).loc Cert.FfnDownCtxIdeal.main_arg1) = m ((c.tc : Thread Cert.FfnDownCtxIdeal.nD Cert.FfnDownCtxIdeal.τ).loc Cert.FfnDownCtxIdeal.main_arg1)
      ∧ r.2.mem ((c.tc : Thread Cert.FfnDownCtxIdeal.nD Cert.FfnDownCtxIdeal.τ).loc Cert.FfnDownCtxIdeal.main_arg2) = m ((c.tc : Thread Cert.FfnDownCtxIdeal.nD Cert.FfnDownCtxIdeal.τ).loc Cert.FfnDownCtxIdeal.main_arg2)
      ∧ r.2.mem ((c.tc : Thread Cert.FfnDownCtxIdeal.nD Cert.FfnDownCtxIdeal.τ).loc Cert.FfnDownCtxIdeal.main_arg3) = m ((c.tc : Thread Cert.FfnDownCtxIdeal.nD Cert.FfnDownCtxIdeal.τ).loc Cert.FfnDownCtxIdeal.main_arg3))
      ∧ r.2.sem = fun _ => 0)

def quiescent_FfnDownCtxRefIdeal [hFfnDownCtxRefIdeal : Cert.FfnDownCtxRefIdeal.Facts] : Prop :=
  ∀ (m : (ℓ : Loc Cert.FfnDownCtxRefIdeal.nD Cert.FfnDownCtxRefIdeal.τ Cert.FfnDownCtxRefIdeal.sig) → Buf (Elt Ideal) ℓ) (g : Dev Cert.FfnDownCtxRefIdeal.nD → PrngReg), Pre_FfnDownCtxRefIdeal m →
    θ_run (Cert.FfnDownCtxRefIdeal.defs (F := Ideal)) (onTc (τ := Cert.FfnDownCtxRefIdeal.τ) (Cert.FfnDownCtxRefIdeal.main (F := Ideal))) ⟨m, fun _ => 0, g⟩ (fun r => (∀ c : Dev Cert.FfnDownCtxRefIdeal.nD,
      r.2.mem ((c.tc : Thread Cert.FfnDownCtxRefIdeal.nD Cert.FfnDownCtxRefIdeal.τ).loc Cert.FfnDownCtxRefIdeal.main_arg0) = m ((c.tc : Thread Cert.FfnDownCtxRefIdeal.nD Cert.FfnDownCtxRefIdeal.τ).loc Cert.FfnDownCtxRefIdeal.main_arg0)
      ∧ r.2.mem ((c.tc : Thread Cert.FfnDownCtxRefIdeal.nD Cert.FfnDownCtxRefIdeal.τ).loc Cert.FfnDownCtxRefIdeal.main_arg1) = m ((c.tc : Thread Cert.FfnDownCtxRefIdeal.nD Cert.FfnDownCtxRefIdeal.τ).loc Cert.FfnDownCtxRefIdeal.main_arg1)
      ∧ r.2.mem ((c.tc : Thread Cert.FfnDownCtxRefIdeal.nD Cert.FfnDownCtxRefIdeal.τ).loc Cert.FfnDownCtxRefIdeal.main_arg2) = m ((c.tc : Thread Cert.FfnDownCtxRefIdeal.nD Cert.FfnDownCtxRefIdeal.τ).loc Cert.FfnDownCtxRefIdeal.main_arg2)
      ∧ r.2.mem ((c.tc : Thread Cert.FfnDownCtxRefIdeal.nD Cert.FfnDownCtxRefIdeal.τ).loc Cert.FfnDownCtxRefIdeal.main_arg3) = m ((c.tc : Thread Cert.FfnDownCtxRefIdeal.nD Cert.FfnDownCtxRefIdeal.τ).loc Cert.FfnDownCtxRefIdeal.main_arg3))
      ∧ r.2.sem = fun _ => 0)

def quiescent_MergeCtx [hMergeCtx : Cert.MergeCtx.Facts] : Prop :=
  ∀ (m : (ℓ : Loc Cert.MergeCtx.nD Cert.MergeCtx.τ Cert.MergeCtx.sig) → Buf (Elt Bits) ℓ) (g : Dev Cert.MergeCtx.nD → PrngReg), Pre_MergeCtx m →
    θ_run (Cert.MergeCtx.defs (F := Bits)) (onTc (τ := Cert.MergeCtx.τ) (Cert.MergeCtx.main (F := Bits))) ⟨m, fun _ => 0, g⟩ (fun r => (∀ c : Dev Cert.MergeCtx.nD,
      r.2.mem ((c.tc : Thread Cert.MergeCtx.nD Cert.MergeCtx.τ).loc Cert.MergeCtx.main_arg0) = m ((c.tc : Thread Cert.MergeCtx.nD Cert.MergeCtx.τ).loc Cert.MergeCtx.main_arg0)
      ∧ r.2.mem ((c.tc : Thread Cert.MergeCtx.nD Cert.MergeCtx.τ).loc Cert.MergeCtx.main_arg1) = m ((c.tc : Thread Cert.MergeCtx.nD Cert.MergeCtx.τ).loc Cert.MergeCtx.main_arg1)
      ∧ r.2.mem ((c.tc : Thread Cert.MergeCtx.nD Cert.MergeCtx.τ).loc Cert.MergeCtx.main_arg2) = m ((c.tc : Thread Cert.MergeCtx.nD Cert.MergeCtx.τ).loc Cert.MergeCtx.main_arg2)
      ∧ r.2.mem ((c.tc : Thread Cert.MergeCtx.nD Cert.MergeCtx.τ).loc Cert.MergeCtx.main_arg3) = m ((c.tc : Thread Cert.MergeCtx.nD Cert.MergeCtx.τ).loc Cert.MergeCtx.main_arg3)
      ∧ r.2.mem ((c.tc : Thread Cert.MergeCtx.nD Cert.MergeCtx.τ).loc Cert.MergeCtx.main_arg4) = m ((c.tc : Thread Cert.MergeCtx.nD Cert.MergeCtx.τ).loc Cert.MergeCtx.main_arg4)
      ∧ r.2.mem ((c.tc : Thread Cert.MergeCtx.nD Cert.MergeCtx.τ).loc Cert.MergeCtx.main_arg5) = m ((c.tc : Thread Cert.MergeCtx.nD Cert.MergeCtx.τ).loc Cert.MergeCtx.main_arg5)
      ∧ r.2.mem ((c.tc : Thread Cert.MergeCtx.nD Cert.MergeCtx.τ).loc Cert.MergeCtx.main_arg6) = m ((c.tc : Thread Cert.MergeCtx.nD Cert.MergeCtx.τ).loc Cert.MergeCtx.main_arg6)
      ∧ r.2.mem ((c.tc : Thread Cert.MergeCtx.nD Cert.MergeCtx.τ).loc Cert.MergeCtx.main_arg7) = m ((c.tc : Thread Cert.MergeCtx.nD Cert.MergeCtx.τ).loc Cert.MergeCtx.main_arg7)
      ∧ r.2.mem ((c.tc : Thread Cert.MergeCtx.nD Cert.MergeCtx.τ).loc Cert.MergeCtx.main_arg8) = m ((c.tc : Thread Cert.MergeCtx.nD Cert.MergeCtx.τ).loc Cert.MergeCtx.main_arg8)
      ∧ r.2.mem ((c.tc : Thread Cert.MergeCtx.nD Cert.MergeCtx.τ).loc Cert.MergeCtx.main_arg9) = m ((c.tc : Thread Cert.MergeCtx.nD Cert.MergeCtx.τ).loc Cert.MergeCtx.main_arg9))
      ∧ r.2.sem = fun _ => 0)

def quiescent_MergeCtxIdeal [hMergeCtxIdeal : Cert.MergeCtxIdeal.Facts] : Prop :=
  ∀ (m : (ℓ : Loc Cert.MergeCtxIdeal.nD Cert.MergeCtxIdeal.τ Cert.MergeCtxIdeal.sig) → Buf (Elt Ideal) ℓ) (g : Dev Cert.MergeCtxIdeal.nD → PrngReg), Pre_MergeCtxIdeal m →
    θ_run (Cert.MergeCtxIdeal.defs (F := Ideal)) (onTc (τ := Cert.MergeCtxIdeal.τ) (Cert.MergeCtxIdeal.main (F := Ideal))) ⟨m, fun _ => 0, g⟩ (fun r => (∀ c : Dev Cert.MergeCtxIdeal.nD,
      r.2.mem ((c.tc : Thread Cert.MergeCtxIdeal.nD Cert.MergeCtxIdeal.τ).loc Cert.MergeCtxIdeal.main_arg0) = m ((c.tc : Thread Cert.MergeCtxIdeal.nD Cert.MergeCtxIdeal.τ).loc Cert.MergeCtxIdeal.main_arg0)
      ∧ r.2.mem ((c.tc : Thread Cert.MergeCtxIdeal.nD Cert.MergeCtxIdeal.τ).loc Cert.MergeCtxIdeal.main_arg1) = m ((c.tc : Thread Cert.MergeCtxIdeal.nD Cert.MergeCtxIdeal.τ).loc Cert.MergeCtxIdeal.main_arg1)
      ∧ r.2.mem ((c.tc : Thread Cert.MergeCtxIdeal.nD Cert.MergeCtxIdeal.τ).loc Cert.MergeCtxIdeal.main_arg2) = m ((c.tc : Thread Cert.MergeCtxIdeal.nD Cert.MergeCtxIdeal.τ).loc Cert.MergeCtxIdeal.main_arg2)
      ∧ r.2.mem ((c.tc : Thread Cert.MergeCtxIdeal.nD Cert.MergeCtxIdeal.τ).loc Cert.MergeCtxIdeal.main_arg3) = m ((c.tc : Thread Cert.MergeCtxIdeal.nD Cert.MergeCtxIdeal.τ).loc Cert.MergeCtxIdeal.main_arg3)
      ∧ r.2.mem ((c.tc : Thread Cert.MergeCtxIdeal.nD Cert.MergeCtxIdeal.τ).loc Cert.MergeCtxIdeal.main_arg4) = m ((c.tc : Thread Cert.MergeCtxIdeal.nD Cert.MergeCtxIdeal.τ).loc Cert.MergeCtxIdeal.main_arg4)
      ∧ r.2.mem ((c.tc : Thread Cert.MergeCtxIdeal.nD Cert.MergeCtxIdeal.τ).loc Cert.MergeCtxIdeal.main_arg5) = m ((c.tc : Thread Cert.MergeCtxIdeal.nD Cert.MergeCtxIdeal.τ).loc Cert.MergeCtxIdeal.main_arg5)
      ∧ r.2.mem ((c.tc : Thread Cert.MergeCtxIdeal.nD Cert.MergeCtxIdeal.τ).loc Cert.MergeCtxIdeal.main_arg6) = m ((c.tc : Thread Cert.MergeCtxIdeal.nD Cert.MergeCtxIdeal.τ).loc Cert.MergeCtxIdeal.main_arg6)
      ∧ r.2.mem ((c.tc : Thread Cert.MergeCtxIdeal.nD Cert.MergeCtxIdeal.τ).loc Cert.MergeCtxIdeal.main_arg7) = m ((c.tc : Thread Cert.MergeCtxIdeal.nD Cert.MergeCtxIdeal.τ).loc Cert.MergeCtxIdeal.main_arg7)
      ∧ r.2.mem ((c.tc : Thread Cert.MergeCtxIdeal.nD Cert.MergeCtxIdeal.τ).loc Cert.MergeCtxIdeal.main_arg8) = m ((c.tc : Thread Cert.MergeCtxIdeal.nD Cert.MergeCtxIdeal.τ).loc Cert.MergeCtxIdeal.main_arg8)
      ∧ r.2.mem ((c.tc : Thread Cert.MergeCtxIdeal.nD Cert.MergeCtxIdeal.τ).loc Cert.MergeCtxIdeal.main_arg9) = m ((c.tc : Thread Cert.MergeCtxIdeal.nD Cert.MergeCtxIdeal.τ).loc Cert.MergeCtxIdeal.main_arg9))
      ∧ r.2.sem = fun _ => 0)

def quiescent_MergeCtxRefIdeal [hMergeCtxRefIdeal : Cert.MergeCtxRefIdeal.Facts] : Prop :=
  ∀ (m : (ℓ : Loc Cert.MergeCtxRefIdeal.nD Cert.MergeCtxRefIdeal.τ Cert.MergeCtxRefIdeal.sig) → Buf (Elt Ideal) ℓ) (g : Dev Cert.MergeCtxRefIdeal.nD → PrngReg), Pre_MergeCtxRefIdeal m →
    θ_run (Cert.MergeCtxRefIdeal.defs (F := Ideal)) (onTc (τ := Cert.MergeCtxRefIdeal.τ) (Cert.MergeCtxRefIdeal.main (F := Ideal))) ⟨m, fun _ => 0, g⟩ (fun r => (∀ c : Dev Cert.MergeCtxRefIdeal.nD,
      r.2.mem ((c.tc : Thread Cert.MergeCtxRefIdeal.nD Cert.MergeCtxRefIdeal.τ).loc Cert.MergeCtxRefIdeal.main_arg0) = m ((c.tc : Thread Cert.MergeCtxRefIdeal.nD Cert.MergeCtxRefIdeal.τ).loc Cert.MergeCtxRefIdeal.main_arg0)
      ∧ r.2.mem ((c.tc : Thread Cert.MergeCtxRefIdeal.nD Cert.MergeCtxRefIdeal.τ).loc Cert.MergeCtxRefIdeal.main_arg1) = m ((c.tc : Thread Cert.MergeCtxRefIdeal.nD Cert.MergeCtxRefIdeal.τ).loc Cert.MergeCtxRefIdeal.main_arg1)
      ∧ r.2.mem ((c.tc : Thread Cert.MergeCtxRefIdeal.nD Cert.MergeCtxRefIdeal.τ).loc Cert.MergeCtxRefIdeal.main_arg2) = m ((c.tc : Thread Cert.MergeCtxRefIdeal.nD Cert.MergeCtxRefIdeal.τ).loc Cert.MergeCtxRefIdeal.main_arg2)
      ∧ r.2.mem ((c.tc : Thread Cert.MergeCtxRefIdeal.nD Cert.MergeCtxRefIdeal.τ).loc Cert.MergeCtxRefIdeal.main_arg3) = m ((c.tc : Thread Cert.MergeCtxRefIdeal.nD Cert.MergeCtxRefIdeal.τ).loc Cert.MergeCtxRefIdeal.main_arg3)
      ∧ r.2.mem ((c.tc : Thread Cert.MergeCtxRefIdeal.nD Cert.MergeCtxRefIdeal.τ).loc Cert.MergeCtxRefIdeal.main_arg4) = m ((c.tc : Thread Cert.MergeCtxRefIdeal.nD Cert.MergeCtxRefIdeal.τ).loc Cert.MergeCtxRefIdeal.main_arg4)
      ∧ r.2.mem ((c.tc : Thread Cert.MergeCtxRefIdeal.nD Cert.MergeCtxRefIdeal.τ).loc Cert.MergeCtxRefIdeal.main_arg5) = m ((c.tc : Thread Cert.MergeCtxRefIdeal.nD Cert.MergeCtxRefIdeal.τ).loc Cert.MergeCtxRefIdeal.main_arg5)
      ∧ r.2.mem ((c.tc : Thread Cert.MergeCtxRefIdeal.nD Cert.MergeCtxRefIdeal.τ).loc Cert.MergeCtxRefIdeal.main_arg6) = m ((c.tc : Thread Cert.MergeCtxRefIdeal.nD Cert.MergeCtxRefIdeal.τ).loc Cert.MergeCtxRefIdeal.main_arg6)
      ∧ r.2.mem ((c.tc : Thread Cert.MergeCtxRefIdeal.nD Cert.MergeCtxRefIdeal.τ).loc Cert.MergeCtxRefIdeal.main_arg7) = m ((c.tc : Thread Cert.MergeCtxRefIdeal.nD Cert.MergeCtxRefIdeal.τ).loc Cert.MergeCtxRefIdeal.main_arg7)
      ∧ r.2.mem ((c.tc : Thread Cert.MergeCtxRefIdeal.nD Cert.MergeCtxRefIdeal.τ).loc Cert.MergeCtxRefIdeal.main_arg8) = m ((c.tc : Thread Cert.MergeCtxRefIdeal.nD Cert.MergeCtxRefIdeal.τ).loc Cert.MergeCtxRefIdeal.main_arg8)
      ∧ r.2.mem ((c.tc : Thread Cert.MergeCtxRefIdeal.nD Cert.MergeCtxRefIdeal.τ).loc Cert.MergeCtxRefIdeal.main_arg9) = m ((c.tc : Thread Cert.MergeCtxRefIdeal.nD Cert.MergeCtxRefIdeal.τ).loc Cert.MergeCtxRefIdeal.main_arg9))
      ∧ r.2.sem = fun _ => 0)

def quiescent_ConformerCtx [hConformerCtx : Cert.ConformerCtx.Facts] : Prop :=
  ∀ (m : (ℓ : Loc Cert.ConformerCtx.nD Cert.ConformerCtx.τ Cert.ConformerCtx.sig) → Buf (Elt Bits) ℓ) (g : Dev Cert.ConformerCtx.nD → PrngReg), Pre_ConformerCtx m →
    θ_run (Cert.ConformerCtx.defs (F := Bits)) (onTc (τ := Cert.ConformerCtx.τ) (Cert.ConformerCtx.main (F := Bits))) ⟨m, fun _ => 0, g⟩ (fun r => (∀ c : Dev Cert.ConformerCtx.nD,
      r.2.mem ((c.tc : Thread Cert.ConformerCtx.nD Cert.ConformerCtx.τ).loc Cert.ConformerCtx.main_arg0) = m ((c.tc : Thread Cert.ConformerCtx.nD Cert.ConformerCtx.τ).loc Cert.ConformerCtx.main_arg0)
      ∧ r.2.mem ((c.tc : Thread Cert.ConformerCtx.nD Cert.ConformerCtx.τ).loc Cert.ConformerCtx.main_arg1) = m ((c.tc : Thread Cert.ConformerCtx.nD Cert.ConformerCtx.τ).loc Cert.ConformerCtx.main_arg1)
      ∧ r.2.mem ((c.tc : Thread Cert.ConformerCtx.nD Cert.ConformerCtx.τ).loc Cert.ConformerCtx.main_arg2) = m ((c.tc : Thread Cert.ConformerCtx.nD Cert.ConformerCtx.τ).loc Cert.ConformerCtx.main_arg2)
      ∧ r.2.mem ((c.tc : Thread Cert.ConformerCtx.nD Cert.ConformerCtx.τ).loc Cert.ConformerCtx.main_arg3) = m ((c.tc : Thread Cert.ConformerCtx.nD Cert.ConformerCtx.τ).loc Cert.ConformerCtx.main_arg3)
      ∧ r.2.mem ((c.tc : Thread Cert.ConformerCtx.nD Cert.ConformerCtx.τ).loc Cert.ConformerCtx.main_arg4) = m ((c.tc : Thread Cert.ConformerCtx.nD Cert.ConformerCtx.τ).loc Cert.ConformerCtx.main_arg4))
      ∧ r.2.sem = fun _ => 0)

def quiescent_ConformerCtxIdeal [hConformerCtxIdeal : Cert.ConformerCtxIdeal.Facts] : Prop :=
  ∀ (m : (ℓ : Loc Cert.ConformerCtxIdeal.nD Cert.ConformerCtxIdeal.τ Cert.ConformerCtxIdeal.sig) → Buf (Elt Ideal) ℓ) (g : Dev Cert.ConformerCtxIdeal.nD → PrngReg), Pre_ConformerCtxIdeal m →
    θ_run (Cert.ConformerCtxIdeal.defs (F := Ideal)) (onTc (τ := Cert.ConformerCtxIdeal.τ) (Cert.ConformerCtxIdeal.main (F := Ideal))) ⟨m, fun _ => 0, g⟩ (fun r => (∀ c : Dev Cert.ConformerCtxIdeal.nD,
      r.2.mem ((c.tc : Thread Cert.ConformerCtxIdeal.nD Cert.ConformerCtxIdeal.τ).loc Cert.ConformerCtxIdeal.main_arg0) = m ((c.tc : Thread Cert.ConformerCtxIdeal.nD Cert.ConformerCtxIdeal.τ).loc Cert.ConformerCtxIdeal.main_arg0)
      ∧ r.2.mem ((c.tc : Thread Cert.ConformerCtxIdeal.nD Cert.ConformerCtxIdeal.τ).loc Cert.ConformerCtxIdeal.main_arg1) = m ((c.tc : Thread Cert.ConformerCtxIdeal.nD Cert.ConformerCtxIdeal.τ).loc Cert.ConformerCtxIdeal.main_arg1)
      ∧ r.2.mem ((c.tc : Thread Cert.ConformerCtxIdeal.nD Cert.ConformerCtxIdeal.τ).loc Cert.ConformerCtxIdeal.main_arg2) = m ((c.tc : Thread Cert.ConformerCtxIdeal.nD Cert.ConformerCtxIdeal.τ).loc Cert.ConformerCtxIdeal.main_arg2)
      ∧ r.2.mem ((c.tc : Thread Cert.ConformerCtxIdeal.nD Cert.ConformerCtxIdeal.τ).loc Cert.ConformerCtxIdeal.main_arg3) = m ((c.tc : Thread Cert.ConformerCtxIdeal.nD Cert.ConformerCtxIdeal.τ).loc Cert.ConformerCtxIdeal.main_arg3)
      ∧ r.2.mem ((c.tc : Thread Cert.ConformerCtxIdeal.nD Cert.ConformerCtxIdeal.τ).loc Cert.ConformerCtxIdeal.main_arg4) = m ((c.tc : Thread Cert.ConformerCtxIdeal.nD Cert.ConformerCtxIdeal.τ).loc Cert.ConformerCtxIdeal.main_arg4))
      ∧ r.2.sem = fun _ => 0)

def quiescent_ConformerCtxRefIdeal [hConformerCtxRefIdeal : Cert.ConformerCtxRefIdeal.Facts] : Prop :=
  ∀ (m : (ℓ : Loc Cert.ConformerCtxRefIdeal.nD Cert.ConformerCtxRefIdeal.τ Cert.ConformerCtxRefIdeal.sig) → Buf (Elt Ideal) ℓ) (g : Dev Cert.ConformerCtxRefIdeal.nD → PrngReg), Pre_ConformerCtxRefIdeal m →
    θ_run (Cert.ConformerCtxRefIdeal.defs (F := Ideal)) (onTc (τ := Cert.ConformerCtxRefIdeal.τ) (Cert.ConformerCtxRefIdeal.main (F := Ideal))) ⟨m, fun _ => 0, g⟩ (fun r => (∀ c : Dev Cert.ConformerCtxRefIdeal.nD,
      r.2.mem ((c.tc : Thread Cert.ConformerCtxRefIdeal.nD Cert.ConformerCtxRefIdeal.τ).loc Cert.ConformerCtxRefIdeal.main_arg0) = m ((c.tc : Thread Cert.ConformerCtxRefIdeal.nD Cert.ConformerCtxRefIdeal.τ).loc Cert.ConformerCtxRefIdeal.main_arg0)
      ∧ r.2.mem ((c.tc : Thread Cert.ConformerCtxRefIdeal.nD Cert.ConformerCtxRefIdeal.τ).loc Cert.ConformerCtxRefIdeal.main_arg1) = m ((c.tc : Thread Cert.ConformerCtxRefIdeal.nD Cert.ConformerCtxRefIdeal.τ).loc Cert.ConformerCtxRefIdeal.main_arg1)
      ∧ r.2.mem ((c.tc : Thread Cert.ConformerCtxRefIdeal.nD Cert.ConformerCtxRefIdeal.τ).loc Cert.ConformerCtxRefIdeal.main_arg2) = m ((c.tc : Thread Cert.ConformerCtxRefIdeal.nD Cert.ConformerCtxRefIdeal.τ).loc Cert.ConformerCtxRefIdeal.main_arg2)
      ∧ r.2.mem ((c.tc : Thread Cert.ConformerCtxRefIdeal.nD Cert.ConformerCtxRefIdeal.τ).loc Cert.ConformerCtxRefIdeal.main_arg3) = m ((c.tc : Thread Cert.ConformerCtxRefIdeal.nD Cert.ConformerCtxRefIdeal.τ).loc Cert.ConformerCtxRefIdeal.main_arg3)
      ∧ r.2.mem ((c.tc : Thread Cert.ConformerCtxRefIdeal.nD Cert.ConformerCtxRefIdeal.τ).loc Cert.ConformerCtxRefIdeal.main_arg4) = m ((c.tc : Thread Cert.ConformerCtxRefIdeal.nD Cert.ConformerCtxRefIdeal.τ).loc Cert.ConformerCtxRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v29) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Conformer_ConformerIdeal : Prop :=
  True

def algebraic_ConformerIdeal_ConformerRefIdeal [hConformerIdeal : Cert.ConformerIdeal.Facts] [hConformerRefIdeal : Cert.ConformerRefIdeal.Facts] : Prop :=
  ∀ (m : (ℓ : Loc Cert.ConformerIdeal.nD Cert.ConformerIdeal.τ Cert.ConformerIdeal.sig) → Buf (Elt Ideal) ℓ) (g : Dev Cert.ConformerIdeal.nD → PrngReg)
    (m' : (ℓ : Loc Cert.ConformerRefIdeal.nD Cert.ConformerRefIdeal.τ Cert.ConformerRefIdeal.sig) → Buf (Elt Ideal) ℓ) (g' : Dev Cert.ConformerRefIdeal.nD → PrngReg), Pre_ConformerIdeal m →
    (∀ c : Dev Cert.ConformerIdeal.nD,
      m' ((c.tc : Thread Cert.ConformerRefIdeal.nD Cert.ConformerRefIdeal.τ).loc Cert.ConformerRefIdeal.main_arg0) = m ((c.tc : Thread Cert.ConformerIdeal.nD Cert.ConformerIdeal.τ).loc Cert.ConformerIdeal.main_arg0)
      ∧ m' ((c.tc : Thread Cert.ConformerRefIdeal.nD Cert.ConformerRefIdeal.τ).loc Cert.ConformerRefIdeal.main_arg1) = m ((c.tc : Thread Cert.ConformerIdeal.nD Cert.ConformerIdeal.τ).loc Cert.ConformerIdeal.main_arg1)
      ∧ m' ((c.tc : Thread Cert.ConformerRefIdeal.nD Cert.ConformerRefIdeal.τ).loc Cert.ConformerRefIdeal.main_arg2) = m ((c.tc : Thread Cert.ConformerIdeal.nD Cert.ConformerIdeal.τ).loc Cert.ConformerIdeal.main_arg2)
      ∧ m' ((c.tc : Thread Cert.ConformerRefIdeal.nD Cert.ConformerRefIdeal.τ).loc Cert.ConformerRefIdeal.main_arg3) = m ((c.tc : Thread Cert.ConformerIdeal.nD Cert.ConformerIdeal.τ).loc Cert.ConformerIdeal.main_arg3)
      ∧ m' ((c.tc : Thread Cert.ConformerRefIdeal.nD Cert.ConformerRefIdeal.τ).loc Cert.ConformerRefIdeal.main_arg4) = m ((c.tc : Thread Cert.ConformerIdeal.nD Cert.ConformerIdeal.τ).loc Cert.ConformerIdeal.main_arg4)) →
    ∃ (v0 : (c : Dev Cert.ConformerIdeal.nD) → Buf (Elt Ideal) ((c.tc : Thread Cert.ConformerIdeal.nD Cert.ConformerIdeal.τ).loc Cert.ConformerIdeal.main_v3)),
      θ_run (Cert.ConformerIdeal.defs (F := Ideal)) (onTc (τ := Cert.ConformerIdeal.τ) (Cert.ConformerIdeal.main (F := Ideal))) ⟨m, fun _ => 0, g⟩ (fun r => ∀ c : Dev Cert.ConformerIdeal.nD,
          r.2.mem ((c.tc : Thread Cert.ConformerIdeal.nD Cert.ConformerIdeal.τ).loc Cert.ConformerIdeal.main_v3) = v0 c
          ∧ r.2.mem ((c.tc : Thread Cert.ConformerIdeal.nD Cert.ConformerIdeal.τ).loc Cert.ConformerIdeal.main_arg0) = m ((c.tc : Thread Cert.ConformerIdeal.nD Cert.ConformerIdeal.τ).loc Cert.ConformerIdeal.main_arg0)
          ∧ r.2.mem ((c.tc : Thread Cert.ConformerIdeal.nD Cert.ConformerIdeal.τ).loc Cert.ConformerIdeal.main_arg1) = m ((c.tc : Thread Cert.ConformerIdeal.nD Cert.ConformerIdeal.τ).loc Cert.ConformerIdeal.main_arg1)
          ∧ r.2.mem ((c.tc : Thread Cert.ConformerIdeal.nD Cert.ConformerIdeal.τ).loc Cert.ConformerIdeal.main_arg2) = m ((c.tc : Thread Cert.ConformerIdeal.nD Cert.ConformerIdeal.τ).loc Cert.ConformerIdeal.main_arg2)
          ∧ r.2.mem ((c.tc : Thread Cert.ConformerIdeal.nD Cert.ConformerIdeal.τ).loc Cert.ConformerIdeal.main_arg3) = m ((c.tc : Thread Cert.ConformerIdeal.nD Cert.ConformerIdeal.τ).loc Cert.ConformerIdeal.main_arg3)
          ∧ r.2.mem ((c.tc : Thread Cert.ConformerIdeal.nD Cert.ConformerIdeal.τ).loc Cert.ConformerIdeal.main_arg4) = m ((c.tc : Thread Cert.ConformerIdeal.nD Cert.ConformerIdeal.τ).loc Cert.ConformerIdeal.main_arg4))
      ∧ θ_run (Cert.ConformerRefIdeal.defs (F := Ideal)) (onTc (τ := Cert.ConformerRefIdeal.τ) (Cert.ConformerRefIdeal.main (F := Ideal))) ⟨m', fun _ => 0, g'⟩ (fun r => ∀ c : Dev Cert.ConformerRefIdeal.nD,
          r.2.mem ((c.tc : Thread Cert.ConformerRefIdeal.nD Cert.ConformerRefIdeal.τ).loc Cert.ConformerRefIdeal.main_v256) = v0 c
          ∧ r.2.mem ((c.tc : Thread Cert.ConformerRefIdeal.nD Cert.ConformerRefIdeal.τ).loc Cert.ConformerRefIdeal.main_arg0) = m' ((c.tc : Thread Cert.ConformerRefIdeal.nD Cert.ConformerRefIdeal.τ).loc Cert.ConformerRefIdeal.main_arg0)
          ∧ r.2.mem ((c.tc : Thread Cert.ConformerRefIdeal.nD Cert.ConformerRefIdeal.τ).loc Cert.ConformerRefIdeal.main_arg1) = m' ((c.tc : Thread Cert.ConformerRefIdeal.nD Cert.ConformerRefIdeal.τ).loc Cert.ConformerRefIdeal.main_arg1)
          ∧ r.2.mem ((c.tc : Thread Cert.ConformerRefIdeal.nD Cert.ConformerRefIdeal.τ).loc Cert.ConformerRefIdeal.main_arg2) = m' ((c.tc : Thread Cert.ConformerRefIdeal.nD Cert.ConformerRefIdeal.τ).loc Cert.ConformerRefIdeal.main_arg2)
          ∧ r.2.mem ((c.tc : Thread Cert.ConformerRefIdeal.nD Cert.ConformerRefIdeal.τ).loc Cert.ConformerRefIdeal.main_arg3) = m' ((c.tc : Thread Cert.ConformerRefIdeal.nD Cert.ConformerRefIdeal.τ).loc Cert.ConformerRefIdeal.main_arg3)
          ∧ r.2.mem ((c.tc : Thread Cert.ConformerRefIdeal.nD Cert.ConformerRefIdeal.τ).loc Cert.ConformerRefIdeal.main_arg4) = m' ((c.tc : Thread Cert.ConformerRefIdeal.nD Cert.ConformerRefIdeal.τ).loc Cert.ConformerRefIdeal.main_arg4))

def preserves_Adaln_AdalnIdeal : Prop :=
  True

def algebraic_AdalnIdeal_AdalnRefIdeal_pre_finite_conditioning [hAdalnIdeal : Cert.AdalnIdeal.Facts] [hAdalnRefIdeal : Cert.AdalnRefIdeal.Facts] [hPre_finite_conditioning : Cert.Pre_finite_conditioning.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal_finite_conditioning m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v1)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v1) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v8) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)
      ∧ m' ((c.tc : Thread Cert.FfnUpRefIdeal.nD Cert.FfnUpRefIdeal.τ).loc Cert.FfnUpRefIdeal.main_arg5) = m ((c.tc : Thread Cert.FfnUpIdeal.nD Cert.FfnUpIdeal.τ).loc Cert.FfnUpIdeal.main_arg5)) →
    ∃ (v0 : (c : Dev Cert.FfnUpIdeal.nD) → Buf (Elt Ideal) ((c.tc : Thread Cert.FfnUpIdeal.nD Cert.FfnUpIdeal.τ).loc Cert.FfnUpIdeal.main_v4)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
          ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v58) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4)
          ∧ r.2.mem ((c.tc : Thread Cert.FfnUpRefIdeal.nD Cert.FfnUpRefIdeal.τ).loc Cert.FfnUpRefIdeal.main_arg5) = m' ((c.tc : Thread Cert.FfnUpRefIdeal.nD Cert.FfnUpRefIdeal.τ).loc Cert.FfnUpRefIdeal.main_arg5))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v14) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v54) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v14) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_InProjCtx_InProjCtxIdeal : Prop :=
  True

def algebraic_InProjCtxIdeal_InProjCtxRefIdeal [hInProjCtxIdeal : Cert.InProjCtxIdeal.Facts] [hInProjCtxRefIdeal : Cert.InProjCtxRefIdeal.Facts] : Prop :=
  ∀ (m : (ℓ : Loc Cert.InProjCtxIdeal.nD Cert.InProjCtxIdeal.τ Cert.InProjCtxIdeal.sig) → Buf (Elt Ideal) ℓ) (g : Dev Cert.InProjCtxIdeal.nD → PrngReg)
    (m' : (ℓ : Loc Cert.InProjCtxRefIdeal.nD Cert.InProjCtxRefIdeal.τ Cert.InProjCtxRefIdeal.sig) → Buf (Elt Ideal) ℓ) (g' : Dev Cert.InProjCtxRefIdeal.nD → PrngReg), Pre_InProjCtxIdeal m →
    (∀ c : Dev Cert.InProjCtxIdeal.nD,
      m' ((c.tc : Thread Cert.InProjCtxRefIdeal.nD Cert.InProjCtxRefIdeal.τ).loc Cert.InProjCtxRefIdeal.main_arg0) = m ((c.tc : Thread Cert.InProjCtxIdeal.nD Cert.InProjCtxIdeal.τ).loc Cert.InProjCtxIdeal.main_arg0)
      ∧ m' ((c.tc : Thread Cert.InProjCtxRefIdeal.nD Cert.InProjCtxRefIdeal.τ).loc Cert.InProjCtxRefIdeal.main_arg1) = m ((c.tc : Thread Cert.InProjCtxIdeal.nD Cert.InProjCtxIdeal.τ).loc Cert.InProjCtxIdeal.main_arg1)
      ∧ m' ((c.tc : Thread Cert.InProjCtxRefIdeal.nD Cert.InProjCtxRefIdeal.τ).loc Cert.InProjCtxRefIdeal.main_arg2) = m ((c.tc : Thread Cert.InProjCtxIdeal.nD Cert.InProjCtxIdeal.τ).loc Cert.InProjCtxIdeal.main_arg2)
      ∧ m' ((c.tc : Thread Cert.InProjCtxRefIdeal.nD Cert.InProjCtxRefIdeal.τ).loc Cert.InProjCtxRefIdeal.main_arg3) = m ((c.tc : Thread Cert.InProjCtxIdeal.nD Cert.InProjCtxIdeal.τ).loc Cert.InProjCtxIdeal.main_arg3)) →
    ∃ (v0 : (c : Dev Cert.InProjCtxIdeal.nD) → Buf (Elt Ideal) ((c.tc : Thread Cert.InProjCtxIdeal.nD Cert.InProjCtxIdeal.τ).loc Cert.InProjCtxIdeal.main_v2)),
      θ_run (Cert.InProjCtxIdeal.defs (F := Ideal)) (onTc (τ := Cert.InProjCtxIdeal.τ) (Cert.InProjCtxIdeal.main (F := Ideal))) ⟨m, fun _ => 0, g⟩ (fun r => ∀ c : Dev Cert.InProjCtxIdeal.nD,
          r.2.mem ((c.tc : Thread Cert.InProjCtxIdeal.nD Cert.InProjCtxIdeal.τ).loc Cert.InProjCtxIdeal.main_v2) = v0 c
          ∧ r.2.mem ((c.tc : Thread Cert.InProjCtxIdeal.nD Cert.InProjCtxIdeal.τ).loc Cert.InProjCtxIdeal.main_arg0) = m ((c.tc : Thread Cert.InProjCtxIdeal.nD Cert.InProjCtxIdeal.τ).loc Cert.InProjCtxIdeal.main_arg0)
          ∧ r.2.mem ((c.tc : Thread Cert.InProjCtxIdeal.nD Cert.InProjCtxIdeal.τ).loc Cert.InProjCtxIdeal.main_arg1) = m ((c.tc : Thread Cert.InProjCtxIdeal.nD Cert.InProjCtxIdeal.τ).loc Cert.InProjCtxIdeal.main_arg1)
          ∧ r.2.mem ((c.tc : Thread Cert.InProjCtxIdeal.nD Cert.InProjCtxIdeal.τ).loc Cert.InProjCtxIdeal.main_arg2) = m ((c.tc : Thread Cert.InProjCtxIdeal.nD Cert.InProjCtxIdeal.τ).loc Cert.InProjCtxIdeal.main_arg2)
          ∧ r.2.mem ((c.tc : Thread Cert.InProjCtxIdeal.nD Cert.InProjCtxIdeal.τ).loc Cert.InProjCtxIdeal.main_arg3) = m ((c.tc : Thread Cert.InProjCtxIdeal.nD Cert.InProjCtxIdeal.τ).loc Cert.InProjCtxIdeal.main_arg3))
      ∧ θ_run (Cert.InProjCtxRefIdeal.defs (F := Ideal)) (onTc (τ := Cert.InProjCtxRefIdeal.τ) (Cert.InProjCtxRefIdeal.main (F := Ideal))) ⟨m', fun _ => 0, g'⟩ (fun r => ∀ c : Dev Cert.InProjCtxRefIdeal.nD,
          r.2.mem ((c.tc : Thread Cert.InProjCtxRefIdeal.nD Cert.InProjCtxRefIdeal.τ).loc Cert.InProjCtxRefIdeal.main_v31) = v0 c
          ∧ r.2.mem ((c.tc : Thread Cert.InProjCtxRefIdeal.nD Cert.InProjCtxRefIdeal.τ).loc Cert.InProjCtxRefIdeal.main_arg0) = m' ((c.tc : Thread Cert.InProjCtxRefIdeal.nD Cert.InProjCtxRefIdeal.τ).loc Cert.InProjCtxRefIdeal.main_arg0)
          ∧ r.2.mem ((c.tc : Thread Cert.InProjCtxRefIdeal.nD Cert.InProjCtxRefIdeal.τ).loc Cert.InProjCtxRefIdeal.main_arg1) = m' ((c.tc : Thread Cert.InProjCtxRefIdeal.nD Cert.InProjCtxRefIdeal.τ).loc Cert.InProjCtxRefIdeal.main_arg1)
          ∧ r.2.mem ((c.tc : Thread Cert.InProjCtxRefIdeal.nD Cert.InProjCtxRefIdeal.τ).loc Cert.InProjCtxRefIdeal.main_arg2) = m' ((c.tc : Thread Cert.InProjCtxRefIdeal.nD Cert.InProjCtxRefIdeal.τ).loc Cert.InProjCtxRefIdeal.main_arg2)
          ∧ r.2.mem ((c.tc : Thread Cert.InProjCtxRefIdeal.nD Cert.InProjCtxRefIdeal.τ).loc Cert.InProjCtxRefIdeal.main_arg3) = m' ((c.tc : Thread Cert.InProjCtxRefIdeal.nD Cert.InProjCtxRefIdeal.τ).loc Cert.InProjCtxRefIdeal.main_arg3))

def preserves_OutProjCtx_OutProjCtxIdeal : Prop :=
  True

def algebraic_OutProjCtxIdeal_OutProjCtxRefIdeal [hOutProjCtxIdeal : Cert.OutProjCtxIdeal.Facts] [hOutProjCtxRefIdeal : Cert.OutProjCtxRefIdeal.Facts] : Prop :=
  ∀ (m : (ℓ : Loc Cert.OutProjCtxIdeal.nD Cert.OutProjCtxIdeal.τ Cert.OutProjCtxIdeal.sig) → Buf (Elt Ideal) ℓ) (g : Dev Cert.OutProjCtxIdeal.nD → PrngReg)
    (m' : (ℓ : Loc Cert.OutProjCtxRefIdeal.nD Cert.OutProjCtxRefIdeal.τ Cert.OutProjCtxRefIdeal.sig) → Buf (Elt Ideal) ℓ) (g' : Dev Cert.OutProjCtxRefIdeal.nD → PrngReg), Pre_OutProjCtxIdeal m →
    (∀ c : Dev Cert.OutProjCtxIdeal.nD,
      m' ((c.tc : Thread Cert.OutProjCtxRefIdeal.nD Cert.OutProjCtxRefIdeal.τ).loc Cert.OutProjCtxRefIdeal.main_arg0) = m ((c.tc : Thread Cert.OutProjCtxIdeal.nD Cert.OutProjCtxIdeal.τ).loc Cert.OutProjCtxIdeal.main_arg0)
      ∧ m' ((c.tc : Thread Cert.OutProjCtxRefIdeal.nD Cert.OutProjCtxRefIdeal.τ).loc Cert.OutProjCtxRefIdeal.main_arg1) = m ((c.tc : Thread Cert.OutProjCtxIdeal.nD Cert.OutProjCtxIdeal.τ).loc Cert.OutProjCtxIdeal.main_arg1)
      ∧ m' ((c.tc : Thread Cert.OutProjCtxRefIdeal.nD Cert.OutProjCtxRefIdeal.τ).loc Cert.OutProjCtxRefIdeal.main_arg2) = m ((c.tc : Thread Cert.OutProjCtxIdeal.nD Cert.OutProjCtxIdeal.τ).loc Cert.OutProjCtxIdeal.main_arg2)
      ∧ m' ((c.tc : Thread Cert.OutProjCtxRefIdeal.nD Cert.OutProjCtxRefIdeal.τ).loc Cert.OutProjCtxRefIdeal.main_arg3) = m ((c.tc : Thread Cert.OutProjCtxIdeal.nD Cert.OutProjCtxIdeal.τ).loc Cert.OutProjCtxIdeal.main_arg3)) →
    ∃ (v0 : (c : Dev Cert.OutProjCtxIdeal.nD) → Buf (Elt Ideal) ((c.tc : Thread Cert.OutProjCtxIdeal.nD Cert.OutProjCtxIdeal.τ).loc Cert.OutProjCtxIdeal.main_v2)),
      θ_run (Cert.OutProjCtxIdeal.defs (F := Ideal)) (onTc (τ := Cert.OutProjCtxIdeal.τ) (Cert.OutProjCtxIdeal.main (F := Ideal))) ⟨m, fun _ => 0, g⟩ (fun r => ∀ c : Dev Cert.OutProjCtxIdeal.nD,
          r.2.mem ((c.tc : Thread Cert.OutProjCtxIdeal.nD Cert.OutProjCtxIdeal.τ).loc Cert.OutProjCtxIdeal.main_v2) = v0 c
          ∧ r.2.mem ((c.tc : Thread Cert.OutProjCtxIdeal.nD Cert.OutProjCtxIdeal.τ).loc Cert.OutProjCtxIdeal.main_arg0) = m ((c.tc : Thread Cert.OutProjCtxIdeal.nD Cert.OutProjCtxIdeal.τ).loc Cert.OutProjCtxIdeal.main_arg0)
          ∧ r.2.mem ((c.tc : Thread Cert.OutProjCtxIdeal.nD Cert.OutProjCtxIdeal.τ).loc Cert.OutProjCtxIdeal.main_arg1) = m ((c.tc : Thread Cert.OutProjCtxIdeal.nD Cert.OutProjCtxIdeal.τ).loc Cert.OutProjCtxIdeal.main_arg1)
          ∧ r.2.mem ((c.tc : Thread Cert.OutProjCtxIdeal.nD Cert.OutProjCtxIdeal.τ).loc Cert.OutProjCtxIdeal.main_arg2) = m ((c.tc : Thread Cert.OutProjCtxIdeal.nD Cert.OutProjCtxIdeal.τ).loc Cert.OutProjCtxIdeal.main_arg2)
          ∧ r.2.mem ((c.tc : Thread Cert.OutProjCtxIdeal.nD Cert.OutProjCtxIdeal.τ).loc Cert.OutProjCtxIdeal.main_arg3) = m ((c.tc : Thread Cert.OutProjCtxIdeal.nD Cert.OutProjCtxIdeal.τ).loc Cert.OutProjCtxIdeal.main_arg3))
      ∧ θ_run (Cert.OutProjCtxRefIdeal.defs (F := Ideal)) (onTc (τ := Cert.OutProjCtxRefIdeal.τ) (Cert.OutProjCtxRefIdeal.main (F := Ideal))) ⟨m', fun _ => 0, g'⟩ (fun r => ∀ c : Dev Cert.OutProjCtxRefIdeal.nD,
          r.2.mem ((c.tc : Thread Cert.OutProjCtxRefIdeal.nD Cert.OutProjCtxRefIdeal.τ).loc Cert.OutProjCtxRefIdeal.main_v15) = v0 c
          ∧ r.2.mem ((c.tc : Thread Cert.OutProjCtxRefIdeal.nD Cert.OutProjCtxRefIdeal.τ).loc Cert.OutProjCtxRefIdeal.main_arg0) = m' ((c.tc : Thread Cert.OutProjCtxRefIdeal.nD Cert.OutProjCtxRefIdeal.τ).loc Cert.OutProjCtxRefIdeal.main_arg0)
          ∧ r.2.mem ((c.tc : Thread Cert.OutProjCtxRefIdeal.nD Cert.OutProjCtxRefIdeal.τ).loc Cert.OutProjCtxRefIdeal.main_arg1) = m' ((c.tc : Thread Cert.OutProjCtxRefIdeal.nD Cert.OutProjCtxRefIdeal.τ).loc Cert.OutProjCtxRefIdeal.main_arg1)
          ∧ r.2.mem ((c.tc : Thread Cert.OutProjCtxRefIdeal.nD Cert.OutProjCtxRefIdeal.τ).loc Cert.OutProjCtxRefIdeal.main_arg2) = m' ((c.tc : Thread Cert.OutProjCtxRefIdeal.nD Cert.OutProjCtxRefIdeal.τ).loc Cert.OutProjCtxRefIdeal.main_arg2)
          ∧ r.2.mem ((c.tc : Thread Cert.OutProjCtxRefIdeal.nD Cert.OutProjCtxRefIdeal.τ).loc Cert.OutProjCtxRefIdeal.main_arg3) = m' ((c.tc : Thread Cert.OutProjCtxRefIdeal.nD Cert.OutProjCtxRefIdeal.τ).loc Cert.OutProjCtxRefIdeal.main_arg3))

def preserves_FfnDownCtx_FfnDownCtxIdeal : Prop :=
  True

def algebraic_FfnDownCtxIdeal_FfnDownCtxRefIdeal [hFfnDownCtxIdeal : Cert.FfnDownCtxIdeal.Facts] [hFfnDownCtxRefIdeal : Cert.FfnDownCtxRefIdeal.Facts] : Prop :=
  ∀ (m : (ℓ : Loc Cert.FfnDownCtxIdeal.nD Cert.FfnDownCtxIdeal.τ Cert.FfnDownCtxIdeal.sig) → Buf (Elt Ideal) ℓ) (g : Dev Cert.FfnDownCtxIdeal.nD → PrngReg)
    (m' : (ℓ : Loc Cert.FfnDownCtxRefIdeal.nD Cert.FfnDownCtxRefIdeal.τ Cert.FfnDownCtxRefIdeal.sig) → Buf (Elt Ideal) ℓ) (g' : Dev Cert.FfnDownCtxRefIdeal.nD → PrngReg), Pre_FfnDownCtxIdeal m →
    (∀ c : Dev Cert.FfnDownCtxIdeal.nD,
      m' ((c.tc : Thread Cert.FfnDownCtxRefIdeal.nD Cert.FfnDownCtxRefIdeal.τ).loc Cert.FfnDownCtxRefIdeal.main_arg0) = m ((c.tc : Thread Cert.FfnDownCtxIdeal.nD Cert.FfnDownCtxIdeal.τ).loc Cert.FfnDownCtxIdeal.main_arg0)
      ∧ m' ((c.tc : Thread Cert.FfnDownCtxRefIdeal.nD Cert.FfnDownCtxRefIdeal.τ).loc Cert.FfnDownCtxRefIdeal.main_arg1) = m ((c.tc : Thread Cert.FfnDownCtxIdeal.nD Cert.FfnDownCtxIdeal.τ).loc Cert.FfnDownCtxIdeal.main_arg1)
      ∧ m' ((c.tc : Thread Cert.FfnDownCtxRefIdeal.nD Cert.FfnDownCtxRefIdeal.τ).loc Cert.FfnDownCtxRefIdeal.main_arg2) = m ((c.tc : Thread Cert.FfnDownCtxIdeal.nD Cert.FfnDownCtxIdeal.τ).loc Cert.FfnDownCtxIdeal.main_arg2)
      ∧ m' ((c.tc : Thread Cert.FfnDownCtxRefIdeal.nD Cert.FfnDownCtxRefIdeal.τ).loc Cert.FfnDownCtxRefIdeal.main_arg3) = m ((c.tc : Thread Cert.FfnDownCtxIdeal.nD Cert.FfnDownCtxIdeal.τ).loc Cert.FfnDownCtxIdeal.main_arg3)) →
    ∃ (v0 : (c : Dev Cert.FfnDownCtxIdeal.nD) → Buf (Elt Ideal) ((c.tc : Thread Cert.FfnDownCtxIdeal.nD Cert.FfnDownCtxIdeal.τ).loc Cert.FfnDownCtxIdeal.main_v2)),
      θ_run (Cert.FfnDownCtxIdeal.defs (F := Ideal)) (onTc (τ := Cert.FfnDownCtxIdeal.τ) (Cert.FfnDownCtxIdeal.main (F := Ideal))) ⟨m, fun _ => 0, g⟩ (fun r => ∀ c : Dev Cert.FfnDownCtxIdeal.nD,
          r.2.mem ((c.tc : Thread Cert.FfnDownCtxIdeal.nD Cert.FfnDownCtxIdeal.τ).loc Cert.FfnDownCtxIdeal.main_v2) = v0 c
          ∧ r.2.mem ((c.tc : Thread Cert.FfnDownCtxIdeal.nD Cert.FfnDownCtxIdeal.τ).loc Cert.FfnDownCtxIdeal.main_arg0) = m ((c.tc : Thread Cert.FfnDownCtxIdeal.nD Cert.FfnDownCtxIdeal.τ).loc Cert.FfnDownCtxIdeal.main_arg0)
          ∧ r.2.mem ((c.tc : Thread Cert.FfnDownCtxIdeal.nD Cert.FfnDownCtxIdeal.τ).loc Cert.FfnDownCtxIdeal.main_arg1) = m ((c.tc : Thread Cert.FfnDownCtxIdeal.nD Cert.FfnDownCtxIdeal.τ).loc Cert.FfnDownCtxIdeal.main_arg1)
          ∧ r.2.mem ((c.tc : Thread Cert.FfnDownCtxIdeal.nD Cert.FfnDownCtxIdeal.τ).loc Cert.FfnDownCtxIdeal.main_arg2) = m ((c.tc : Thread Cert.FfnDownCtxIdeal.nD Cert.FfnDownCtxIdeal.τ).loc Cert.FfnDownCtxIdeal.main_arg2)
          ∧ r.2.mem ((c.tc : Thread Cert.FfnDownCtxIdeal.nD Cert.FfnDownCtxIdeal.τ).loc Cert.FfnDownCtxIdeal.main_arg3) = m ((c.tc : Thread Cert.FfnDownCtxIdeal.nD Cert.FfnDownCtxIdeal.τ).loc Cert.FfnDownCtxIdeal.main_arg3))
      ∧ θ_run (Cert.FfnDownCtxRefIdeal.defs (F := Ideal)) (onTc (τ := Cert.FfnDownCtxRefIdeal.τ) (Cert.FfnDownCtxRefIdeal.main (F := Ideal))) ⟨m', fun _ => 0, g'⟩ (fun r => ∀ c : Dev Cert.FfnDownCtxRefIdeal.nD,
          r.2.mem ((c.tc : Thread Cert.FfnDownCtxRefIdeal.nD Cert.FfnDownCtxRefIdeal.τ).loc Cert.FfnDownCtxRefIdeal.main_v15) = v0 c
          ∧ r.2.mem ((c.tc : Thread Cert.FfnDownCtxRefIdeal.nD Cert.FfnDownCtxRefIdeal.τ).loc Cert.FfnDownCtxRefIdeal.main_arg0) = m' ((c.tc : Thread Cert.FfnDownCtxRefIdeal.nD Cert.FfnDownCtxRefIdeal.τ).loc Cert.FfnDownCtxRefIdeal.main_arg0)
          ∧ r.2.mem ((c.tc : Thread Cert.FfnDownCtxRefIdeal.nD Cert.FfnDownCtxRefIdeal.τ).loc Cert.FfnDownCtxRefIdeal.main_arg1) = m' ((c.tc : Thread Cert.FfnDownCtxRefIdeal.nD Cert.FfnDownCtxRefIdeal.τ).loc Cert.FfnDownCtxRefIdeal.main_arg1)
          ∧ r.2.mem ((c.tc : Thread Cert.FfnDownCtxRefIdeal.nD Cert.FfnDownCtxRefIdeal.τ).loc Cert.FfnDownCtxRefIdeal.main_arg2) = m' ((c.tc : Thread Cert.FfnDownCtxRefIdeal.nD Cert.FfnDownCtxRefIdeal.τ).loc Cert.FfnDownCtxRefIdeal.main_arg2)
          ∧ r.2.mem ((c.tc : Thread Cert.FfnDownCtxRefIdeal.nD Cert.FfnDownCtxRefIdeal.τ).loc Cert.FfnDownCtxRefIdeal.main_arg3) = m' ((c.tc : Thread Cert.FfnDownCtxRefIdeal.nD Cert.FfnDownCtxRefIdeal.τ).loc Cert.FfnDownCtxRefIdeal.main_arg3))

def preserves_MergeCtx_MergeCtxIdeal : Prop :=
  True

def algebraic_MergeCtxIdeal_MergeCtxRefIdeal [hMergeCtxIdeal : Cert.MergeCtxIdeal.Facts] [hMergeCtxRefIdeal : Cert.MergeCtxRefIdeal.Facts] : Prop :=
  ∀ (m : (ℓ : Loc Cert.MergeCtxIdeal.nD Cert.MergeCtxIdeal.τ Cert.MergeCtxIdeal.sig) → Buf (Elt Ideal) ℓ) (g : Dev Cert.MergeCtxIdeal.nD → PrngReg)
    (m' : (ℓ : Loc Cert.MergeCtxRefIdeal.nD Cert.MergeCtxRefIdeal.τ Cert.MergeCtxRefIdeal.sig) → Buf (Elt Ideal) ℓ) (g' : Dev Cert.MergeCtxRefIdeal.nD → PrngReg), Pre_MergeCtxIdeal m →
    (∀ c : Dev Cert.MergeCtxIdeal.nD,
      m' ((c.tc : Thread Cert.MergeCtxRefIdeal.nD Cert.MergeCtxRefIdeal.τ).loc Cert.MergeCtxRefIdeal.main_arg0) = m ((c.tc : Thread Cert.MergeCtxIdeal.nD Cert.MergeCtxIdeal.τ).loc Cert.MergeCtxIdeal.main_arg0)
      ∧ m' ((c.tc : Thread Cert.MergeCtxRefIdeal.nD Cert.MergeCtxRefIdeal.τ).loc Cert.MergeCtxRefIdeal.main_arg1) = m ((c.tc : Thread Cert.MergeCtxIdeal.nD Cert.MergeCtxIdeal.τ).loc Cert.MergeCtxIdeal.main_arg1)
      ∧ m' ((c.tc : Thread Cert.MergeCtxRefIdeal.nD Cert.MergeCtxRefIdeal.τ).loc Cert.MergeCtxRefIdeal.main_arg2) = m ((c.tc : Thread Cert.MergeCtxIdeal.nD Cert.MergeCtxIdeal.τ).loc Cert.MergeCtxIdeal.main_arg2)
      ∧ m' ((c.tc : Thread Cert.MergeCtxRefIdeal.nD Cert.MergeCtxRefIdeal.τ).loc Cert.MergeCtxRefIdeal.main_arg3) = m ((c.tc : Thread Cert.MergeCtxIdeal.nD Cert.MergeCtxIdeal.τ).loc Cert.MergeCtxIdeal.main_arg3)
      ∧ m' ((c.tc : Thread Cert.MergeCtxRefIdeal.nD Cert.MergeCtxRefIdeal.τ).loc Cert.MergeCtxRefIdeal.main_arg4) = m ((c.tc : Thread Cert.MergeCtxIdeal.nD Cert.MergeCtxIdeal.τ).loc Cert.MergeCtxIdeal.main_arg4)
      ∧ m' ((c.tc : Thread Cert.MergeCtxRefIdeal.nD Cert.MergeCtxRefIdeal.τ).loc Cert.MergeCtxRefIdeal.main_arg5) = m ((c.tc : Thread Cert.MergeCtxIdeal.nD Cert.MergeCtxIdeal.τ).loc Cert.MergeCtxIdeal.main_arg5)
      ∧ m' ((c.tc : Thread Cert.MergeCtxRefIdeal.nD Cert.MergeCtxRefIdeal.τ).loc Cert.MergeCtxRefIdeal.main_arg6) = m ((c.tc : Thread Cert.MergeCtxIdeal.nD Cert.MergeCtxIdeal.τ).loc Cert.MergeCtxIdeal.main_arg6)
      ∧ m' ((c.tc : Thread Cert.MergeCtxRefIdeal.nD Cert.MergeCtxRefIdeal.τ).loc Cert.MergeCtxRefIdeal.main_arg7) = m ((c.tc : Thread Cert.MergeCtxIdeal.nD Cert.MergeCtxIdeal.τ).loc Cert.MergeCtxIdeal.main_arg7)
      ∧ m' ((c.tc : Thread Cert.MergeCtxRefIdeal.nD Cert.MergeCtxRefIdeal.τ).loc Cert.MergeCtxRefIdeal.main_arg8) = m ((c.tc : Thread Cert.MergeCtxIdeal.nD Cert.MergeCtxIdeal.τ).loc Cert.MergeCtxIdeal.main_arg8)
      ∧ m' ((c.tc : Thread Cert.MergeCtxRefIdeal.nD Cert.MergeCtxRefIdeal.τ).loc Cert.MergeCtxRefIdeal.main_arg9) = m ((c.tc : Thread Cert.MergeCtxIdeal.nD Cert.MergeCtxIdeal.τ).loc Cert.MergeCtxIdeal.main_arg9)) →
    ∃ (v0 : (c : Dev Cert.MergeCtxIdeal.nD) → Buf (Elt Ideal) ((c.tc : Thread Cert.MergeCtxIdeal.nD Cert.MergeCtxIdeal.τ).loc Cert.MergeCtxIdeal.main_v5)),
      θ_run (Cert.MergeCtxIdeal.defs (F := Ideal)) (onTc (τ := Cert.MergeCtxIdeal.τ) (Cert.MergeCtxIdeal.main (F := Ideal))) ⟨m, fun _ => 0, g⟩ (fun r => ∀ c : Dev Cert.MergeCtxIdeal.nD,
          r.2.mem ((c.tc : Thread Cert.MergeCtxIdeal.nD Cert.MergeCtxIdeal.τ).loc Cert.MergeCtxIdeal.main_v5) = v0 c
          ∧ r.2.mem ((c.tc : Thread Cert.MergeCtxIdeal.nD Cert.MergeCtxIdeal.τ).loc Cert.MergeCtxIdeal.main_arg0) = m ((c.tc : Thread Cert.MergeCtxIdeal.nD Cert.MergeCtxIdeal.τ).loc Cert.MergeCtxIdeal.main_arg0)
          ∧ r.2.mem ((c.tc : Thread Cert.MergeCtxIdeal.nD Cert.MergeCtxIdeal.τ).loc Cert.MergeCtxIdeal.main_arg1) = m ((c.tc : Thread Cert.MergeCtxIdeal.nD Cert.MergeCtxIdeal.τ).loc Cert.MergeCtxIdeal.main_arg1)
          ∧ r.2.mem ((c.tc : Thread Cert.MergeCtxIdeal.nD Cert.MergeCtxIdeal.τ).loc Cert.MergeCtxIdeal.main_arg2) = m ((c.tc : Thread Cert.MergeCtxIdeal.nD Cert.MergeCtxIdeal.τ).loc Cert.MergeCtxIdeal.main_arg2)
          ∧ r.2.mem ((c.tc : Thread Cert.MergeCtxIdeal.nD Cert.MergeCtxIdeal.τ).loc Cert.MergeCtxIdeal.main_arg3) = m ((c.tc : Thread Cert.MergeCtxIdeal.nD Cert.MergeCtxIdeal.τ).loc Cert.MergeCtxIdeal.main_arg3)
          ∧ r.2.mem ((c.tc : Thread Cert.MergeCtxIdeal.nD Cert.MergeCtxIdeal.τ).loc Cert.MergeCtxIdeal.main_arg4) = m ((c.tc : Thread Cert.MergeCtxIdeal.nD Cert.MergeCtxIdeal.τ).loc Cert.MergeCtxIdeal.main_arg4)
          ∧ r.2.mem ((c.tc : Thread Cert.MergeCtxIdeal.nD Cert.MergeCtxIdeal.τ).loc Cert.MergeCtxIdeal.main_arg5) = m ((c.tc : Thread Cert.MergeCtxIdeal.nD Cert.MergeCtxIdeal.τ).loc Cert.MergeCtxIdeal.main_arg5)
          ∧ r.2.mem ((c.tc : Thread Cert.MergeCtxIdeal.nD Cert.MergeCtxIdeal.τ).loc Cert.MergeCtxIdeal.main_arg6) = m ((c.tc : Thread Cert.MergeCtxIdeal.nD Cert.MergeCtxIdeal.τ).loc Cert.MergeCtxIdeal.main_arg6)
          ∧ r.2.mem ((c.tc : Thread Cert.MergeCtxIdeal.nD Cert.MergeCtxIdeal.τ).loc Cert.MergeCtxIdeal.main_arg7) = m ((c.tc : Thread Cert.MergeCtxIdeal.nD Cert.MergeCtxIdeal.τ).loc Cert.MergeCtxIdeal.main_arg7)
          ∧ r.2.mem ((c.tc : Thread Cert.MergeCtxIdeal.nD Cert.MergeCtxIdeal.τ).loc Cert.MergeCtxIdeal.main_arg8) = m ((c.tc : Thread Cert.MergeCtxIdeal.nD Cert.MergeCtxIdeal.τ).loc Cert.MergeCtxIdeal.main_arg8)
          ∧ r.2.mem ((c.tc : Thread Cert.MergeCtxIdeal.nD Cert.MergeCtxIdeal.τ).loc Cert.MergeCtxIdeal.main_arg9) = m ((c.tc : Thread Cert.MergeCtxIdeal.nD Cert.MergeCtxIdeal.τ).loc Cert.MergeCtxIdeal.main_arg9))
      ∧ θ_run (Cert.MergeCtxRefIdeal.defs (F := Ideal)) (onTc (τ := Cert.MergeCtxRefIdeal.τ) (Cert.MergeCtxRefIdeal.main (F := Ideal))) ⟨m', fun _ => 0, g'⟩ (fun r => ∀ c : Dev Cert.MergeCtxRefIdeal.nD,
          r.2.mem ((c.tc : Thread Cert.MergeCtxRefIdeal.nD Cert.MergeCtxRefIdeal.τ).loc Cert.MergeCtxRefIdeal.main_v54) = v0 c
          ∧ r.2.mem ((c.tc : Thread Cert.MergeCtxRefIdeal.nD Cert.MergeCtxRefIdeal.τ).loc Cert.MergeCtxRefIdeal.main_arg0) = m' ((c.tc : Thread Cert.MergeCtxRefIdeal.nD Cert.MergeCtxRefIdeal.τ).loc Cert.MergeCtxRefIdeal.main_arg0)
          ∧ r.2.mem ((c.tc : Thread Cert.MergeCtxRefIdeal.nD Cert.MergeCtxRefIdeal.τ).loc Cert.MergeCtxRefIdeal.main_arg1) = m' ((c.tc : Thread Cert.MergeCtxRefIdeal.nD Cert.MergeCtxRefIdeal.τ).loc Cert.MergeCtxRefIdeal.main_arg1)
          ∧ r.2.mem ((c.tc : Thread Cert.MergeCtxRefIdeal.nD Cert.MergeCtxRefIdeal.τ).loc Cert.MergeCtxRefIdeal.main_arg2) = m' ((c.tc : Thread Cert.MergeCtxRefIdeal.nD Cert.MergeCtxRefIdeal.τ).loc Cert.MergeCtxRefIdeal.main_arg2)
          ∧ r.2.mem ((c.tc : Thread Cert.MergeCtxRefIdeal.nD Cert.MergeCtxRefIdeal.τ).loc Cert.MergeCtxRefIdeal.main_arg3) = m' ((c.tc : Thread Cert.MergeCtxRefIdeal.nD Cert.MergeCtxRefIdeal.τ).loc Cert.MergeCtxRefIdeal.main_arg3)
          ∧ r.2.mem ((c.tc : Thread Cert.MergeCtxRefIdeal.nD Cert.MergeCtxRefIdeal.τ).loc Cert.MergeCtxRefIdeal.main_arg4) = m' ((c.tc : Thread Cert.MergeCtxRefIdeal.nD Cert.MergeCtxRefIdeal.τ).loc Cert.MergeCtxRefIdeal.main_arg4)
          ∧ r.2.mem ((c.tc : Thread Cert.MergeCtxRefIdeal.nD Cert.MergeCtxRefIdeal.τ).loc Cert.MergeCtxRefIdeal.main_arg5) = m' ((c.tc : Thread Cert.MergeCtxRefIdeal.nD Cert.MergeCtxRefIdeal.τ).loc Cert.MergeCtxRefIdeal.main_arg5)
          ∧ r.2.mem ((c.tc : Thread Cert.MergeCtxRefIdeal.nD Cert.MergeCtxRefIdeal.τ).loc Cert.MergeCtxRefIdeal.main_arg6) = m' ((c.tc : Thread Cert.MergeCtxRefIdeal.nD Cert.MergeCtxRefIdeal.τ).loc Cert.MergeCtxRefIdeal.main_arg6)
          ∧ r.2.mem ((c.tc : Thread Cert.MergeCtxRefIdeal.nD Cert.MergeCtxRefIdeal.τ).loc Cert.MergeCtxRefIdeal.main_arg7) = m' ((c.tc : Thread Cert.MergeCtxRefIdeal.nD Cert.MergeCtxRefIdeal.τ).loc Cert.MergeCtxRefIdeal.main_arg7)
          ∧ r.2.mem ((c.tc : Thread Cert.MergeCtxRefIdeal.nD Cert.MergeCtxRefIdeal.τ).loc Cert.MergeCtxRefIdeal.main_arg8) = m' ((c.tc : Thread Cert.MergeCtxRefIdeal.nD Cert.MergeCtxRefIdeal.τ).loc Cert.MergeCtxRefIdeal.main_arg8)
          ∧ r.2.mem ((c.tc : Thread Cert.MergeCtxRefIdeal.nD Cert.MergeCtxRefIdeal.τ).loc Cert.MergeCtxRefIdeal.main_arg9) = m' ((c.tc : Thread Cert.MergeCtxRefIdeal.nD Cert.MergeCtxRefIdeal.τ).loc Cert.MergeCtxRefIdeal.main_arg9))

def preserves_ConformerCtx_ConformerCtxIdeal : Prop :=
  True

def algebraic_ConformerCtxIdeal_ConformerCtxRefIdeal [hConformerCtxIdeal : Cert.ConformerCtxIdeal.Facts] [hConformerCtxRefIdeal : Cert.ConformerCtxRefIdeal.Facts] : Prop :=
  ∀ (m : (ℓ : Loc Cert.ConformerCtxIdeal.nD Cert.ConformerCtxIdeal.τ Cert.ConformerCtxIdeal.sig) → Buf (Elt Ideal) ℓ) (g : Dev Cert.ConformerCtxIdeal.nD → PrngReg)
    (m' : (ℓ : Loc Cert.ConformerCtxRefIdeal.nD Cert.ConformerCtxRefIdeal.τ Cert.ConformerCtxRefIdeal.sig) → Buf (Elt Ideal) ℓ) (g' : Dev Cert.ConformerCtxRefIdeal.nD → PrngReg), Pre_ConformerCtxIdeal m →
    (∀ c : Dev Cert.ConformerCtxIdeal.nD,
      m' ((c.tc : Thread Cert.ConformerCtxRefIdeal.nD Cert.ConformerCtxRefIdeal.τ).loc Cert.ConformerCtxRefIdeal.main_arg0) = m ((c.tc : Thread Cert.ConformerCtxIdeal.nD Cert.ConformerCtxIdeal.τ).loc Cert.ConformerCtxIdeal.main_arg0)
      ∧ m' ((c.tc : Thread Cert.ConformerCtxRefIdeal.nD Cert.ConformerCtxRefIdeal.τ).loc Cert.ConformerCtxRefIdeal.main_arg1) = m ((c.tc : Thread Cert.ConformerCtxIdeal.nD Cert.ConformerCtxIdeal.τ).loc Cert.ConformerCtxIdeal.main_arg1)
      ∧ m' ((c.tc : Thread Cert.ConformerCtxRefIdeal.nD Cert.ConformerCtxRefIdeal.τ).loc Cert.ConformerCtxRefIdeal.main_arg2) = m ((c.tc : Thread Cert.ConformerCtxIdeal.nD Cert.ConformerCtxIdeal.τ).loc Cert.ConformerCtxIdeal.main_arg2)
      ∧ m' ((c.tc : Thread Cert.ConformerCtxRefIdeal.nD Cert.ConformerCtxRefIdeal.τ).loc Cert.ConformerCtxRefIdeal.main_arg3) = m ((c.tc : Thread Cert.ConformerCtxIdeal.nD Cert.ConformerCtxIdeal.τ).loc Cert.ConformerCtxIdeal.main_arg3)
      ∧ m' ((c.tc : Thread Cert.ConformerCtxRefIdeal.nD Cert.ConformerCtxRefIdeal.τ).loc Cert.ConformerCtxRefIdeal.main_arg4) = m ((c.tc : Thread Cert.ConformerCtxIdeal.nD Cert.ConformerCtxIdeal.τ).loc Cert.ConformerCtxIdeal.main_arg4)) →
    ∃ (v0 : (c : Dev Cert.ConformerCtxIdeal.nD) → Buf (Elt Ideal) ((c.tc : Thread Cert.ConformerCtxIdeal.nD Cert.ConformerCtxIdeal.τ).loc Cert.ConformerCtxIdeal.main_v3)),
      θ_run (Cert.ConformerCtxIdeal.defs (F := Ideal)) (onTc (τ := Cert.ConformerCtxIdeal.τ) (Cert.ConformerCtxIdeal.main (F := Ideal))) ⟨m, fun _ => 0, g⟩ (fun r => ∀ c : Dev Cert.ConformerCtxIdeal.nD,
          r.2.mem ((c.tc : Thread Cert.ConformerCtxIdeal.nD Cert.ConformerCtxIdeal.τ).loc Cert.ConformerCtxIdeal.main_v3) = v0 c
          ∧ r.2.mem ((c.tc : Thread Cert.ConformerCtxIdeal.nD Cert.ConformerCtxIdeal.τ).loc Cert.ConformerCtxIdeal.main_arg0) = m ((c.tc : Thread Cert.ConformerCtxIdeal.nD Cert.ConformerCtxIdeal.τ).loc Cert.ConformerCtxIdeal.main_arg0)
          ∧ r.2.mem ((c.tc : Thread Cert.ConformerCtxIdeal.nD Cert.ConformerCtxIdeal.τ).loc Cert.ConformerCtxIdeal.main_arg1) = m ((c.tc : Thread Cert.ConformerCtxIdeal.nD Cert.ConformerCtxIdeal.τ).loc Cert.ConformerCtxIdeal.main_arg1)
          ∧ r.2.mem ((c.tc : Thread Cert.ConformerCtxIdeal.nD Cert.ConformerCtxIdeal.τ).loc Cert.ConformerCtxIdeal.main_arg2) = m ((c.tc : Thread Cert.ConformerCtxIdeal.nD Cert.ConformerCtxIdeal.τ).loc Cert.ConformerCtxIdeal.main_arg2)
          ∧ r.2.mem ((c.tc : Thread Cert.ConformerCtxIdeal.nD Cert.ConformerCtxIdeal.τ).loc Cert.ConformerCtxIdeal.main_arg3) = m ((c.tc : Thread Cert.ConformerCtxIdeal.nD Cert.ConformerCtxIdeal.τ).loc Cert.ConformerCtxIdeal.main_arg3)
          ∧ r.2.mem ((c.tc : Thread Cert.ConformerCtxIdeal.nD Cert.ConformerCtxIdeal.τ).loc Cert.ConformerCtxIdeal.main_arg4) = m ((c.tc : Thread Cert.ConformerCtxIdeal.nD Cert.ConformerCtxIdeal.τ).loc Cert.ConformerCtxIdeal.main_arg4))
      ∧ θ_run (Cert.ConformerCtxRefIdeal.defs (F := Ideal)) (onTc (τ := Cert.ConformerCtxRefIdeal.τ) (Cert.ConformerCtxRefIdeal.main (F := Ideal))) ⟨m', fun _ => 0, g'⟩ (fun r => ∀ c : Dev Cert.ConformerCtxRefIdeal.nD,
          r.2.mem ((c.tc : Thread Cert.ConformerCtxRefIdeal.nD Cert.ConformerCtxRefIdeal.τ).loc Cert.ConformerCtxRefIdeal.main_v256) = v0 c
          ∧ r.2.mem ((c.tc : Thread Cert.ConformerCtxRefIdeal.nD Cert.ConformerCtxRefIdeal.τ).loc Cert.ConformerCtxRefIdeal.main_arg0) = m' ((c.tc : Thread Cert.ConformerCtxRefIdeal.nD Cert.ConformerCtxRefIdeal.τ).loc Cert.ConformerCtxRefIdeal.main_arg0)
          ∧ r.2.mem ((c.tc : Thread Cert.ConformerCtxRefIdeal.nD Cert.ConformerCtxRefIdeal.τ).loc Cert.ConformerCtxRefIdeal.main_arg1) = m' ((c.tc : Thread Cert.ConformerCtxRefIdeal.nD Cert.ConformerCtxRefIdeal.τ).loc Cert.ConformerCtxRefIdeal.main_arg1)
          ∧ r.2.mem ((c.tc : Thread Cert.ConformerCtxRefIdeal.nD Cert.ConformerCtxRefIdeal.τ).loc Cert.ConformerCtxRefIdeal.main_arg2) = m' ((c.tc : Thread Cert.ConformerCtxRefIdeal.nD Cert.ConformerCtxRefIdeal.τ).loc Cert.ConformerCtxRefIdeal.main_arg2)
          ∧ r.2.mem ((c.tc : Thread Cert.ConformerCtxRefIdeal.nD Cert.ConformerCtxRefIdeal.τ).loc Cert.ConformerCtxRefIdeal.main_arg3) = m' ((c.tc : Thread Cert.ConformerCtxRefIdeal.nD Cert.ConformerCtxRefIdeal.τ).loc Cert.ConformerCtxRefIdeal.main_arg3)
          ∧ r.2.mem ((c.tc : Thread Cert.ConformerCtxRefIdeal.nD Cert.ConformerCtxRefIdeal.τ).loc Cert.ConformerCtxRefIdeal.main_arg4) = m' ((c.tc : Thread Cert.ConformerCtxRefIdeal.nD Cert.ConformerCtxRefIdeal.τ).loc Cert.ConformerCtxRefIdeal.main_arg4))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hConformer : Cert.Conformer.Facts) (hConformerIdeal : Cert.ConformerIdeal.Facts) (hConformerRefIdeal : Cert.ConformerRefIdeal.Facts) (hAdaln : Cert.Adaln.Facts) (hAdalnIdeal : Cert.AdalnIdeal.Facts) (hAdalnRefIdeal : Cert.AdalnRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hInProjCtx : Cert.InProjCtx.Facts) (hInProjCtxIdeal : Cert.InProjCtxIdeal.Facts) (hInProjCtxRefIdeal : Cert.InProjCtxRefIdeal.Facts) (hOutProjCtx : Cert.OutProjCtx.Facts) (hOutProjCtxIdeal : Cert.OutProjCtxIdeal.Facts) (hOutProjCtxRefIdeal : Cert.OutProjCtxRefIdeal.Facts) (hFfnDownCtx : Cert.FfnDownCtx.Facts) (hFfnDownCtxIdeal : Cert.FfnDownCtxIdeal.Facts) (hFfnDownCtxRefIdeal : Cert.FfnDownCtxRefIdeal.Facts) (hMergeCtx : Cert.MergeCtx.Facts) (hMergeCtxIdeal : Cert.MergeCtxIdeal.Facts) (hMergeCtxRefIdeal : Cert.MergeCtxRefIdeal.Facts) (hConformerCtx : Cert.ConformerCtx.Facts) (hConformerCtxIdeal : Cert.ConformerCtxIdeal.Facts) (hConformerCtxRefIdeal : Cert.ConformerCtxRefIdeal.Facts) (hPre_finite : Cert.Pre_finite.Facts) (hPre_finite_conditioning : Cert.Pre_finite_conditioning.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_Conformer (hConformer := hConformer)
    ∧ quiescent_ConformerIdeal (hConformerIdeal := hConformerIdeal)
    ∧ quiescent_ConformerRefIdeal (hConformerRefIdeal := hConformerRefIdeal)
    ∧ quiescent_Adaln (hAdaln := hAdaln)
    ∧ quiescent_AdalnIdeal (hAdalnIdeal := hAdalnIdeal)
    ∧ quiescent_AdalnIdeal_pre_finite_conditioning (hAdalnIdeal := hAdalnIdeal) (hPre_finite_conditioning := hPre_finite_conditioning)
    ∧ quiescent_AdalnRefIdeal (hAdalnRefIdeal := hAdalnRefIdeal)
    ∧ quiescent_AdalnRefIdeal_pre_finite_conditioning (hAdalnRefIdeal := hAdalnRefIdeal) (hPre_finite_conditioning := hPre_finite_conditioning)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProjCtx (hInProjCtx := hInProjCtx)
    ∧ quiescent_InProjCtxIdeal (hInProjCtxIdeal := hInProjCtxIdeal)
    ∧ quiescent_InProjCtxRefIdeal (hInProjCtxRefIdeal := hInProjCtxRefIdeal)
    ∧ quiescent_OutProjCtx (hOutProjCtx := hOutProjCtx)
    ∧ quiescent_OutProjCtxIdeal (hOutProjCtxIdeal := hOutProjCtxIdeal)
    ∧ quiescent_OutProjCtxRefIdeal (hOutProjCtxRefIdeal := hOutProjCtxRefIdeal)
    ∧ quiescent_FfnDownCtx (hFfnDownCtx := hFfnDownCtx)
    ∧ quiescent_FfnDownCtxIdeal (hFfnDownCtxIdeal := hFfnDownCtxIdeal)
    ∧ quiescent_FfnDownCtxRefIdeal (hFfnDownCtxRefIdeal := hFfnDownCtxRefIdeal)
    ∧ quiescent_MergeCtx (hMergeCtx := hMergeCtx)
    ∧ quiescent_MergeCtxIdeal (hMergeCtxIdeal := hMergeCtxIdeal)
    ∧ quiescent_MergeCtxRefIdeal (hMergeCtxRefIdeal := hMergeCtxRefIdeal)
    ∧ quiescent_ConformerCtx (hConformerCtx := hConformerCtx)
    ∧ quiescent_ConformerCtxIdeal (hConformerCtxIdeal := hConformerCtxIdeal)
    ∧ quiescent_ConformerCtxRefIdeal (hConformerCtxRefIdeal := hConformerCtxRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjRefIdeal (hInProjIdeal := hInProjIdeal) (hInProjRefIdeal := hInProjRefIdeal)
    ∧ preserves_Conformer_ConformerIdeal
    ∧ algebraic_ConformerIdeal_ConformerRefIdeal (hConformerIdeal := hConformerIdeal) (hConformerRefIdeal := hConformerRefIdeal)
    ∧ preserves_Adaln_AdalnIdeal
    ∧ algebraic_AdalnIdeal_AdalnRefIdeal_pre_finite_conditioning (hAdalnIdeal := hAdalnIdeal) (hAdalnRefIdeal := hAdalnRefIdeal) (hPre_finite_conditioning := hPre_finite_conditioning)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_InProjCtx_InProjCtxIdeal
    ∧ algebraic_InProjCtxIdeal_InProjCtxRefIdeal (hInProjCtxIdeal := hInProjCtxIdeal) (hInProjCtxRefIdeal := hInProjCtxRefIdeal)
    ∧ preserves_OutProjCtx_OutProjCtxIdeal
    ∧ algebraic_OutProjCtxIdeal_OutProjCtxRefIdeal (hOutProjCtxIdeal := hOutProjCtxIdeal) (hOutProjCtxRefIdeal := hOutProjCtxRefIdeal)
    ∧ preserves_FfnDownCtx_FfnDownCtxIdeal
    ∧ algebraic_FfnDownCtxIdeal_FfnDownCtxRefIdeal (hFfnDownCtxIdeal := hFfnDownCtxIdeal) (hFfnDownCtxRefIdeal := hFfnDownCtxRefIdeal)
    ∧ preserves_MergeCtx_MergeCtxIdeal
    ∧ algebraic_MergeCtxIdeal_MergeCtxRefIdeal (hMergeCtxIdeal := hMergeCtxIdeal) (hMergeCtxRefIdeal := hMergeCtxRefIdeal)
    ∧ preserves_ConformerCtx_ConformerCtxIdeal
    ∧ algebraic_ConformerCtxIdeal_ConformerCtxRefIdeal (hConformerCtxIdeal := hConformerCtxIdeal) (hConformerCtxRefIdeal := hConformerCtxRefIdeal)
-- ==== Pre_finite.lean ====
abbrev S4x4096x1024 : Shape := ⟨3, ![4, 4096, 1024]⟩
abbrev S4x4096x14592 : Shape := ⟨3, ![4, 4096, 14592]⟩
abbrev S4x256x1024 : Shape := ⟨3, ![4, 256, 1024]⟩
abbrev S4x256x14592 : Shape := ⟨3, ![4, 256, 14592]⟩
abbrev S_ : Shape := ⟨0, ![]⟩
abbrev S128 : Shape := ⟨1, ![128]⟩

class Facts : Prop where
  bitsLt_bf16_f32 : FTy.bits .bf16 < FTy.bits .f32
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  slices_S4x4096x14592_S4x4096x1024_0_0_10240 : S4x4096x14592.Slices ![0, 0, 10240] S4x4096x1024
  bcast_S_S4x256x1024 : S_.BroadcastsInDim S4x256x1024 (![] : Fin 0 → Fin S4x256x1024.rank)
  reducesTo_S4x256x1024_S_d0_1_2 : S4x256x1024.ReducesTo [0, 1, 2] S_
  slices_S4x256x14592_S4x256x1024_0_0_10240 : S4x256x14592.Slices ![0, 0, 10240] S4x256x1024

variable [Facts]

def fn_part1 {F : FTy → Type} [FloatOps F] (main_arg3 : FVec F S4x256x1024 .bf16) (main_arg4 : FVec F S4x256x14592 .bf16) (main_arg5 : FVec F S_ .f32) (main_v17 : IVec S_ 1) : IVec S_ 1 :=
  let main_v18 : FVec F S4x256x1024 .f32 := (extf .f32 · bitsLt_bf16_f32) main_arg3
  let main_v19 : FVec F S4x256x1024 .f32 := Host.absf main_v18
  let main_cst_4 : FVec F S_ .f32 := constant S_ .f32 0x7F800000#32
  let main_v20 : FVec F S4x256x1024 .f32 := broadcastInDim S4x256x1024 ![] bcast_S_S4x256x1024 main_cst_4
  let main_v21 : IVec S4x256x1024 1 := cmpf .olt main_v19 main_v20
  let main_c_5 : IVec S_ 1 := constantI S_ 1 1#1
  let main_v22 : IVec S_ 1 := (fun x v => Host.reduce IntOp.andi x v reducesTo_S4x256x1024_S_d0_1_2 h_S_) main_v21 main_c_5
  let main_v23 : IVec S_ 1 := andi main_v17 main_v22
  let main_v24 : FVec F S4x256x1024 .bf16 := (extractStridedSlice S4x256x1024 ![0, 0, 10240] · slices_S4x256x14592_S4x256x1024_0_0_10240) main_arg4
  let main_v25 : FVec F S4x256x1024 .f32 := (extf .f32 · bitsLt_bf16_f32) main_v24
  let main_v26 : FVec F S4x256x1024 .f32 := Host.absf main_v25
  let main_cst_6 : FVec F S_ .f32 := constant S_ .f32 0x7F800000#32
  let main_v27 : FVec F S4x256x1024 .f32 := broadcastInDim S4x256x1024 ![] bcast_S_S4x256x1024 main_cst_6
  let main_v28 : IVec S4x256x1024 1 := cmpf .olt main_v26 main_v27
  let main_c_7 : IVec S_ 1 := constantI S_ 1 1#1
  let main_v29 : IVec S_ 1 := (fun x v => Host.reduce IntOp.andi x v reducesTo_S4x256x1024_S_d0_1_2 h_S_) main_v28 main_c_7
  let main_v30 : IVec S_ 1 := andi main_v23 main_v29
  let main_v31 : FVec F S_ .f32 := Host.absf main_arg5
  let main_cst_8 : FVec F S_ .f32 := constant S_ .f32 0x7F800000#32
  let main_v32 : IVec S_ 1 := cmpf .olt main_v31 main_cst_8
  let main_v33 : IVec S_ 1 := andi main_v30 main_v32
  main_v33

def fn {F : FTy → Type} [FloatOps F] (main_arg0 : FVec F S4x4096x1024 .bf16) (main_arg1 : FVec F S4x4096x1024 .bf16) (main_arg2 : FVec F S4x4096x14592 .bf16) (main_arg3 : FVec F S4x256x1024 .bf16) (main_arg4 : FVec F S4x256x14592 .bf16) (main_arg5 : FVec F S_ .f32) (main_arg6 : FVec F S128 .f32) : IVec S_ 1 :=
  let main_v0 : FVec F S4x4096x1024 .f32 := (extf .f32 · bitsLt_bf16_f32) main_arg0
  let main_v1 : FVec F S4x4096x1024 .f32 := Host.absf main_v0
  let main_cst : FVec F S_ .f32 := constant S_ .f32 0x7F800000#32
  let main_v2 : FVec F S4x4096x1024 .f32 := broadcastInDim S4x4096x1024 ![] bcast_S_S4x4096x1024 main_cst
  let main_v3 : IVec S4x4096x1024 1 := cmpf .olt main_v1 main_v2
  let main_c : IVec S_ 1 := constantI S_ 1 1#1
  let main_v4 : IVec S_ 1 := (fun x v => Host.reduce IntOp.andi x v reducesTo_S4x4096x1024_S_d0_1_2 h_S_) main_v3 main_c
  let main_v5 : FVec F S4x4096x1024 .f32 := (extf .f32 · bitsLt_bf16_f32) main_arg1
  let main_v6 : FVec F S4x4096x1024 .f32 := Host.absf main_v5
  let main_cst_0 : FVec F S_ .f32 := constant S_ .f32 0x7F800000#32
  let main_v7 : FVec F S4x4096x1024 .f32 := broadcastInDim S4x4096x1024 ![] bcast_S_S4x4096x1024 main_cst_0
  let main_v8 : IVec S4x4096x1024 1 := cmpf .olt main_v6 main_v7
  let main_c_1 : IVec S_ 1 := constantI S_ 1 1#1
  let main_v9 : IVec S_ 1 := (fun x v => Host.reduce IntOp.andi x v reducesTo_S4x4096x1024_S_d0_1_2 h_S_) main_v8 main_c_1
  let main_v10 : IVec S_ 1 := andi main_v4 main_v9
  let main_v11 : FVec F S4x4096x1024 .bf16 := (extractStridedSlice S4x4096x1024 ![0, 0, 10240] · slices_S4x4096x14592_S4x4096x1024_0_0_10240) main_arg2
  let main_v12 : FVec F S4x4096x1024 .f32 := (extf .f32 · bitsLt_bf16_f32) main_v11
  let main_v13 : FVec F S4x4096x1024 .f32 := Host.absf main_v12
  let main_cst_2 : FVec F S_ .f32 := constant S_ .f32 0x7F800000#32
  let main_v14 : FVec F S4x4096x1024 .f32 := broadcastInDim S4x4096x1024 ![] bcast_S_S4x4096x1024 main_cst_2
  let main_v15 : IVec S4x4096x1024 1 := cmpf .olt main_v13 main_v14
  let main_c_3 : IVec S_ 1 := constantI S_ 1 1#1
  let main_v16 : IVec S_ 1 := (fun x v => Host.reduce IntOp.andi x v reducesTo_S4x4096x1024_S_d0_1_2 h_S_) main_v15 main_c_3
  let main_v17 : IVec S_ 1 := andi main_v10 main_v16
  fn_part1 (F := F) main_arg3 main_arg4 main_arg5 main_v17
-- ==== Pre_finite_conditioning.lean ====
abbrev S16x2048 : Shape := ⟨2, ![16, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩

class Facts : Prop where
  bcast_S_S16x2048 : S_.BroadcastsInDim S16x2048 (![] : Fin 0 → Fin S16x2048.rank)
  reducesTo_S16x2048_S_d0_1 : S16x2048.ReducesTo [0, 1] S_
  h_S_ : 0 < S_.numel
  slices_S2x2048x12288_S1x2048x12288_0_0_0 : S2x2048x12288.Slices ![0, 0, 0] S1x2048x12288
  shapeCasts_S1x2048x12288_S2048x12288 : S1x2048x12288.ShapeCasts S2048x12288
  bcast_S_S2048x12288 : S_.BroadcastsInDim S2048x12288 (![] : Fin 0 → Fin S2048x12288.rank)
  reducesTo_S2048x12288_S_d0_1 : S2048x12288.ReducesTo [0, 1] S_

variable [Facts]

def fn {F : FTy → Type} [FloatOps F] (main_arg0 : FVec F S16x2048 .f32) (main_arg1 : FVec F S2x2048x12288 .f32) (main_arg2 : FVec F S2x12288 .f32) : IVec S_ 1 :=
  let main_v0 : FVec F S16x2048 .f32 := Host.absf main_arg0
  let main_cst : FVec F S_ .f32 := constant S_ .f32 0x7F800000#32
  let main_v1 : FVec F S16x2048 .f32 := broadcastInDim S16x2048 ![] bcast_S_S16x2048 main_cst
  let main_v2 : IVec S16x2048 1 := cmpf .olt main_v0 main_v1
  let main_c : IVec S_ 1 := constantI S_ 1 1#1
  let main_v3 : IVec S_ 1 := (fun x v => Host.reduce IntOp.andi x v reducesTo_S16x2048_S_d0_1 h_S_) main_v2 main_c
  let main_v4 : FVec F S1x2048x12288 .f32 := (extractStridedSlice S1x2048x12288 ![0, 0, 0] · slices_S2x2048x12288_S1x2048x12288_0_0_0) main_arg1
  let main_v5 : FVec F S2048x12288 .f32 := shapeCast S2048x12288 main_v4 shapeCasts_S1x2048x12288_S2048x12288
  let main_v6 : FVec F S2048x12288 .f32 := Host.absf main_v5
  let main_cst_0 : FVec F S_ .f32 := constant S_ .f32 0x7F800000#32
  let main_v7 : FVec F S2048x12288 .f32 := broadcastInDim S2048x12288 ![] bcast_S_S2048x12288 main_cst_0
  let main_v8 : IVec S2048x12288 1 := cmpf .olt main_v6 main_v7
  let main_c_1 : IVec S_ 1 := constantI S_ 1 1#1
  let main_v9 : IVec S_ 1 := (fun x v => Host.reduce IntOp.andi x v reducesTo_S2048x12288_S_d0_1 h_S_) main_v8 main_c_1
  let main_v10 : IVec S_ 1 := andi main_v3 main_v9
  main_v10
-- ==== Kernel.lean ====
abbrev S4x4096x1024 : Shape := ⟨3, ![4, 4096, 1024]⟩
abbrev S4x4096x14592 : Shape := ⟨3, ![4, 4096, 14592]⟩
abbrev S4x256x1024 : Shape := ⟨3, ![4, 256, 1024]⟩
abbrev S4x256x14592 : Shape := ⟨3, ![4, 256, 14592]⟩
abbrev S_ : Shape := ⟨0, ![]⟩
abbrev S128 : Shape := ⟨1, ![128]⟩
abbrev S1x128 : Shape := ⟨2, ![1, 128]⟩
abbrev S1x512x128 : Shape := ⟨3, ![1, 512, 128]⟩
abbrev S1x4096x128 : Shape := ⟨3, ![1, 4096, 128]⟩
abbrev S1x256x128 : Shape := ⟨3, ![1, 256, 128]⟩
abbrev S4096x256 : Shape := ⟨2, ![4096, 256]⟩
abbrev S256x256 : Shape := ⟨2, ![256, 256]⟩
abbrev S4096x128 : Shape := ⟨2, ![4096, 128]⟩
abbrev S256x128 : Shape := ⟨2, ![256, 128]⟩
abbrev S512x128 : Shape := ⟨2, ![512, 128]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S512x256 : Shape := ⟨2, ![512, 256]⟩
abbrev S1024x256 : Shape := ⟨2, ![1024, 256]⟩
abbrev S1x1 : Shape := ⟨2, ![1, 1]⟩
abbrev S512x1 : Shape := ⟨2, ![512, 1]⟩
abbrev S512 : Shape := ⟨1, ![512]⟩

abbrev nBuf : Space → Nat
  | .hbm => 10
  | .vmem => 16
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x14592, .bf16⟩
  | .hbm, ⟨3, _⟩ => ⟨S4x256x1024, .bf16⟩
  | .hbm, ⟨4, _⟩ => ⟨S4x256x14592, .bf16⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S1x128, .f32⟩
  | .hbm, ⟨9, _⟩ => ⟨S4x4096x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x128, .f32⟩
  | .local _ .vmem, ⟨11, _⟩ => ⟨S1x128, .f32⟩
  | .local _ .vmem, ⟨12, _⟩ => ⟨S1x512x128, .bf16⟩
  | .local _ .vmem, ⟨13, _⟩ => ⟨S1x512x128, .bf16⟩
  | .local _ .vmem, ⟨14, _⟩ => ⟨S4096x256, .bf16⟩
  | .local _ .vmem, ⟨15, _⟩ => ⟨S256x256, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c80_i32 : BitVec 32 := 80#32
  let v0 : BitVec 32 := Scalar.addi c80_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c80_i32 : BitVec 32 := 80#32
  let v0 : BitVec 32 := Scalar.addi c80_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S4x4096x1024 : Shape := ⟨3, ![4, 4096, 1024]⟩
abbrev S4x4096x14592 : Shape := ⟨3, ![4, 4096, 14592]⟩
abbrev S4x256x1024 : Shape := ⟨3, ![4, 256, 1024]⟩
abbrev S4x256x14592 : Shape := ⟨3, ![4, 256, 14592]⟩
abbrev S_ : Shape := ⟨0, ![]⟩
abbrev S128 : Shape := ⟨1, ![128]⟩
abbrev S4x4096x16x64 : Shape := ⟨4, ![4, 4096, 16, 64]⟩
abbrev S4x16x4096x64 : Shape := ⟨4, ![4, 16, 4096, 64]⟩
abbrev S4x256x16x64 : Shape := ⟨4, ![4, 256, 16, 64]⟩
abbrev S4x16x256x64 : Shape := ⟨4, ![4, 16, 256, 64]⟩
abbrev S4x16x4352x64 : Shape := ⟨4, ![4, 16, 4352, 64]⟩
abbrev S4x4096x8x128 : Shape := ⟨4, ![4, 4096, 8, 128]⟩
abbrev S4x8x4096x128 : Shape := ⟨4, ![4, 8, 4096, 128]⟩
abbrev S4x256x8x128 : Shape := ⟨4, ![4, 256, 8, 128]⟩
abbrev S4x8x256x128 : Shape := ⟨4, ![4, 8, 256, 128]⟩
abbrev S4x8x4352x128 : Shape := ⟨4, ![4, 8, 4352, 128]⟩
abbrev S4x16x4096x4352 : Shape := ⟨4, ![4, 16, 4096, 4352]⟩
abbrev S4x16x4096 : Shape := ⟨3, ![4, 16, 4096]⟩
abbrev S4x16x4096x1 : Shape := ⟨4, ![4, 16, 4096, 1]⟩
abbrev S4x8x2x4096x4352 : Shape := ⟨5, ![4, 8, 2, 4096, 4352]⟩
abbrev S4x8x1x4096x4352 : Shape := ⟨5, ![4, 8, 1, 4096, 4352]⟩
abbrev S4x8x4096x4352 : Shape := ⟨4, ![4, 8, 4096, 4352]⟩
abbrev S4x8x4096 : Shape := ⟨3, ![4, 8, 4096]⟩
abbrev S4x8x4096x1 : Shape := ⟨4, ![4, 8, 4096, 1]⟩
abbrev S1x1x1x128 : Shape := ⟨4, ![1, 1, 1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x14592, .bf16⟩
  | .hbm, ⟨3, _⟩ => ⟨S4x256x1024, .bf16⟩
  | .hbm, ⟨4, _⟩ => ⟨S4x256x14592, .bf16⟩
  | .hbm, ⟨5, _⟩ => ⟨S_, .f32⟩
  | .hbm, ⟨6, _⟩ => ⟨S128, .f32⟩
  | .hbm, ⟨7, _⟩ => ⟨S4x4096x1024, .f32⟩
  | .hbm, ⟨8, _⟩ => ⟨S4x4096x16x64, .f32⟩
  | .hbm, ⟨9, _⟩ => ⟨S4x16x4096x64, .f32⟩
  | .hbm, ⟨10, _⟩ => ⟨S_, .f32⟩
  | .hbm, ⟨11, _⟩ => ⟨S_, .f32⟩
  | .hbm, ⟨12, _⟩ => ⟨S4x16x4096x64, .f32⟩
  | .hbm, ⟨13, _⟩ => ⟨S4x16x4096x64, .f32⟩
  | .hbm, ⟨14, _⟩ => ⟨S4x4096x1024, .f32⟩
  | .hbm, ⟨15, _⟩ => ⟨S4x4096x16x64, .f32⟩
  | .hbm, ⟨16, _⟩ => ⟨S4x16x4096x64, .f32⟩
  | .hbm, ⟨17, _⟩ => ⟨S4x256x1024, .f32⟩
  | .hbm, ⟨18, _⟩ => ⟨S4x256x16x64, .f32⟩
  | .hbm, ⟨19, _⟩ => ⟨S4x16x256x64, .f32⟩
  | .hbm, ⟨20, _⟩ => ⟨S4x16x4352x64, .f32⟩
  | .hbm, ⟨21, _⟩ => ⟨S4x4096x1024, .bf16⟩
  | .hbm, ⟨22, _⟩ => ⟨S4x4096x1024, .f32⟩
  | .hbm, ⟨23, _⟩ => ⟨S4x4096x8x128, .f32⟩
  | .hbm, ⟨24, _⟩ => ⟨S4x8x4096x128, .f32⟩
  | .hbm, ⟨25, _⟩ => ⟨S4x256x1024, .bf16⟩
  | .hbm, ⟨26, _⟩ => ⟨S4x256x1024, .f32⟩
  | .hbm, ⟨27, _⟩ => ⟨S4x256x8x128, .f32⟩
  | .hbm, ⟨28, _⟩ => ⟨S4x8x256x128, .f32⟩
  | .hbm, ⟨29, _⟩ => ⟨S4x8x4352x128, .f32⟩
  | .hbm, ⟨30, _⟩ => ⟨S4x16x4096x4352, .f32⟩
  | .hbm, ⟨31, _⟩ => ⟨S_, .f32⟩
  | .hbm, ⟨32, _⟩ => ⟨S4x16x4096, .f32⟩
  | .hbm, ⟨33, _⟩ => ⟨S_, .f32⟩
  | .hbm, ⟨34, _⟩ => ⟨S4x16x4096, .f32⟩
  | .hbm, ⟨35, _⟩ => ⟨S4x16x4096, .f32⟩
  | .hbm, ⟨36, _⟩ => ⟨S4x16x4096x1, .f32⟩
  | .hbm, ⟨37, _⟩ => ⟨S4x16x4096x4352, .f32⟩
  | .hbm, ⟨38, _⟩ => ⟨S4x16x4096x4352, .f32⟩
  | .hbm, ⟨39, _⟩ => ⟨S4x16x4096x4352, .f32⟩
  | .hbm, ⟨40, _⟩ => ⟨S_, .f32⟩
  | .hbm, ⟨41, _⟩ => ⟨S4x16x4096, .f32⟩
  | .hbm, ⟨42, _⟩ => ⟨S4x16x4096x1, .f32⟩
  | .hbm, ⟨43, _⟩ => ⟨S4x16x4096x4352, .f32⟩
  | .hbm, ⟨44, _⟩ => ⟨S4x16x4096x4352, .f32⟩
  | .hbm, ⟨45, _⟩ => ⟨S4x8x2x4096x4352, .f32⟩
  | .hbm, ⟨46, _⟩ => ⟨S4x8x1x4096x4352, .f32⟩
  | .hbm, ⟨47, _⟩ => ⟨S4x8x4096x4352, .f32⟩
  | .hbm, ⟨48, _⟩ => ⟨S4x8x1x4096x4352, .f32⟩
  | .hbm, ⟨49, _⟩ => ⟨S4x8x4096x4352, .f32⟩
  | .hbm, ⟨50, _⟩ => ⟨S4x8x4096x4352, .f32⟩
  | .hbm, ⟨51, _⟩ => ⟨S4x8x4096x4352, .f32⟩
  | .hbm, ⟨52, _⟩ => ⟨S4x8x4096x4352, .f32⟩
  | .hbm, ⟨53, _⟩ => ⟨S4x8x4096x128, .f32⟩
  | .hbm, ⟨54, _⟩ => ⟨S4x8x4096x128, .f32⟩
  | .hbm, ⟨55, _⟩ => ⟨S_, .f32⟩
  | .hbm, ⟨56, _⟩ => ⟨S4x8x4096, .f32⟩
  | .hbm, ⟨57, _⟩ => ⟨S4x8x4096x1, .f32⟩
  | .hbm, ⟨58, _⟩ => ⟨S_, .f32⟩
  | .hbm, ⟨59, _⟩ => ⟨S4x8x4096x1, .f32⟩
  | .hbm, ⟨60, _⟩ => ⟨S4x8x4096x1, .f32⟩
  | .hbm, ⟨61, _⟩ => ⟨S_, .f32⟩
  | .hbm, ⟨62, _⟩ => ⟨S4x8x4096x1, .f32⟩
  | .hbm, ⟨63, _⟩ => ⟨S4x8x4096x1, .f32⟩
  | .hbm, ⟨64, _⟩ => ⟨S4x8x4096x1, .f32⟩
  | .hbm, ⟨65, _⟩ => ⟨S4x8x4096x128, .f32⟩
  | .hbm, ⟨66, _⟩ => ⟨S4x8x4096x128, .f32⟩
  | .hbm, ⟨67, _⟩ => ⟨S1x1x1x128, .f32⟩
  | .hbm, ⟨68, _⟩ => ⟨S4x8x4096x128, .f32⟩
  | .hbm, ⟨69, _⟩ => ⟨S4x8x4096x128, .f32⟩
  | .hbm, ⟨70, _⟩ => ⟨S4x4096x8x128, .f32⟩
  | .hbm, ⟨71, _⟩ => ⟨S4x4096x1024, .f32⟩
  | .hbm, ⟨72, _⟩ => ⟨S4x4096x1024, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩

abbrev nD : Nat := 1
abbrev τ : Topo := Topo.v7x

variable {F : FTy → Type} [FloatOps F]
-- ==== InProj.lean ====
abbrev S4x4096x2048 : Shape := ⟨3, ![4, 4096, 2048]⟩
abbrev S16x12288 : Shape := ⟨2, ![16, 12288]⟩
abbrev S2048 : Shape := ⟨1, ![2048]⟩
abbrev S2048x14592 : Shape := ⟨2, ![2048, 14592]⟩
abbrev S1x2048 : Shape := ⟨2, ![1, 2048]⟩
abbrev S16x6x1x2048 : Shape := ⟨4, ![16, 6, 1, 2048]⟩
abbrev S4x4096x14592 : Shape := ⟨3, ![4, 4096, 14592]⟩
abbrev S1x512x2048 : Shape := ⟨3, ![1, 512, 2048]⟩
abbrev S1x1x1x2048 : Shape := ⟨4, ![1, 1, 1, 2048]⟩
abbrev S2048x2432 : Shape := ⟨2, ![2048, 2432]⟩
abbrev S1x512x2432 : Shape := ⟨3, ![1, 512, 2432]⟩
abbrev S512x2048 : Shape := ⟨2, ![512, 2048]⟩
abbrev S1x128x2048 : Shape := ⟨3, ![1, 128, 2048]⟩
abbrev S128x2048 : Shape := ⟨2, ![128, 2048]⟩
abbrev S128 : Shape := ⟨1, ![128]⟩
abbrev S128x1 : Shape := ⟨2, ![128, 1]⟩
abbrev S512x2432 : Shape := ⟨2, ![512, 2432]⟩

abbrev nBuf : Space → Nat
  | .hbm => 7
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S16x12288, .f32⟩
  | .hbm, ⟨2, _⟩ => ⟨S2048, .f32⟩
  | .hbm, ⟨3, _⟩ => ⟨S2048x14592, .bf16⟩
  | .hbm, ⟨4, _⟩ => ⟨S1x2048, .f32⟩
  | .hbm, ⟨5, _⟩ => ⟨S16x6x1x2048, .f32⟩
  | .hbm, ⟨6, _⟩ => ⟨S4x4096x14592, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S2048x2432, .bf16⟩
  | .local _ .vmem, ⟨8, _⟩ => ⟨S2048x2432, .bf16⟩
  | .local _ .vmem, ⟨9, _⟩ => ⟨S1x512x2432, .bf16⟩
  | .local _ .vmem, ⟨10, _⟩ => ⟨S1x512x2432, .bf16⟩
  | .local _ .vmem, ⟨11, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 8, 6], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_18 : BitVec 32 := 0#32
  let c4_i32 : BitVec 32 := 4#32
  let v18 : BitVec 32 := Scalar.addi c0_i32_18 c4_i32
  let c1_i32 : BitVec 32 := 1#32
  ⟨c0_i32_18, v18, c1_i32⟩
def k0_mult1 (k0_t1 : Fin k0_t1_loop.trips) : BitVec 32 :=
  let c0_i32_18 : BitVec 32 := 0#32
  let c1_i32 : BitVec 32 := 1#32
  let arg10 : BitVec 32 := Scf.iv c0_i32_18 c1_i32 k0_t1
  let c128_i32 : BitVec 32 := 128#32
  let v19 : BitVec 32 := Scalar.muli arg10 c128_i32
  v19
def k0_off1 (k0_t1 : Fin k0_t1_loop.trips) : Fin 3 → Nat :=
  let c0_20 : Index := 0#32
  let c0_i32_18 : BitVec 32 := 0#32
  let c1_i32 : BitVec 32 := 1#32
  let arg10 : BitVec 32 := Scf.iv c0_i32_18 c1_i32 k0_t1
  let c128_i32 : BitVec 32 := 128#32
  let v19 : BitVec 32 := Scalar.muli arg10 c128_i32
  let v20 : BitVec 32 := v19
  let v21 : Index := Scalar.indexCast v20
  let c0_21 : Index := 0#32
  ![0, v21.toNat, 0]
def k0_mult2 (k0_t1 : Fin k0_t1_loop.trips) : BitVec 32 :=
  let c0_i32_18 : BitVec 32 := 0#32
  let c1_i32 : BitVec 32 := 1#32
  let arg10 : BitVec 32 := Scf.iv c0_i32_18 c1_i32 k0_t1
  let c128_i32_25 : BitVec 32 := 128#32
  let v41 : BitVec 32 := Scalar.muli arg10 c128_i32_25
  v41
def k0_off2 (k0_t1 : Fin k0_t1_loop.trips) : Fin 2 → Nat :=
  let c0_i32_18 : BitVec 32 := 0#32
  let c1_i32 : BitVec 32 := 1#32
  let arg10 : BitVec 32 := Scf.iv c0_i32_18 c1_i32 k0_t1
  let c128_i32_25 : BitVec 32 := 128#32
  let v41 : BitVec 32 := Scalar.muli arg10 c128_i32_25
  let v42 : BitVec 32 := v41
  let v43 : Index := Scalar.indexCast v42
  let c0_26 : Index := 0#32
  ![v43.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let c1_i32_0 : BitVec 32 := 1#32
  let c0_i32_1 : BitVec 32 := 0#32
  let c0_i32_2 : BitVec 32 := 0#32
  let c0_i32_3 : BitVec 32 := 0#32
  ![v1.toNat, c1_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x2432 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x2432 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== InProjRefIdeal.lean ====
abbrev S4x4096x2048 : Shape := ⟨3, ![4, 4096, 2048]⟩
abbrev S16x12288 : Shape := ⟨2, ![16, 12288]⟩
abbrev S2048 : Shape := ⟨1, ![2048]⟩
abbrev S2048x14592 : Shape := ⟨2, ![2048, 14592]⟩
abbrev S4x12288 : Shape := ⟨2, ![4, 12288]⟩
abbrev S4x1x12288 : Shape := ⟨3, ![4, 1, 12288]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x14592 : Shape := ⟨3, ![4, 4096, 14592]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S16x12288, .f32⟩
  | .hbm, ⟨2, _⟩ => ⟨S2048, .f32⟩
  | .hbm, ⟨3, _⟩ => ⟨S2048x14592, .bf16⟩
  | .hbm, ⟨4, _⟩ => ⟨S4x12288, .f32⟩
  | .hbm, ⟨5, _⟩ => ⟨S4x1x12288, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x4096x2048, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x2048, .f32⟩
  | .hbm, ⟨24, _⟩ => ⟨S4x4096x2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x1x2048, .f32⟩
  | .hbm, ⟨30, _⟩ => ⟨S4x1x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S2048x14592, .f32⟩
  | .hbm, ⟨36, _⟩ => ⟨S4x4096x14592, .f32⟩
  | .hbm, ⟨37, _⟩ => ⟨S4x4096x14592, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Conformer.lean ====
abbrev S4x4096x14592 : Shape := ⟨3, ![4, 4096, 14592]⟩
abbrev S31x1024 : Shape := ⟨2, ![31, 1024]⟩
abbrev S1024 : Shape := ⟨1, ![1024]⟩
abbrev S1x1024 : Shape := ⟨2, ![1, 1024]⟩
abbrev S4x4096x1024 : Shape := ⟨3, ![4, 4096, 1024]⟩
abbrev S1x256x2048 : Shape := ⟨3, ![1, 256, 2048]⟩
abbrev S1x16x2048 : Shape := ⟨3, ![1, 16, 2048]⟩
abbrev S1x256x1024 : Shape := ⟨3, ![1, 256, 1024]⟩
abbrev S288x1024 : Shape := ⟨2, ![288, 1024]⟩
abbrev S280x1024 : Shape := ⟨2, ![280, 1024]⟩
abbrev S16x2048 : Shape := ⟨2, ![16, 2048]⟩
abbrev S16x1024 : Shape := ⟨2, ![16, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S4x4096x14592, .bf16⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4x4096x1024, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x16x2048, .bf16⟩
  | .local _ .vmem, ⟨3, _⟩ => ⟨S1x16x2048, .bf16⟩
  | .local _ .vmem, ⟨4, _⟩ => ⟨S1x16x2048, .bf16⟩
  | .local _ .vmem, ⟨5, _⟩ => ⟨S1x16x2048, .bf16⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x256x1024, .bf16⟩
  | .local _ .vmem, ⟨11, _⟩ => ⟨S1x256x1024, .bf16⟩
  | .local _ .vmem, ⟨12, _⟩ => ⟨S288x1024, .f32⟩
  | .local _ .vmem, ⟨13, _⟩ => ⟨S280x1024, .f32⟩
  | _, _ => ⟨S4x4096x14592, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![arg0.toNat, v2.toNat, c3_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c3_i32 : BitVec 32 := 3#32
  let c0_i32 : BitVec 32 := 0#32
  ![arg0.toNat, v2.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConformerIdeal.lean ====
abbrev S4x4096x14592 : Shape := ⟨3, ![4, 4096, 14592]⟩
abbrev S31x1024 : Shape := ⟨2, ![31, 1024]⟩
abbrev S1024 : Shape := ⟨1, ![1024]⟩
abbrev S1x1024 : Shape := ⟨2, ![1, 1024]⟩
abbrev S4x4096x1024 : Shape := ⟨3, ![4, 4096, 1024]⟩
abbrev S1x256x2048 : Shape := ⟨3, ![1, 256, 2048]⟩
abbrev S1x16x2048 : Shape := ⟨3, ![1, 16, 2048]⟩
abbrev S1x256x1024 : Shape := ⟨3, ![1, 256, 1024]⟩
abbrev S288x1024 : Shape := ⟨2, ![288, 1024]⟩
abbrev S280x1024 : Shape := ⟨2, ![280, 1024]⟩
abbrev S16x2048 : Shape := ⟨2, ![16, 2048]⟩
abbrev S16x1024 : Shape := ⟨2, ![16, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S4x4096x14592, .bf16⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4x4096x1024, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x16x2048, .bf16⟩
  | .local _ .vmem, ⟨3, _⟩ => ⟨S1x16x2048, .bf16⟩
  | .local _ .vmem, ⟨4, _⟩ => ⟨S1x16x2048, .bf16⟩
  | .local _ .vmem, ⟨5, _⟩ => ⟨S1x16x2048, .bf16⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x256x1024, .bf16⟩
  | .local _ .vmem, ⟨11, _⟩ => ⟨S1x256x1024, .bf16⟩
  | .local _ .vmem, ⟨12, _⟩ => ⟨S288x1024, .f32⟩
  | .local _ .vmem, ⟨13, _⟩ => ⟨S280x1024, .f32⟩
  | _, _ => ⟨S4x4096x14592, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![arg0.toNat, v2.toNat, c3_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c3_i32 : BitVec 32 := 3#32
  let c0_i32 : BitVec 32 := 0#32
  ![arg0.toNat, v2.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConformerRefIdeal.lean ====
abbrev S4x4096x14592 : Shape := ⟨3, ![4, 4096, 14592]⟩
abbrev S31x1024 : Shape := ⟨2, ![31, 1024]⟩
abbrev S1024 : Shape := ⟨1, ![1024]⟩
abbrev S4x4096x2048 : Shape := ⟨3, ![4, 4096, 2048]⟩
abbrev S4x4096x1024 : Shape := ⟨3, ![4, 4096, 1024]⟩
abbrev S_ : Shape := ⟨0, ![]⟩
abbrev S4x4126x1024 : Shape := ⟨3, ![4, 4126, 1024]⟩
abbrev S1x1024 : Shape := ⟨2, ![1, 1024]⟩
abbrev S1x1x1024 : Shape := ⟨3, ![1, 1, 1024]⟩
abbrev S4x4096 : Shape := ⟨2, ![4, 4096]⟩
abbrev S4x4096x1 : Shape := ⟨3, ![4, 4096, 1]⟩

abbrev nBuf : Space → Nat
  | .hbm => 280
  | .vmem => 0
  | .smem => 0
  | _ => 0

abbrev hbmTy0_0 (i : Nat) : BufTy := match i % 128 with
  | 0 => ⟨S4x4096x14592, .bf16⟩
  | 1 => ⟨S31x1024, .f32⟩
  | 2 => ⟨S1024, .f32⟩
  | 3 => ⟨S1024, .f32⟩
  | 4 => ⟨S1024, .f32⟩
  | 5 => ⟨S4x4096x2048, .bf16⟩
  | 6 => ⟨S4x4096x2048, .f32⟩
  | 7 => ⟨S4x4096x1024, .f32⟩
  | 8 => ⟨S4x4096x1024, .f32⟩
  | 9 => ⟨S4x4096x1024, .f32⟩
  | 10 => ⟨S4x4096x1024, .f32⟩
  | 11 => ⟨S_, .f32⟩
  | 12 => ⟨S4x4096x1024, .f32⟩
  | 13 => ⟨S4x4096x1024, .f32⟩
  | 14 => ⟨S_, .f32⟩
  | 15 => ⟨S4x4096x1024, .f32⟩
  | 16 => ⟨S4x4096x1024, .f32⟩
  | 17 => ⟨S4x4096x1024, .f32⟩
  | 18 => ⟨S_, .i32⟩
  | 19 => ⟨S_, .f32⟩
  | 20 => ⟨S4x4126x1024, .f32⟩
  | 21 => ⟨S1x1024, .f32⟩
  | 22 => ⟨S1024, .f32⟩
  | 23 => ⟨S4x4096x1024, .f32⟩
  | 24 => ⟨S1x1x1024, .f32⟩
  | 25 => ⟨S4x4096x1024, .f32⟩
  | 26 => ⟨S4x4096x1024, .f32⟩
  | 27 => ⟨S_, .f32⟩
  | 28 => ⟨S4x4096x1024, .f32⟩
  | 29 => ⟨S4x4096x1024, .f32⟩
  | 30 => ⟨S1x1024, .f32⟩
  | 31 => ⟨S1024, .f32⟩
  | 32 => ⟨S4x4096x1024, .f32⟩
  | 33 => ⟨S1x1x1024, .f32⟩
  | 34 => ⟨S4x4096x1024, .f32⟩
  | 35 => ⟨S4x4096x1024, .f32⟩
  | 36 => ⟨S4x4096x1024, .f32⟩
  | 37 => ⟨S1x1024, .f32⟩
  | 38 => ⟨S1024, .f32⟩
  | 39 => ⟨S4x4096x1024, .f32⟩
  | 40 => ⟨S1x1x1024, .f32⟩
  | 41 => ⟨S4x4096x1024, .f32⟩
  | 42 => ⟨S4x4096x1024, .f32⟩
  | 43 => ⟨S4x4096x1024, .f32⟩
  | 44 => ⟨S1x1024, .f32⟩
  | 45 => ⟨S1024, .f32⟩
  | 46 => ⟨S4x4096x1024, .f32⟩
  | 47 => ⟨S1x1x1024, .f32⟩
  | 48 => ⟨S4x4096x1024, .f32⟩
  | 49 => ⟨S4x4096x1024, .f32⟩
  | 50 => ⟨S4x4096x1024, .f32⟩
  | 51 => ⟨S1x1024, .f32⟩
  | 52 => ⟨S1024, .f32⟩
  | 53 => ⟨S4x4096x1024, .f32⟩
  | 54 => ⟨S1x1x1024, .f32⟩
  | 55 => ⟨S4x4096x1024, .f32⟩
  | 56 => ⟨S4x4096x1024, .f32⟩
  | 57 => ⟨S4x4096x1024, .f32⟩
  | 58 => ⟨S1x1024, .f32⟩
  | 59 => ⟨S1024, .f32⟩
  | 60 => ⟨S4x4096x1024, .f32⟩
  | 61 => ⟨S1x1x1024, .f32⟩
  | 62 => ⟨S4x4096x1024, .f32⟩
  | 63 => ⟨S4x4096x1024, .f32⟩
  | 64 => ⟨S4x4096x1024, .f32⟩
  | 65 => ⟨S1x1024, .f32⟩
  | 66 => ⟨S1024, .f32⟩
  | 67 => ⟨S4x4096x1024, .f32⟩
  | 68 => ⟨S1x1x1024, .f32⟩
  | 69 => ⟨S4x4096x1024, .f32⟩
  | 70 => ⟨S4x4096x1024, .f32⟩
  | 71 => ⟨S4x4096x1024, .f32⟩
  | 72 => ⟨S1x1024, .f32⟩
  | 73 => ⟨S1024, .f32⟩
  | 74 => ⟨S4x4096x1024, .f32⟩
  | 75 => ⟨S1x1x1024, .f32⟩
  | 76 => ⟨S4x4096x1024, .f32⟩
  | 77 => ⟨S4x4096x1024, .f32⟩
  | 78 => ⟨S4x4096x1024, .f32⟩
  | 79 => ⟨S1x1024, .f32⟩
  | 80 => ⟨S1024, .f32⟩
  | 81 => ⟨S4x4096x1024, .f32⟩
  | 82 => ⟨S1x1x1024, .f32⟩
  | 83 => ⟨S4x4096x1024, .f32⟩
  | 84 => ⟨S4x4096x1024, .f32⟩
  | 85 => ⟨S4x4096x1024, .f32⟩
  | 86 => ⟨S1x1024, .f32⟩
  | 87 => ⟨S1024, .f32⟩
  | 88 => ⟨S4x4096x1024, .f32⟩
  | 89 => ⟨S1x1x1024, .f32⟩
  | 90 => ⟨S4x4096x1024, .f32⟩
  | 91 => ⟨S4x4096x1024, .f32⟩
  | 92 => ⟨S4x4096x1024, .f32⟩
  | 93 => ⟨S1x1024, .f32⟩
  | 94 => ⟨S1024, .f32⟩
  | 95 => ⟨S4x4096x1024, .f32⟩
  | 96 => ⟨S1x1x1024, .f32⟩
  | 97 => ⟨S4x4096x1024, .f32⟩
  | 98 => ⟨S4x4096x1024, .f32⟩
  | 99 => ⟨S4x4096x1024, .f32⟩
  | 100 => ⟨S1x1024, .f32⟩
  | 101 => ⟨S1024, .f32⟩
  | 102 => ⟨S4x4096x1024, .f32⟩
  | 103 => ⟨S1x1x1024, .f32⟩
  | 104 => ⟨S4x4096x1024, .f32⟩
  | 105 => ⟨S4x4096x1024, .f32⟩
  | 106 => ⟨S4x4096x1024, .f32⟩
  | 107 => ⟨S1x1024, .f32⟩
  | 108 => ⟨S1024, .f32⟩
  | 109 => ⟨S4x4096x1024, .f32⟩
  | 110 => ⟨S1x1x1024, .f32⟩
  | 111 => ⟨S4x4096x1024, .f32⟩
  | 112 => ⟨S4x4096x1024, .f32⟩
  | 113 => ⟨S4x4096x1024, .f32⟩
  | 114 => ⟨S1x1024, .f32⟩
  | 115 => ⟨S1024, .f32⟩
  | 116 => ⟨S4x4096x1024, .f32⟩
  | 117 => ⟨S1x1x1024, .f32⟩
  | 118 => ⟨S4x4096x1024, .f32⟩
  | 119 => ⟨S4x4096x1024, .f32⟩
  | 120 => ⟨S4x4096x1024, .f32⟩
  | 121 => ⟨S1x1024, .f32⟩
  | 122 => ⟨S1024, .f32⟩
  | 123 => ⟨S4x4096x1024, .f32⟩
  | 124 => ⟨S1x1x1024, .f32⟩
  | 125 => ⟨S4x4096x1024, .f32⟩
  | 126 => ⟨S4x4096x1024, .f32⟩
  | 127 => ⟨S4x4096x1024, .f32⟩
  | _ => ⟨S4x4096x14592, .bf16⟩

abbrev hbmTy0_1 (i : Nat) : BufTy := match i % 128 with
  | 0 => ⟨S1x1024, .f32⟩
  | 1 => ⟨S1024, .f32⟩
  | 2 => ⟨S4x4096x1024, .f32⟩
  | 3 => ⟨S1x1x1024, .f32⟩
  | 4 => ⟨S4x4096x1024, .f32⟩
  | 5 => ⟨S4x4096x1024, .f32⟩
  | 6 => ⟨S4x4096x1024, .f32⟩
  | 7 => ⟨S1x1024, .f32⟩
  | 8 => ⟨S1024, .f32⟩
  | 9 => ⟨S4x4096x1024, .f32⟩
  | 10 => ⟨S1x1x1024, .f32⟩
  | 11 => ⟨S4x4096x1024, .f32⟩
  | 12 => ⟨S4x4096x1024, .f32⟩
  | 13 => ⟨S4x4096x1024, .f32⟩
  | 14 => ⟨S1x1024, .f32⟩
  | 15 => ⟨S1024, .f32⟩
  | 16 => ⟨S4x4096x1024, .f32⟩
  | 17 => ⟨S1x1x1024, .f32⟩
  | 18 => ⟨S4x4096x1024, .f32⟩
  | 19 => ⟨S4x4096x1024, .f32⟩
  | 20 => ⟨S4x4096x1024, .f32⟩
  | 21 => ⟨S1x1024, .f32⟩
  | 22 => ⟨S1024, .f32⟩
  | 23 => ⟨S4x4096x1024, .f32⟩
  | 24 => ⟨S1x1x1024, .f32⟩
  | 25 => ⟨S4x4096x1024, .f32⟩
  | 26 => ⟨S4x4096x1024, .f32⟩
  | 27 => ⟨S4x4096x1024, .f32⟩
  | 28 => ⟨S1x1024, .f32⟩
  | 29 => ⟨S1024, .f32⟩
  | 30 => ⟨S4x4096x1024, .f32⟩
  | 31 => ⟨S1x1x1024, .f32⟩
  | 32 => ⟨S4x4096x1024, .f32⟩
  | 33 => ⟨S4x4096x1024, .f32⟩
  | 34 => ⟨S4x4096x1024, .f32⟩
  | 35 => ⟨S1x1024, .f32⟩
  | 36 => ⟨S1024, .f32⟩
  | 37 => ⟨S4x4096x1024, .f32⟩
  | 38 => ⟨S1x1x1024, .f32⟩
  | 39 => ⟨S4x4096x1024, .f32⟩
  | 40 => ⟨S4x4096x1024, .f32⟩
  | 41 => ⟨S4x4096x1024, .f32⟩
  | 42 => ⟨S1x1024, .f32⟩
  | 43 => ⟨S1024, .f32⟩
  | 44 => ⟨S4x4096x1024, .f32⟩
  | 45 => ⟨S1x1x1024, .f32⟩
  | 46 => ⟨S4x4096x1024, .f32⟩
  | 47 => ⟨S4x4096x1024, .f32⟩
  | 48 => ⟨S4x4096x1024, .f32⟩
  | 49 => ⟨S1x1024, .f32⟩
  | 50 => ⟨S1024, .f32⟩
  | 51 => ⟨S4x4096x1024, .f32⟩
  | 52 => ⟨S1x1x1024, .f32⟩
  | 53 => ⟨S4x4096x1024, .f32⟩
  | 54 => ⟨S4x4096x1024, .f32⟩
  | 55 => ⟨S4x4096x1024, .f32⟩
  | 56 => ⟨S1x1024, .f32⟩
  | 57 => ⟨S1024, .f32⟩
  | 58 => ⟨S4x4096x1024, .f32⟩
  | 59 => ⟨S1x1x1024, .f32⟩
  | 60 => ⟨S4x4096x1024, .f32⟩
  | 61 => ⟨S4x4096x1024, .f32⟩
  | 62 => ⟨S4x4096x1024, .f32⟩
  | 63 => ⟨S1x1024, .f32⟩
  | 64 => ⟨S1024, .f32⟩
  | 65 => ⟨S4x4096x1024, .f32⟩
  | 66 => ⟨S1x1x1024, .f32⟩
  | 67 => ⟨S4x4096x1024, .f32⟩
  | 68 => ⟨S4x4096x1024, .f32⟩
  | 69 => ⟨S4x4096x1024, .f32⟩
  | 70 => ⟨S1x1024, .f32⟩
  | 71 => ⟨S1024, .f32⟩
  | 72 => ⟨S4x4096x1024, .f32⟩
  | 73 => ⟨S1x1x1024, .f32⟩
  | 74 => ⟨S4x4096x1024, .f32⟩
  | 75 => ⟨S4x4096x1024, .f32⟩
  | 76 => ⟨S4x4096x1024, .f32⟩
  | 77 => ⟨S1x1024, .f32⟩
  | 78 => ⟨S1024, .f32⟩
  | 79 => ⟨S4x4096x1024, .f32⟩
  | 80 => ⟨S1x1x1024, .f32⟩
  | 81 => ⟨S4x4096x1024, .f32⟩
  | 82 => ⟨S4x4096x1024, .f32⟩
  | 83 => ⟨S4x4096x1024, .f32⟩
  | 84 => ⟨S1x1024, .f32⟩
  | 85 => ⟨S1024, .f32⟩
  | 86 => ⟨S4x4096x1024, .f32⟩
  | 87 => ⟨S1x1x1024, .f32⟩
  | 88 => ⟨S4x4096x1024, .f32⟩
  | 89 => ⟨S4x4096x1024, .f32⟩
  | 90 => ⟨S4x4096x1024, .f32⟩
  | 91 => ⟨S1x1024, .f32⟩
  | 92 => ⟨S1024, .f32⟩
  | 93 => ⟨S4x4096x1024, .f32⟩
  | 94 => ⟨S1x1x1024, .f32⟩
  | 95 => ⟨S4x4096x1024, .f32⟩
  | 96 => ⟨S4x4096x1024, .f32⟩
  | 97 => ⟨S4x4096x1024, .f32⟩
  | 98 => ⟨S1x1024, .f32⟩
  | 99 => ⟨S1024, .f32⟩
  | 100 => ⟨S4x4096x1024, .f32⟩
  | 101 => ⟨S1x1x1024, .f32⟩
  | 102 => ⟨S4x4096x1024, .f32⟩
  | 103 => ⟨S4x4096x1024, .f32⟩
  | 104 => ⟨S4x4096x1024, .f32⟩
  | 105 => ⟨S1x1024, .f32⟩
  | 106 => ⟨S1024, .f32⟩
  | 107 => ⟨S4x4096x1024, .f32⟩
  | 108 => ⟨S1x1x1024, .f32⟩
  | 109 => ⟨S4x4096x1024, .f32⟩
  | 110 => ⟨S4x4096x1024, .f32⟩
  | 111 => ⟨S4x4096x1024, .f32⟩
  | 112 => ⟨S1x1x1024, .f32⟩
  | 113 => ⟨S4x4096x1024, .f32⟩
  | 114 => ⟨S4x4096x1024, .f32⟩
  | 115 => ⟨S_, .f32⟩
  | 116 => ⟨S4x4096, .f32⟩
  | 117 => ⟨S4x4096x1, .f32⟩
  | 118 => ⟨S_, .f32⟩
  | 119 => ⟨S4x4096x1, .f32⟩
  | 120 => ⟨S4x4096x1, .f32⟩
  | 121 => ⟨S4x4096x1024, .f32⟩
  | 122 => ⟨S4x4096x1024, .f32⟩
  | 123 => ⟨S4x4096x1024, .f32⟩
  | 124 => ⟨S_, .f32⟩
  | 125 => ⟨S4x4096, .f32⟩
  | 126 => ⟨S4x4096x1, .f32⟩
  | 127 => ⟨S_, .f32⟩
  | _ => ⟨S4x4096x14592, .bf16⟩

abbrev hbmTy0_2 (i : Nat) : BufTy := match i % 128 with
  | 0 => ⟨S4x4096x1, .f32⟩
  | 1 => ⟨S4x4096x1, .f32⟩
  | 2 => ⟨S_, .f32⟩
  | 3 => ⟨S4x4096x1, .f32⟩
  | 4 => ⟨S4x4096x1, .f32⟩
  | 5 => ⟨S4x4096x1, .f32⟩
  | 6 => ⟨S4x4096x1024, .f32⟩
  | 7 => ⟨S4x4096x1024, .f32⟩
  | 8 => ⟨S1x1x1024, .f32⟩
  | 9 => ⟨S4x4096x1024, .f32⟩
  | 10 => ⟨S4x4096x1024, .f32⟩
  | 11 => ⟨S1x1x1024, .f32⟩
  | 12 => ⟨S4x4096x1024, .f32⟩
  | 13 => ⟨S4x4096x1024, .f32⟩
  | 14 => ⟨S4x4096x1024, .f32⟩
  | 15 => ⟨S4x4096x1024, .f32⟩
  | 16 => ⟨S_, .f32⟩
  | 17 => ⟨S4x4096x1024, .f32⟩
  | 18 => ⟨S4x4096x1024, .f32⟩
  | 19 => ⟨S_, .f32⟩
  | 20 => ⟨S4x4096x1024, .f32⟩
  | 21 => ⟨S4x4096x1024, .f32⟩
  | 22 => ⟨S4x4096x1024, .f32⟩
  | 23 => ⟨S4x4096x1024, .bf16⟩
  | _ => ⟨S4x4096x14592, .bf16⟩

abbrev hbmTy (i : Nat) : BufTy := match i / 128 with
  | 0 => hbmTy0_0 i
  | 1 => hbmTy0_1 i
  | 2 => hbmTy0_2 i
  | _ => ⟨S4x4096x14592, .bf16⟩

abbrev bufTy : (tb : Table) → Fin (tcTables nBuf tb) → BufTy
  | .hbm, ⟨i, _⟩ => hbmTy i
  | _, _ => ⟨S4x4096x14592, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_cst_2 : Ref sig .tc := ⟨.hbm, 243, rfl⟩
abbrev main_v233 : Ref sig .tc := ⟨.hbm, 244, rfl⟩
abbrev main_v234 : Ref sig .tc := ⟨.hbm, 245, rfl⟩
abbrev main_cst_3 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_cst_4 : Ref sig .tc := ⟨.hbm, 252, rfl⟩
abbrev main_v240 : Ref sig .tc := ⟨.hbm, 253, rfl⟩
abbrev main_v241 : Ref sig .tc := ⟨.hbm, 254, rfl⟩
abbrev main_cst_5 : Ref sig .tc := ⟨.hbm, 255, rfl⟩
abbrev main_v242 : Ref sig .tc := ⟨.hbm, 256, rfl⟩
abbrev main_v243 : Ref sig .tc := ⟨.hbm, 257, rfl⟩
abbrev main_cst_6 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_call1_v0 : Ref sig .tc := ⟨.hbm, 270, rfl⟩
abbrev main_call1_v1 : Ref sig .tc := ⟨.hbm, 271, rfl⟩
abbrev main_call1_cst : Ref sig .tc := ⟨.hbm, 272, rfl⟩
abbrev main_call1_v2 : Ref sig .tc := ⟨.hbm, 273, rfl⟩
abbrev main_call1_v3 : Ref sig .tc := ⟨.hbm, 274, rfl⟩
abbrev main_call1_cst_0 : Ref sig .tc := ⟨.hbm, 275, rfl⟩
abbrev main_call1_v4 : Ref sig .tc := ⟨.hbm, 276, rfl⟩
abbrev main_call1_v5 : Ref sig .tc := ⟨.hbm, 277, rfl⟩
abbrev main_v255 : Ref sig .tc := ⟨.hbm, 278, rfl⟩
abbrev main_v256 : Ref sig .tc := ⟨.hbm, 279, rfl⟩

abbrev nD : Nat := 1
abbrev τ : Topo := Topo.v7x

variable {F : FTy → Type} [FloatOps F]
-- ==== Adaln.lean ====
abbrev S16x2048 : Shape := ⟨2, ![16, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S16x12288 : Shape := ⟨2, ![16, 12288]⟩
abbrev S1x2048x1024 : Shape := ⟨3, ![1, 2048, 1024]⟩
abbrev S1x1x1024 : Shape := ⟨3, ![1, 1, 1024]⟩
abbrev S16x1024 : Shape := ⟨2, ![16, 1024]⟩
abbrev S2048x1024 : Shape := ⟨2, ![2048, 1024]⟩
abbrev S32x2048 : Shape := ⟨2, ![32, 2048]⟩
abbrev S32x1024 : Shape := ⟨2, ![32, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S16x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S16x1024, .f32⟩
  | .local _ .vmem, ⟨6, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdalnRefIdeal.lean ====
abbrev S16x2048 : Shape := ⟨2, ![16, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S16x12288 : Shape := ⟨2, ![16, 12288]⟩
abbrev S1x12288 : Shape := ⟨2, ![1, 12288]⟩
abbrev S12288 : Shape := ⟨1, ![12288]⟩

abbrev nBuf : Space → Nat
  | .hbm => 20
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x12288, .f32⟩
  | .hbm, ⟨2, _⟩ => ⟨S2x12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S1x2048x12288, .f32⟩
  | .hbm, ⟨13, _⟩ => ⟨S2048x12288, .f32⟩
  | .hbm, ⟨14, _⟩ => ⟨S16x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S16x12288, .f32⟩
  | .hbm, ⟨19, _⟩ => ⟨S16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== FfnUp.lean ====
abbrev S4x4096x2048 : Shape := ⟨3, ![4, 4096, 2048]⟩
abbrev S16x12288 : Shape := ⟨2, ![16, 12288]⟩
abbrev S2048 : Shape := ⟨1, ![2048]⟩
abbrev S2x2048x11264 : Shape := ⟨3, ![2, 2048, 11264]⟩
abbrev S3x11264 : Shape := ⟨2, ![3, 11264]⟩
abbrev S11264 : Shape := ⟨1, ![11264]⟩
abbrev S1x11264 : Shape := ⟨2, ![1, 11264]⟩
abbrev S1x2048 : Shape := ⟨2, ![1, 2048]⟩
abbrev S16x6x1x2048 : Shape := ⟨4, ![16, 6, 1, 2048]⟩
abbrev S4x4096x5632 : Shape := ⟨3, ![4, 4096, 5632]⟩
abbrev S1x512x2048 : Shape := ⟨3, ![1, 512, 2048]⟩
abbrev S1x16x2048 : Shape := ⟨3, ![1, 16, 2048]⟩
abbrev S1x1x1x2048 : Shape := ⟨4, ![1, 1, 1, 2048]⟩
abbrev S1x2048x1408 : Shape := ⟨3, ![1, 2048, 1408]⟩
abbrev S3x1408 : Shape := ⟨2, ![3, 1408]⟩
abbrev S1x1408 : Shape := ⟨2, ![1, 1408]⟩
abbrev S1x512x1408 : Shape := ⟨3, ![1, 512, 1408]⟩
abbrev S544x2048 : Shape := ⟨2, ![544, 2048]⟩
abbrev S16x2048 : Shape := ⟨2, ![16, 2048]⟩
abbrev S16 : Shape := ⟨1, ![16]⟩
abbrev S16x1 : Shape := ⟨2, ![16, 1]⟩
abbrev S1x128x2048 : Shape := ⟨3, ![1, 128, 2048]⟩
abbrev S128x2048 : Shape := ⟨2, ![128, 2048]⟩
abbrev S128 : Shape := ⟨1, ![128]⟩
abbrev S128x1 : Shape := ⟨2, ![128, 1]⟩
abbrev S2048x1408 : Shape := ⟨2, ![2048, 1408]⟩
abbrev S544x1408 : Shape := ⟨2, ![544, 1408]⟩
abbrev S512x1408 : Shape := ⟨2, ![512, 1408]⟩

abbrev nBuf : Space → Nat
  | .hbm => 11
  | .vmem => 26
  | .smem => 0
  | _ => 0

abbrev bufTy : (tb : Table) → Fin (tcTables nBuf tb) → BufTy
  | .hbm, ⟨0, _⟩ => ⟨S4x4096x2048, .f32⟩
  | .hbm, ⟨1, _⟩ => ⟨S16x12288, .f32⟩
  | .hbm, ⟨2, _⟩ => ⟨S2048, .f32⟩
  | .hbm, ⟨3, _⟩ => ⟨S2x2048x11264, .f32⟩
  | .hbm, ⟨4, _⟩ => ⟨S3x11264, .f32⟩
  | .hbm, ⟨5, _⟩ => ⟨S11264, .f32⟩
  | .hbm, ⟨6, _⟩ => ⟨S2x2048x11264, .bf16⟩
  | .hbm, ⟨7, _⟩ => ⟨S1x11264, .f32⟩
  | .hbm, ⟨8, _⟩ => ⟨S1x2048, .f32⟩
  | .hbm, ⟨9, _⟩ => ⟨S16x6x1x2048, .f32⟩
  | .hbm, ⟨10, _⟩ => ⟨S4x4096x5632, .bf16⟩
  | .local _ .vmem, ⟨0, _⟩ => ⟨S1x512x2048, .f32⟩
  | .local _ .vmem, ⟨1, _⟩ => ⟨S1x512x2048, .f32⟩
  | .local _ .vmem, ⟨2, _⟩ => ⟨S1x16x2048, .f32⟩
  | .local _ .vmem, ⟨3, _⟩ => ⟨S1x16x2048, .f32⟩
  | .local _ .vmem, ⟨4, _⟩ => ⟨S1x16x2048, .f32⟩
  | .local _ .vmem, ⟨5, _⟩ => ⟨S1x16x2048, .f32⟩
  | .local _ .vmem, ⟨6, _⟩ => ⟨S1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x1x1x2048, .f32⟩
  | .local _ .vmem, ⟨11, _⟩ => ⟨S1x2048x1408, .bf16⟩
  | .local _ .vmem, ⟨12, _⟩ => ⟨S1x2048x1408, .bf16⟩
  | .local _ .vmem, ⟨13, _⟩ => ⟨S1x2048x1408, .bf16⟩
  | .local _ .vmem, ⟨14, _⟩ => ⟨S1x2048x1408, .bf16⟩
  | .local _ .vmem, ⟨15, _⟩ => ⟨S3x1408, .f32⟩
  | .local _ .vmem, ⟨16, _⟩ => ⟨S3x1408, .f32⟩
  | .local _ .vmem, ⟨17, _⟩ => ⟨S3x1408, .f32⟩
  | .local _ .vmem, ⟨18, _⟩ => ⟨S3x1408, .f32⟩
  | .local _ .vmem, ⟨19, _⟩ => ⟨S1x1408, .f32⟩
  | .local _ .vmem, ⟨20, _⟩ => ⟨S1x1408, .f32⟩
  | .local _ .vmem, ⟨21, _⟩ => ⟨S1x1408, .f32⟩
  | .local _ .vmem, ⟨22, _⟩ => ⟨S1x1408, .f32⟩
  | .local _ .vmem, ⟨23, _⟩ => ⟨S1x512x1408, .bf16⟩
  | .local _ .vmem, ⟨24, _⟩ => ⟨S1x512x1408, .bf16⟩
  | .local _ .vmem, ⟨25, _⟩ => ⟨S544x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨3, ![4, 8, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_60 : BitVec 32 := 0#32
  let c4_i32 : BitVec 32 := 4#32
  let v121 : BitVec 32 := Scalar.addi c0_i32_60 c4_i32
  let c1_i32_61 : BitVec 32 := 1#32
  ⟨c0_i32_60, v121, c1_i32_61⟩
def k0_mult1 (k0_t1 : Fin k0_t1_loop.trips) : BitVec 32 :=
  let c0_i32_60 : BitVec 32 := 0#32
  let c1_i32_61 : BitVec 32 := 1#32
  let arg17 : BitVec 32 := Scf.iv c0_i32_60 c1_i32_61 k0_t1
  let c128_i32 : BitVec 32 := 128#32
  let v122 : BitVec 32 := Scalar.muli arg17 c128_i32
  v122
def k0_off1 (k0_t1 : Fin k0_t1_loop.trips) : Fin 3 → Nat :=
  let c0_63 : Index := 0#32
  let c0_i32_60 : BitVec 32 := 0#32
  let c1_i32_61 : BitVec 32 := 1#32
  let arg17 : BitVec 32 := Scf.iv c0_i32_60 c1_i32_61 k0_t1
  let c128_i32 : BitVec 32 := 128#32
  let v122 : BitVec 32 := Scalar.muli arg17 c128_i32
  let v123 : BitVec 32 := v122
  let v124 : Index := Scalar.indexCast v123
  let c0_64 : Index := 0#32
  ![0, v124.toNat, 0]
def k0_mult2 (k0_t1 : Fin k0_t1_loop.trips) : BitVec 32 :=
  let c16_i32 : BitVec 32 := 16#32
  let c0_i32_60 : BitVec 32 := 0#32
  let c1_i32_61 : BitVec 32 := 1#32
  let arg17 : BitVec 32 := Scf.iv c0_i32_60 c1_i32_61 k0_t1
  let c128_i32_68 : BitVec 32 := 128#32
  let v144 : BitVec 32 := Scalar.muli arg17 c128_i32_68
  let v145 : BitVec 32 := Scalar.addi c16_i32 v144
  v145
def k0_off2 (k0_t1 : Fin k0_t1_loop.trips) : Fin 2 → Nat :=
  let c16_i32 : BitVec 32 := 16#32
  let c0_i32_60 : BitVec 32 := 0#32
  let c1_i32_61 : BitVec 32 := 1#32
  let arg17 : BitVec 32 := Scf.iv c0_i32_60 c1_i32_61 k0_t1
  let c128_i32_68 : BitVec 32 := 128#32
  let v144 : BitVec 32 := Scalar.muli arg17 c128_i32_68
  let v145 : BitVec 32 := Scalar.addi c16_i32 v144
  let v146 : BitVec 32 := v145
  let v147 : Index := Scalar.indexCast v146
  let c0_69 : Index := 0#32
  ![v147.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let c3_i32 : BitVec 32 := 3#32
  let c0_i32_0 : BitVec 32 := 0#32
  let c0_i32_1 : BitVec 32 := 0#32
  let c0_i32_2 : BitVec 32 := 0#32
  ![v1.toNat, c3_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let c4_i32 : BitVec 32 := 4#32
  let c0_i32_0 : BitVec 32 := 0#32
  let c0_i32_1 : BitVec 32 := 0#32
  let c0_i32_2 : BitVec 32 := 0#32
  ![v1.toNat, c4_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  let c0_i32_2 : BitVec 32 := 0#32
  ![c0_i32_0.toNat, c0_i32_1.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  let c0_i32_0 : BitVec 32 := 0#32
  ![c0_i32.toNat, v0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x2048x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x2048x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S3x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S3x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 2 → Memref sig .tc .vmem S1x512x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== FfnUpRefIdeal.lean ====
abbrev S4x4096x2048 : Shape := ⟨3, ![4, 4096, 2048]⟩
abbrev S16x12288 : Shape := ⟨2, ![16, 12288]⟩
abbrev S2048 : Shape := ⟨1, ![2048]⟩
abbrev S2x2048x11264 : Shape := ⟨3, ![2, 2048, 11264]⟩
abbrev S3x11264 : Shape := ⟨2, ![3, 11264]⟩
abbrev S11264 : Shape := ⟨1, ![11264]⟩
abbrev S4x12288 : Shape := ⟨2, ![4, 12288]⟩
abbrev S4x1x12288 : Shape := ⟨3, ![4, 1, 12288]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S4x4096x11264 : Shape := ⟨3, ![4, 4096, 11264]⟩
abbrev S4x4098x11264 : Shape := ⟨3, ![4, 4098, 11264]⟩
abbrev S1x11264 : Shape := ⟨2, ![1, 11264]⟩
abbrev S1x1x11264 : Shape := ⟨3, ![1, 1, 11264]⟩
abbrev S4x4096x5632 : Shape := ⟨3, ![4, 4096, 5632]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S16x12288, .f32⟩
  | .hbm, ⟨2, _⟩ => ⟨S2048, .f32⟩
  | .hbm, ⟨3, _⟩ => ⟨S2x2048x11264, .f32⟩
  | .hbm, ⟨4, _⟩ => ⟨S3x11264, .f32⟩
  | .hbm, ⟨5, _⟩ => ⟨S11264, .f32⟩
  | .hbm, ⟨6, _⟩ => ⟨S4x12288, .f32⟩
  | .hbm, ⟨7, _⟩ => ⟨S4x1x12288, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S4x4096x2048, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S1x1x2048, .f32⟩
  | .hbm, ⟨28, _⟩ => ⟨S4x4096x2048, .f32⟩
  | .hbm, ⟨29, _⟩ => ⟨S4x4096x2048, .f32⟩
  | .hbm, ⟨30, _⟩ => ⟨S_, .f32⟩
  | .hbm, ⟨31, _⟩ => ⟨S4x1x2048, .f32⟩
  | .hbm, ⟨32, _⟩ => ⟨S4x1x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S1x2048x11264, .f32⟩
  | .hbm, ⟨38, _⟩ => ⟨S2048x11264, .f32⟩
  | .hbm, ⟨39, _⟩ => ⟨S4x4096x11264, .f32⟩
  | .hbm, ⟨40, _⟩ => ⟨S_, .i32⟩
  | .hbm, ⟨41, _⟩ => ⟨S_, .f32⟩
  | .hbm, ⟨42, _⟩ => ⟨S4x4098x11264, .f32⟩
  | .hbm, ⟨43, _⟩ => ⟨S1x11264, .f32⟩
  | .hbm, ⟨44, _⟩ => ⟨S11264, .f32⟩
  | .hbm, ⟨45, _⟩ => ⟨S4x4096x11264, .f32⟩
  | .hbm, ⟨46, _⟩ => ⟨S1x1x11264, .f32⟩
  | .hbm, ⟨47, _⟩ => ⟨S4x4096x11264, .f32⟩
  | .hbm, ⟨48, _⟩ => ⟨S4x4096x11264, .f32⟩
  | .hbm, ⟨49, _⟩ => ⟨S1x11264, .f32⟩
  | .hbm, ⟨50, _⟩ => ⟨S11264, .f32⟩
  | .hbm, ⟨51, _⟩ => ⟨S4x4096x11264, .f32⟩
  | .hbm, ⟨52, _⟩ => ⟨S1x1x11264, .f32⟩
  | .hbm, ⟨53, _⟩ => ⟨S4x4096x11264, .f32⟩
  | .hbm, ⟨54, _⟩ => ⟨S4x4096x11264, .f32⟩
  | .hbm, ⟨55, _⟩ => ⟨S4x4096x11264, .f32⟩
  | .hbm, ⟨56, _⟩ => ⟨S1x11264, .f32⟩
  | .hbm, ⟨57, _⟩ => ⟨S11264, .f32⟩
  | .hbm, ⟨58, _⟩ => ⟨S4x4096x11264, .f32⟩
  | .hbm, ⟨59, _⟩ => ⟨S1x1x11264, .f32⟩
  | .hbm, ⟨60, _⟩ => ⟨S4x4096x11264, .f32⟩
  | .hbm, ⟨61, _⟩ => ⟨S4x4096x11264, .f32⟩
  | .hbm, ⟨62, _⟩ => ⟨S4x4096x11264, .f32⟩
  | .hbm, ⟨63, _⟩ => ⟨S1x1x11264, .f32⟩
  | .hbm, ⟨64, _⟩ => ⟨S4x4096x11264, .f32⟩
  | .hbm, ⟨65, _⟩ => ⟨S4x4096x11264, .f32⟩
  | .hbm, ⟨66, _⟩ => ⟨S4x4096x5632, .f32⟩
  | .hbm, ⟨67, _⟩ => ⟨S4x4096x5632, .f32⟩
  | .hbm, ⟨68, _⟩ => ⟨S4x4096x5632, .f32⟩
  | .hbm, ⟨69, _⟩ => ⟨S4x4096x5632, .f32⟩
  | .hbm, ⟨70, _⟩ => ⟨S_, .f32⟩
  | .hbm, ⟨71, _⟩ => ⟨S4x4096x5632, .f32⟩
  | .hbm, ⟨72, _⟩ => ⟨S4x4096x5632, .f32⟩
  | .hbm, ⟨73, _⟩ => ⟨S_, .f32⟩
  | .hbm, ⟨74, _⟩ => ⟨S4x4096x5632, .f32⟩
  | .hbm, ⟨75, _⟩ => ⟨S4x4096x5632, .f32⟩
  | .hbm, ⟨76, _⟩ => ⟨S4x4096x5632, .f32⟩
  | .hbm, ⟨77, _⟩ => ⟨S4x4096x5632, .f32⟩
  | .hbm, ⟨78, _⟩ => ⟨S4x4096x5632, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== FfnDown.lean ====
abbrev S4x4096x5632 : Shape := ⟨3, ![4, 4096, 5632]⟩
abbrev S4x4096x2048 : Shape := ⟨3, ![4, 4096, 2048]⟩
abbrev S16x12288 : Shape := ⟨2, ![16, 12288]⟩
abbrev S2x5632x2048 : Shape := ⟨3, ![2, 5632, 2048]⟩
abbrev S16x6x1x2048 : Shape := ⟨4, ![16, 6, 1, 2048]⟩
abbrev S1x1024x5632 : Shape := ⟨3, ![1, 1024, 5632]⟩
abbrev S1x5632x512 : Shape := ⟨3, ![1, 5632, 512]⟩
abbrev S1x1024x512 : Shape := ⟨3, ![1, 1024, 512]⟩
abbrev S1x1x1x512 : Shape := ⟨4, ![1, 1, 1, 512]⟩
abbrev S1024x5632 : Shape := ⟨2, ![1024, 5632]⟩
abbrev S5632x512 : Shape := ⟨2, ![5632, 512]⟩
abbrev S1024x512 : Shape := ⟨2, ![1024, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S4x4096x5632, .bf16⟩
  | .hbm, ⟨1, _⟩ => ⟨S4x4096x2048, .f32⟩
  | .hbm, ⟨2, _⟩ => ⟨S16x12288, .f32⟩
  | .hbm, ⟨3, _⟩ => ⟨S2x5632x2048, .f32⟩
  | .hbm, ⟨4, _⟩ => ⟨S2x5632x2048, .bf16⟩
  | .hbm, ⟨5, _⟩ => ⟨S16x6x1x2048, .f32⟩
  | .hbm, ⟨6, _⟩ => ⟨S4x4096x2048, .f32⟩
  | .local _ .vmem, ⟨0, _⟩ => ⟨S1x1024x5632, .bf16⟩
  | .local _ .vmem, ⟨1, _⟩ => ⟨S1x1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1024x512, .f32⟩
  | .local _ .vmem, ⟨9, _⟩ => ⟨S1x1024x512, .f32⟩
  | _, _ => ⟨S4x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let c5_i32 : BitVec 32 := 5#32
  let c0_i32_0 : BitVec 32 := 0#32
  let c0_i32_1 : BitVec 32 := 0#32
  ![v1.toNat, c5_i32.toNat, c0_i32_0.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FfnDownRefIdeal.lean ====
abbrev S4x4096x5632 : Shape := ⟨3, ![4, 4096, 5632]⟩
abbrev S4x4096x2048 : Shape := ⟨3, ![4, 4096, 2048]⟩
abbrev S16x12288 : Shape := ⟨2, ![16, 12288]⟩
abbrev S2x5632x2048 : Shape := ⟨3, ![2, 5632, 2048]⟩
abbrev S4x12288 : Shape := ⟨2, ![4, 12288]⟩
abbrev S4x1x12288 : Shape := ⟨3, ![4, 1, 12288]⟩
abbrev S4x1x2048 : Shape := ⟨3, ![4, 1, 2048]⟩
abbrev S1x5632x2048 : Shape := ⟨3, ![1, 5632, 2048]⟩
abbrev S5632x2048 : Shape := ⟨2, ![5632, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x5632, .bf16⟩
  | .hbm, ⟨1, _⟩ => ⟨S4x4096x2048, .f32⟩
  | .hbm, ⟨2, _⟩ => ⟨S16x12288, .f32⟩
  | .hbm, ⟨3, _⟩ => ⟨S2x5632x2048, .f32⟩
  | .hbm, ⟨4, _⟩ => ⟨S4x12288, .f32⟩
  | .hbm, ⟨5, _⟩ => ⟨S4x1x12288, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x4096x5632, .f32⟩
  | .hbm, ⟨13, _⟩ => ⟨S1x5632x2048, .f32⟩
  | .hbm, ⟨14, _⟩ => ⟨S5632x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | _, _ => ⟨S4x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Merge.lean ====
abbrev S4x4096x1024 : Shape := ⟨3, ![4, 4096, 1024]⟩
abbrev S4x4096x14592 : Shape := ⟨3, ![4, 4096, 14592]⟩
abbrev S256 : Shape := ⟨1, ![256]⟩
abbrev S2x1024x2048 : Shape := ⟨3, ![2, 1024, 2048]⟩
abbrev S3x2048 : Shape := ⟨2, ![3, 2048]⟩
abbrev S1x256 : Shape := ⟨2, ![1, 256]⟩
abbrev S3x1x2048 : Shape := ⟨3, ![3, 1, 2048]⟩
abbrev S4x4096x2048 : Shape := ⟨3, ![4, 4096, 2048]⟩
abbrev S1x512x1024 : Shape := ⟨3, ![1, 512, 1024]⟩
abbrev S1x1024x1024 : Shape := ⟨3, ![1, 1024, 1024]⟩
abbrev S3x1x1024 : Shape := ⟨3, ![3, 1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 16
  | .vmem => 28
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x1024, .f32⟩
  | .hbm, ⟨3, _⟩ => ⟨S4x4096x1024, .f32⟩
  | .hbm, ⟨4, _⟩ => ⟨S4x4096x14592, .bf16⟩
  | .hbm, ⟨5, _⟩ => ⟨S256, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .hbm, ⟨9, _⟩ => ⟨S3x2048, .f32⟩
  | .hbm, ⟨10, _⟩ => ⟨S1x256, .f32⟩
  | .hbm, ⟨11, _⟩ => ⟨S2x1024x2048, .bf16⟩
  | .hbm, ⟨12, _⟩ => ⟨S2x1024x2048, .bf16⟩
  | .hbm, ⟨13, _⟩ => ⟨S2x1024x2048, .bf16⟩
  | .hbm, ⟨14, _⟩ => ⟨S3x1x2048, .f32⟩
  | .hbm, ⟨15, _⟩ => ⟨S4x4096x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x256, .f32⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x1024x1024, .bf16⟩
  | .local _ .vmem, ⟨22, _⟩ => ⟨S1x1024x1024, .bf16⟩
  | .local _ .vmem, ⟨23, _⟩ => ⟨S3x1x1024, .f32⟩
  | .local _ .vmem, ⟨24, _⟩ => ⟨S3x1x1024, .f32⟩
  | .local _ .vmem, ⟨25, _⟩ => ⟨S1x512x1024, .bf16⟩
  | .local _ .vmem, ⟨26, _⟩ => ⟨S1x512x1024, .bf16⟩
  | .local _ .vmem, ⟨27, _⟩ => ⟨S512x1024, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨3, ![4, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let c0_i32 : BitVec 32 := 0#32
  ![arg0.toNat, arg1.toNat, c12_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![arg0.toNat, arg1.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![arg0.toNat, arg1.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 2 → Memref sig .tc .vmem S3x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, false, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== MergeIdeal.lean ====
abbrev S4x4096x1024 : Shape := ⟨3, ![4, 4096, 1024]⟩
abbrev S4x4096x14592 : Shape := ⟨3, ![4, 4096, 14592]⟩
abbrev S256 : Shape := ⟨1, ![256]⟩
abbrev S2x1024x2048 : Shape := ⟨3, ![2, 1024, 2048]⟩
abbrev S3x2048 : Shape := ⟨2, ![3, 2048]⟩
abbrev S1x256 : Shape := ⟨2, ![1, 256]⟩
abbrev S3x1x2048 : Shape := ⟨3, ![3, 1, 2048]⟩
abbrev S4x4096x2048 : Shape := ⟨3, ![4, 4096, 2048]⟩
abbrev S1x512x1024 : Shape := ⟨3, ![1, 512, 1024]⟩
abbrev S1x1024x1024 : Shape := ⟨3, ![1, 1024, 1024]⟩
abbrev S3x1x1024 : Shape := ⟨3, ![3, 1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 16
  | .vmem => 28
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x1024, .f32⟩
  | .hbm, ⟨3, _⟩ => ⟨S4x4096x1024, .f32⟩
  | .hbm, ⟨4, _⟩ => ⟨S4x4096x14592, .bf16⟩
  | .hbm, ⟨5, _⟩ => ⟨S256, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .hbm, ⟨9, _⟩ => ⟨S3x2048, .f32⟩
  | .hbm, ⟨10, _⟩ => ⟨S1x256, .f32⟩
  | .hbm, ⟨11, _⟩ => ⟨S2x1024x2048, .bf16⟩
  | .hbm, ⟨12, _⟩ => ⟨S2x1024x2048, .bf16⟩
  | .hbm, ⟨13, _⟩ => ⟨S2x1024x2048, .bf16⟩
  | .hbm, ⟨14, _⟩ => ⟨S3x1x2048, .f32⟩
  | .hbm, ⟨15, _⟩ => ⟨S4x4096x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x256, .f32⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x1024x1024, .bf16⟩
  | .local _ .vmem, ⟨22, _⟩ => ⟨S1x1024x1024, .bf16⟩
  | .local _ .vmem, ⟨23, _⟩ => ⟨S3x1x1024, .f32⟩
  | .local _ .vmem, ⟨24, _⟩ => ⟨S3x1x1024, .f32⟩
  | .local _ .vmem, ⟨25, _⟩ => ⟨S1x512x1024, .bf16⟩
  | .local _ .vmem, ⟨26, _⟩ => ⟨S1x512x1024, .bf16⟩
  | .local _ .vmem, ⟨27, _⟩ => ⟨S512x1024, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨3, ![4, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let c0_i32 : BitVec 32 := 0#32
  ![arg0.toNat, arg1.toNat, c12_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![arg0.toNat, arg1.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![arg0.toNat, arg1.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 2 → Memref sig .tc .vmem S3x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, false, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== MergeRefIdeal.lean ====
abbrev S4x4096x1024 : Shape := ⟨3, ![4, 4096, 1024]⟩
abbrev S4x4096x14592 : Shape := ⟨3, ![4, 4096, 14592]⟩
abbrev S256 : Shape := ⟨1, ![256]⟩
abbrev S2x1024x2048 : Shape := ⟨3, ![2, 1024, 2048]⟩
abbrev S3x2048 : Shape := ⟨2, ![3, 2048]⟩
abbrev S4x4096x6144 : Shape := ⟨3, ![4, 4096, 6144]⟩
abbrev S4x4096x4x256 : Shape := ⟨4, ![4, 4096, 4, 256]⟩
abbrev S_ : Shape := ⟨0, ![]⟩
abbrev S4x4096x4 : Shape := ⟨3, ![4, 4096, 4]⟩
abbrev S4x4096x4x1 : Shape := ⟨4, ![4, 4096, 4, 1]⟩
abbrev S1x1x1x256 : Shape := ⟨4, ![1, 1, 1, 256]⟩
abbrev S1x1024x2048 : Shape := ⟨3, ![1, 1024, 2048]⟩
abbrev S1024x2048 : Shape := ⟨2, ![1024, 2048]⟩
abbrev S4x4096x2048 : Shape := ⟨3, ![4, 4096, 2048]⟩
abbrev S4x4096x3x2048 : Shape := ⟨4, ![4, 4096, 3, 2048]⟩
abbrev S1x1x3x2048 : Shape := ⟨4, ![1, 1, 3, 2048]⟩
abbrev S4x4096x1x2048 : Shape := ⟨4, ![4, 4096, 1, 2048]⟩

abbrev nBuf : Space → Nat
  | .hbm => 78
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x1024, .f32⟩
  | .hbm, ⟨3, _⟩ => ⟨S4x4096x1024, .f32⟩
  | .hbm, ⟨4, _⟩ => ⟨S4x4096x14592, .bf16⟩
  | .hbm, ⟨5, _⟩ => ⟨S256, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .hbm, ⟨9, _⟩ => ⟨S3x2048, .f32⟩
  | .hbm, ⟨10, _⟩ => ⟨S4x4096x1024, .bf16⟩
  | .hbm, ⟨11, _⟩ => ⟨S4x4096x1024, .f32⟩
  | .hbm, ⟨12, _⟩ => ⟨S4x4096x6144, .bf16⟩
  | .hbm, ⟨13, _⟩ => ⟨S4x4096x6144, .f32⟩
  | .hbm, ⟨14, _⟩ => ⟨S4x4096x1024, .f32⟩
  | .hbm, ⟨15, _⟩ => ⟨S4x4096x4x256, .f32⟩
  | .hbm, ⟨16, _⟩ => ⟨S4x4096x4x256, .f32⟩
  | .hbm, ⟨17, _⟩ => ⟨S_, .f32⟩
  | .hbm, ⟨18, _⟩ => ⟨S4x4096x4, .f32⟩
  | .hbm, ⟨19, _⟩ => ⟨S4x4096x4x1, .f32⟩
  | .hbm, ⟨20, _⟩ => ⟨S_, .f32⟩
  | .hbm, ⟨21, _⟩ => ⟨S4x4096x4x1, .f32⟩
  | .hbm, ⟨22, _⟩ => ⟨S4x4096x4x1, .f32⟩
  | .hbm, ⟨23, _⟩ => ⟨S_, .f32⟩
  | .hbm, ⟨24, _⟩ => ⟨S4x4096x4x1, .f32⟩
  | .hbm, ⟨25, _⟩ => ⟨S4x4096x4x1, .f32⟩
  | .hbm, ⟨26, _⟩ => ⟨S4x4096x4x1, .f32⟩
  | .hbm, ⟨27, _⟩ => ⟨S4x4096x4x256, .f32⟩
  | .hbm, ⟨28, _⟩ => ⟨S4x4096x4x256, .f32⟩
  | .hbm, ⟨29, _⟩ => ⟨S1x1x1x256, .f32⟩
  | .hbm, ⟨30, _⟩ => ⟨S4x4096x4x256, .f32⟩
  | .hbm, ⟨31, _⟩ => ⟨S4x4096x4x256, .f32⟩
  | .hbm, ⟨32, _⟩ => ⟨S4x4096x1024, .f32⟩
  | .hbm, ⟨33, _⟩ => ⟨S4x4096x1024, .f32⟩
  | .hbm, ⟨34, _⟩ => ⟨S1x1024x2048, .f32⟩
  | .hbm, ⟨35, _⟩ => ⟨S1024x2048, .f32⟩
  | .hbm, ⟨36, _⟩ => ⟨S4x4096x2048, .f32⟩
  | .hbm, ⟨37, _⟩ => ⟨S4x4096x1024, .f32⟩
  | .hbm, ⟨38, _⟩ => ⟨S1x1024x2048, .f32⟩
  | .hbm, ⟨39, _⟩ => ⟨S1024x2048, .f32⟩
  | .hbm, ⟨40, _⟩ => ⟨S4x4096x2048, .f32⟩
  | .hbm, ⟨41, _⟩ => ⟨S4x4096x1024, .f32⟩
  | .hbm, ⟨42, _⟩ => ⟨S4x4096x1024, .f32⟩
  | .hbm, ⟨43, _⟩ => ⟨S_, .f32⟩
  | .hbm, ⟨44, _⟩ => ⟨S4x4096x1024, .f32⟩
  | .hbm, ⟨45, _⟩ => ⟨S4x4096x1024, .f32⟩
  | .hbm, ⟨46, _⟩ => ⟨S_, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S1x1024x2048, .f32⟩
  | .hbm, ⟨52, _⟩ => ⟨S1024x2048, .f32⟩
  | .hbm, ⟨53, _⟩ => ⟨S4x4096x2048, .f32⟩
  | .hbm, ⟨54, _⟩ => ⟨S4x4096x3x2048, .f32⟩
  | .hbm, ⟨55, _⟩ => ⟨S1x1x3x2048, .f32⟩
  | .hbm, ⟨56, _⟩ => ⟨S4x4096x3x2048, .f32⟩
  | .hbm, ⟨57, _⟩ => ⟨S4x4096x3x2048, .f32⟩
  | .hbm, ⟨58, _⟩ => ⟨S4x4096x3x2048, .f32⟩
  | .hbm, ⟨59, _⟩ => ⟨S4x4096x3x2048, .f32⟩
  | .hbm, ⟨60, _⟩ => ⟨S_, .f32⟩
  | .hbm, ⟨61, _⟩ => ⟨S4x4096x3x2048, .f32⟩
  | .hbm, ⟨62, _⟩ => ⟨S4x4096x3x2048, .f32⟩
  | .hbm, ⟨63, _⟩ => ⟨S_, .f32⟩
  | .hbm, ⟨64, _⟩ => ⟨S4x4096x3x2048, .f32⟩
  | .hbm, ⟨65, _⟩ => ⟨S4x4096x3x2048, .f32⟩
  | .hbm, ⟨66, _⟩ => ⟨S4x4096x1x2048, .f32⟩
  | .hbm, ⟨67, _⟩ => ⟨S4x4096x2048, .f32⟩
  | .hbm, ⟨68, _⟩ => ⟨S4x4096x2048, .f32⟩
  | .hbm, ⟨69, _⟩ => ⟨S4x4096x1x2048, .f32⟩
  | .hbm, ⟨70, _⟩ => ⟨S4x4096x2048, .f32⟩
  | .hbm, ⟨71, _⟩ => ⟨S4x4096x2048, .f32⟩
  | .hbm, ⟨72, _⟩ => ⟨S4x4096x2048, .f32⟩
  | .hbm, ⟨73, _⟩ => ⟨S4x4096x1x2048, .f32⟩
  | .hbm, ⟨74, _⟩ => ⟨S4x4096x2048, .f32⟩
  | .hbm, ⟨75, _⟩ => ⟨S4x4096x2048, .f32⟩
  | .hbm, ⟨76, _⟩ => ⟨S4x4096x2048, .f32⟩
  | .hbm, ⟨77, _⟩ => ⟨S4x4096x2048, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_2 : Ref sig .tc := ⟨.hbm, 60, rfl⟩
abbrev main_v39 : Ref sig .tc := ⟨.hbm, 61, rfl⟩
abbrev main_v40 : Ref sig .tc := ⟨.hbm, 62, rfl⟩
abbrev main_cst_3 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== OutProj.lean ====
abbrev S4x4096x2048 : Shape := ⟨3, ![4, 4096, 2048]⟩
abbrev S16x12288 : Shape := ⟨2, ![16, 12288]⟩
abbrev S2x2048x2048 : Shape := ⟨3, ![2, 2048, 2048]⟩
abbrev S16x6x1x2048 : Shape := ⟨4, ![16, 6, 1, 2048]⟩
abbrev S1x512x2048 : Shape := ⟨3, ![1, 512, 2048]⟩
abbrev S1x2048x2048 : Shape := ⟨3, ![1, 2048, 2048]⟩
abbrev S1x1x1x2048 : Shape := ⟨4, ![1, 1, 1, 2048]⟩
abbrev S512x2048 : Shape := ⟨2, ![512, 2048]⟩
abbrev S2048x2048 : Shape := ⟨2, ![2048, 2048]⟩
abbrev S1x2048 : Shape := ⟨2, ![1, 2048]⟩

abbrev nBuf : Space → Nat
  | .hbm => 7
  | .vmem => 9
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .f32⟩
  | .hbm, ⟨2, _⟩ => ⟨S16x12288, .f32⟩
  | .hbm, ⟨3, _⟩ => ⟨S2x2048x2048, .f32⟩
  | .hbm, ⟨4, _⟩ => ⟨S2x2048x2048, .bf16⟩
  | .hbm, ⟨5, _⟩ => ⟨S16x6x1x2048, .f32⟩
  | .hbm, ⟨6, _⟩ => ⟨S4x4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x512x2048, .f32⟩
  | .local _ .vmem, ⟨8, _⟩ => ⟨S1x512x2048, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let c2_i32 : BitVec 32 := 2#32
  let c0_i32_0 : BitVec 32 := 0#32
  let c0_i32_1 : BitVec 32 := 0#32
  ![v1.toNat, c2_i32.toNat, c0_i32_0.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== OutProjRefIdeal.lean ====
abbrev S4x4096x2048 : Shape := ⟨3, ![4, 4096, 2048]⟩
abbrev S16x12288 : Shape := ⟨2, ![16, 12288]⟩
abbrev S2x2048x2048 : Shape := ⟨3, ![2, 2048, 2048]⟩
abbrev S4x12288 : Shape := ⟨2, ![4, 12288]⟩
abbrev S4x1x12288 : Shape := ⟨3, ![4, 1, 12288]⟩
abbrev S4x1x2048 : Shape := ⟨3, ![4, 1, 2048]⟩
abbrev S1x2048x2048 : Shape := ⟨3, ![1, 2048, 2048]⟩
abbrev S2048x2048 : Shape := ⟨2, ![2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .f32⟩
  | .hbm, ⟨2, _⟩ => ⟨S16x12288, .f32⟩
  | .hbm, ⟨3, _⟩ => ⟨S2x2048x2048, .f32⟩
  | .hbm, ⟨4, _⟩ => ⟨S4x12288, .f32⟩
  | .hbm, ⟨5, _⟩ => ⟨S4x1x12288, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x4096x2048, .f32⟩
  | .hbm, ⟨13, _⟩ => ⟨S1x2048x2048, .f32⟩
  | .hbm, ⟨14, _⟩ => ⟨S2048x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== InProjCtx.lean ====
abbrev S1x1024x2048 : Shape := ⟨3, ![1, 1024, 2048]⟩
abbrev S16x12288 : Shape := ⟨2, ![16, 12288]⟩
abbrev S2048 : Shape := ⟨1, ![2048]⟩
abbrev S2048x14592 : Shape := ⟨2, ![2048, 14592]⟩
abbrev S1x2048 : Shape := ⟨2, ![1, 2048]⟩
abbrev S16x6x1x2048 : Shape := ⟨4, ![16, 6, 1, 2048]⟩
abbrev S1x1024x14592 : Shape := ⟨3, ![1, 1024, 14592]⟩
abbrev S1x512x2048 : Shape := ⟨3, ![1, 512, 2048]⟩
abbrev S1x1x1x2048 : Shape := ⟨4, ![1, 1, 1, 2048]⟩
abbrev S2048x2432 : Shape := ⟨2, ![2048, 2432]⟩
abbrev S1x512x2432 : Shape := ⟨3, ![1, 512, 2432]⟩
abbrev S512x2048 : Shape := ⟨2, ![512, 2048]⟩
abbrev S1x128x2048 : Shape := ⟨3, ![1, 128, 2048]⟩
abbrev S128x2048 : Shape := ⟨2, ![128, 2048]⟩
abbrev S128 : Shape := ⟨1, ![128]⟩
abbrev S128x1 : Shape := ⟨2, ![128, 1]⟩
abbrev S512x2432 : Shape := ⟨2, ![512, 2432]⟩

abbrev nBuf : Space → Nat
  | .hbm => 7
  | .vmem => 10
  | .smem => 0
  | _ => 0

abbrev bufTy : (tb : Table) → Fin (tcTables nBuf tb) → BufTy
  | .hbm, ⟨0, _⟩ => ⟨S1x1024x2048, .f32⟩
  | .hbm, ⟨1, _⟩ => ⟨S16x12288, .f32⟩
  | .hbm, ⟨2, _⟩ => ⟨S2048, .f32⟩
  | .hbm, ⟨3, _⟩ => ⟨S2048x14592, .bf16⟩
  | .hbm, ⟨4, _⟩ => ⟨S1x2048, .f32⟩
  | .hbm, ⟨5, _⟩ => ⟨S16x6x1x2048, .f32⟩
  | .hbm, ⟨6, _⟩ => ⟨S1x1024x14592, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S2048x2432, .bf16⟩
  | .local _ .vmem, ⟨6, _⟩ => ⟨S2048x2432, .bf16⟩
  | .local _ .vmem, ⟨7, _⟩ => ⟨S1x512x2432, .bf16⟩
  | .local _ .vmem, ⟨8, _⟩ => ⟨S1x512x2432, .bf16⟩
  | .local _ .vmem, ⟨9, _⟩ => ⟨S512x2048, .bf16⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![1, 2, 6], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_18 : BitVec 32 := 0#32
  let c4_i32 : BitVec 32 := 4#32
  let v18 : BitVec 32 := Scalar.addi c0_i32_18 c4_i32
  let c1_i32 : BitVec 32 := 1#32
  ⟨c0_i32_18, v18, c1_i32⟩
def k0_mult1 (k0_t1 : Fin k0_t1_loop.trips) : BitVec 32 :=
  let c0_i32_18 : BitVec 32 := 0#32
  let c1_i32 : BitVec 32 := 1#32
  let arg10 : BitVec 32 := Scf.iv c0_i32_18 c1_i32 k0_t1
  let c128_i32 : BitVec 32 := 128#32
  let v19 : BitVec 32 := Scalar.muli arg10 c128_i32
  v19
def k0_off1 (k0_t1 : Fin k0_t1_loop.trips) : Fin 3 → Nat :=
  let c0_20 : Index := 0#32
  let c0_i32_18 : BitVec 32 := 0#32
  let c1_i32 : BitVec 32 := 1#32
  let arg10 : BitVec 32 := Scf.iv c0_i32_18 c1_i32 k0_t1
  let c128_i32 : BitVec 32 := 128#32
  let v19 : BitVec 32 := Scalar.muli arg10 c128_i32
  let v20 : BitVec 32 := v19
  let v21 : Index := Scalar.indexCast v20
  let c0_21 : Index := 0#32
  ![0, v21.toNat, 0]
def k0_mult2 (k0_t1 : Fin k0_t1_loop.trips) : BitVec 32 :=
  let c0_i32_18 : BitVec 32 := 0#32
  let c1_i32 : BitVec 32 := 1#32
  let arg10 : BitVec 32 := Scf.iv c0_i32_18 c1_i32 k0_t1
  let c128_i32_25 : BitVec 32 := 128#32
  let v41 : BitVec 32 := Scalar.muli arg10 c128_i32_25
  v41
def k0_off2 (k0_t1 : Fin k0_t1_loop.trips) : Fin 2 → Nat :=
  let c0_i32_18 : BitVec 32 := 0#32
  let c1_i32 : BitVec 32 := 1#32
  let arg10 : BitVec 32 := Scf.iv c0_i32_18 c1_i32 k0_t1
  let c128_i32_25 : BitVec 32 := 128#32
  let v41 : BitVec 32 := Scalar.muli arg10 c128_i32_25
  let v42 : BitVec 32 := v41
  let v43 : Index := Scalar.indexCast v42
  let c0_26 : Index := 0#32
  ![v43.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let c0_i32_0 : BitVec 32 := 0#32
  let c0_i32_1 : BitVec 32 := 0#32
  let c0_i32_2 : BitVec 32 := 0#32
  ![c4_i32.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c1_i32 : BitVec 32 := 1#32
  let c0_i32 : BitVec 32 := 0#32
  let c0_i32_0 : BitVec 32 := 0#32
  let c0_i32_1 : BitVec 32 := 0#32
  ![c4_i32.toNat, c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x2432 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x2432 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== InProjCtxRefIdeal.lean ====
abbrev S1x1024x2048 : Shape := ⟨3, ![1, 1024, 2048]⟩
abbrev S16x12288 : Shape := ⟨2, ![16, 12288]⟩
abbrev S2048 : Shape := ⟨1, ![2048]⟩
abbrev S2048x14592 : Shape := ⟨2, ![2048, 14592]⟩
abbrev S1x12288 : Shape := ⟨2, ![1, 12288]⟩
abbrev S12288 : Shape := ⟨1, ![12288]⟩
abbrev S_ : Shape := ⟨0, ![]⟩
abbrev S1x1024 : Shape := ⟨2, ![1, 1024]⟩
abbrev S1x1024x1 : Shape := ⟨3, ![1, 1024, 1]⟩
abbrev S1x1x2048 : Shape := ⟨3, ![1, 1, 2048]⟩
abbrev S1x1024x14592 : Shape := ⟨3, ![1, 1024, 14592]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S16x12288, .f32⟩
  | .hbm, ⟨2, _⟩ => ⟨S2048, .f32⟩
  | .hbm, ⟨3, _⟩ => ⟨S2048x14592, .bf16⟩
  | .hbm, ⟨4, _⟩ => ⟨S1x12288, .f32⟩
  | .hbm, ⟨5, _⟩ => ⟨S12288, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S1x1024x2048, .f32⟩
  | .hbm, ⟨13, _⟩ => ⟨S_, .f32⟩
  | .hbm, ⟨14, _⟩ => ⟨S1x1024, .f32⟩
  | .hbm, ⟨15, _⟩ => ⟨S1x1024x1, .f32⟩
  | .hbm, ⟨16, _⟩ => ⟨S_, .f32⟩
  | .hbm, ⟨17, _⟩ => ⟨S1x1024x1, .f32⟩
  | .hbm, ⟨18, _⟩ => ⟨S1x1024x1, .f32⟩
  | .hbm, ⟨19, _⟩ => ⟨S_, .f32⟩
  | .hbm, ⟨20, _⟩ => ⟨S1x1024x1, .f32⟩
  | .hbm, ⟨21, _⟩ => ⟨S1x1024x1, .f32⟩
  | .hbm, ⟨22, _⟩ => ⟨S1x1024x1, .f32⟩
  | .hbm, ⟨23, _⟩ => ⟨S1x1024x2048, .f32⟩
  | .hbm, ⟨24, _⟩ => ⟨S1x1024x2048, .f32⟩
  | .hbm, ⟨25, _⟩ => ⟨S1x1x2048, .f32⟩
  | .hbm, ⟨26, _⟩ => ⟨S1x1024x2048, .f32⟩
  | .hbm, ⟨27, _⟩ => ⟨S1x1024x2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S1x1x2048, .f32⟩
  | .hbm, ⟨32, _⟩ => ⟨S1x1024x2048, .f32⟩
  | .hbm, ⟨33, _⟩ => ⟨S1x1024x2048, .f32⟩
  | .hbm, ⟨34, _⟩ => ⟨S1x1x2048, .f32⟩
  | .hbm, ⟨35, _⟩ => ⟨S1x1024x2048, .f32⟩
  | .hbm, ⟨36, _⟩ => ⟨S1x1024x2048, .f32⟩
  | .hbm, ⟨37, _⟩ => ⟨S2048x14592, .f32⟩
  | .hbm, ⟨38, _⟩ => ⟨S1x1024x14592, .f32⟩
  | .hbm, ⟨39, _⟩ => ⟨S1x1024x14592, .bf16⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== OutProjCtx.lean ====
abbrev S1x1024x2048 : Shape := ⟨3, ![1, 1024, 2048]⟩
abbrev S16x12288 : Shape := ⟨2, ![16, 12288]⟩
abbrev S2x2048x2048 : Shape := ⟨3, ![2, 2048, 2048]⟩
abbrev S16x6x1x2048 : Shape := ⟨4, ![16, 6, 1, 2048]⟩
abbrev S1x512x2048 : Shape := ⟨3, ![1, 512, 2048]⟩
abbrev S1x2048x2048 : Shape := ⟨3, ![1, 2048, 2048]⟩
abbrev S1x1x1x2048 : Shape := ⟨4, ![1, 1, 1, 2048]⟩
abbrev S512x2048 : Shape := ⟨2, ![512, 2048]⟩
abbrev S2048x2048 : Shape := ⟨2, ![2048, 2048]⟩
abbrev S1x2048 : Shape := ⟨2, ![1, 2048]⟩

abbrev nBuf : Space → Nat
  | .hbm => 7
  | .vmem => 8
  | .smem => 0
  | _ => 0

abbrev bufTy : (tb : Table) → Fin (tcTables nBuf tb) → BufTy
  | .hbm, ⟨0, _⟩ => ⟨S1x1024x2048, .bf16⟩
  | .hbm, ⟨1, _⟩ => ⟨S1x1024x2048, .f32⟩
  | .hbm, ⟨2, _⟩ => ⟨S16x12288, .f32⟩
  | .hbm, ⟨3, _⟩ => ⟨S2x2048x2048, .f32⟩
  | .hbm, ⟨4, _⟩ => ⟨S2x2048x2048, .bf16⟩
  | .hbm, ⟨5, _⟩ => ⟨S16x6x1x2048, .f32⟩
  | .hbm, ⟨6, _⟩ => ⟨S1x1024x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x1x1x2048, .f32⟩
  | .local _ .vmem, ⟨6, _⟩ => ⟨S1x512x2048, .f32⟩
  | .local _ .vmem, ⟨7, _⟩ => ⟨S1x512x2048, .f32⟩
  | _, _ => ⟨S1x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c2_i32 : BitVec 32 := 2#32
  let c0_i32 : BitVec 32 := 0#32
  let c0_i32_0 : BitVec 32 := 0#32
  ![c4_i32.toNat, c2_i32.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== OutProjCtxRefIdeal.lean ====
abbrev S1x1024x2048 : Shape := ⟨3, ![1, 1024, 2048]⟩
abbrev S16x12288 : Shape := ⟨2, ![16, 12288]⟩
abbrev S2x2048x2048 : Shape := ⟨3, ![2, 2048, 2048]⟩
abbrev S1x12288 : Shape := ⟨2, ![1, 12288]⟩
abbrev S12288 : Shape := ⟨1, ![12288]⟩
abbrev S2048 : Shape := ⟨1, ![2048]⟩
abbrev S1x2048x2048 : Shape := ⟨3, ![1, 2048, 2048]⟩
abbrev S2048x2048 : Shape := ⟨2, ![2048, 2048]⟩
abbrev S1x1x2048 : Shape := ⟨3, ![1, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S1x1024x2048, .bf16⟩
  | .hbm, ⟨1, _⟩ => ⟨S1x1024x2048, .f32⟩
  | .hbm, ⟨2, _⟩ => ⟨S16x12288, .f32⟩
  | .hbm, ⟨3, _⟩ => ⟨S2x2048x2048, .f32⟩
  | .hbm, ⟨4, _⟩ => ⟨S1x12288, .f32⟩
  | .hbm, ⟨5, _⟩ => ⟨S12288, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S1x1024x2048, .f32⟩
  | .hbm, ⟨13, _⟩ => ⟨S1x2048x2048, .f32⟩
  | .hbm, ⟨14, _⟩ => ⟨S2048x2048, .f32⟩
  | .hbm, ⟨15, _⟩ => ⟨S1x1024x2048, .f32⟩
  | .hbm, ⟨16, _⟩ => ⟨S1x1x2048, .f32⟩
  | .hbm, ⟨17, _⟩ => ⟨S1x1024x2048, .f32⟩
  | .hbm, ⟨18, _⟩ => ⟨S1x1024x2048, .f32⟩
  | .hbm, ⟨19, _⟩ => ⟨S1x1024x2048, .f32⟩
  | _, _ => ⟨S1x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== FfnDownCtx.lean ====
abbrev S1x1024x5632 : Shape := ⟨3, ![1, 1024, 5632]⟩
abbrev S1x1024x2048 : Shape := ⟨3, ![1, 1024, 2048]⟩
abbrev S16x12288 : Shape := ⟨2, ![16, 12288]⟩
abbrev S2x5632x2048 : Shape := ⟨3, ![2, 5632, 2048]⟩
abbrev S16x6x1x2048 : Shape := ⟨4, ![16, 6, 1, 2048]⟩
abbrev S1x512x5632 : Shape := ⟨3, ![1, 512, 5632]⟩
abbrev S1x5632x1024 : Shape := ⟨3, ![1, 5632, 1024]⟩
abbrev S1x512x1024 : Shape := ⟨3, ![1, 512, 1024]⟩
abbrev S1x1x1x1024 : Shape := ⟨4, ![1, 1, 1, 1024]⟩
abbrev S512x5632 : Shape := ⟨2, ![512, 5632]⟩
abbrev S5632x1024 : Shape := ⟨2, ![5632, 1024]⟩
abbrev S512x1024 : Shape := ⟨2, ![512, 1024]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S1x1024x5632, .bf16⟩
  | .hbm, ⟨1, _⟩ => ⟨S1x1024x2048, .f32⟩
  | .hbm, ⟨2, _⟩ => ⟨S16x12288, .f32⟩
  | .hbm, ⟨3, _⟩ => ⟨S2x5632x2048, .f32⟩
  | .hbm, ⟨4, _⟩ => ⟨S2x5632x2048, .bf16⟩
  | .hbm, ⟨5, _⟩ => ⟨S16x6x1x2048, .f32⟩
  | .hbm, ⟨6, _⟩ => ⟨S1x1024x2048, .f32⟩
  | .local _ .vmem, ⟨0, _⟩ => ⟨S1x512x5632, .bf16⟩
  | .local _ .vmem, ⟨1, _⟩ => ⟨S1x512x5632, .bf16⟩
  | .local _ .vmem, ⟨2, _⟩ => ⟨S1x5632x1024, .bf16⟩
  | .local _ .vmem, ⟨3, _⟩ => ⟨S1x5632x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x512x1024, .f32⟩
  | .local _ .vmem, ⟨9, _⟩ => ⟨S1x512x1024, .f32⟩
  | _, _ => ⟨S1x1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c5_i32 : BitVec 32 := 5#32
  let c0_i32 : BitVec 32 := 0#32
  let c0_i32_0 : BitVec 32 := 0#32
  ![c4_i32.toNat, c5_i32.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FfnDownCtxRefIdeal.lean ====
abbrev S1x1024x5632 : Shape := ⟨3, ![1, 1024, 5632]⟩
abbrev S1x1024x2048 : Shape := ⟨3, ![1, 1024, 2048]⟩
abbrev S16x12288 : Shape := ⟨2, ![16, 12288]⟩
abbrev S2x5632x2048 : Shape := ⟨3, ![2, 5632, 2048]⟩
abbrev S1x12288 : Shape := ⟨2, ![1, 12288]⟩
abbrev S12288 : Shape := ⟨1, ![12288]⟩
abbrev S2048 : Shape := ⟨1, ![2048]⟩
abbrev S1x5632x2048 : Shape := ⟨3, ![1, 5632, 2048]⟩
abbrev S5632x2048 : Shape := ⟨2, ![5632, 2048]⟩
abbrev S1x1x2048 : Shape := ⟨3, ![1, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S1x1024x5632, .bf16⟩
  | .hbm, ⟨1, _⟩ => ⟨S1x1024x2048, .f32⟩
  | .hbm, ⟨2, _⟩ => ⟨S16x12288, .f32⟩
  | .hbm, ⟨3, _⟩ => ⟨S2x5632x2048, .f32⟩
  | .hbm, ⟨4, _⟩ => ⟨S1x12288, .f32⟩
  | .hbm, ⟨5, _⟩ => ⟨S12288, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S1x1024x5632, .f32⟩
  | .hbm, ⟨13, _⟩ => ⟨S1x5632x2048, .f32⟩
  | .hbm, ⟨14, _⟩ => ⟨S5632x2048, .f32⟩
  | .hbm, ⟨15, _⟩ => ⟨S1x1024x2048, .f32⟩
  | .hbm, ⟨16, _⟩ => ⟨S1x1x2048, .f32⟩
  | .hbm, ⟨17, _⟩ => ⟨S1x1024x2048, .f32⟩
  | .hbm, ⟨18, _⟩ => ⟨S1x1024x2048, .f32⟩
  | .hbm, ⟨19, _⟩ => ⟨S1x1024x2048, .f32⟩
  | _, _ => ⟨S1x1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== MergeCtx.lean ====
abbrev S4x256x1024 : Shape := ⟨3, ![4, 256, 1024]⟩
abbrev S4x256x14592 : Shape := ⟨3, ![4, 256, 14592]⟩
abbrev S256 : Shape := ⟨1, ![256]⟩
abbrev S2x1024x2048 : Shape := ⟨3, ![2, 1024, 2048]⟩
abbrev S3x2048 : Shape := ⟨2, ![3, 2048]⟩
abbrev S1x256 : Shape := ⟨2, ![1, 256]⟩
abbrev S3x1x2048 : Shape := ⟨3, ![3, 1, 2048]⟩
abbrev S4x256x2048 : Shape := ⟨3, ![4, 256, 2048]⟩
abbrev S1x256x1024 : Shape := ⟨3, ![1, 256, 1024]⟩
abbrev S1x1024x1024 : Shape := ⟨3, ![1, 1024, 1024]⟩
abbrev S3x1x1024 : Shape := ⟨3, ![3, 1, 1024]⟩
abbrev S256x1024 : Shape := ⟨2, ![256, 1024]⟩
abbrev S256x256 : Shape := ⟨2, ![256, 256]⟩
abbrev S256x1 : Shape := ⟨2, ![256, 1]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 16
  | .vmem => 28
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S4x256x1024, .f32⟩
  | .hbm, ⟨3, _⟩ => ⟨S4x256x1024, .f32⟩
  | .hbm, ⟨4, _⟩ => ⟨S4x256x14592, .bf16⟩
  | .hbm, ⟨5, _⟩ => ⟨S256, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .hbm, ⟨9, _⟩ => ⟨S3x2048, .f32⟩
  | .hbm, ⟨10, _⟩ => ⟨S1x256, .f32⟩
  | .hbm, ⟨11, _⟩ => ⟨S2x1024x2048, .bf16⟩
  | .hbm, ⟨12, _⟩ => ⟨S2x1024x2048, .bf16⟩
  | .hbm, ⟨13, _⟩ => ⟨S2x1024x2048, .bf16⟩
  | .hbm, ⟨14, _⟩ => ⟨S3x1x2048, .f32⟩
  | .hbm, ⟨15, _⟩ => ⟨S4x256x2048, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .bf16⟩
  | .local _ .vmem, ⟨9, _⟩ => ⟨S1x256x1024, .bf16⟩
  | .local _ .vmem, ⟨10, _⟩ => ⟨S1x256, .f32⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x1024x1024, .bf16⟩
  | .local _ .vmem, ⟨22, _⟩ => ⟨S1x1024x1024, .bf16⟩
  | .local _ .vmem, ⟨23, _⟩ => ⟨S3x1x1024, .f32⟩
  | .local _ .vmem, ⟨24, _⟩ => ⟨S3x1x1024, .f32⟩
  | .local _ .vmem, ⟨25, _⟩ => ⟨S1x256x1024, .bf16⟩
  | .local _ .vmem, ⟨26, _⟩ => ⟨S1x256x1024, .bf16⟩
  | .local _ .vmem, ⟨27, _⟩ => ⟨S256x1024, .bf16⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let c0_i32 : BitVec 32 := 0#32
  ![arg0.toNat, arg1.toNat, c12_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![arg0.toNat, arg1.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![arg0.toNat, arg1.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 2 → Memref sig .tc .vmem S3x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, false, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== MergeCtxRefIdeal.lean ====
abbrev S4x256x1024 : Shape := ⟨3, ![4, 256, 1024]⟩
abbrev S4x256x14592 : Shape := ⟨3, ![4, 256, 14592]⟩
abbrev S256 : Shape := ⟨1, ![256]⟩
abbrev S2x1024x2048 : Shape := ⟨3, ![2, 1024, 2048]⟩
abbrev S3x2048 : Shape := ⟨2, ![3, 2048]⟩
abbrev S4x256x6144 : Shape := ⟨3, ![4, 256, 6144]⟩
abbrev S4x256x4x256 : Shape := ⟨4, ![4, 256, 4, 256]⟩
abbrev S_ : Shape := ⟨0, ![]⟩
abbrev S4x256x4 : Shape := ⟨3, ![4, 256, 4]⟩
abbrev S4x256x4x1 : Shape := ⟨4, ![4, 256, 4, 1]⟩
abbrev S1x1x1x256 : Shape := ⟨4, ![1, 1, 1, 256]⟩
abbrev S1x1024x2048 : Shape := ⟨3, ![1, 1024, 2048]⟩
abbrev S1024x2048 : Shape := ⟨2, ![1024, 2048]⟩
abbrev S4x256x2048 : Shape := ⟨3, ![4, 256, 2048]⟩
abbrev S4x256x3x2048 : Shape := ⟨4, ![4, 256, 3, 2048]⟩
abbrev S1x1x3x2048 : Shape := ⟨4, ![1, 1, 3, 2048]⟩
abbrev S4x256x1x2048 : Shape := ⟨4, ![4, 256, 1, 2048]⟩

abbrev nBuf : Space → Nat
  | .hbm => 78
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S4x256x1024, .f32⟩
  | .hbm, ⟨3, _⟩ => ⟨S4x256x1024, .f32⟩
  | .hbm, ⟨4, _⟩ => ⟨S4x256x14592, .bf16⟩
  | .hbm, ⟨5, _⟩ => ⟨S256, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .hbm, ⟨9, _⟩ => ⟨S3x2048, .f32⟩
  | .hbm, ⟨10, _⟩ => ⟨S4x256x1024, .bf16⟩
  | .hbm, ⟨11, _⟩ => ⟨S4x256x1024, .f32⟩
  | .hbm, ⟨12, _⟩ => ⟨S4x256x6144, .bf16⟩
  | .hbm, ⟨13, _⟩ => ⟨S4x256x6144, .f32⟩
  | .hbm, ⟨14, _⟩ => ⟨S4x256x1024, .f32⟩
  | .hbm, ⟨15, _⟩ => ⟨S4x256x4x256, .f32⟩
  | .hbm, ⟨16, _⟩ => ⟨S4x256x4x256, .f32⟩
  | .hbm, ⟨17, _⟩ => ⟨S_, .f32⟩
  | .hbm, ⟨18, _⟩ => ⟨S4x256x4, .f32⟩
  | .hbm, ⟨19, _⟩ => ⟨S4x256x4x1, .f32⟩
  | .hbm, ⟨20, _⟩ => ⟨S_, .f32⟩
  | .hbm, ⟨21, _⟩ => ⟨S4x256x4x1, .f32⟩
  | .hbm, ⟨22, _⟩ => ⟨S4x256x4x1, .f32⟩
  | .hbm, ⟨23, _⟩ => ⟨S_, .f32⟩
  | .hbm, ⟨24, _⟩ => ⟨S4x256x4x1, .f32⟩
  | .hbm, ⟨25, _⟩ => ⟨S4x256x4x1, .f32⟩
  | .hbm, ⟨26, _⟩ => ⟨S4x256x4x1, .f32⟩
  | .hbm, ⟨27, _⟩ => ⟨S4x256x4x256, .f32⟩
  | .hbm, ⟨28, _⟩ => ⟨S4x256x4x256, .f32⟩
  | .hbm, ⟨29, _⟩ => ⟨S1x1x1x256, .f32⟩
  | .hbm, ⟨30, _⟩ => ⟨S4x256x4x256, .f32⟩
  | .hbm, ⟨31, _⟩ => ⟨S4x256x4x256, .f32⟩
  | .hbm, ⟨32, _⟩ => ⟨S4x256x1024, .f32⟩
  | .hbm, ⟨33, _⟩ => ⟨S4x256x1024, .f32⟩
  | .hbm, ⟨34, _⟩ => ⟨S1x1024x2048, .f32⟩
  | .hbm, ⟨35, _⟩ => ⟨S1024x2048, .f32⟩
  | .hbm, ⟨36, _⟩ => ⟨S4x256x2048, .f32⟩
  | .hbm, ⟨37, _⟩ => ⟨S4x256x1024, .f32⟩
  | .hbm, ⟨38, _⟩ => ⟨S1x1024x2048, .f32⟩
  | .hbm, ⟨39, _⟩ => ⟨S1024x2048, .f32⟩
  | .hbm, ⟨40, _⟩ => ⟨S4x256x2048, .f32⟩
  | .hbm, ⟨41, _⟩ => ⟨S4x256x1024, .f32⟩
  | .hbm, ⟨42, _⟩ => ⟨S4x256x1024, .f32⟩
  | .hbm, ⟨43, _⟩ => ⟨S_, .f32⟩
  | .hbm, ⟨44, _⟩ => ⟨S4x256x1024, .f32⟩
  | .hbm, ⟨45, _⟩ => ⟨S4x256x1024, .f32⟩
  | .hbm, ⟨46, _⟩ => ⟨S_, .f32⟩
  | .hbm, ⟨47, _⟩ => ⟨S4x256x1024, .f32⟩
  | .hbm, ⟨48, _⟩ => ⟨S4x256x1024, .f32⟩
  | .hbm, ⟨49, _⟩ => ⟨S4x256x1024, .f32⟩
  | .hbm, ⟨50, _⟩ => ⟨S4x256x1024, .f32⟩
  | .hbm, ⟨51, _⟩ => ⟨S1x1024x2048, .f32⟩
  | .hbm, ⟨52, _⟩ => ⟨S1024x2048, .f32⟩
  | .hbm, ⟨53, _⟩ => ⟨S4x256x2048, .f32⟩
  | .hbm, ⟨54, _⟩ => ⟨S4x256x3x2048, .f32⟩
  | .hbm, ⟨55, _⟩ => ⟨S1x1x3x2048, .f32⟩
  | .hbm, ⟨56, _⟩ => ⟨S4x256x3x2048, .f32⟩
  | .hbm, ⟨57, _⟩ => ⟨S4x256x3x2048, .f32⟩
  | .hbm, ⟨58, _⟩ => ⟨S4x256x3x2048, .f32⟩
  | .hbm, ⟨59, _⟩ => ⟨S4x256x3x2048, .f32⟩
  | .hbm, ⟨60, _⟩ => ⟨S_, .f32⟩
  | .hbm, ⟨61, _⟩ => ⟨S4x256x3x2048, .f32⟩
  | .hbm, ⟨62, _⟩ => ⟨S4x256x3x2048, .f32⟩
  | .hbm, ⟨63, _⟩ => ⟨S_, .f32⟩
  | .hbm, ⟨64, _⟩ => ⟨S4x256x3x2048, .f32⟩
  | .hbm, ⟨65, _⟩ => ⟨S4x256x3x2048, .f32⟩
  | .hbm, ⟨66, _⟩ => ⟨S4x256x1x2048, .f32⟩
  | .hbm, ⟨67, _⟩ => ⟨S4x256x2048, .f32⟩
  | .hbm, ⟨68, _⟩ => ⟨S4x256x2048, .f32⟩
  | .hbm, ⟨69, _⟩ => ⟨S4x256x1x2048, .f32⟩
  | .hbm, ⟨70, _⟩ => ⟨S4x256x2048, .f32⟩
  | .hbm, ⟨71, _⟩ => ⟨S4x256x2048, .f32⟩
  | .hbm, ⟨72, _⟩ => ⟨S4x256x2048, .f32⟩
  | .hbm, ⟨73, _⟩ => ⟨S4x256x1x2048, .f32⟩
  | .hbm, ⟨74, _⟩ => ⟨S4x256x2048, .f32⟩
  | .hbm, ⟨75, _⟩ => ⟨S4x256x2048, .f32⟩
  | .hbm, ⟨76, _⟩ => ⟨S4x256x2048, .f32⟩
  | .hbm, ⟨77, _⟩ => ⟨S4x256x2048, .bf16⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_2 : Ref sig .tc := ⟨.hbm, 60, rfl⟩
abbrev main_v39 : Ref sig .tc := ⟨.hbm, 61, rfl⟩
abbrev main_v40 : Ref sig .tc := ⟨.hbm, 62, rfl⟩
abbrev main_cst_3 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== ConformerCtx.lean ====
abbrev S4x256x14592 : Shape := ⟨3, ![4, 256, 14592]⟩
abbrev S31x1024 : Shape := ⟨2, ![31, 1024]⟩
abbrev S1024 : Shape := ⟨1, ![1024]⟩
abbrev S1x1024 : Shape := ⟨2, ![1, 1024]⟩
abbrev S4x256x1024 : Shape := ⟨3, ![4, 256, 1024]⟩
abbrev S1x256x2048 : Shape := ⟨3, ![1, 256, 2048]⟩
abbrev S1x16x2048 : Shape := ⟨3, ![1, 16, 2048]⟩
abbrev S1x256x1024 : Shape := ⟨3, ![1, 256, 1024]⟩
abbrev S288x1024 : Shape := ⟨2, ![288, 1024]⟩
abbrev S280x1024 : Shape := ⟨2, ![280, 1024]⟩
abbrev S16x2048 : Shape := ⟨2, ![16, 2048]⟩
abbrev S16x1024 : Shape := ⟨2, ![16, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S4x256x14592, .bf16⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4x256x1024, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x16x2048, .bf16⟩
  | .local _ .vmem, ⟨3, _⟩ => ⟨S1x16x2048, .bf16⟩
  | .local _ .vmem, ⟨4, _⟩ => ⟨S1x16x2048, .bf16⟩
  | .local _ .vmem, ⟨5, _⟩ => ⟨S1x16x2048, .bf16⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x256x1024, .bf16⟩
  | .local _ .vmem, ⟨11, _⟩ => ⟨S1x256x1024, .bf16⟩
  | .local _ .vmem, ⟨12, _⟩ => ⟨S288x1024, .f32⟩
  | .local _ .vmem, ⟨13, _⟩ => ⟨S280x1024, .f32⟩
  | _, _ => ⟨S4x256x14592, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![arg0.toNat, v2.toNat, c3_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c15_i32 : BitVec 32 := 15#32
  let v2 : BitVec 32 := Scalar.minsi v1 c15_i32
  let c3_i32 : BitVec 32 := 3#32
  let c0_i32 : BitVec 32 := 0#32
  ![arg0.toNat, v2.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConformerCtxRefIdeal.lean ====
abbrev S4x256x14592 : Shape := ⟨3, ![4, 256, 14592]⟩
abbrev S31x1024 : Shape := ⟨2, ![31, 1024]⟩
abbrev S1024 : Shape := ⟨1, ![1024]⟩
abbrev S4x256x2048 : Shape := ⟨3, ![4, 256, 2048]⟩
abbrev S4x256x1024 : Shape := ⟨3, ![4, 256, 1024]⟩
abbrev S_ : Shape := ⟨0, ![]⟩
abbrev S4x286x1024 : Shape := ⟨3, ![4, 286, 1024]⟩
abbrev S1x1024 : Shape := ⟨2, ![1, 1024]⟩
abbrev S1x1x1024 : Shape := ⟨3, ![1, 1, 1024]⟩
abbrev S4x256 : Shape := ⟨2, ![4, 256]⟩
abbrev S4x256x1 : Shape := ⟨3, ![4, 256, 1]⟩

abbrev nBuf : Space → Nat
  | .hbm => 280
  | .vmem => 0
  | .smem => 0
  | _ => 0

abbrev hbmTy0_0 (i : Nat) : BufTy := match i % 128 with
  | 0 => ⟨S4x256x14592, .bf16⟩
  | 1 => ⟨S31x1024, .f32⟩
  | 2 => ⟨S1024, .f32⟩
  | 3 => ⟨S1024, .f32⟩
  | 4 => ⟨S1024, .f32⟩
  | 5 => ⟨S4x256x2048, .bf16⟩
  | 6 => ⟨S4x256x2048, .f32⟩
  | 7 => ⟨S4x256x1024, .f32⟩
  | 8 => ⟨S4x256x1024, .f32⟩
  | 9 => ⟨S4x256x1024, .f32⟩
  | 10 => ⟨S4x256x1024, .f32⟩
  | 11 => ⟨S_, .f32⟩
  | 12 => ⟨S4x256x1024, .f32⟩
  | 13 => ⟨S4x256x1024, .f32⟩
  | 14 => ⟨S_, .f32⟩
  | 15 => ⟨S4x256x1024, .f32⟩
  | 16 => ⟨S4x256x1024, .f32⟩
  | 17 => ⟨S4x256x1024, .f32⟩
  | 18 => ⟨S_, .i32⟩
  | 19 => ⟨S_, .f32⟩
  | 20 => ⟨S4x286x1024, .f32⟩
  | 21 => ⟨S1x1024, .f32⟩
  | 22 => ⟨S1024, .f32⟩
  | 23 => ⟨S4x256x1024, .f32⟩
  | 24 => ⟨S1x1x1024, .f32⟩
  | 25 => ⟨S4x256x1024, .f32⟩
  | 26 => ⟨S4x256x1024, .f32⟩
  | 27 => ⟨S_, .f32⟩
  | 28 => ⟨S4x256x1024, .f32⟩
  | 29 => ⟨S4x256x1024, .f32⟩
  | 30 => ⟨S1x1024, .f32⟩
  | 31 => ⟨S1024, .f32⟩
  | 32 => ⟨S4x256x1024, .f32⟩
  | 33 => ⟨S1x1x1024, .f32⟩
  | 34 => ⟨S4x256x1024, .f32⟩
  | 35 => ⟨S4x256x1024, .f32⟩
  | 36 => ⟨S4x256x1024, .f32⟩
  | 37 => ⟨S1x1024, .f32⟩
  | 38 => ⟨S1024, .f32⟩
  | 39 => ⟨S4x256x1024, .f32⟩
  | 40 => ⟨S1x1x1024, .f32⟩
  | 41 => ⟨S4x256x1024, .f32⟩
  | 42 => ⟨S4x256x1024, .f32⟩
  | 43 => ⟨S4x256x1024, .f32⟩
  | 44 => ⟨S1x1024, .f32⟩
  | 45 => ⟨S1024, .f32⟩
  | 46 => ⟨S4x256x1024, .f32⟩
  | 47 => ⟨S1x1x1024, .f32⟩
  | 48 => ⟨S4x256x1024, .f32⟩
  | 49 => ⟨S4x256x1024, .f32⟩
  | 50 => ⟨S4x256x1024, .f32⟩
  | 51 => ⟨S1x1024, .f32⟩
  | 52 => ⟨S1024, .f32⟩
  | 53 => ⟨S4x256x1024, .f32⟩
  | 54 => ⟨S1x1x1024, .f32⟩
  | 55 => ⟨S4x256x1024, .f32⟩
  | 56 => ⟨S4x256x1024, .f32⟩
  | 57 => ⟨S4x256x1024, .f32⟩
  | 58 => ⟨S1x1024, .f32⟩
  | 59 => ⟨S1024, .f32⟩
  | 60 => ⟨S4x256x1024, .f32⟩
  | 61 => ⟨S1x1x1024, .f32⟩
  | 62 => ⟨S4x256x1024, .f32⟩
  | 63 => ⟨S4x256x1024, .f32⟩
  | 64 => ⟨S4x256x1024, .f32⟩
  | 65 => ⟨S1x1024, .f32⟩
  | 66 => ⟨S1024, .f32⟩
  | 67 => ⟨S4x256x1024, .f32⟩
  | 68 => ⟨S1x1x1024, .f32⟩
  | 69 => ⟨S4x256x1024, .f32⟩
  | 70 => ⟨S4x256x1024, .f32⟩
  | 71 => ⟨S4x256x1024, .f32⟩
  | 72 => ⟨S1x1024, .f32⟩
  | 73 => ⟨S1024, .f32⟩
  | 74 => ⟨S4x256x1024, .f32⟩
  | 75 => ⟨S1x1x1024, .f32⟩
  | 76 => ⟨S4x256x1024, .f32⟩
  | 77 => ⟨S4x256x1024, .f32⟩
  | 78 => ⟨S4x256x1024, .f32⟩
  | 79 => ⟨S1x1024, .f32⟩
  | 80 => ⟨S1024, .f32⟩
  | 81 => ⟨S4x256x1024, .f32⟩
  | 82 => ⟨S1x1x1024, .f32⟩
  | 83 => ⟨S4x256x1024, .f32⟩
  | 84 => ⟨S4x256x1024, .f32⟩
  | 85 => ⟨S4x256x1024, .f32⟩
  | 86 => ⟨S1x1024, .f32⟩
  | 87 => ⟨S1024, .f32⟩
  | 88 => ⟨S4x256x1024, .f32⟩
  | 89 => ⟨S1x1x1024, .f32⟩
  | 90 => ⟨S4x256x1024, .f32⟩
  | 91 => ⟨S4x256x1024, .f32⟩
  | 92 => ⟨S4x256x1024, .f32⟩
  | 93 => ⟨S1x1024, .f32⟩
  | 94 => ⟨S1024, .f32⟩
  | 95 => ⟨S4x256x1024, .f32⟩
  | 96 => ⟨S1x1x1024, .f32⟩
  | 97 => ⟨S4x256x1024, .f32⟩
  | 98 => ⟨S4x256x1024, .f32⟩
  | 99 => ⟨S4x256x1024, .f32⟩
  | 100 => ⟨S1x1024, .f32⟩
  | 101 => ⟨S1024, .f32⟩
  | 102 => ⟨S4x256x1024, .f32⟩
  | 103 => ⟨S1x1x1024, .f32⟩
  | 104 => ⟨S4x256x1024, .f32⟩
  | 105 => ⟨S4x256x1024, .f32⟩
  | 106 => ⟨S4x256x1024, .f32⟩
  | 107 => ⟨S1x1024, .f32⟩
  | 108 => ⟨S1024, .f32⟩
  | 109 => ⟨S4x256x1024, .f32⟩
  | 110 => ⟨S1x1x1024, .f32⟩
  | 111 => ⟨S4x256x1024, .f32⟩
  | 112 => ⟨S4x256x1024, .f32⟩
  | 113 => ⟨S4x256x1024, .f32⟩
  | 114 => ⟨S1x1024, .f32⟩
  | 115 => ⟨S1024, .f32⟩
  | 116 => ⟨S4x256x1024, .f32⟩
  | 117 => ⟨S1x1x1024, .f32⟩
  | 118 => ⟨S4x256x1024, .f32⟩
  | 119 => ⟨S4x256x1024, .f32⟩
  | 120 => ⟨S4x256x1024, .f32⟩
  | 121 => ⟨S1x1024, .f32⟩
  | 122 => ⟨S1024, .f32⟩
  | 123 => ⟨S4x256x1024, .f32⟩
  | 124 => ⟨S1x1x1024, .f32⟩
  | 125 => ⟨S4x256x1024, .f32⟩
  | 126 => ⟨S4x256x1024, .f32⟩
  | 127 => ⟨S4x256x1024, .f32⟩
  | _ => ⟨S4x256x14592, .bf16⟩

abbrev hbmTy0_1 (i : Nat) : BufTy := match i % 128 with
  | 0 => ⟨S1x1024, .f32⟩
  | 1 => ⟨S1024, .f32⟩
  | 2 => ⟨S4x256x1024, .f32⟩
  | 3 => ⟨S1x1x1024, .f32⟩
  | 4 => ⟨S4x256x1024, .f32⟩
  | 5 => ⟨S4x256x1024, .f32⟩
  | 6 => ⟨S4x256x1024, .f32⟩
  | 7 => ⟨S1x1024, .f32⟩
  | 8 => ⟨S1024, .f32⟩
  | 9 => ⟨S4x256x1024, .f32⟩
  | 10 => ⟨S1x1x1024, .f32⟩
  | 11 => ⟨S4x256x1024, .f32⟩
  | 12 => ⟨S4x256x1024, .f32⟩
  | 13 => ⟨S4x256x1024, .f32⟩
  | 14 => ⟨S1x1024, .f32⟩
  | 15 => ⟨S1024, .f32⟩
  | 16 => ⟨S4x256x1024, .f32⟩
  | 17 => ⟨S1x1x1024, .f32⟩
  | 18 => ⟨S4x256x1024, .f32⟩
  | 19 => ⟨S4x256x1024, .f32⟩
  | 20 => ⟨S4x256x1024, .f32⟩
  | 21 => ⟨S1x1024, .f32⟩
  | 22 => ⟨S1024, .f32⟩
  | 23 => ⟨S4x256x1024, .f32⟩
  | 24 => ⟨S1x1x1024, .f32⟩
  | 25 => ⟨S4x256x1024, .f32⟩
  | 26 => ⟨S4x256x1024, .f32⟩
  | 27 => ⟨S4x256x1024, .f32⟩
  | 28 => ⟨S1x1024, .f32⟩
  | 29 => ⟨S1024, .f32⟩
  | 30 => ⟨S4x256x1024, .f32⟩
  | 31 => ⟨S1x1x1024, .f32⟩
  | 32 => ⟨S4x256x1024, .f32⟩
  | 33 => ⟨S4x256x1024, .f32⟩
  | 34 => ⟨S4x256x1024, .f32⟩
  | 35 => ⟨S1x1024, .f32⟩
  | 36 => ⟨S1024, .f32⟩
  | 37 => ⟨S4x256x1024, .f32⟩
  | 38 => ⟨S1x1x1024, .f32⟩
  | 39 => ⟨S4x256x1024, .f32⟩
  | 40 => ⟨S4x256x1024, .f32⟩
  | 41 => ⟨S4x256x1024, .f32⟩
  | 42 => ⟨S1x1024, .f32⟩
  | 43 => ⟨S1024, .f32⟩
  | 44 => ⟨S4x256x1024, .f32⟩
  | 45 => ⟨S1x1x1024, .f32⟩
  | 46 => ⟨S4x256x1024, .f32⟩
  | 47 => ⟨S4x256x1024, .f32⟩
  | 48 => ⟨S4x256x1024, .f32⟩
  | 49 => ⟨S1x1024, .f32⟩
  | 50 => ⟨S1024, .f32⟩
  | 51 => ⟨S4x256x1024, .f32⟩
  | 52 => ⟨S1x1x1024, .f32⟩
  | 53 => ⟨S4x256x1024, .f32⟩
  | 54 => ⟨S4x256x1024, .f32⟩
  | 55 => ⟨S4x256x1024, .f32⟩
  | 56 => ⟨S1x1024, .f32⟩
  | 57 => ⟨S1024, .f32⟩
  | 58 => ⟨S4x256x1024, .f32⟩
  | 59 => ⟨S1x1x1024, .f32⟩
  | 60 => ⟨S4x256x1024, .f32⟩
  | 61 => ⟨S4x256x1024, .f32⟩
  | 62 => ⟨S4x256x1024, .f32⟩
  | 63 => ⟨S1x1024, .f32⟩
  | 64 => ⟨S1024, .f32⟩
  | 65 => ⟨S4x256x1024, .f32⟩
  | 66 => ⟨S1x1x1024, .f32⟩
  | 67 => ⟨S4x256x1024, .f32⟩
  | 68 => ⟨S4x256x1024, .f32⟩
  | 69 => ⟨S4x256x1024, .f32⟩
  | 70 => ⟨S1x1024, .f32⟩
  | 71 => ⟨S1024, .f32⟩
  | 72 => ⟨S4x256x1024, .f32⟩
  | 73 => ⟨S1x1x1024, .f32⟩
  | 74 => ⟨S4x256x1024, .f32⟩
  | 75 => ⟨S4x256x1024, .f32⟩
  | 76 => ⟨S4x256x1024, .f32⟩
  | 77 => ⟨S1x1024, .f32⟩
  | 78 => ⟨S1024, .f32⟩
  | 79 => ⟨S4x256x1024, .f32⟩
  | 80 => ⟨S1x1x1024, .f32⟩
  | 81 => ⟨S4x256x1024, .f32⟩
  | 82 => ⟨S4x256x1024, .f32⟩
  | 83 => ⟨S4x256x1024, .f32⟩
  | 84 => ⟨S1x1024, .f32⟩
  | 85 => ⟨S1024, .f32⟩
  | 86 => ⟨S4x256x1024, .f32⟩
  | 87 => ⟨S1x1x1024, .f32⟩
  | 88 => ⟨S4x256x1024, .f32⟩
  | 89 => ⟨S4x256x1024, .f32⟩
  | 90 => ⟨S4x256x1024, .f32⟩
  | 91 => ⟨S1x1024, .f32⟩
  | 92 => ⟨S1024, .f32⟩
  | 93 => ⟨S4x256x1024, .f32⟩
  | 94 => ⟨S1x1x1024, .f32⟩
  | 95 => ⟨S4x256x1024, .f32⟩
  | 96 => ⟨S4x256x1024, .f32⟩
  | 97 => ⟨S4x256x1024, .f32⟩
  | 98 => ⟨S1x1024, .f32⟩
  | 99 => ⟨S1024, .f32⟩
  | 100 => ⟨S4x256x1024, .f32⟩
  | 101 => ⟨S1x1x1024, .f32⟩
  | 102 => ⟨S4x256x1024, .f32⟩
  | 103 => ⟨S4x256x1024, .f32⟩
  | 104 => ⟨S4x256x1024, .f32⟩
  | 105 => ⟨S1x1024, .f32⟩
  | 106 => ⟨S1024, .f32⟩
  | 107 => ⟨S4x256x1024, .f32⟩
  | 108 => ⟨S1x1x1024, .f32⟩
  | 109 => ⟨S4x256x1024, .f32⟩
  | 110 => ⟨S4x256x1024, .f32⟩
  | 111 => ⟨S4x256x1024, .f32⟩
  | 112 => ⟨S1x1x1024, .f32⟩
  | 113 => ⟨S4x256x1024, .f32⟩
  | 114 => ⟨S4x256x1024, .f32⟩
  | 115 => ⟨S_, .f32⟩
  | 116 => ⟨S4x256, .f32⟩
  | 117 => ⟨S4x256x1, .f32⟩
  | 118 => ⟨S_, .f32⟩
  | 119 => ⟨S4x256x1, .f32⟩
  | 120 => ⟨S4x256x1, .f32⟩
  | 121 => ⟨S4x256x1024, .f32⟩
  | 122 => ⟨S4x256x1024, .f32⟩
  | 123 => ⟨S4x256x1024, .f32⟩
  | 124 => ⟨S_, .f32⟩
  | 125 => ⟨S4x256, .f32⟩
  | 126 => ⟨S4x256x1, .f32⟩
  | 127 => ⟨S_, .f32⟩
  | _ => ⟨S4x256x14592, .bf16⟩

abbrev hbmTy0_2 (i : Nat) : BufTy := match i % 128 with
  | 0 => ⟨S4x256x1, .f32⟩
  | 1 => ⟨S4x256x1, .f32⟩
  | 2 => ⟨S_, .f32⟩
  | 3 => ⟨S4x256x1, .f32⟩
  | 4 => ⟨S4x256x1, .f32⟩
  | 5 => ⟨S4x256x1, .f32⟩
  | 6 => ⟨S4x256x1024, .f32⟩
  | 7 => ⟨S4x256x1024, .f32⟩
  | 8 => ⟨S1x1x1024, .f32⟩
  | 9 => ⟨S4x256x1024, .f32⟩
  | 10 => ⟨S4x256x1024, .f32⟩
  | 11 => ⟨S1x1x1024, .f32⟩
  | 12 => ⟨S4x256x1024, .f32⟩
  | 13 => ⟨S4x256x1024, .f32⟩
  | 14 => ⟨S4x256x1024, .f32⟩
  | 15 => ⟨S4x256x1024, .f32⟩
  | 16 => ⟨S_, .f32⟩
  | 17 => ⟨S4x256x1024, .f32⟩
  | 18 => ⟨S4x256x1024, .f32⟩
  | 19 => ⟨S_, .f32⟩
  | 20 => ⟨S4x256x1024, .f32⟩
  | 21 => ⟨S4x256x1024, .f32⟩
  | 22 => ⟨S4x256x1024, .f32⟩
  | 23 => ⟨S4x256x1024, .bf16⟩
  | _ => ⟨S4x256x14592, .bf16⟩

abbrev hbmTy (i : Nat) : BufTy := match i / 128 with
  | 0 => hbmTy0_0 i
  | 1 => hbmTy0_1 i
  | 2 => hbmTy0_2 i
  | _ => ⟨S4x256x14592, .bf16⟩

abbrev bufTy : (tb : Table) → Fin (tcTables nBuf tb) → BufTy
  | .hbm, ⟨i, _⟩ => hbmTy i
  | _, _ => ⟨S4x256x14592, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_cst_2 : Ref sig .tc := ⟨.hbm, 243, rfl⟩
abbrev main_v233 : Ref sig .tc := ⟨.hbm, 244, rfl⟩
abbrev main_v234 : Ref sig .tc := ⟨.hbm, 245, rfl⟩
abbrev main_cst_3 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_cst_4 : Ref sig .tc := ⟨.hbm, 252, rfl⟩
abbrev main_v240 : Ref sig .tc := ⟨.hbm, 253, rfl⟩
abbrev main_v241 : Ref sig .tc := ⟨.hbm, 254, rfl⟩
abbrev main_cst_5 : Ref sig .tc := ⟨.hbm, 255, rfl⟩
abbrev main_v242 : Ref sig .tc := ⟨.hbm, 256, rfl⟩
abbrev main_v243 : Ref sig .tc := ⟨.hbm, 257, rfl⟩
abbrev main_cst_6 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_call1_v0 : Ref sig .tc := ⟨.hbm, 270, rfl⟩
abbrev main_call1_v1 : Ref sig .tc := ⟨.hbm, 271, rfl⟩
abbrev main_call1_cst : Ref sig .tc := ⟨.hbm, 272, rfl⟩
abbrev main_call1_v2 : Ref sig .tc := ⟨.hbm, 273, rfl⟩
abbrev main_call1_v3 : Ref sig .tc := ⟨.hbm, 274, rfl⟩
abbrev main_call1_cst_0 : Ref sig .tc := ⟨.hbm, 275, rfl⟩
abbrev main_call1_v4 : Ref sig .tc := ⟨.hbm, 276, rfl⟩
abbrev main_call1_v5 : Ref sig .tc := ⟨.hbm, 277, rfl⟩
abbrev main_v255 : Ref sig .tc := ⟨.hbm, 278, rfl⟩
abbrev main_v256 : Ref sig .tc := ⟨.hbm, 279, rfl⟩

abbrev nD : Nat := 1
abbrev τ : Topo := Topo.v7x

variable {F : FTy → Type} [FloatOps F]
-- ==== Proof.InProj.lean ====
/- The input projection: each entry of its result is a whole contraction over a row that is normalised and modulated,
   for the kernel and for the reference. -/
module

public import proofs.«01_k».proof.Proof.Gen.InProjIdeal.Value
public import proofs.«01_k».proof.Proof.Gen.InProjRefIdeal.Run
public import Idealize.ShloMosaic.Lib.Pointwise
public import Idealize.ShloMosaic.Lib.Pipeline.ValueKit
public import Idealize.ShloMosaic.Lib.Pipeline.ReadBack
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.InProjIdeal.Out

/-- Entry `d` of a row `x` after the root mean square norm with gain `g`, the scale `1 + s` and the shift `h`. -/
def normed (x g s h : Fin 2048 → EReal) (d : Fin 2048) : EReal :=
  x d * Ideal.rsqrt (Ideal.div (∑ k, x k * x k) (Ideal.ofBits .f32 0x45000000#32) + Ideal.ofBits .f32 0x358637BD#32) * g d * (1 + s d) + h d

end Cert.InProjIdeal.Out

namespace Cert.InProjRefIdeal.Out

open Cert.InProjRefIdeal Cert.InProjRefIdeal.Gen Cert.InProjRefIdeal.Value

/-- The modulated rows. -/
def refH (x : FVec Ideal S4x4096x2048 .f32) (mod : FVec Ideal S16x12288 .f32) (g : FVec Ideal S2048 .f32) : FVec Ideal S4x4096x2048 .f32 :=
  addf (mulf (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![2] bcast_S2048_S1x1x2048_2 g)))
    (broadcastInDim S4x4096x2048 ![0, 1, 2] bcast_S4x1x2048_S4x4096x2048_0_1_2 (addf (broadcastInDim S4x1x2048 ![] bcast_S_S4x1x2048 (constant S_ .f32 0x3F800000#32)) (extractStridedSlice S4x1x2048 ![0, 0, 2048] (broadcastInDim S4x1x12288 ![0, 2] bcast_S4x12288_S4x1x12288_0_2 (extractStridedSlice S4x12288 ![0, 0] mod slices_S16x12288_S4x12288_0_0)) slices_S4x1x12288_S4x1x2048_0_0_2048))))
    (broadcastInDim S4x4096x2048 ![0, 1, 2] bcast_S4x1x2048_S4x4096x2048_0_1_2 (extractStridedSlice S4x1x2048 ![0, 0, 0] (broadcastInDim S4x1x12288 ![0, 2] bcast_S4x12288_S4x1x12288_0_2 (extractStridedSlice S4x12288 ![0, 0] mod slices_S16x12288_S4x12288_0_0)) slices_S4x1x12288_S4x1x2048_0_0_0))

/-- The reference as a function of its arguments. -/
def REF (x : FVec Ideal S4x4096x2048 .f32) (mod : FVec Ideal S16x12288 .f32) (g : FVec Ideal S2048 .f32) (w : FVec Ideal S2048x14592 .bf16) :
    FVec Ideal S4x4096x14592 .bf16 :=
  truncf .bf16 (Host.dotGeneral dot_S4x4096x2048_S2048x14592_S4x4096x14592_2_0_01_1_n_n none (refH x mod g) (extf .f32 w bitsLt_bf16_f32)) bitsLt_bf16_f32

theorem refH_at (x : FVec Ideal S4x4096x2048 .f32) (mod : FVec Ideal S16x12288 .f32) (g : FVec Ideal S2048 .f32) (b : Fin 4) (n : Fin 4096) (d : Fin 2048) :
    refH x mod g (ix3 b n d) = Cert.InProjIdeal.Out.normed (fun k => x (ix3 b n k)) (fun k => g (ix1 k))
      (fun k => mod (ix2 ⟨b, by omega⟩ ⟨2048 + k, by omega⟩)) (fun k => mod (ix2 ⟨b, by omega⟩ ⟨k, by omega⟩)) d := by
  pointwise! [refH, Cert.InProjIdeal.Out.normed]

/-- The reference at an entry. -/
theorem ref_at (x : FVec Ideal S4x4096x2048 .f32) (mod : FVec Ideal S16x12288 .f32) (g : FVec Ideal S2048 .f32) (w : FVec Ideal S2048x14592 .bf16)
    (b : Fin 4) (n : Fin 4096) (j : Fin 14592) :
    REF x mod g w (ix3 b n j) = ∑ d : Fin 2048, Cert.InProjIdeal.Out.normed (fun k => x (ix3 b n k)) (fun k => g (ix1 k))
      (fun k => mod (ix2 ⟨b, by omega⟩ ⟨2048 + k, by omega⟩)) (fun k => mod (ix2 ⟨b, by omega⟩ ⟨k, by omega⟩)) d * w (ix2 d j) := by
  pointwise [REF]
  exact Finset.sum_congr rfl fun d _ => Ideal.mul_congr (refH_at x mod g b n d) rfl

end Cert.InProjRefIdeal.Out

namespace Cert.InProjIdeal.Out

open Cert.InProjIdeal Cert.InProjIdeal.Gen Cert.InProjIdeal.Value

/-- A chunk of 128 rows as the body normalises it. -/
theorem chunk_at (g : FVec Ideal S1x2048 .f32) (s h : FVec Ideal S1x1x1x2048 .f32) (x : FVec Ideal S1x128x2048 .f32) (r : Fin 128) (d : Fin 2048) :
    k0_pay1 (F := Ideal) g s h x (ix2 r d) = normed (fun k => x (ix3 0 r k)) (fun k => g (ix2 0 k)) (fun k => s (ix4 0 0 0 k)) (fun k => h (ix4 0 0 0 k)) d := by
  pointwise! [k0_pay1, normed]

/-- What the body stores, at an entry. -/
theorem body_at (v : FVec Ideal S512x2048 .bf16) (w : FVec Ideal S2048x2432 .bf16) (r : Fin 512) (j : Fin 2432) :
    k0_pay2 (F := Ideal) v w (ix3 0 r j) = ∑ d : Fin 2048, v (ix2 r d) * w (ix2 d j) := by
  pointwise! [k0_pay2]

theorem idx : ∀ t : Fin cfg0.N, win0_0.index t = ![t.val / 48, t.val / 6 % 8, 0] ∧ win0_1.index t = ![0, 0]
    ∧ win0_2.index t = ![t.val / 48, 0, 0, 0] ∧ win0_3.index t = ![t.val / 48, 1, 0, 0] ∧ win0_4.index t = ![0, t.val % 6]
    ∧ win0_5.index t = ![t.val / 48, t.val / 6 % 8, t.val % 6] :=
  (by decide +kernel : ∀ t : Fin grid0.N, _)

theorem lt (t : Fin cfg0.N) : t.val < 192 := lt_of_lt_of_eq t.isLt N_0

variable (m : (ℓ : Loc nD τ sig) → Buf (Elt Ideal) ℓ) (c : Dev nD)

/-- The arguments. -/
abbrev X : FVec Ideal S4x4096x2048 .f32 := m ((c.tc : Thread nD τ).loc main_arg0)
abbrev M : FVec Ideal S16x12288 .f32 := m ((c.tc : Thread nD τ).loc main_arg1)
abbrev G : FVec Ideal S2048 .f32 := m ((c.tc : Thread nD τ).loc main_arg2)
abbrev W : FVec Ideal S2048x14592 .bf16 := m ((c.tc : Thread nD τ).loc main_arg3)

/-- The batch, row and column that an entry of point `t`'s block is. -/
def bOf (t : Fin cfg0.N) : Fin 4 := ⟨t.val / 48, by have := lt t; omega⟩
def nOf (t : Fin cfg0.N) (r : Fin 512) : Fin 4096 := ⟨t.val / 6 % 8 * 512 + r, by omega⟩
def jOf (t : Fin cfg0.N) (j : Fin 2432) : Fin 14592 := ⟨t.val % 6 * 2432 + j, by omega⟩

theorem blk_x (t : Fin cfg0.N) (r : Fin 512) (k : Fin 2048) :
    (iblk m c 0 t : FVec Ideal S1x512x2048 .f32) (ix3 0 r k) = X m c (ix3 (bOf t) (nOf t r) k) := by
  blk_ext [iblk, Gen.V, idx t, bOf, nOf]

theorem blk_g (t : Fin cfg0.N) (k : Fin 2048) : (iblk m c 1 t : FVec Ideal S1x2048 .f32) (ix2 0 k) = G m c (ix1 k) := by
  blk_simp [iblk, idx t]
  entry_read
  pointwise
  blk_ext [idx t]

theorem blk_h (t : Fin cfg0.N) (k : Fin 2048) :
    (iblk m c 2 t : FVec Ideal S1x1x1x2048 .f32) (ix4 0 0 0 k) = M m c (ix2 ⟨bOf t, by omega⟩ ⟨k, by omega⟩) := by
  blk_simp [iblk, idx t]
  entry_read
  pointwise
  blk_ext [idx t, bOf]

theorem blk_s (t : Fin cfg0.N) (k : Fin 2048) :
    (iblk m c 3 t : FVec Ideal S1x1x1x2048 .f32) (ix4 0 0 0 k) = M m c (ix2 ⟨bOf t, by omega⟩ ⟨2048 + k, by omega⟩) := by
  blk_simp [iblk, idx t]
  entry_read
  pointwise
  blk_ext [idx t, bOf]

theorem blk_w (t : Fin cfg0.N) (k : Fin 2048) (j : Fin 2432) :
    (iblk m c 4 t : FVec Ideal S2048x2432 .bf16) (ix2 k j) = W m c (ix2 k (jOf t j)) := by
  blk_ext [iblk, Gen.V, idx t, jOf]

/-- Entry `d` of token `n` of batch `b`, normalised and modulated. -/
def row (b : Fin 4) (n : Fin 4096) (d : Fin 2048) : EReal :=
  normed (fun k => X m c (ix3 b n k)) (fun k => G m c (ix1 k)) (fun k => M m c (ix2 ⟨b, by omega⟩ ⟨2048 + k, by omega⟩)) (fun k => M m c (ix2 ⟨b, by omega⟩ ⟨k, by omega⟩)) d

/-- A trip of the loop takes the next 128 rows. -/
theorem off1 : ∀ k : Fin k0_t1_loop.trips, k0_off1 k = ![0, k.val * 128, 0] := by decide +kernel
theorem off2 : ∀ k : Fin k0_t1_loop.trips, k0_off2 k = ![k.val * 128, 0] := by decide +kernel

/-- The first point of a tile leaves the tile's rows in the scratch buffer. -/
theorem scratch_first (t : Fin cfg0.N) (h : t.val % 6 = 0) (r : Fin 512) (d : Fin 2048) :
    (outsAt0 m c t.val t.isLt).2 (ix2 r d) = row m c (bOf t) (nOf t r) d := by
  rw [outsAt0_A m c t h]
  frame_out
  refine View.canon_apply_of_pieces (Val := Elt Ideal) (S := S512x2048) (e := .bf16) (fun y => row m c (bOf t) (nOf t (y 0)) (y 1)) _ ?_ _ ?_
  case refine_2 => exact View.cover_of_tiledL (s := S512x2048) _ S128x2048.size (by sl_kernel_rfl) _
  generalize Scf.trips 0#32 (Scalar.addi 0#32 4#32) 1#32 = k
  induction k with
  | zero => intro p hp; exact absurd hp List.not_mem_nil
  | succ k ih =>
    intro p hp
    rw [pb_k0_t1] at hp
    unfold pb_k0_t1Step at hp
    split at hp
    · rename_i hk
      rcases List.mem_append.mp hp with hp | hp
      · unfold tripL_k0_t1 trip_k0_t1 at hp
        dsimp only at hp
        frame_open at hp
        obtain rfl := List.mem_singleton.mp hp
        have hk4 : k < 4 := lt_of_lt_of_eq hk (by decide)
        intro x
        idx_vars x
        have e1 : (Rect.unit (s := S512x2048) (k0_off2 ⟨k, hk⟩) S128x2048.size (k0_off2_inb (grid0.coords t) ⟨k, hk⟩ ((hcond0_0 t).mpr h))).emb (ix2 x0 x1)
            = ix2 ⟨k * 128 + x0, by omega⟩ x1 := by
          funext a; apply Fin.ext; fin_cases a <;> simp [off2]
        refine (chunk_at _ _ _ _ x0 x1).trans ?_
        refine Eq.trans ?_ (congrArg (fun y : S512x2048.Idx => row m c (bOf t) (nOf t (y 0)) (y 1)) e1).symm
        unfold row
        congr 1 <;> funext q
        · refine ((hs0_0 t).readAt_unread _ _ _).trans ((congrArg (iblk m c 0 t) ?_).trans (blk_x m c t ⟨k * 128 + x0, by omega⟩ q))
          funext a; apply Fin.ext; fin_cases a <;> simp [off1]
        · exact blk_g m c t q
        · exact blk_s m c t q
        · exact blk_h m c t q
      · exact ih p hp
    · exact ih p hp

/-- At every point the scratch buffer holds the rows of its tile. -/
theorem scratch : ∀ (n : ℕ) (hn : n < cfg0.N) (r : Fin 512) (d : Fin 2048),
    (outsAt0 m c n hn).2 (ix2 r d) = row m c (bOf ⟨n, hn⟩) (nOf ⟨n, hn⟩ r) d := by
  intro n
  induction n with
  | zero => exact fun hn => scratch_first m c ⟨0, hn⟩ rfl
  | succ n ih =>
    intro hn r d
    by_cases h : (n + 1) % 6 = 0
    · exact scratch_first m c ⟨n + 1, hn⟩ h r d
    · have e := outsAt0_B m c ⟨n + 1, hn⟩ h
      have eb : bOf ⟨n + 1, hn⟩ = bOf ⟨n, Nat.lt_of_succ_lt hn⟩ := Fin.ext (by simp only [bOf]; omega)
      have en : nOf ⟨n + 1, hn⟩ r = nOf ⟨n, Nat.lt_of_succ_lt hn⟩ r := Fin.ext (by simp only [nOf]; omega)
      rw [eb, en]
      exact (congrFun (congrArg (fun p => p.2) e) (ix2 r d)).trans (ih (Nat.lt_of_succ_lt hn) r d)

/-- The block that point `t` leaves. -/
theorem point (t : Fin cfg0.N) (y : S1x512x2432.Idx) :
    (outsAt0 m c t.val t.isLt).1 y = Cert.InProjRefIdeal.Out.REF (X m c) (M m c) (G m c) (W m c) (ix3 (bOf t) (nOf t (y 1)) (jOf t (y 2))) := by
  idx_vars y
  rw [show y0 = 0 from Subsingleton.elim _ _]
  refine Eq.trans ?_ (Cert.InProjRefIdeal.Out.ref_at (X m c) (M m c) (G m c) (W m c) (bOf t) (nOf t y1) (jOf t y2)).symm
  have key : ∀ v : FVec Ideal S512x2048 .bf16, v = (outsAt0 m c t.val t.isLt).2 → k0_pay2 (F := Ideal) v (iblk m c 4 t) (ix3 0 y1 y2)
      = ∑ d : Fin 2048, row m c (bOf t) (nOf t y1) d * W m c (ix2 d (jOf t y2)) := by
    rintro v rfl
    refine (body_at _ _ y1 y2).trans (Finset.sum_congr rfl fun d _ => ?_)
    rw [scratch m c t.val t.isLt, blk_w]
  by_cases h : t.val % 6 = 0
  · rw [outsAt0_A m c t h]
    frame_out
    refine key _ ?_
    rw [outsAt0_A m c t h]
    rw [View.readCov_eq_canon']
    funext y
    frame_out
    exact congrArg (View.canon _) (by funext a; apply Fin.ext; fin_cases a <;> simp)
  · have e := outsAt0_B m c t h
    rw [e]
    frame_out
    refine key _ ?_
    rw [read_unread_whole]
    exact (congrArg (fun p => p.2) e).symm

/-- The result array after the run. -/
theorem final : (dats m 0 c).arrAt 5 cfg0.N = Cert.InProjRefIdeal.Out.REF (X m c) (M m c) (G m c) (W m c) := by
  refine (dats m 0 c).arrAt_eq_of_covers 5 _ (by decide +kernel) fun t hf y => ?_
  blk_simp
  rw [after0_5]
  refine (point m c t y).trans (congrArg _ ?_)
  funext a; apply Fin.ext; fin_cases a <;> (blk_simp [idx t, bOf, nOf, jOf]; rfl)

end Cert.InProjIdeal.Out

end
-- ==== Proof.FfnUpIdealLoop.lean ====
/- The up-projection's loop over chunks of rows: what its trips store into the scratch buffer, and that a point's stores cover it. -/
module

public import proofs.«01_k».proof.Proof.Gen.FfnUpIdeal.Launch
public import proofs.«01_k».proof.Proof.Gen.FfnUpIdeal.Skeleton
public import proofs.«01_k».proof.Proof.Gen.FfnUpIdeal.Points
public import Idealize.ShloMosaic.Lib.Exec
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Kit

@[expose] public section

set_option maxRecDepth 16384

noncomputable section

namespace Cert.FfnUpIdeal.Body

open Cert.FfnUpIdeal Cert.FfnUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000

/-- What one trip of the loop holds: the block of rows it reads, and the scratch buffer at any contents. -/
abbrev Trip (c : Dev nD) (arg3 : Memref sig .tc .vmem S1x512x2048 .f32) (arg16 : Memref sig .tc .vmem S544x2048 .bf16) (X : BufTy.Contents (Elt F) arg3.view.ty) (f : BufTy.Contents (Elt F) arg16.view.ty) : sProp 𝕄 :=
  iprop((arg3.view.loc (c : Thread nD τ) ↦[arg3.view.set]{fullShare} X) ∗ (arg16.view.loc (c : Thread nD τ) ↦[arg16.view.set]{fullShare} f))

/-- One trip, with the list of what it stores into the scratch buffer. -/
@[irreducible] def trip (𝒱 : Variants) (c : Dev nD) (bd : Option 𝒱.V) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x2048 .f32) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S1x2048x1408 .bf16) (harg9 : arg9.IsWhole) (arg10 : Memref sig .tc .vmem S1x2048x1408 .bf16) (harg10 : arg10.IsWhole) (arg11 : Memref sig .tc .vmem S3x1408 .f32) (harg11 : arg11.IsWhole) (arg12 : Memref sig .tc .vmem S3x1408 .f32) (harg12 : arg12.IsWhole) (arg13 : Memref sig .tc .vmem S1x1408 .f32) (harg13 : arg13.IsWhole) (arg14 : Memref sig .tc .vmem S1x1408 .f32) (harg14 : arg14.IsWhole) (arg15 : Memref sig .tc .vmem S1x512x1408 .bf16) (harg15 : arg15.IsWhole) (arg16 : Memref sig .tc .vmem S544x2048 .bf16) (harg16 : arg16.IsWhole) (k0_h1 : k0_cond1 i = 1#1) (v64 : FVec F S1x2048 .f32) (v68 : FVec F S1x2048 .f32) (v70 : FVec F S1x2048 .f32) (X : BufTy.Contents (Elt F) arg3.view.ty) (k : Fin k0_t1_loop.trips) :
    { L : List (View.Piece (Elt F) S544x2048 .bf16) // ∀ (E : Set ℕ) (f : BufTy.Contents (Elt F) arg16.view.ty),
      Trip (F := F) c arg3 arg16 X f
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 k PUnit.unit)
          (fun _ => Trip (F := F) c arg3 arg16 X (arg16.view.writes (Elt F) f L)) } := by
  have hk : k.val < 4 := Nat.lt_of_lt_of_le k.isLt k0_t1_abs.2.1
  refine ⟨?_, fun E f => ?run⟩
  case run =>
    unfold k0_t1_body
    iintro ⟨HR, HW⟩
    sl_exec
    sl_step
    sl_close

/-- What one trip stores. -/
abbrev tripL (𝒱 : Variants) (c : Dev nD) (bd : Option 𝒱.V) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x2048 .f32) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S1x2048x1408 .bf16) (harg9 : arg9.IsWhole) (arg10 : Memref sig .tc .vmem S1x2048x1408 .bf16) (harg10 : arg10.IsWhole) (arg11 : Memref sig .tc .vmem S3x1408 .f32) (harg11 : arg11.IsWhole) (arg12 : Memref sig .tc .vmem S3x1408 .f32) (harg12 : arg12.IsWhole) (arg13 : Memref sig .tc .vmem S1x1408 .f32) (harg13 : arg13.IsWhole) (arg14 : Memref sig .tc .vmem S1x1408 .f32) (harg14 : arg14.IsWhole) (arg15 : Memref sig .tc .vmem S1x512x1408 .bf16) (harg15 : arg15.IsWhole) (arg16 : Memref sig .tc .vmem S544x2048 .bf16) (harg16 : arg16.IsWhole) (k0_h1 : k0_cond1 i = 1#1) (v64 : FVec F S1x2048 .f32) (v68 : FVec F S1x2048 .f32) (v70 : FVec F S1x2048 .f32) (X : BufTy.Contents (Elt F) arg3.view.ty) (k : Fin k0_t1_loop.trips) : List (View.Piece (Elt F) S544x2048 .bf16) :=
  (trip (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X k).1

/-- What trip `k` adds to what the earlier trips stored; nothing past the last trip. -/
@[irreducible] def pbStep (𝒱 : Variants) (c : Dev nD) (bd : Option 𝒱.V) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x2048 .f32) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S1x2048x1408 .bf16) (harg9 : arg9.IsWhole) (arg10 : Memref sig .tc .vmem S1x2048x1408 .bf16) (harg10 : arg10.IsWhole) (arg11 : Memref sig .tc .vmem S3x1408 .f32) (harg11 : arg11.IsWhole) (arg12 : Memref sig .tc .vmem S3x1408 .f32) (harg12 : arg12.IsWhole) (arg13 : Memref sig .tc .vmem S1x1408 .f32) (harg13 : arg13.IsWhole) (arg14 : Memref sig .tc .vmem S1x1408 .f32) (harg14 : arg14.IsWhole) (arg15 : Memref sig .tc .vmem S1x512x1408 .bf16) (harg15 : arg15.IsWhole) (arg16 : Memref sig .tc .vmem S544x2048 .bf16) (harg16 : arg16.IsWhole) (k0_h1 : k0_cond1 i = 1#1) (v64 : FVec F S1x2048 .f32) (v68 : FVec F S1x2048 .f32) (v70 : FVec F S1x2048 .f32) (X : BufTy.Contents (Elt F) arg3.view.ty) (k : ℕ) (prev : List (View.Piece (Elt F) S544x2048 .bf16)) : List (View.Piece (Elt F) S544x2048 .bf16) :=
  if h : k < k0_t1_loop.trips then tripL (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X ⟨k, h⟩ ++ prev else prev

/-- What the trips before `k` stored, the last first. -/
def pb (𝒱 : Variants) (c : Dev nD) (bd : Option 𝒱.V) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x2048 .f32) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S1x2048x1408 .bf16) (harg9 : arg9.IsWhole) (arg10 : Memref sig .tc .vmem S1x2048x1408 .bf16) (harg10 : arg10.IsWhole) (arg11 : Memref sig .tc .vmem S3x1408 .f32) (harg11 : arg11.IsWhole) (arg12 : Memref sig .tc .vmem S3x1408 .f32) (harg12 : arg12.IsWhole) (arg13 : Memref sig .tc .vmem S1x1408 .f32) (harg13 : arg13.IsWhole) (arg14 : Memref sig .tc .vmem S1x1408 .f32) (harg14 : arg14.IsWhole) (arg15 : Memref sig .tc .vmem S1x512x1408 .bf16) (harg15 : arg15.IsWhole) (arg16 : Memref sig .tc .vmem S544x2048 .bf16) (harg16 : arg16.IsWhole) (k0_h1 : k0_cond1 i = 1#1) (v64 : FVec F S1x2048 .f32) (v68 : FVec F S1x2048 .f32) (v70 : FVec F S1x2048 .f32) (X : BufTy.Contents (Elt F) arg3.view.ty) : ℕ → List (View.Piece (Elt F) S544x2048 .bf16)
  | 0 => []
  | k + 1 => pbStep 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X k (pb 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X k)

theorem pb_succ (𝒱 : Variants) (c : Dev nD) (bd : Option 𝒱.V) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x2048 .f32) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S1x2048x1408 .bf16) (harg9 : arg9.IsWhole) (arg10 : Memref sig .tc .vmem S1x2048x1408 .bf16) (harg10 : arg10.IsWhole) (arg11 : Memref sig .tc .vmem S3x1408 .f32) (harg11 : arg11.IsWhole) (arg12 : Memref sig .tc .vmem S3x1408 .f32) (harg12 : arg12.IsWhole) (arg13 : Memref sig .tc .vmem S1x1408 .f32) (harg13 : arg13.IsWhole) (arg14 : Memref sig .tc .vmem S1x1408 .f32) (harg14 : arg14.IsWhole) (arg15 : Memref sig .tc .vmem S1x512x1408 .bf16) (harg15 : arg15.IsWhole) (arg16 : Memref sig .tc .vmem S544x2048 .bf16) (harg16 : arg16.IsWhole) (k0_h1 : k0_cond1 i = 1#1) (v64 : FVec F S1x2048 .f32) (v68 : FVec F S1x2048 .f32) (v70 : FVec F S1x2048 .f32) (X : BufTy.Contents (Elt F) arg3.view.ty) (k : Fin k0_t1_loop.trips) :
    pb (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X (k.val + 1) = tripL (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X k ++ pb (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X k.val := by
  rw [pb.eq_2]; unfold pbStep; exact dif_pos k.isLt

/-- Before trip `k` the scratch buffer holds what the trips before it stored, over what it held before the loop. -/
abbrev inv (𝒱 : Variants) (c : Dev nD) (bd : Option 𝒱.V) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x2048 .f32) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S1x2048x1408 .bf16) (harg9 : arg9.IsWhole) (arg10 : Memref sig .tc .vmem S1x2048x1408 .bf16) (harg10 : arg10.IsWhole) (arg11 : Memref sig .tc .vmem S3x1408 .f32) (harg11 : arg11.IsWhole) (arg12 : Memref sig .tc .vmem S3x1408 .f32) (harg12 : arg12.IsWhole) (arg13 : Memref sig .tc .vmem S1x1408 .f32) (harg13 : arg13.IsWhole) (arg14 : Memref sig .tc .vmem S1x1408 .f32) (harg14 : arg14.IsWhole) (arg15 : Memref sig .tc .vmem S1x512x1408 .bf16) (harg15 : arg15.IsWhole) (arg16 : Memref sig .tc .vmem S544x2048 .bf16) (harg16 : arg16.IsWhole) (k0_h1 : k0_cond1 i = 1#1) (v64 : FVec F S1x2048 .f32) (v68 : FVec F S1x2048 .f32) (v70 : FVec F S1x2048 .f32) (X : BufTy.Contents (Elt F) arg3.view.ty) (f₀ : BufTy.Contents (Elt F) arg16.view.ty) (k : ℕ) (_u : PUnit) : sProp 𝕄 :=
  iprop((arg3.view.loc (c : Thread nD τ) ↦[arg3.view.set]{fullShare} X) ∗ (∃ f, (arg16.view.loc (c : Thread nD τ) ↦[arg16.view.set]{fullShare} f) ∗ ⌜f = arg16.view.writes (Elt F) f₀ (pb (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X k)⌝))

set_option warn.classDefReducibility false in
/-- The loop keeps that invariant. -/
@[sl_loop] def loopInv (𝒱 : Variants) (c : Dev nD) (bd : Option 𝒱.V) (E : Set ℕ) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x2048 .f32) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S1x2048x1408 .bf16) (harg9 : arg9.IsWhole) (arg10 : Memref sig .tc .vmem S1x2048x1408 .bf16) (harg10 : arg10.IsWhole) (arg11 : Memref sig .tc .vmem S3x1408 .f32) (harg11 : arg11.IsWhole) (arg12 : Memref sig .tc .vmem S3x1408 .f32) (harg12 : arg12.IsWhole) (arg13 : Memref sig .tc .vmem S1x1408 .f32) (harg13 : arg13.IsWhole) (arg14 : Memref sig .tc .vmem S1x1408 .f32) (harg14 : arg14.IsWhole) (arg15 : Memref sig .tc .vmem S1x512x1408 .bf16) (harg15 : arg15.IsWhole) (arg16 : Memref sig .tc .vmem S544x2048 .bf16) (harg16 : arg16.IsWhole) (k0_h1 : k0_cond1 i = 1#1) (v64 : FVec F S1x2048 .f32) (v68 : FVec F S1x2048 .f32) (v70 : FVec F S1x2048 .f32) (X : BufTy.Contents (Elt F) arg3.view.ty) (f₀ : BufTy.Contents (Elt F) arg16.view.ty) :
    Idealize.ShloMosaic.LoopInv (M := 𝕄) Idealize.ShloMosaic.frame (wpE defs₀ 𝒱 (c : Thread nD τ) bd) E
      k0_t1_loop.lb k0_t1_loop.ub k0_t1_loop.st (k0_t1_ok i k0_h1) () (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70) where
  inv := inv (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X f₀
  step k acc := by
    iintro ⟨HR, ⟨%f, HW, %hf⟩⟩
    iapply (wp_wand_r Idealize.ShloMosaic.frame (wpE (defs₀ (F := F)) 𝒱 (c : Thread nD τ) bd) E)
    isplitl [HR HW]
    · iapply ((trip (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X k).2 E f)
      isplitl [HR]; · iexact HR
      iexact HW
    · iintro %_ ⟨HR, HW⟩
      isplitl [HR]; · iexact HR
      rw [pb_succ]
      iexists _; isplitl [HW]; · iexact HW
      ipureintro; rw [hf, ← View.writes_append]

/-- The rows a trip stores. -/
theorem off2 : ∀ k : Fin k0_t1_loop.trips, k0_off2 k = ![k.val * 128 + 16, 0] := by decide +kernel

/-- The trips before `k` store rows `16` to `16 + 128 k`. -/
theorem pb_cover (𝒱 : Variants) (c : Dev nD) (bd : Option 𝒱.V) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x2048 .f32) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S1x2048x1408 .bf16) (harg9 : arg9.IsWhole) (arg10 : Memref sig .tc .vmem S1x2048x1408 .bf16) (harg10 : arg10.IsWhole) (arg11 : Memref sig .tc .vmem S3x1408 .f32) (harg11 : arg11.IsWhole) (arg12 : Memref sig .tc .vmem S3x1408 .f32) (harg12 : arg12.IsWhole) (arg13 : Memref sig .tc .vmem S1x1408 .f32) (harg13 : arg13.IsWhole) (arg14 : Memref sig .tc .vmem S1x1408 .f32) (harg14 : arg14.IsWhole) (arg15 : Memref sig .tc .vmem S1x512x1408 .bf16) (harg15 : arg15.IsWhole) (arg16 : Memref sig .tc .vmem S544x2048 .bf16) (harg16 : arg16.IsWhole) (k0_h1 : k0_cond1 i = 1#1) (v64 : FVec F S1x2048 .f32) (v68 : FVec F S1x2048 .f32) (v70 : FVec F S1x2048 .f32) (X : BufTy.Contents (Elt F) arg3.view.ty) (y : S544x2048.Idx) : ∀ k : ℕ, k ≤ 4 → 16 ≤ (y 0).val → (y 0).val < 16 + 128 * k →
    ∃ p ∈ pb (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X k, y ∈ p.1.set := by
  intro k
  induction k with
  | zero => intro _ h1 h2; omega
  | succ k ih =>
    intro hk h1 h2
    have ht : k < k0_t1_loop.trips := lt_of_lt_of_eq hk (by decide)
    rw [show pb (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X (k + 1) = tripL (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X ⟨k, ht⟩ ++ pb (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X k from pb_succ 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X ⟨k, ht⟩]
    by_cases h : (y 0).val < 16 + 128 * k
    · obtain ⟨p, hp, hy⟩ := ih (by omega) h1 h
      exact ⟨p, List.mem_append_right _ hp, hy⟩
    · unfold tripL trip
      dsimp only
      refine ⟨_, List.mem_append_left _ (List.mem_singleton_self _), ?_⟩
      dsimp only
      rw [Rect.mem_set_unit]
      intro a
      have h3 := (y 1).isLt
      rw [off2]
      fin_cases a
      · simp only [Fin.zero_eta, Matrix.cons_val_zero]
        exact ⟨by omega, by show (y 0).val < k * 128 + 16 + 128; omega⟩
      · exact ⟨Nat.zero_le _, by show (y 1).val < 0 + 2048; exact lt_of_lt_of_eq h3 (Nat.zero_add _).symm⟩

/-- What a point stores into the scratch buffer leaves no row of it unwritten. -/
theorem scratch_cover (𝒱 : Variants) (c : Dev nD) (bd : Option 𝒱.V) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x2048 .f32) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S1x2048x1408 .bf16) (harg9 : arg9.IsWhole) (arg10 : Memref sig .tc .vmem S1x2048x1408 .bf16) (harg10 : arg10.IsWhole) (arg11 : Memref sig .tc .vmem S3x1408 .f32) (harg11 : arg11.IsWhole) (arg12 : Memref sig .tc .vmem S3x1408 .f32) (harg12 : arg12.IsWhole) (arg13 : Memref sig .tc .vmem S1x1408 .f32) (harg13 : arg13.IsWhole) (arg14 : Memref sig .tc .vmem S1x1408 .f32) (harg14 : arg14.IsWhole) (arg15 : Memref sig .tc .vmem S1x512x1408 .bf16) (harg15 : arg15.IsWhole) (arg16 : Memref sig .tc .vmem S544x2048 .bf16) (harg16 : arg16.IsWhole) (k0_h1 : k0_cond1 i = 1#1) (v64 : FVec F S1x2048 .f32) (v68 : FVec F S1x2048 .f32) (v70 : FVec F S1x2048 .f32) (X : BufTy.Contents (Elt F) arg3.view.ty) (w₁ w₂ : FVec F S16x2048 .bf16) (y : S544x2048.Idx) :
    ∃ p ∈ pb (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X (Scf.trips k0_t1_loop.lb k0_t1_loop.ub k0_t1_loop.st)
        ++ [(⟨Rect.unit (s := S544x2048) ![528, 0] S16x2048.size inb_S544x2048_S16x2048_528_0, w₂⟩ : View.Piece (Elt F) S544x2048 .bf16),
            ⟨Rect.unit (s := S544x2048) ![0, 0] S16x2048.size inb_S544x2048_S16x2048_0_0, w₁⟩], y ∈ p.1.set := by
  have h0 : (y 0).val < 544 := (y 0).isLt
  have h1 : (y 1).val < 2048 := (y 1).isLt
  by_cases ha : (y 0).val < 16
  · refine ⟨⟨Rect.unit (s := S544x2048) ![0, 0] S16x2048.size inb_S544x2048_S16x2048_0_0, w₁⟩, List.mem_append_right _ (List.mem_cons_of_mem _ (List.mem_singleton_self _)), ?_⟩
    dsimp only
    rw [Rect.mem_set_unit]
    intro a
    fin_cases a
    · exact ⟨Nat.zero_le _, by show (y 0).val < 0 + 16; omega⟩
    · exact ⟨Nat.zero_le _, by show (y 1).val < 0 + 2048; omega⟩
  · by_cases hb : (y 0).val < 528
    · obtain ⟨p, hp, hy⟩ := pb_cover (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X y 4 le_rfl (by omega) (by omega)
      exact ⟨p, List.mem_append_left _ (by rw [show Scf.trips k0_t1_loop.lb k0_t1_loop.ub k0_t1_loop.st = 4 by decide]; exact hp), hy⟩
    · refine ⟨⟨Rect.unit (s := S544x2048) ![528, 0] S16x2048.size inb_S544x2048_S16x2048_528_0, w₂⟩, List.mem_append_right _ (List.mem_cons_self ..), ?_⟩
      dsimp only
      rw [Rect.mem_set_unit]
      intro a
      fin_cases a
      · exact ⟨by show 528 ≤ (y 0).val; omega, by show (y 0).val < 528 + 16; omega⟩
      · exact ⟨Nat.zero_le _, by show (y 1).val < 0 + 2048; omega⟩

end Cert.FfnUpIdeal.Body

end
-- ==== Proof.FfnUpIdealRunA.lean ====
/- The up-projection's body at a point that begins a tile of rows. -/
module

public import proofs.«01_k».proof.Proof.FfnUpIdealLoop

@[expose] public section

set_option maxRecDepth 16384

noncomputable section

namespace Cert.FfnUpIdeal.Body

open Cert.FfnUpIdeal Cert.FfnUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 4000000 in
/-- A point that begins a tile of rows: it fills the scratch buffer, whatever it held, and stores its block of the result. The two lists are what it stores. -/
noncomputable def kernelRun0_A (c : Dev nD) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x2048 .f32) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S1x2048x1408 .bf16) (harg9 : arg9.IsWhole) (arg10 : Memref sig .tc .vmem S1x2048x1408 .bf16) (harg10 : arg10.IsWhole) (arg11 : Memref sig .tc .vmem S3x1408 .f32) (harg11 : arg11.IsWhole) (arg12 : Memref sig .tc .vmem S3x1408 .f32) (harg12 : arg12.IsWhole) (arg13 : Memref sig .tc .vmem S1x1408 .f32) (harg13 : arg13.IsWhole) (arg14 : Memref sig .tc .vmem S1x1408 .f32) (harg14 : arg14.IsWhole) (arg15 : Memref sig .tc .vmem S1x512x1408 .bf16) (harg15 : arg15.IsWhole) (arg16 : Memref sig .tc .vmem S544x2048 .bf16) (harg16 : arg16.IsWhole) (hc : k0_cond1 i = 1#1)
    (x0 : Vec F S1x512x2048 .f32) (x1 : Vec F S1x16x2048 .f32) (x2 : Vec F S1x16x2048 .f32) (x3 : Vec F S1x2048 .f32) (x4 : Vec F S1x1x1x2048 .f32) (x5 : Vec F S1x1x1x2048 .f32) (x6 : Vec F S1x2048x1408 .bf16) (x7 : Vec F S1x2048x1408 .bf16) (x8 : Vec F S3x1408 .f32) (x9 : Vec F S3x1408 .f32) (x10 : Vec F S1x1408 .f32) (x11 : Vec F S1x1408 .f32) :
    Σ' (L : List (View.Piece (Elt F) S1x512x1408 .bf16)), { LS : List (View.Piece (Elt F) S544x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ f, arg15.view.loc (c : Thread nD τ) ↦[arg15.view.set]{fullShare} arg15.view.writes (Elt F) f L) ∗ (∃ f, arg16.view.loc (c : Thread nD τ) ↦[arg16.view.set]{fullShare} arg16.view.writes (Elt F) f LS)) -∗ K ⟨⟩))
          ⊢ wp frame (wpE (defs₀ (F := F)) Variants.none c none) E (cc0_ffn_upact i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_ffn_upact_eq_skeleton]; unfold cc0_ffn_upact_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
    have hrd : ∀ (𝒱 : Variants) (c : Dev nD) (bd : Option 𝒱.V) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x2048 .f32) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S1x2048x1408 .bf16) (harg9 : arg9.IsWhole) (arg10 : Memref sig .tc .vmem S1x2048x1408 .bf16) (harg10 : arg10.IsWhole) (arg11 : Memref sig .tc .vmem S3x1408 .f32) (harg11 : arg11.IsWhole) (arg12 : Memref sig .tc .vmem S3x1408 .f32) (harg12 : arg12.IsWhole) (arg13 : Memref sig .tc .vmem S1x1408 .f32) (harg13 : arg13.IsWhole) (arg14 : Memref sig .tc .vmem S1x1408 .f32) (harg14 : arg14.IsWhole) (arg15 : Memref sig .tc .vmem S1x512x1408 .bf16) (harg15 : arg15.IsWhole) (arg16 : Memref sig .tc .vmem S544x2048 .bf16) (harg16 : arg16.IsWhole) (k0_h1 : k0_cond1 i = 1#1) (v64 : FVec F S1x2048 .f32) (v68 : FVec F S1x2048 .f32) (v70 : FVec F S1x2048 .f32) (X : BufTy.Contents (Elt F) arg3.view.ty) (w₁ w₂ : FVec F S16x2048 .bf16) (f : BufTy.Contents (Elt F) arg16.view.ty) (B : LoadRect S544x2048),
        arg16.view.readAt (Elt F) B (arg16.view.writes (Elt F) f (pb (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X (Scf.trips k0_t1_loop.lb k0_t1_loop.ub k0_t1_loop.st) ++ [(⟨Rect.unit (s := S544x2048) ![528, 0] S16x2048.size inb_S544x2048_S16x2048_528_0, w₂⟩ : View.Piece (Elt F) S544x2048 .bf16), ⟨Rect.unit (s := S544x2048) ![0, 0] S16x2048.size inb_S544x2048_S16x2048_0_0, w₁⟩])) = arg16.view.readCov (pb (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X (Scf.trips k0_t1_loop.lb k0_t1_loop.ub k0_t1_loop.st) ++ [(⟨Rect.unit (s := S544x2048) ![528, 0] S16x2048.size inb_S544x2048_S16x2048_528_0, w₂⟩ : View.Piece (Elt F) S544x2048 .bf16), ⟨Rect.unit (s := S544x2048) ![0, 0] S16x2048.size inb_S544x2048_S16x2048_0_0, w₁⟩]) B :=
      fun 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X w₁ w₂ f B => View.readAt_writes_of_cover _ f _ B (fun j => scratch_cover 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v64 v68 v70 X w₁ w₂ (B.idx j))
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]; · iexists _; iexact H12
    iexists _; iexact HS

end Cert.FfnUpIdeal.Body

end
-- ==== Proof.FfnUpIdealRunB.lean ====
/- The up-projection's body at a point that finds its tile's rows in the scratch buffer. -/
module

public import proofs.«01_k».proof.Proof.FfnUpIdealLoop

@[expose] public section

set_option maxRecDepth 16384

noncomputable section

namespace Cert.FfnUpIdeal.Body

open Cert.FfnUpIdeal Cert.FfnUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 4000000 in
/-- Any other point: it finds the scratch buffer filled, leaves it, and stores its block of the result. -/
noncomputable def kernelRun0_B (c : Dev nD) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x2048 .f32) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S1x2048x1408 .bf16) (harg9 : arg9.IsWhole) (arg10 : Memref sig .tc .vmem S1x2048x1408 .bf16) (harg10 : arg10.IsWhole) (arg11 : Memref sig .tc .vmem S3x1408 .f32) (harg11 : arg11.IsWhole) (arg12 : Memref sig .tc .vmem S3x1408 .f32) (harg12 : arg12.IsWhole) (arg13 : Memref sig .tc .vmem S1x1408 .f32) (harg13 : arg13.IsWhole) (arg14 : Memref sig .tc .vmem S1x1408 .f32) (harg14 : arg14.IsWhole) (arg15 : Memref sig .tc .vmem S1x512x1408 .bf16) (harg15 : arg15.IsWhole) (arg16 : Memref sig .tc .vmem S544x2048 .bf16) (harg16 : arg16.IsWhole) (hc : ¬k0_cond1 i = 1#1)
    (x0 : Vec F S1x512x2048 .f32) (x1 : Vec F S1x16x2048 .f32) (x2 : Vec F S1x16x2048 .f32) (x3 : Vec F S1x2048 .f32) (x4 : Vec F S1x1x1x2048 .f32) (x5 : Vec F S1x1x1x2048 .f32) (x6 : Vec F S1x2048x1408 .bf16) (x7 : Vec F S1x2048x1408 .bf16) (x8 : Vec F S3x1408 .f32) (x9 : Vec F S3x1408 .f32) (x10 : Vec F S1x1408 .f32) (x11 : Vec F S1x1408 .f32) (xs : Vec F S544x2048 .bf16) :
    Σ' (L : List (View.Piece (Elt F) S1x512x1408 .bf16)), { LS : List (View.Piece (Elt F) S544x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ owns (c : Thread nD τ) arg16 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ f, arg15.view.loc (c : Thread nD τ) ↦[arg15.view.set]{fullShare} arg15.view.writes (Elt F) f L) ∗ owns (c : Thread nD τ) arg16 fullShare xs) -∗ K ⟨⟩))
          ⊢ wp frame (wpE (defs₀ (F := F)) Variants.none c none) E (cc0_ffn_upact i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], fun E K => ?run⟩
  case run =>
    simp only [cc0_ffn_upact_eq_skeleton]; unfold cc0_ffn_upact_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg16.eq_unread hfs
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]; · iexists _; iexact H12
    iexists _; isplitr; · ipureintro; exact harg16.read_unread _
    iexact HS

end Cert.FfnUpIdeal.Body

end
-- ==== Proof.FfnUpIdealFrame.lean ====
/- The up-projection's run: every point's body from its windows' blocks, the arguments unchanged at the end. -/
module

public import proofs.«01_k».proof.Proof.FfnUpIdealRunA
public import proofs.«01_k».proof.Proof.FfnUpIdealRunB
public import Idealize.ShloMosaic.Lib.Claim

@[expose] public section

set_option maxRecDepth 16384

noncomputable section

namespace Cert.FfnUpIdeal.Body

open Cert.FfnUpIdeal Cert.FfnUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the pipeline finds them -/

/-- What the buffers hold after the host operations before the pipeline. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program runs the host operations and then the pipeline. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The block of window `w` at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds its block when the body runs, if the body leaves it in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- A point begins a tile of rows when it is a multiple of 4. -/
theorem hcond : ∀ t : Fin cfg0.N, k0_cond1 (grid0.coords t) = 1#1 ↔ t.val % 4 = 0 :=
  (fun t => by
    have ht : t.val < 128 := Nat.lt_of_lt_of_eq t.isLt N_0
    have e0 : (grid0.coords t 0).val = t.val / 32 % 4 := Pipeline.Grid.coords_val t 0 (by decide) rfl
    have e1 : (grid0.coords t 1).val = t.val / 4 % 8 := Pipeline.Grid.coords_val t 1 (by decide) rfl
    have e2 : (grid0.coords t 2).val = t.val / 1 % 4 := Pipeline.Grid.coords_val t 2 (by decide) rfl
    simp only [k0_cond1, e0, e1, e2]
    word_cmp
   : ∀ t : Fin grid0.N, k0_cond1 (grid0.coords t) = 1#1 ↔ t.val % 4 = 0)

/-! ## The buffers the body is given -/

abbrev VO : View sig .tc .vmem S1x512x1408 .bf16 := (Memref.whole cc0_stg12_0 : Memref sig .tc .vmem S1x512x1408 .bf16).view
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x1408 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x1408 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x1408 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S3x1408 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1408 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1408 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x1408 .bf16 := win0_12.stage (cfg0.slots t 12)
abbrev hs0_12 (t : Fin cfg0.N) : (ms0_12 t).IsWhole := hstage0_12 ((cfg0.slots t 12).cast nbuf0_12)
abbrev scM : Memref sig .tc .vmem S544x2048 .bf16 := Memref.whole cc0_scratch0
abbrev VS : View sig .tc .vmem S544x2048 .bf16 := scM.view

/-- What the pipeline hands the body beside the windows: the scratch buffer and the generator register. -/
theorem PhiA0_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## What a point leaves -/

theorem cover0_A_12 (c : Dev nD) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x2048 .f32) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S1x2048x1408 .bf16) (harg9 : arg9.IsWhole) (arg10 : Memref sig .tc .vmem S1x2048x1408 .bf16) (harg10 : arg10.IsWhole) (arg11 : Memref sig .tc .vmem S3x1408 .f32) (harg11 : arg11.IsWhole) (arg12 : Memref sig .tc .vmem S3x1408 .f32) (harg12 : arg12.IsWhole) (arg13 : Memref sig .tc .vmem S1x1408 .f32) (harg13 : arg13.IsWhole) (arg14 : Memref sig .tc .vmem S1x1408 .f32) (harg14 : arg14.IsWhole) (arg15 : Memref sig .tc .vmem S1x512x1408 .bf16) (harg15 : arg15.IsWhole) (arg16 : Memref sig .tc .vmem S544x2048 .bf16) (harg16 : arg16.IsWhole) (hc : k0_cond1 i = 1#1)
    (x0 : Vec F S1x512x2048 .f32) (x1 : Vec F S1x16x2048 .f32) (x2 : Vec F S1x16x2048 .f32) (x3 : Vec F S1x2048 .f32) (x4 : Vec F S1x1x1x2048 .f32) (x5 : Vec F S1x1x1x2048 .f32) (x6 : Vec F S1x2048x1408 .bf16) (x7 : Vec F S1x2048x1408 .bf16) (x8 : Vec F S3x1408 .f32) (x9 : Vec F S3x1408 .f32) (x10 : Vec F S1x1408 .f32) (x11 : Vec F S1x1408 .f32) (y : S1x512x1408.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 x11).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 x11).1 S1x512x1408.size (by sl_kernel_rfl) y

/-- The block of the result that is left by a point of this kind. -/
def out0_A_12 (c : Dev nD) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x2048 .f32) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S1x2048x1408 .bf16) (harg9 : arg9.IsWhole) (arg10 : Memref sig .tc .vmem S1x2048x1408 .bf16) (harg10 : arg10.IsWhole) (arg11 : Memref sig .tc .vmem S3x1408 .f32) (harg11 : arg11.IsWhole) (arg12 : Memref sig .tc .vmem S3x1408 .f32) (harg12 : arg12.IsWhole) (arg13 : Memref sig .tc .vmem S1x1408 .f32) (harg13 : arg13.IsWhole) (arg14 : Memref sig .tc .vmem S1x1408 .f32) (harg14 : arg14.IsWhole) (arg15 : Memref sig .tc .vmem S1x512x1408 .bf16) (harg15 : arg15.IsWhole) (arg16 : Memref sig .tc .vmem S544x2048 .bf16) (harg16 : arg16.IsWhole) (hc : k0_cond1 i = 1#1)
    (x0 : Vec F S1x512x2048 .f32) (x1 : Vec F S1x16x2048 .f32) (x2 : Vec F S1x16x2048 .f32) (x3 : Vec F S1x2048 .f32) (x4 : Vec F S1x1x1x2048 .f32) (x5 : Vec F S1x1x1x2048 .f32) (x6 : Vec F S1x2048x1408 .bf16) (x7 : Vec F S1x2048x1408 .bf16) (x8 : Vec F S3x1408 .f32) (x9 : Vec F S3x1408 .f32) (x10 : Vec F S1x1408 .f32) (x11 : Vec F S1x1408 .f32) : Vec F S1x512x1408 .bf16 :=
  VO.read (Elt F) (VO.writes (Elt F) VO.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 x11).1)

theorem scover0_A_0 (c : Dev nD) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x2048 .f32) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S1x2048x1408 .bf16) (harg9 : arg9.IsWhole) (arg10 : Memref sig .tc .vmem S1x2048x1408 .bf16) (harg10 : arg10.IsWhole) (arg11 : Memref sig .tc .vmem S3x1408 .f32) (harg11 : arg11.IsWhole) (arg12 : Memref sig .tc .vmem S3x1408 .f32) (harg12 : arg12.IsWhole) (arg13 : Memref sig .tc .vmem S1x1408 .f32) (harg13 : arg13.IsWhole) (arg14 : Memref sig .tc .vmem S1x1408 .f32) (harg14 : arg14.IsWhole) (arg15 : Memref sig .tc .vmem S1x512x1408 .bf16) (harg15 : arg15.IsWhole) (arg16 : Memref sig .tc .vmem S544x2048 .bf16) (harg16 : arg16.IsWhole) (hc : k0_cond1 i = 1#1)
    (x0 : Vec F S1x512x2048 .f32) (x1 : Vec F S1x16x2048 .f32) (x2 : Vec F S1x16x2048 .f32) (x3 : Vec F S1x2048 .f32) (x4 : Vec F S1x1x1x2048 .f32) (x5 : Vec F S1x1x1x2048 .f32) (x6 : Vec F S1x2048x1408 .bf16) (x7 : Vec F S1x2048x1408 .bf16) (x8 : Vec F S3x1408 .f32) (x9 : Vec F S3x1408 .f32) (x10 : Vec F S1x1408 .f32) (x11 : Vec F S1x1408 .f32) (y : S544x2048.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 x11).2.1, y ∈ pc.1.set :=
  scratch_cover _ _ _ _ arg3 harg3 arg4 harg4 arg5 harg5 arg6 harg6 arg7 harg7 arg8 harg8 arg9 harg9 arg10 harg10 arg11 harg11 arg12 harg12 arg13 harg13 arg14 harg14 arg15 harg15 arg16 harg16 hc _ _ _ _ _ _ y

/-- The rows that such a point leaves in the scratch buffer. -/
def sout0_A_0 (c : Dev nD) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x2048 .f32) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S1x2048x1408 .bf16) (harg9 : arg9.IsWhole) (arg10 : Memref sig .tc .vmem S1x2048x1408 .bf16) (harg10 : arg10.IsWhole) (arg11 : Memref sig .tc .vmem S3x1408 .f32) (harg11 : arg11.IsWhole) (arg12 : Memref sig .tc .vmem S3x1408 .f32) (harg12 : arg12.IsWhole) (arg13 : Memref sig .tc .vmem S1x1408 .f32) (harg13 : arg13.IsWhole) (arg14 : Memref sig .tc .vmem S1x1408 .f32) (harg14 : arg14.IsWhole) (arg15 : Memref sig .tc .vmem S1x512x1408 .bf16) (harg15 : arg15.IsWhole) (arg16 : Memref sig .tc .vmem S544x2048 .bf16) (harg16 : arg16.IsWhole) (hc : k0_cond1 i = 1#1)
    (x0 : Vec F S1x512x2048 .f32) (x1 : Vec F S1x16x2048 .f32) (x2 : Vec F S1x16x2048 .f32) (x3 : Vec F S1x2048 .f32) (x4 : Vec F S1x1x1x2048 .f32) (x5 : Vec F S1x1x1x2048 .f32) (x6 : Vec F S1x2048x1408 .bf16) (x7 : Vec F S1x2048x1408 .bf16) (x8 : Vec F S3x1408 .f32) (x9 : Vec F S3x1408 .f32) (x10 : Vec F S1x1408 .f32) (x11 : Vec F S1x1408 .f32) : Vec F S544x2048 .bf16 :=
  VS.read (Elt F) (VS.writes (Elt F) VS.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 x11).2.1)

theorem cover0_B_12 (c : Dev nD) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x2048 .f32) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S1x2048x1408 .bf16) (harg9 : arg9.IsWhole) (arg10 : Memref sig .tc .vmem S1x2048x1408 .bf16) (harg10 : arg10.IsWhole) (arg11 : Memref sig .tc .vmem S3x1408 .f32) (harg11 : arg11.IsWhole) (arg12 : Memref sig .tc .vmem S3x1408 .f32) (harg12 : arg12.IsWhole) (arg13 : Memref sig .tc .vmem S1x1408 .f32) (harg13 : arg13.IsWhole) (arg14 : Memref sig .tc .vmem S1x1408 .f32) (harg14 : arg14.IsWhole) (arg15 : Memref sig .tc .vmem S1x512x1408 .bf16) (harg15 : arg15.IsWhole) (arg16 : Memref sig .tc .vmem S544x2048 .bf16) (harg16 : arg16.IsWhole) (hc : ¬k0_cond1 i = 1#1)
    (x0 : Vec F S1x512x2048 .f32) (x1 : Vec F S1x16x2048 .f32) (x2 : Vec F S1x16x2048 .f32) (x3 : Vec F S1x2048 .f32) (x4 : Vec F S1x1x1x2048 .f32) (x5 : Vec F S1x1x1x2048 .f32) (x6 : Vec F S1x2048x1408 .bf16) (x7 : Vec F S1x2048x1408 .bf16) (x8 : Vec F S3x1408 .f32) (x9 : Vec F S3x1408 .f32) (x10 : Vec F S1x1408 .f32) (x11 : Vec F S1x1408 .f32) (xs : Vec F S544x2048 .bf16) (y : S1x512x1408.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 x11 xs).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 x11 xs).1 S1x512x1408.size (by sl_kernel_rfl) y

/-- The block of the result that is left by a point of this kind. -/
def out0_B_12 (c : Dev nD) (i : grid0.Coords) (arg3 : Memref sig .tc .vmem S1x512x2048 .f32) (harg3 : arg3.IsWhole) (arg4 : Memref sig .tc .vmem S1x16x2048 .f32) (harg4 : arg4.IsWhole) (arg5 : Memref sig .tc .vmem S1x16x2048 .f32) (harg5 : arg5.IsWhole) (arg6 : Memref sig .tc .vmem S1x2048 .f32) (harg6 : arg6.IsWhole) (arg7 : Memref sig .tc .vmem S1x1x1x2048 .f32) (harg7 : arg7.IsWhole) (arg8 : Memref sig .tc .vmem S1x1x1x2048 .f32) (harg8 : arg8.IsWhole) (arg9 : Memref sig .tc .vmem S1x2048x1408 .bf16) (harg9 : arg9.IsWhole) (arg10 : Memref sig .tc .vmem S1x2048x1408 .bf16) (harg10 : arg10.IsWhole) (arg11 : Memref sig .tc .vmem S3x1408 .f32) (harg11 : arg11.IsWhole) (arg12 : Memref sig .tc .vmem S3x1408 .f32) (harg12 : arg12.IsWhole) (arg13 : Memref sig .tc .vmem S1x1408 .f32) (harg13 : arg13.IsWhole) (arg14 : Memref sig .tc .vmem S1x1408 .f32) (harg14 : arg14.IsWhole) (arg15 : Memref sig .tc .vmem S1x512x1408 .bf16) (harg15 : arg15.IsWhole) (arg16 : Memref sig .tc .vmem S544x2048 .bf16) (harg16 : arg16.IsWhole) (hc : ¬k0_cond1 i = 1#1)
    (x0 : Vec F S1x512x2048 .f32) (x1 : Vec F S1x16x2048 .f32) (x2 : Vec F S1x16x2048 .f32) (x3 : Vec F S1x2048 .f32) (x4 : Vec F S1x1x1x2048 .f32) (x5 : Vec F S1x1x1x2048 .f32) (x6 : Vec F S1x2048x1408 .bf16) (x7 : Vec F S1x2048x1408 .bf16) (x8 : Vec F S3x1408 .f32) (x9 : Vec F S3x1408 .f32) (x10 : Vec F S1x1408 .f32) (x11 : Vec F S1x1408 .f32) (xs : Vec F S544x2048 .bf16) : Vec F S1x512x1408 .bf16 :=
  VO.read (Elt F) (VO.writes (Elt F) VO.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 x11 xs).1)

/-- What point `t` leaves when it begins a tile: its block of the result, and the scratch buffer. -/
def ptA (c : Dev nD) (t : Fin cfg0.N) (h : t.val % 4 = 0) : Vec F S1x512x1408 .bf16 × Vec F S544x2048 .bf16 :=
  (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM (Memref.isWhole_whole _) ((hcond t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM (Memref.isWhole_whole _) ((hcond t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-- What point `t` leaves otherwise, over the scratch buffer `xs` that it finds. -/
def ptB (c : Dev nD) (t : Fin cfg0.N) (h : ¬t.val % 4 = 0) (xs : Vec F S544x2048 .bf16) : Vec F S1x512x1408 .bf16 × Vec F S544x2048 .bf16 :=
  (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM (Memref.isWhole_whole _) (fun h' => h ((hcond t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs, xs)

/-- What the points leave, one after the other. -/
def outsAt0 (c : Dev nD) : (n : ℕ) → n < cfg0.N → Vec F S1x512x1408 .bf16 × Vec F S544x2048 .bf16
  | 0, hn => ptA m c ⟨0, hn⟩ (Nat.zero_mod _)
  | n + 1, hn => if h : (n + 1) % 4 = 0 then ptA m c ⟨n + 1, hn⟩ h else ptB m c ⟨n + 1, hn⟩ h (outsAt0 c n (Nat.lt_of_succ_lt hn)).2

theorem outsAt0_A (c : Dev nD) (t : Fin cfg0.N) (h : t.val % 4 = 0) : outsAt0 m c t.val t.isLt = ptA m c t h := by
  obtain ⟨n, hn⟩ := t
  cases n with
  | zero => exact rfl
  | succ n => exact (dif_pos h).trans rfl

theorem outsAt0_B (c : Dev nD) (t : Fin cfg0.N) (h : ¬t.val % 4 = 0) :
    outsAt0 m c t.val t.isLt = ptB m c t h (outsAt0 m c (t.val - 1) (Nat.lt_of_le_of_lt (Nat.sub_le _ _) t.isLt)).2 := by
  obtain ⟨n, hn⟩ := t
  cases n with
  | zero => exact absurd (Nat.zero_mod _) h
  | succ n => exact (dif_neg h).trans rfl

/-- Before the first point the scratch buffer holds anything, afterwards what the point before left. -/
def PhiS (c : Dev nD) : (n : ℕ) → n ≤ cfg0.N → sProp 𝕄
  | 0, _ => Pipeline.ΦA spec0 c
  | n + 1, hn => iprop(iprop(owns (c : Thread nD τ) scM fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt0 m c (n - 1) (by omega)).2)) ∗ (∃ r, prngReg c r)) := by
  cases n with
  | zero => exact absurd rfl hz
  | succ n => rfl

/-! ## The pipeline's data and the body's triple -/

/-- The arrays as the pipeline finds them, the inputs' buffers left at their blocks, the result's at what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 6400000 in
/-- The body at any point, from what it is called with to what it gives back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) t.isLt from rfl, PhiS_succ]
  by_cases h0 : t.val % 4 = 0
  · by_cases hz : t.val = 0
    · rw [PhiS_castSucc m c t, PhiS_zero m c _ _ hz, PhiA0_eq]
      rw [outsAt0_A m c t h0]
      unfold ptA out0_A_12 sout0_A_0; (try dsimp only)
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ ((hcond t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS]; · iexact HS
      iintro ⟨H0, H1, H2, H3, H4, H5, H6, H7, H8, H9, H10, H11, ⟨%e12, H12⟩, ⟨%es, HS⟩⟩
      isplitl [HS Hg]
      · isplitl [HS]
        · unfold owns; iexists _; isplitr
          swap; · iexact HS
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _ )
    · rw [PhiS_castSucc m c t, PhiS_pos m c _ _ hz]
      rw [outsAt0_A m c t h0]
      unfold ptA out0_A_12 sout0_A_0; (try dsimp only)
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ ((hcond t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS]; · iexists _; iexact HS
      iintro ⟨H0, H1, H2, H3, H4, H5, H6, H7, H8, H9, H10, H11, ⟨%e12, H12⟩, ⟨%es, HS⟩⟩
      isplitl [HS Hg]
      · isplitl [HS]
        · unfold owns; iexists _; isplitr
          swap; · iexact HS
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _ )
  · have hz : t.val ≠ 0 := by omega
    rw [PhiS_castSucc m c t, PhiS_pos m c _ _ hz]
    rw [outsAt0_B m c t h0]
    unfold ptB out0_B_12; (try dsimp only)
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun0_B c (grid0.coords t) _ _ _ _ _ _ _ _ _ _ _ _ _ _ _ _ _ _ _ _ _ _ _ _ _ _ _ _ (fun h' => h0 ((hcond t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS]; · iexact HS
    iintro ⟨H0, H1, H2, H3, H4, H5, H6, H7, H8, H9, H10, H11, ⟨%e12, H12⟩, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ )

theorem defs₀_row (t : Fin cfg0.N) :
    defs₀ (F := F) .tc cfg0.body (cfg0.bodyArgs t (cfg0.slots t)) = bodyAt0 t := by
  unfold defs₀; rw [Defs.onTc_tc]

/-- The same as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA0_eq]
  iintro ⟨HS, Hg⟩
  isplitl [HS]
  · iexists _; iexact HS
  iexact Hg

/-! ## The run -/

set_option backward.isDefEq.respectTransparency.types false in
/-- Every run ends, each array holds what the data above say, and no semaphore is left counting. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 8).trans (((dats m 0 c).arrAt_in 8 rfl _).trans ((A_eq m c 8).trans (V_main_arg4 m c))),
      ((h c).2 main_arg5 (Pipeline.mem_restRefs_of main_arg5 (by decide) (by decide))).trans (V_main_arg5 m c)⟩) (run_main m ρ)

/-- The arguments end as they began, and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FfnUpIdeal.Body

end
-- ==== Proof.FfnUpRead.lean ====
/- The up-projection's arithmetic: each entry of the reference and of what the kernel's body computes as a convolution of three
   contractions over zero padded rows that are normalised and modulated. -/
module

public import proofs.«01_k».proof.Proof.FfnUpIdealFrame
public import proofs.«01_k».proof.Proof.Gen.FfnUpRefIdeal.Run
public import Idealize.ShloMosaic.Lib.Pointwise
public import Idealize.ShloMosaic.Lib.KernelVsHost
public import Idealize.ShloMosaic.Lib.Pipeline.ValueKit
public import Idealize.ShloMosaic.Lib.Pipeline.ReadBack
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.FfnUpIdeal.Out

/-- Entry `d` of a row `x` after the root mean square norm with gain `g`, the scale `1 + s` and the shift `h`. -/
def normed (x g s h : Fin 2048 → EReal) (d : Fin 2048) : EReal :=
  x d * Ideal.rsqrt (Ideal.div (∑ k, x k * x k) (Ideal.ofBits .f32 0x45000000#32) + Ideal.ofBits .f32 0x358637BD#32) * g d * (1 + s d) + h d

/-- The rows `f` with sixteen rows of zeros before them and after them. -/
def padded (f : Fin 4096 → Fin 2048 → EReal) (p : ℕ) (d : Fin 2048) : EReal :=
  if h : 16 ≤ p ∧ p < 4112 then f ⟨p - 16, by omega⟩ d else 0

/-- A padded row's contraction with a column of weights. -/
def up (f : Fin 4096 → Fin 2048 → EReal) (w : Fin 2048 → EReal) (p : ℕ) : EReal := ∑ d, padded f p d * w d

/-- The convolution of width three over the rows around row `n`, with its bias. -/
def conv (f : Fin 4096 → Fin 2048 → EReal) (w : Fin 2048 → EReal) (a : Fin 3 → EReal) (b : EReal) (n : ℕ) : EReal :=
  a 0 * up f w (n + 15) + a 1 * up f w (n + 16) + a 2 * up f w (n + 17) + b

/-- The value times the gate's activation. -/
def act (g v : EReal) : EReal := g * Ideal.div 1 (1 + Ideal.exp (-g)) * v

end Cert.FfnUpIdeal.Out

namespace Cert.FfnUpRefIdeal.Out

open Cert.FfnUpRefIdeal Cert.FfnUpRefIdeal.Gen Cert.FfnUpRefIdeal.Value
open Cert.FfnUpIdeal.Out (normed padded up conv act)

/-- The modulated rows. -/
def refH (x : FVec Ideal S4x4096x2048 .f32) (mod : FVec Ideal S16x12288 .f32) (g : FVec Ideal S2048 .f32) : FVec Ideal S4x4096x2048 .f32 :=
  addf (mulf (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![2] bcast_S2048_S1x1x2048_2 g)))
    (broadcastInDim S4x4096x2048 ![0, 1, 2] bcast_S4x1x2048_S4x4096x2048_0_1_2 (addf (broadcastInDim S4x1x2048 ![] bcast_S_S4x1x2048 (constant S_ .f32 0x3F800000#32)) (extractStridedSlice S4x1x2048 ![0, 0, 8192] (broadcastInDim S4x1x12288 ![0, 2] bcast_S4x12288_S4x1x12288_0_2 (extractStridedSlice S4x12288 ![0, 0] mod slices_S16x12288_S4x12288_0_0)) slices_S4x1x12288_S4x1x2048_0_0_8192))))
    (broadcastInDim S4x4096x2048 ![0, 1, 2] bcast_S4x1x2048_S4x4096x2048_0_1_2 (extractStridedSlice S4x1x2048 ![0, 0, 6144] (broadcastInDim S4x1x12288 ![0, 2] bcast_S4x12288_S4x1x12288_0_2 (extractStridedSlice S4x12288 ![0, 0] mod slices_S16x12288_S4x12288_0_0)) slices_S4x1x12288_S4x1x2048_0_0_6144))

/-- Their product with the weights. -/
def refU (h : FVec Ideal S4x4096x2048 .f32) (w : FVec Ideal S2x2048x11264 .f32) : FVec Ideal S4x4096x11264 .f32 :=
  Host.dotGeneral dot_S4x4096x2048_S2048x11264_S4x4096x11264_2_0_01_1_n_n none h (shapeCast _ (extractStridedSlice S1x2048x11264 ![0, 0, 0] w slices_S2x2048x11264_S1x2048x11264_0_0_0) shapeCasts_S1x2048x11264_S2048x11264)

/-- The product with a row of zeros before and after. -/
def refP (u : FVec Ideal S4x4096x11264 .f32) : FVec Ideal S4x4098x11264 .f32 :=
  pad S4x4098x11264 ![0, 1, 0] ![0, 1, 0] ![0, 0, 0] u (sitofp (F := Ideal) .f32 (constantI S_ 32 0#32)) pads_S4x4096x11264_S4x4098x11264_000_110_000 h_S_

/-- A column vector of the convolution, spread over the rows. -/
def spread (v : FVec Ideal S11264 .f32) : FVec Ideal S4x4096x11264 .f32 :=
  broadcastInDim S4x4096x11264 ![0, 1, 2] bcast_S1x1x11264_S4x4096x11264_0_1_2 (broadcastInDim S1x1x11264 ![2] bcast_S11264_S1x1x11264_2 v)

/-- The convolution over the tokens. -/
def refC (p : FVec Ideal S4x4098x11264 .f32) (a : FVec Ideal S3x11264 .f32) (b : FVec Ideal S11264 .f32) : FVec Ideal S4x4096x11264 .f32 :=
  addf (addf (addf
    (mulf (spread (shapeCast _ (extractStridedSlice S1x11264 ![0, 0] a slices_S3x11264_S1x11264_0_0) shapeCasts_S1x11264_S11264)) (extractStridedSlice S4x4096x11264 ![0, 0, 0] p slices_S4x4098x11264_S4x4096x11264_0_0_0))
    (mulf (spread (shapeCast _ (extractStridedSlice S1x11264 ![1, 0] a slices_S3x11264_S1x11264_1_0) shapeCasts_S1x11264_S11264)) (extractStridedSlice S4x4096x11264 ![0, 1, 0] p slices_S4x4098x11264_S4x4096x11264_0_1_0)))
    (mulf (spread (shapeCast _ (extractStridedSlice S1x11264 ![2, 0] a slices_S3x11264_S1x11264_2_0) shapeCasts_S1x11264_S11264)) (extractStridedSlice S4x4096x11264 ![0, 2, 0] p slices_S4x4098x11264_S4x4096x11264_0_2_0)))
    (spread b)

/-- The gated value. -/
def refS (u : FVec Ideal S4x4096x11264 .f32) : FVec Ideal S4x4096x5632 .bf16 :=
  truncf .bf16 (mulf (mulf (extractStridedSlice S4x4096x5632 ![0, 0, 5632] u slices_S4x4096x11264_S4x4096x5632_0_0_5632)
    (Host.divf (broadcastInDim S4x4096x5632 ![] bcast_S_S4x4096x5632 (constant S_ .f32 0x3F800000#32)) (addf (broadcastInDim S4x4096x5632 ![] bcast_S_S4x4096x5632 (constant S_ .f32 0x3F800000#32)) (Host.exp (Host.negf (extractStridedSlice S4x4096x5632 ![0, 0, 5632] u slices_S4x4096x11264_S4x4096x5632_0_0_5632))))))
    (extractStridedSlice S4x4096x5632 ![0, 0, 0] u slices_S4x4096x11264_S4x4096x5632_0_0_0)) bitsLt_bf16_f32

/-- The reference as a function of its arguments. -/
def REF (x : FVec Ideal S4x4096x2048 .f32) (mod : FVec Ideal S16x12288 .f32) (g : FVec Ideal S2048 .f32) (w : FVec Ideal S2x2048x11264 .f32)
    (a : FVec Ideal S3x11264 .f32) (b : FVec Ideal S11264 .f32) : FVec Ideal S4x4096x5632 .bf16 :=
  refS (refC (refP (refU (refH x mod g) w)) a b)

/-- What the reference returns is `REF` of its arguments. -/
theorem res_eq (m : (ℓ : Loc nD τ sig) → Buf (Elt Ideal) ℓ) (c : Dev nD) : res_main_v58 (F := Ideal) m c
    = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

theorem refH_at (x : FVec Ideal S4x4096x2048 .f32) (mod : FVec Ideal S16x12288 .f32) (g : FVec Ideal S2048 .f32) (b : Fin 4) (n : Fin 4096) (d : Fin 2048) :
    refH x mod g (ix3 b n d) = normed (fun k => x (ix3 b n k)) (fun k => g (ix1 k))
      (fun k => mod (ix2 ⟨b, by omega⟩ ⟨8192 + k, by omega⟩)) (fun k => mod (ix2 ⟨b, by omega⟩ ⟨6144 + k, by omega⟩)) d := by
  pointwise! [refH, normed]

theorem refU_at (h : FVec Ideal S4x4096x2048 .f32) (w : FVec Ideal S2x2048x11264 .f32) (b : Fin 4) (n : Fin 4096) (j : Fin 11264) :
    refU h w (ix3 b n j) = ∑ d : Fin 2048, h (ix3 b n d) * w (ix3 0 d j) := by
  pointwise! [refU]

/-- A row of the padded product, the rows outside being zero. -/
theorem refP_at (h : FVec Ideal S4x4096x2048 .f32) (w : FVec Ideal S2x2048x11264 .f32) (b : Fin 4) (q : Fin 4098) (j : Fin 11264) :
    refP (refU h w) (ix3 b q j) = up (fun n d => h (ix3 b n d)) (fun d => w (ix3 0 d j)) (q + 15) := by
  unfold refP up
  by_cases hq : 1 ≤ q.val ∧ q.val < 4097
  · refine (pad_apply_of_inside _ _ _ _ _ _ _ _ (ix3 b ⟨q.val - 1, by omega⟩ j) fun a => ?_).trans ?_
    · fin_cases a <;> simp <;> omega
    · rw [refU_at]
      refine Finset.sum_congr rfl fun d _ => ?_
      unfold padded
      rw [dif_pos (by omega)]
      exact Ideal.mul_congr (congrArg (fun n => h (ix3 b n d)) (Fin.ext (by simp only; omega))) rfl
  · refine (pad_apply_of_not_inside _ _ _ _ _ _ _ _ 1 ?_).trans ?_
    · simp; omega
    · refine Eq.trans ?_ (Finset.sum_eq_zero fun d _ => ?_).symm
      · pointwise
        exact sitofp_zero
      · unfold padded
        rw [dif_neg (by omega), zero_mul]

theorem refC_at (p : FVec Ideal S4x4098x11264 .f32) (a : FVec Ideal S3x11264 .f32) (c : FVec Ideal S11264 .f32) (b : Fin 4) (n : Fin 4096) (j : Fin 11264) :
    refC p a c (ix3 b n j) = a (ix2 0 j) * p (ix3 b ⟨n, by omega⟩ j) + a (ix2 1 j) * p (ix3 b ⟨n + 1, by omega⟩ j) + a (ix2 2 j) * p (ix3 b ⟨n + 2, by omega⟩ j) + c (ix1 j) := by
  pointwise [refC, spread]
  simp only [Nat.add_comm 1, Nat.add_comm 2]

theorem refS_at (u : FVec Ideal S4x4096x11264 .f32) (b : Fin 4) (n : Fin 4096) (j : Fin 5632) :
    refS u (ix3 b n j) = act (u (ix3 b n ⟨5632 + j, by omega⟩)) (u (ix3 b n ⟨j, by omega⟩)) := by
  pointwise! [refS, act]

/-- Column `j` of the convolved product, at token `n` of batch `b`. -/
def convRef (x : FVec Ideal S4x4096x2048 .f32) (mod : FVec Ideal S16x12288 .f32) (g : FVec Ideal S2048 .f32) (w : FVec Ideal S2x2048x11264 .f32)
    (a : FVec Ideal S3x11264 .f32) (c : FVec Ideal S11264 .f32) (b : Fin 4) (n : ℕ) (j : Fin 11264) : EReal :=
  conv (fun n d => normed (fun k => x (ix3 b n k)) (fun k => g (ix1 k))
      (fun k => mod (ix2 ⟨b, by omega⟩ ⟨8192 + k, by omega⟩)) (fun k => mod (ix2 ⟨b, by omega⟩ ⟨6144 + k, by omega⟩)) d)
    (fun d => w (ix3 0 d j)) (fun i => a (ix2 i j)) (c (ix1 j)) n

/-- The reference at an entry. -/
theorem ref_at (x : FVec Ideal S4x4096x2048 .f32) (mod : FVec Ideal S16x12288 .f32) (g : FVec Ideal S2048 .f32) (w : FVec Ideal S2x2048x11264 .f32)
    (a : FVec Ideal S3x11264 .f32) (c : FVec Ideal S11264 .f32) (b : Fin 4) (n : Fin 4096) (j : Fin 5632) :
    REF x mod g w a c (ix3 b n j) = act (convRef x mod g w a c b n ⟨5632 + j, by omega⟩) (convRef x mod g w a c b n ⟨j, by omega⟩) := by
  have e : ∀ j : Fin 11264, refC (refP (refU (refH x mod g) w)) a c (ix3 b n j) = convRef x mod g w a c b n j := fun j => by
    rw [refC_at, refP_at, refP_at, refP_at]
    unfold convRef
    simp only [refH_at]
    rfl
  refine (refS_at _ b n j).trans ?_
  rw [e, e]

end Cert.FfnUpRefIdeal.Out

namespace Cert.FfnUpIdeal.Out

open Cert.FfnUpIdeal Cert.FfnUpIdeal.Gen

/-- A chunk of 128 rows as the body normalises it. -/
theorem chunk_at (g : FVec Ideal S1x2048 .f32) (s h : FVec Ideal S1x1x1x2048 .f32) (x : FVec Ideal S1x128x2048 .f32) (r : Fin 128) (d : Fin 2048) :
    k0_pay7 (F := Ideal) (k0_pay2 g) (k0_pay3 s) (k0_pay4 h) x (ix2 r d) = normed (fun k => x (ix3 0 r k)) (fun k => g (ix2 0 k)) (fun k => s (ix4 0 0 0 k)) (fun k => h (ix4 0 0 0 k)) d := by
  pointwise! [k0_pay7, k0_pay2, k0_pay3, k0_pay4, normed]

/-- The sixteen rows before a tile, zero at the first. -/
theorem before_at (i : BitVec 32) (g : FVec Ideal S1x2048 .f32) (s h : FVec Ideal S1x1x1x2048 .f32) (x : FVec Ideal S1x16x2048 .f32) (r : Fin 16) (d : Fin 2048) :
    k0_pay5 (F := Ideal) i g s h x (ix2 r d) = if Scalar.cmpi .sgt i 0#32 = 1#1 then normed (fun k => x (ix3 0 r k)) (fun k => g (ix2 0 k)) (fun k => s (ix4 0 0 0 k)) (fun k => h (ix4 0 0 0 k)) d else 0 := by
  have e : k0_pay5 (F := Ideal) i g s h x (ix2 r d) = Scalar.select (Scalar.cmpi .sgt i 0#32) (normed (fun k => x (ix3 0 r k)) (fun k => g (ix2 0 k)) (fun k => s (ix4 0 0 0 k)) (fun k => h (ix4 0 0 0 k)) d) 0 := by
    pointwise! [k0_pay5, k0_pay2, k0_pay3, k0_pay4, normed]
  exact e

/-- The sixteen rows after a tile, zero at the last. -/
theorem after_at (i : BitVec 1) (g : FVec Ideal S1x2048 .f32) (s h : FVec Ideal S1x1x1x2048 .f32) (x : FVec Ideal S1x16x2048 .f32) (r : Fin 16) (d : Fin 2048) :
    k0_pay6 (F := Ideal) (k0_pay2 g) (k0_pay3 s) (k0_pay4 h) i x (ix2 r d) = if i = 1#1 then normed (fun k => x (ix3 0 r k)) (fun k => g (ix2 0 k)) (fun k => s (ix4 0 0 0 k)) (fun k => h (ix4 0 0 0 k)) d else 0 := by
  have e : k0_pay6 (F := Ideal) (k0_pay2 g) (k0_pay3 s) (k0_pay4 h) i x (ix2 r d) = Scalar.select i (normed (fun k => x (ix3 0 r k)) (fun k => g (ix2 0 k)) (fun k => s (ix4 0 0 0 k)) (fun k => h (ix4 0 0 0 k)) d) 0 := by
    pointwise! [k0_pay6, k0_pay2, k0_pay3, k0_pay4, normed]
  exact e

/-- The rows shifted down by one, and up by one, past the sixteen before the tile. -/
theorem down_at (x : FVec Ideal S544x1408 .f32) (r : Fin 512) (j : Fin 1408) :
    extractStridedSlice S512x1408 ![16, 0] (dynamicRotate 0 1#32 none x rotates_S544x1408_d0) slices_S544x1408_o16_0_S512x1408 (ix2 r j) = x (ix2 ⟨r + 15, by omega⟩ j) := by
  refine dynamicRotate_apply _ _ _ _ _ _ fun b => ?_
  fin_cases b <;> simp
  omega

theorem up_at (x : FVec Ideal S544x1408 .f32) (r : Fin 512) (j : Fin 1408) :
    extractStridedSlice S512x1408 ![16, 0] (dynamicRotate 0 543#32 none x rotates_S544x1408_d0) slices_S544x1408_o16_0_S512x1408 (ix2 r j) = x (ix2 ⟨r + 17, by omega⟩ j) := by
  refine dynamicRotate_apply _ _ _ _ _ _ fun b => ?_
  fin_cases b <;> simp
  omega

theorem mid_at (x : FVec Ideal S544x1408 .f32) (r : Fin 512) (j : Fin 1408) :
    extractStridedSlice S512x1408 ![16, 0] x slices_S544x1408_o16_0_S512x1408 (ix2 r j) = x (ix2 ⟨r + 16, by omega⟩ j) := by
  refine congrArg x ?_
  funext b; apply Fin.ext; fin_cases b <;> simp
  omega

/-- The product of the scratch rows with a block of weights. -/
theorem prod_at (v : FVec Ideal S544x2048 .bf16) (w : FVec Ideal S1x2048x1408 .bf16) (r : Fin 544) (j : Fin 1408) :
    k0_pay9 (F := Ideal) v w (ix2 r j) = ∑ d : Fin 2048, v (ix2 r d) * w (ix3 0 d j) := by
  pointwise! [k0_pay9]

/-- The value's convolution. -/
theorem val_at (v : FVec Ideal S544x2048 .bf16) (w : FVec Ideal S1x2048x1408 .bf16) (a0 a1 a2 b : FVec Ideal S1x1408 .f32) (r : Fin 512) (j : Fin 1408) :
    k0_pay8 (F := Ideal) v w a0 a1 a2 b (ix2 r j) = a0 (ix2 0 j) * k0_pay9 (F := Ideal) v w (ix2 ⟨r + 15, by omega⟩ j) + a1 (ix2 0 j) * k0_pay9 (F := Ideal) v w (ix2 ⟨r + 16, by omega⟩ j)
      + a2 (ix2 0 j) * k0_pay9 (F := Ideal) v w (ix2 ⟨r + 17, by omega⟩ j) + b (ix2 0 j) := by
  generalize hu : k0_pay9 (F := Ideal) v w = u
  rw [← down_at u r j, ← mid_at u r j, ← up_at u r j]
  unfold k0_pay9 at hu
  unfold k0_pay8
  dsimp only at hu ⊢
  rw [hu]
  generalize extractStridedSlice S512x1408 ![16, 0] (dynamicRotate 0 1#32 none u rotates_S544x1408_d0) slices_S544x1408_o16_0_S512x1408 = x
  generalize extractStridedSlice S512x1408 ![16, 0] (dynamicRotate 0 543#32 none u rotates_S544x1408_d0) slices_S544x1408_o16_0_S512x1408 = z
  generalize extractStridedSlice S512x1408 ![16, 0] u slices_S544x1408_o16_0_S512x1408 = y
  pointwise

/-- What the body stores, from the value and the gate's product. -/
theorem out_at (q : FVec Ideal S512x1408 .f32) (u : FVec Ideal S544x1408 .f32) (x : FVec Ideal S512x1408 .f32) (a0 a1 a2 b : FVec Ideal S1x1408 .f32) (r : Fin 512) (j : Fin 1408) :
    k0_pay1 (F := Ideal) q u x 543#32 a0 a1 a2 b (ix3 0 r j) = act (a0 (ix2 0 j) * x (ix2 r j) + a1 (ix2 0 j) * u (ix2 ⟨r + 16, by omega⟩ j)
      + a2 (ix2 0 j) * u (ix2 ⟨r + 17, by omega⟩ j) + b (ix2 0 j)) (q (ix2 r j)) := by
  rw [← mid_at u r j, ← up_at u r j]
  unfold k0_pay1
  dsimp only
  generalize extractStridedSlice S512x1408 ![16, 0] (dynamicRotate 0 543#32 none u rotates_S544x1408_d0) slices_S544x1408_o16_0_S512x1408 = z
  generalize extractStridedSlice S512x1408 ![16, 0] u slices_S544x1408_o16_0_S512x1408 = y
  pointwise [act]
  rw [zero_sub]

/-- The body's block of the result, from the scratch rows. -/
theorem body_at (v : FVec Ideal S544x2048 .bf16) (wv wg : FVec Ideal S1x2048x1408 .bf16) (a0 a1 a2 b g0 g1 g2 gb : FVec Ideal S1x1408 .f32) (r : Fin 512) (j : Fin 1408) :
    k0_pay1 (F := Ideal) (k0_pay8 v wv a0 a1 a2 b) (k0_pay9 v wg) (k0_pay10 v wg) 543#32 g0 g1 g2 gb (ix3 0 r j)
      = act (g0 (ix2 0 j) * (∑ d : Fin 2048, v (ix2 ⟨r + 15, by omega⟩ d) * wg (ix3 0 d j)) + g1 (ix2 0 j) * (∑ d : Fin 2048, v (ix2 ⟨r + 16, by omega⟩ d) * wg (ix3 0 d j))
          + g2 (ix2 0 j) * (∑ d : Fin 2048, v (ix2 ⟨r + 17, by omega⟩ d) * wg (ix3 0 d j)) + gb (ix2 0 j))
        (a0 (ix2 0 j) * (∑ d : Fin 2048, v (ix2 ⟨r + 15, by omega⟩ d) * wv (ix3 0 d j)) + a1 (ix2 0 j) * (∑ d : Fin 2048, v (ix2 ⟨r + 16, by omega⟩ d) * wv (ix3 0 d j))
          + a2 (ix2 0 j) * (∑ d : Fin 2048, v (ix2 ⟨r + 17, by omega⟩ d) * wv (ix3 0 d j)) + b (ix2 0 j)) := by
  rw [out_at, val_at]
  unfold k0_pay10
  dsimp only
  rw [down_at]
  simp only [prod_at]

end Cert.FfnUpIdeal.Out

end
-- ==== Proof.FfnUp.lean ====
/- The up-projection: the scratch buffer holds a tile's rows with sixteen rows on either side, and each entry of the result is the
   gated value of two convolutions over them, as in the reference. -/
module

public import proofs.«01_k».proof.Proof.FfnUpRead

@[expose] public section

set_option maxRecDepth 16384

noncomputable section

open Idealize.ShloMosaic Idealize.ShloMosaic.TcCoe Idealize.SL.Sem
open Idealize.ShloMosaic.Pipeline (Dat)

namespace Cert.FfnUpIdeal.Out

open Cert.FfnUpIdeal Cert.FfnUpIdeal.Gen Cert.FfnUpIdeal.Body

theorem idx : ∀ t : Fin cfg0.N, win0_0.index t = ![t.val / 32, t.val / 4 % 8, 0] ∧ win0_1.index t = ![t.val / 32, t.val / 4 % 8 * 32 - 1, 0]
    ∧ win0_2.index t = ![t.val / 32, min (t.val / 4 % 8 * 32 + 32) 255, 0] ∧ win0_3.index t = ![0, 0]
    ∧ win0_4.index t = ![t.val / 32, 3, 0, 0] ∧ win0_5.index t = ![t.val / 32, 4, 0, 0] ∧ win0_6.index t = ![0, 0, t.val % 4]
    ∧ win0_7.index t = ![0, 0, 4 + t.val % 4] ∧ win0_8.index t = ![0, t.val % 4] ∧ win0_9.index t = ![0, 4 + t.val % 4]
    ∧ win0_10.index t = ![0, t.val % 4] ∧ win0_11.index t = ![0, 4 + t.val % 4] ∧ win0_12.index t = ![t.val / 32, t.val / 4 % 8, t.val % 4] :=
  (by decide +kernel : ∀ t : Fin grid0.N, _)

/-- The tiles that have rows before them, and after them. -/
theorem hasBefore : ∀ t : Fin cfg0.N, Scalar.cmpi .sgt (BitVec.ofNat 32 (grid0.coords t 1).val) 0#32 = 1#1 ↔ 0 < t.val / 4 % 8 :=
  (by decide +kernel : ∀ t : Fin grid0.N, _)
theorem hasAfter : ∀ t : Fin cfg0.N, Scalar.cmpi .slt (BitVec.ofNat 32 (grid0.coords t 1).val) 7#32 = 1#1 ↔ t.val / 4 % 8 < 7 :=
  (by decide +kernel : ∀ t : Fin grid0.N, _)

theorem lt (t : Fin cfg0.N) : t.val < 128 := lt_of_lt_of_eq t.isLt N_0

variable (m : (ℓ : Loc nD τ sig) → Buf (Elt Ideal) ℓ) (c : Dev nD)

/-- The arguments. -/
abbrev X : FVec Ideal S4x4096x2048 .f32 := m ((c.tc : Thread nD τ).loc main_arg0)
abbrev M : FVec Ideal S16x12288 .f32 := m ((c.tc : Thread nD τ).loc main_arg1)
abbrev G : FVec Ideal S2048 .f32 := m ((c.tc : Thread nD τ).loc main_arg2)
abbrev W : FVec Ideal S2x2048x11264 .f32 := m ((c.tc : Thread nD τ).loc main_arg3)
abbrev CW : FVec Ideal S3x11264 .f32 := m ((c.tc : Thread nD τ).loc main_arg4)
abbrev CB : FVec Ideal S11264 .f32 := m ((c.tc : Thread nD τ).loc main_arg5)

/-- The batch, row and column that an entry of point `t`'s block is, and its columns of the value and of the gate. -/
def bOf (t : Fin cfg0.N) : Fin 4 := ⟨t.val / 32, by have := lt t; omega⟩
def nOf (t : Fin cfg0.N) (r : Fin 512) : Fin 4096 := ⟨t.val / 4 % 8 * 512 + r, by omega⟩
def jOf (t : Fin cfg0.N) (j : Fin 1408) : Fin 5632 := ⟨t.val % 4 * 1408 + j, by omega⟩
def jv (t : Fin cfg0.N) (j : Fin 1408) : Fin 11264 := ⟨t.val % 4 * 1408 + j, by omega⟩
def jg (t : Fin cfg0.N) (j : Fin 1408) : Fin 11264 := ⟨5632 + (t.val % 4 * 1408 + j), by omega⟩

theorem blk_x (t : Fin cfg0.N) (r : Fin 512) (k : Fin 2048) :
    (iblk m c 0 t : FVec Ideal S1x512x2048 .f32) (ix3 0 r k) = X m c (ix3 (bOf t) (nOf t r) k) := by
  blk_ext [iblk, V, idx t, bOf, nOf]

theorem blk_p (t : Fin cfg0.N) (h : 0 < t.val / 4 % 8) (r : Fin 16) (k : Fin 2048) :
    (iblk m c 1 t : FVec Ideal S1x16x2048 .f32) (ix3 0 r k) = X m c (ix3 (bOf t) ⟨t.val / 4 % 8 * 512 + r - 16, by omega⟩ k) := by
  blk_ext [iblk, V, idx t, bOf]

theorem blk_n (t : Fin cfg0.N) (h : t.val / 4 % 8 < 7) (r : Fin 16) (k : Fin 2048) :
    (iblk m c 2 t : FVec Ideal S1x16x2048 .f32) (ix3 0 r k) = X m c (ix3 (bOf t) ⟨t.val / 4 % 8 * 512 + 512 + r, by omega⟩ k) := by
  blk_ext [iblk, V, idx t, bOf]

theorem blk_g (t : Fin cfg0.N) (k : Fin 2048) : (iblk m c 3 t : FVec Ideal S1x2048 .f32) (ix2 0 k) = G m c (ix1 k) := by
  blk_simp [iblk, idx t]
  entry_read
  pointwise
  blk_ext [idx t]

theorem blk_h (t : Fin cfg0.N) (k : Fin 2048) :
    (iblk m c 4 t : FVec Ideal S1x1x1x2048 .f32) (ix4 0 0 0 k) = M m c (ix2 ⟨bOf t, by omega⟩ ⟨6144 + k, by omega⟩) := by
  blk_simp [iblk, idx t]
  entry_read
  pointwise
  blk_ext [idx t, bOf]

theorem blk_s (t : Fin cfg0.N) (k : Fin 2048) :
    (iblk m c 5 t : FVec Ideal S1x1x1x2048 .f32) (ix4 0 0 0 k) = M m c (ix2 ⟨bOf t, by omega⟩ ⟨8192 + k, by omega⟩) := by
  blk_simp [iblk, idx t]
  entry_read
  pointwise
  blk_ext [idx t, bOf]

theorem blk_wv (t : Fin cfg0.N) (k : Fin 2048) (j : Fin 1408) :
    (iblk m c 6 t : FVec Ideal S1x2048x1408 .bf16) (ix3 0 k j) = W m c (ix3 0 k (jv t j)) := by
  blk_simp [iblk, idx t]
  entry_read
  pointwise
  blk_ext [idx t, jv]

theorem blk_wg (t : Fin cfg0.N) (k : Fin 2048) (j : Fin 1408) :
    (iblk m c 7 t : FVec Ideal S1x2048x1408 .bf16) (ix3 0 k j) = W m c (ix3 0 k (jg t j)) := by
  blk_simp [iblk, idx t]
  entry_read
  pointwise
  blk_ext [idx t, jg]

theorem blk_av (t : Fin cfg0.N) (i : Fin 3) (j : Fin 1408) :
    (iblk m c 8 t : FVec Ideal S3x1408 .f32) (ix2 i j) = CW m c (ix2 i (jv t j)) := by
  blk_ext [iblk, V, idx t, jv]

theorem blk_ag (t : Fin cfg0.N) (i : Fin 3) (j : Fin 1408) :
    (iblk m c 9 t : FVec Ideal S3x1408 .f32) (ix2 i j) = CW m c (ix2 i (jg t j)) := by
  blk_ext [iblk, V, idx t, jg]

theorem blk_bv (t : Fin cfg0.N) (j : Fin 1408) : (iblk m c 10 t : FVec Ideal S1x1408 .f32) (ix2 0 j) = CB m c (ix1 (jv t j)) := by
  blk_simp [iblk, idx t]
  entry_read
  pointwise
  blk_ext [idx t, jv]

theorem blk_bg (t : Fin cfg0.N) (j : Fin 1408) : (iblk m c 11 t : FVec Ideal S1x1408 .f32) (ix2 0 j) = CB m c (ix1 (jg t j)) := by
  blk_simp [iblk, idx t]
  entry_read
  pointwise
  blk_ext [idx t, jg]

/-- Entry `d` of token `n` of batch `b`, normalised and modulated. -/
def row (b : Fin 4) (n : Fin 4096) (d : Fin 2048) : EReal :=
  normed (fun k => X m c (ix3 b n k)) (fun k => G m c (ix1 k)) (fun k => M m c (ix2 ⟨b, by omega⟩ ⟨8192 + k, by omega⟩)) (fun k => M m c (ix2 ⟨b, by omega⟩ ⟨6144 + k, by omega⟩)) d

/-- Row `r` of the scratch buffer at point `t`. -/
def srow (t : Fin cfg0.N) (r : ℕ) (d : Fin 2048) : EReal := padded (row m c (bOf t)) (t.val / 4 % 8 * 512 + r) d

/-- A trip of the loop takes the next 128 rows. -/
theorem off1 : ∀ k : Fin k0_t1_loop.trips, k0_off1 k = ![0, k.val * 128, 0] := by decide +kernel

/-- The first point of a tile leaves the tile's rows in the scratch buffer, with the sixteen before and the sixteen after. -/
theorem scratch_first (t : Fin cfg0.N) (h : t.val % 4 = 0) (r : Fin 544) (d : Fin 2048) :
    (outsAt0 m c t.val t.isLt).2 (ix2 r d) = srow m c t r d := by
  rw [outsAt0_A m c t h]
  unfold ptA sout0_A_0
  dsimp only
  frame_out
  refine View.canon_apply_of_pieces (Val := Elt Ideal) (S := S544x2048) (e := .bf16) (fun y => srow m c t (y 0).val (y 1)) _ ?_ _ ?_
  case refine_2 => exact scratch_cover _ _ _ _ _ _ _ _ _ _ _ _ _ _ _ _ _ _ _ _ _ _ _ _ _ _ _ _ _ _ _ _ ((hcond t).mpr h) _ _ _ _ _ _ _
  intro p hp
  rcases List.mem_append.mp hp with hp | hp
  · clear * - hp
    revert p
    generalize Scf.trips 0#32 (Scalar.addi 0#32 4#32) 1#32 = k
    induction k with
    | zero => intro p hp; exact absurd hp List.not_mem_nil
    | succ k ih =>
      intro p hp
      rw [pb.eq_2] at hp
      unfold pbStep at hp
      split at hp
      · rename_i hk
        rcases List.mem_append.mp hp with hp | hp
        · unfold tripL trip at hp
          dsimp only at hp
          frame_open at hp
          obtain rfl := List.mem_singleton.mp hp
          have hk4 : k < 4 := lt_of_lt_of_eq hk (by decide)
          intro x
          idx_vars x
          have e1 : (Rect.unit (s := S544x2048) (k0_off2 ⟨k, hk⟩) S128x2048.size (k0_off2_inb (grid0.coords t) ⟨k, hk⟩ ((hcond t).mpr h))).emb (ix2 x0 x1)
              = ix2 ⟨k * 128 + 16 + x0, by omega⟩ x1 := by
            funext a; apply Fin.ext; fin_cases a <;> simp [off2]
          refine (chunk_at _ _ _ _ x0 x1).trans ?_
          refine Eq.trans ?_ (congrArg (fun y : S544x2048.Idx => srow m c t (y 0).val (y 1)) e1).symm
          show _ = padded (row m c (bOf t)) (t.val / 4 % 8 * 512 + (k * 128 + 16 + x0.val)) x1
          unfold padded
          rw [dif_pos (by omega)]
          unfold row
          have e2 : (⟨t.val / 4 % 8 * 512 + (k * 128 + 16 + x0.val) - 16, by omega⟩ : Fin 4096) = nOf t ⟨k * 128 + x0, by omega⟩ := Fin.ext (by simp only [nOf]; omega)
          rw [e2]
          congr 1 <;> funext q
          · refine ((hs0_0 t).readAt_unread _ _ _).trans ((congrArg (iblk m c 0 t) ?_).trans (blk_x m c t ⟨k * 128 + x0, by omega⟩ q))
            funext a; apply Fin.ext; fin_cases a <;> simp [off1]
          · exact blk_g m c t q
          · exact blk_s m c t q
          · exact blk_h m c t q
        · exact ih p hp
      · exact ih p hp
  · rcases List.mem_cons.mp hp with rfl | hp
    · intro x
      idx_vars x
      have e1 : (Rect.unit (s := S544x2048) ![528, 0] S16x2048.size inb_S544x2048_S16x2048_528_0).emb (ix2 x0 x1) = ix2 ⟨528 + x0, by omega⟩ x1 := by
        funext a; apply Fin.ext; fin_cases a <;> simp
      refine (after_at _ _ _ _ _ x0 x1).trans ?_
      refine Eq.trans ?_ (congrArg (fun y : S544x2048.Idx => srow m c t (y 0).val (y 1)) e1).symm
      show _ = padded (row m c (bOf t)) (t.val / 4 % 8 * 512 + (528 + x0.val)) x1
      unfold padded
      by_cases hi : t.val / 4 % 8 < 7
      · rw [if_pos ((hasAfter t).mpr hi), dif_pos (by omega)]
        unfold row
        have e2 : (⟨t.val / 4 % 8 * 512 + (528 + x0.val) - 16, by omega⟩ : Fin 4096) = ⟨t.val / 4 % 8 * 512 + 512 + x0, by omega⟩ := Fin.ext (by simp only; omega)
        rw [e2]
        congr 1 <;> funext q
        · exact blk_n m c t hi x0 q
        · exact blk_g m c t q
        · exact blk_s m c t q
        · exact blk_h m c t q
      · rw [if_neg fun e => hi ((hasAfter t).mp e), dif_neg (by omega)]
    · obtain rfl := List.mem_singleton.mp hp
      intro x
      idx_vars x
      have e1 : (Rect.unit (s := S544x2048) ![0, 0] S16x2048.size inb_S544x2048_S16x2048_0_0).emb (ix2 x0 x1) = ix2 ⟨x0, by omega⟩ x1 := by
        funext a; apply Fin.ext; fin_cases a <;> simp
      refine (before_at _ _ _ _ _ x0 x1).trans ?_
      refine Eq.trans ?_ (congrArg (fun y : S544x2048.Idx => srow m c t (y 0).val (y 1)) e1).symm
      show _ = padded (row m c (bOf t)) (t.val / 4 % 8 * 512 + x0.val) x1
      unfold padded
      by_cases hi : 0 < t.val / 4 % 8
      · rw [if_pos ((hasBefore t).mpr hi), dif_pos (by omega)]
        unfold row
        congr 1 <;> funext q
        · exact blk_p m c t hi x0 q
        · exact blk_g m c t q
        · exact blk_s m c t q
        · exact blk_h m c t q
      · rw [if_neg fun e => hi ((hasBefore t).mp e), dif_neg (by omega)]

/-- At every point the scratch buffer holds the rows around its tile. -/
theorem scratch : ∀ (n : ℕ) (hn : n < cfg0.N) (r : Fin 544) (d : Fin 2048), (outsAt0 m c n hn).2 (ix2 r d) = srow m c ⟨n, hn⟩ r d := by
  intro n
  induction n with
  | zero => exact fun hn => scratch_first m c ⟨0, hn⟩ rfl
  | succ n ih =>
    intro hn r d
    by_cases h : (n + 1) % 4 = 0
    · exact scratch_first m c ⟨n + 1, hn⟩ h r d
    · have e := outsAt0_B m c ⟨n + 1, hn⟩ h
      have eb : bOf ⟨n + 1, hn⟩ = bOf ⟨n, Nat.lt_of_succ_lt hn⟩ := Fin.ext (by simp only [bOf]; omega)
      have en : (n + 1) / 4 % 8 = n / 4 % 8 := by omega
      have es : srow m c ⟨n + 1, hn⟩ r d = srow m c ⟨n, Nat.lt_of_succ_lt hn⟩ r d := by unfold srow; rw [eb]; simp only [en]
      rw [es]
      exact (congrFun (congrArg (fun p => p.2) e) (ix2 r d)).trans (ih (Nat.lt_of_succ_lt hn) r d)

/-- The block of the result that a body leaves over the scratch rows of point `t`, entry by entry. -/
theorem block_at (t : Fin cfg0.N) (v : FVec Ideal S544x2048 .bf16) (hv : v = (outsAt0 m c t.val t.isLt).2)
    (a0 a1 a2 g0 g1 g2 : FVec Ideal S1x1408 .f32) (r : Fin 512) (j : Fin 1408)
    (h0 : a0 (ix2 0 j) = CW m c (ix2 0 (jv t j))) (h1 : a1 (ix2 0 j) = CW m c (ix2 1 (jv t j))) (h2 : a2 (ix2 0 j) = CW m c (ix2 2 (jv t j)))
    (e0 : g0 (ix2 0 j) = CW m c (ix2 0 (jg t j))) (e1 : g1 (ix2 0 j) = CW m c (ix2 1 (jg t j))) (e2 : g2 (ix2 0 j) = CW m c (ix2 2 (jg t j))) :
    k0_pay1 (F := Ideal) (k0_pay8 v (iblk m c 6 t) a0 a1 a2 (iblk m c 10 t)) (k0_pay9 v (iblk m c 7 t)) (k0_pay10 v (iblk m c 7 t)) 543#32 g0 g1 g2 (iblk m c 11 t) (ix3 0 r j)
      = Cert.FfnUpRefIdeal.Out.REF (X m c) (M m c) (G m c) (W m c) (CW m c) (CB m c) (ix3 (bOf t) (nOf t r) (jOf t j)) := by
  subst hv
  refine (body_at _ _ _ _ _ _ _ _ _ _ _ r j).trans ?_
  refine Eq.trans ?_ (Cert.FfnUpRefIdeal.Out.ref_at (X m c) (M m c) (G m c) (W m c) (CW m c) (CB m c) (bOf t) (nOf t r) (jOf t j)).symm
  rw [h0, h1, h2, e0, e1, e2, blk_bv, blk_bg]
  simp only [scratch m c t.val t.isLt, blk_wv, blk_wg]
  rfl

/-- A point that does not begin a tile keeps the scratch buffer. -/
theorem kept (t : Fin cfg0.N) (h : ¬t.val % 4 = 0) (xs : FVec Ideal S544x2048 .bf16) : (ptB m c t h xs).2 = xs := rfl

set_option maxHeartbeats 1000000 in
/-- The block that point `t` leaves. -/
theorem point (t : Fin cfg0.N) (y : S1x512x1408.Idx) :
    (outsAt0 m c t.val t.isLt).1 y = Cert.FfnUpRefIdeal.Out.REF (X m c) (M m c) (G m c) (W m c) (CW m c) (CB m c) (ix3 (bOf t) (nOf t (y 1)) (jOf t (y 2))) := by
  idx_vars y
  rw [show y0 = 0 from Subsingleton.elim _ _]
  by_cases h : t.val % 4 = 0
  · rw [outsAt0_A m c t h]
    unfold ptA out0_A_12
    dsimp only
    frame_out
    refine block_at m c t _ ?_ _ _ _ _ _ _ y1 y2 ?_ ?_ ?_ ?_ ?_ ?_
    · rw [outsAt0_A m c t h]
      rw [View.readCov_eq_canon']
      unfold ptA sout0_A_0
      dsimp only
      funext y
      frame_out
      exact congrArg (View.canon _) (by funext a; apply Fin.ext; fin_cases a <;> simp)
    · exact (congrArg (iblk m c 8 t) (by funext a; apply Fin.ext; fin_cases a <;> simp)).trans (blk_av m c t 0 y2)
    · exact (congrArg (iblk m c 8 t) (by funext a; apply Fin.ext; fin_cases a <;> simp)).trans (blk_av m c t 1 y2)
    · exact (congrArg (iblk m c 8 t) (by funext a; apply Fin.ext; fin_cases a <;> simp)).trans (blk_av m c t 2 y2)
    · exact (congrArg (iblk m c 9 t) (by funext a; apply Fin.ext; fin_cases a <;> simp)).trans (blk_ag m c t 0 y2)
    · exact (congrArg (iblk m c 9 t) (by funext a; apply Fin.ext; fin_cases a <;> simp)).trans (blk_ag m c t 1 y2)
    · exact (congrArg (iblk m c 9 t) (by funext a; apply Fin.ext; fin_cases a <;> simp)).trans (blk_ag m c t 2 y2)
  · have e := outsAt0_B m c t h
    rw [e]
    unfold ptB out0_B_12
    dsimp only
    frame_out
    refine block_at m c t _ ?_ _ _ _ _ _ _ y1 y2 ?_ ?_ ?_ ?_ ?_ ?_
    · rw [e, kept, read_unread_whole]
    · exact (congrArg (iblk m c 8 t) (by funext a; apply Fin.ext; fin_cases a <;> simp)).trans (blk_av m c t 0 y2)
    · exact (congrArg (iblk m c 8 t) (by funext a; apply Fin.ext; fin_cases a <;> simp)).trans (blk_av m c t 1 y2)
    · exact (congrArg (iblk m c 8 t) (by funext a; apply Fin.ext; fin_cases a <;> simp)).trans (blk_av m c t 2 y2)
    · exact (congrArg (iblk m c 9 t) (by funext a; apply Fin.ext; fin_cases a <;> simp)).trans (blk_ag m c t 0 y2)
    · exact (congrArg (iblk m c 9 t) (by funext a; apply Fin.ext; fin_cases a <;> simp)).trans (blk_ag m c t 1 y2)
    · exact (congrArg (iblk m c 9 t) (by funext a; apply Fin.ext; fin_cases a <;> simp)).trans (blk_ag m c t 2 y2)

/-- The result array after the run. -/
theorem final : (dats m 0 c).arrAt 12 cfg0.N = Cert.FfnUpRefIdeal.Out.REF (X m c) (M m c) (G m c) (W m c) (CW m c) (CB m c) := by
  refine (dats m 0 c).arrAt_eq_of_covers 12 _ (by decide +kernel) fun t hf y => ?_
  blk_simp
  rw [after0_12]
  refine (point m c t y).trans (congrArg _ ?_)
  funext a; apply Fin.ext; fin_cases a <;> (blk_simp [idx t, bOf, nOf, jOf]; rfl)

end Cert.FfnUpIdeal.Out

end
-- ==== Proof.FfnDown.lean ====
/- The second projection of the feed-forward part: each entry of its result is the residual plus the gate times a
   whole contraction, for the kernel and for the reference. -/
module

public import proofs.«01_k».proof.Proof.Gen.FfnDownIdeal.Value
public import proofs.«01_k».proof.Proof.Gen.FfnDownRefIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnDownRefIdeal.Out

open Cert.FfnDownRefIdeal Cert.FfnDownRefIdeal.Gen Cert.FfnDownRefIdeal.Value

/-- The reference as a function of its arguments. -/
def REF (a : FVec Ideal S4x4096x5632 .bf16) (x : FVec Ideal S4x4096x2048 .f32) (mod : FVec Ideal S16x12288 .f32) (w : FVec Ideal S2x5632x2048 .f32) :
    FVec Ideal S4x4096x2048 .f32 :=
  addf x (mulf (broadcastInDim S4x4096x2048 ![0, 1, 2] bcast_S4x1x2048_S4x4096x2048_0_1_2 (extractStridedSlice S4x1x2048 ![0, 0, 10240] (broadcastInDim S4x1x12288 ![0, 2] bcast_S4x12288_S4x1x12288_0_2 (extractStridedSlice S4x12288 ![0, 0] mod slices_S16x12288_S4x12288_0_0)) slices_S4x1x12288_S4x1x2048_0_0_10240))
    (Host.dotGeneral dot_S4x4096x5632_S5632x2048_S4x4096x2048_2_0_01_1_n_n none (extf .f32 a bitsLt_bf16_f32) (shapeCast _ (extractStridedSlice S1x5632x2048 ![0, 0, 0] w slices_S2x5632x2048_S1x5632x2048_0_0_0) shapeCasts_S1x5632x2048_S5632x2048)))

/-- The reference at an entry. -/
theorem ref_at (a : FVec Ideal S4x4096x5632 .bf16) (x : FVec Ideal S4x4096x2048 .f32) (mod : FVec Ideal S16x12288 .f32) (w : FVec Ideal S2x5632x2048 .f32)
    (b : Fin 4) (n : Fin 4096) (j : Fin 2048) :
    REF a x mod w (ix3 b n j) = x (ix3 b n j) + mod (ix2 ⟨b, by omega⟩ ⟨10240 + j, by omega⟩) * ∑ k : Fin 5632, a (ix3 b n k) * w (ix3 0 k j) := by
  pointwise! [REF]

end Cert.FfnDownRefIdeal.Out

namespace Cert.FfnDownIdeal.Out

open Cert.FfnDownIdeal Cert.FfnDownIdeal.Gen Cert.FfnDownIdeal.Value

/-- What the body stores, at an entry. -/
theorem body_at (a : FVec Ideal S1x1024x5632 .bf16) (w : FVec Ideal S1x5632x512 .bf16) (x : FVec Ideal S1x1024x512 .f32) (g : FVec Ideal S1x1x1x512 .f32)
    (r : Fin 1024) (j : Fin 512) :
    k0_pay1 (F := Ideal) a w x g (ix3 0 r j) = x (ix3 0 r j) + g (ix4 0 0 0 j) * ∑ k : Fin 5632, a (ix3 0 r k) * w (ix3 0 k j) := by
  pointwise! [k0_pay1]

theorem idx : ∀ t : Fin cfg0.N, win0_0.index t = ![t.val / 16, t.val / 4 % 4, 0] ∧ win0_1.index t = ![0, 0, t.val % 4]
    ∧ win0_2.index t = ![t.val / 16, t.val / 4 % 4, t.val % 4] ∧ win0_3.index t = ![t.val / 16, 5, 0, t.val % 4]
    ∧ win0_4.index t = ![t.val / 16, t.val / 4 % 4, t.val % 4] :=
  (by decide +kernel : ∀ t : Fin grid0.N, _)

theorem lt (t : Fin cfg0.N) : t.val < 64 := lt_of_lt_of_eq t.isLt N_0

variable (m : (ℓ : Loc nD τ sig) → Buf (Elt Ideal) ℓ) (c : Dev nD)

/-- The arguments. -/
abbrev A : FVec Ideal S4x4096x5632 .bf16 := m ((c.tc : Thread nD τ).loc main_arg0)
abbrev X : FVec Ideal S4x4096x2048 .f32 := m ((c.tc : Thread nD τ).loc main_arg1)
abbrev M : FVec Ideal S16x12288 .f32 := m ((c.tc : Thread nD τ).loc main_arg2)
abbrev W : FVec Ideal S2x5632x2048 .f32 := m ((c.tc : Thread nD τ).loc main_arg3)

/-- The batch, row and column that an entry of point `t`'s block is. -/
def bOf (t : Fin cfg0.N) : Fin 4 := ⟨t.val / 16, by have := lt t; omega⟩
def nOf (t : Fin cfg0.N) (r : Fin 1024) : Fin 4096 := ⟨t.val / 4 % 4 * 1024 + r, by omega⟩
def jOf (t : Fin cfg0.N) (j : Fin 512) : Fin 2048 := ⟨t.val % 4 * 512 + j, by omega⟩

theorem blk_a (t : Fin cfg0.N) (r : Fin 1024) (k : Fin 5632) :
    (iblk m c 0 t : FVec Ideal S1x1024x5632 .bf16) (ix3 0 r k) = A m c (ix3 (bOf t) (nOf t r) k) := by
  blk_ext [iblk, Gen.V, idx t, bOf, nOf]

theorem blk_w (t : Fin cfg0.N) (k : Fin 5632) (j : Fin 512) :
    (iblk m c 1 t : FVec Ideal S1x5632x512 .bf16) (ix3 0 k j) = W m c (ix3 0 k (jOf t j)) := by
  blk_simp [iblk, idx t]
  entry_read
  pointwise
  blk_ext [idx t, jOf]

theorem blk_x (t : Fin cfg0.N) (r : Fin 1024) (j : Fin 512) :
    (iblk m c 2 t : FVec Ideal S1x1024x512 .f32) (ix3 0 r j) = X m c (ix3 (bOf t) (nOf t r) (jOf t j)) := by
  blk_ext [iblk, Gen.V, idx t, bOf, nOf, jOf]

theorem blk_g (t : Fin cfg0.N) (j : Fin 512) :
    (iblk m c 3 t : FVec Ideal S1x1x1x512 .f32) (ix4 0 0 0 j) = M m c (ix2 ⟨bOf t, by omega⟩ ⟨10240 + jOf t j, by omega⟩) := by
  blk_simp [iblk, idx t]
  entry_read
  pointwise
  blk_ext [idx t, bOf, jOf]

/-- The block that point `t` leaves. -/
theorem point (t : Fin cfg0.N) (y : S1x1024x512.Idx) :
    out0_4 (F := Ideal) (iblk m c 0 t) (iblk m c 1 t) (iblk m c 2 t) (iblk m c 3 t) y
      = Cert.FfnDownRefIdeal.Out.REF (A m c) (X m c) (M m c) (W m c) (ix3 (bOf t) (nOf t (y 1)) (jOf t (y 2))) := by
  idx_vars y
  rw [show y0 = 0 from Subsingleton.elim _ _]
  refine Eq.trans ?_ (Cert.FfnDownRefIdeal.Out.ref_at (A m c) (X m c) (M m c) (W m c) (bOf t) (nOf t y1) (jOf t y2)).symm
  frame_out
  refine (body_at _ _ _ _ y1 y2).trans ?_
  simp only [blk_x, blk_g, blk_a, blk_w]

/-- The result array after the run. -/
theorem final : (dats m 0 c).arrAt 4 cfg0.N = Cert.FfnDownRefIdeal.Out.REF (A m c) (X m c) (M m c) (W m c) := by
  refine (dats m 0 c).arrAt_eq_of_covers 4 _ (by decide +kernel) fun t hf y => ?_
  blk_simp
  rw [after0_4]
  refine (point m c t y).trans (congrArg _ ?_)
  funext a; apply Fin.ext; fin_cases a <;> (blk_simp [idx t, bOf, nOf, jOf]; rfl)

end Cert.FfnDownIdeal.Out

end
-- ==== Proof.Merge.lean ====
/- The merge of the branches: each entry of its result is the sum of three gated contractions, the last over a row that
   is normalised head by head, for the kernel and for the reference. -/
module

public import proofs.«01_k».proof.Proof.Gen.MergeIdeal.Value
public import proofs.«01_k».proof.Proof.Gen.MergeRefIdeal.Run
public import Idealize.ShloMosaic.Lib.Pointwise
public import Idealize.ShloMosaic.Lib.Pipeline.ValueKit
public import Idealize.ShloMosaic.Lib.Pipeline.ReadBack
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.MergeIdeal.Out

/-- The logistic function. -/
def sigmoid (x : EReal) : EReal := Ideal.div 1 (1 + Ideal.exp (-x))

/-- Entry `l` of a row `o` after the root mean square norm of its head of 256 lanes with gain `g`, times the gate made of `r`. -/
def mixed (o r : Fin 1024 → EReal) (g : Fin 256 → EReal) (l : Fin 1024) : EReal :=
  o l * Ideal.rsqrt (Ideal.div (∑ k : Fin 256, o ⟨l / 256 * 256 + k, by omega⟩ * o ⟨l / 256 * 256 + k, by omega⟩) (Ideal.ofBits .f32 0x43800000#32) + Ideal.ofBits .f32 0x358637BD#32)
    * g ⟨l % 256, by omega⟩ * (r l * sigmoid (r l))

end Cert.MergeIdeal.Out

namespace Cert.MergeRefIdeal.Out

open Cert.MergeRefIdeal Cert.MergeRefIdeal.Gen Cert.MergeRefIdeal.Value
open Cert.MergeIdeal.Out (sigmoid mixed)

/-- The sum of the two directions, split into heads. -/
def refO (f h : FVec Ideal S4x4096x1024 .f32) : FVec Ideal S4x4096x4x256 .f32 :=
  shapeCast _ (addf f h) shapeCasts_S4x4096x1024_S4x4096x4x256

/-- The heads' norm with its gain. -/
def refN (o : FVec Ideal S4x4096x4x256 .f32) (g : FVec Ideal S256 .f32) : FVec Ideal S4x4096x1024 .f32 :=
  shapeCast _ (mulf (mulf o (broadcastInDim S4x4096x4x256 ![0, 1, 2, 3] bcast_S4x4096x4x1_S4x4096x4x256_0_1_2_3 (Host.rsqrt (addf (Host.divf (broadcastInDim S4x4096x4x1 ![0, 1, 2] bcast_S4x4096x4_S4x4096x4x1_0_1_2 (Host.reduceAdd (mulf o o) (constant S_ .f32 0x00000000#32) reducesTo_S4x4096x4x256_S4x4096x4_d3 h_S_)) (broadcastInDim S4x4096x4x1 ![] bcast_S_S4x4096x4x1 (constant S_ .f32 0x43800000#32))) (broadcastInDim S4x4096x4x1 ![] bcast_S_S4x4096x4x1 (constant S_ .f32 0x358637BD#32))))))
    (broadcastInDim S4x4096x4x256 ![0, 1, 2, 3] bcast_S1x1x1x256_S4x4096x4x256_0_1_2_3 (broadcastInDim S1x1x1x256 ![3] bcast_S256_S1x1x1x256_3 g))) shapeCasts_S4x4096x4x256_S4x4096x1024

/-- The columns that gate the normalised rows. -/
def refR (u : FVec Ideal S4x4096x14592 .bf16) : FVec Ideal S4x4096x1024 .f32 :=
  extf .f32 (extractStridedSlice S4x4096x1024 ![0, 0, 12288] u slices_S4x4096x14592_S4x4096x1024_0_0_12288) bitsLt_bf16_f32

/-- The gated, normalised rows. -/
def refH (n r : FVec Ideal S4x4096x1024 .f32) : FVec Ideal S4x4096x1024 .f32 :=
  mulf n (mulf r (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf r)))))

/-- The branches' gates. -/
def refG (u : FVec Ideal S4x4096x14592 .bf16) (q : FVec Ideal S3x2048 .f32) : FVec Ideal S4x4096x3x2048 .f32 :=
  Host.divf (broadcastInDim S4x4096x3x2048 ![] bcast_S_S4x4096x3x2048 (constant S_ .f32 0x3F800000#32)) (addf (broadcastInDim S4x4096x3x2048 ![] bcast_S_S4x4096x3x2048 (constant S_ .f32 0x3F800000#32)) (Host.exp (Host.negf (addf (shapeCast _ (extf .f32 (extractStridedSlice S4x4096x6144 ![0, 0, 0] u slices_S4x4096x14592_S4x4096x6144_0_0_0) bitsLt_bf16_f32) shapeCasts_S4x4096x6144_S4x4096x3x2048) (broadcastInDim S4x4096x3x2048 ![0, 1, 2, 3] bcast_S1x1x3x2048_S4x4096x3x2048_0_1_2_3 (broadcastInDim S1x1x3x2048 ![2, 3] bcast_S3x2048_S1x1x3x2048_2_3 q))))))

/-- A branch's output product. -/
def refY (x : FVec Ideal S4x4096x1024 .f32) (w : FVec Ideal S2x1024x2048 .f32) : FVec Ideal S4x4096x2048 .f32 :=
  Host.dotGeneral dot_S4x4096x1024_S1024x2048_S4x4096x2048_2_0_01_1_n_n none x (shapeCast _ (extractStridedSlice S1x1024x2048 ![0, 0, 0] w slices_S2x1024x2048_S1x1024x2048_0_0_0) shapeCasts_S1x1024x2048_S1024x2048)

/-- The gated sum of the branches. -/
def refS (g : FVec Ideal S4x4096x3x2048 .f32) (ya yb yc : FVec Ideal S4x4096x2048 .f32) : FVec Ideal S4x4096x2048 .bf16 :=
  truncf .bf16 (addf (addf (mulf (shapeCast _ (extractStridedSlice S4x4096x1x2048 ![0, 0, 0, 0] g slices_S4x4096x3x2048_S4x4096x1x2048_0_0_0_0) shapeCasts_S4x4096x1x2048_S4x4096x2048) ya)
    (mulf (shapeCast _ (extractStridedSlice S4x4096x1x2048 ![0, 0, 1, 0] g slices_S4x4096x3x2048_S4x4096x1x2048_0_0_1_0) shapeCasts_S4x4096x1x2048_S4x4096x2048) yb))
    (mulf (shapeCast _ (extractStridedSlice S4x4096x1x2048 ![0, 0, 2, 0] g slices_S4x4096x3x2048_S4x4096x1x2048_0_0_2_0) shapeCasts_S4x4096x1x2048_S4x4096x2048) yc)) bitsLt_bf16_f32

/-- The reference as a function of its arguments. -/
def REF (a b : FVec Ideal S4x4096x1024 .bf16) (f h : FVec Ideal S4x4096x1024 .f32) (u : FVec Ideal S4x4096x14592 .bf16) (g : FVec Ideal S256 .f32)
    (wa wb wc : FVec Ideal S2x1024x2048 .f32) (q : FVec Ideal S3x2048 .f32) : FVec Ideal S4x4096x2048 .bf16 :=
  refS (refG u q) (refY (extf .f32 a bitsLt_bf16_f32) wa) (refY (extf .f32 b bitsLt_bf16_f32) wb) (refY (refH (refN (refO f h) g) (refR u)) wc)

/-- What the reference returns is `REF` of its arguments. -/
theorem res_eq (m : (ℓ : Loc nD τ sig) → Buf (Elt Ideal) ℓ) (c : Dev nD) : res_out0 (F := Ideal) m c
    = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) := rfl

theorem n_at (f h : FVec Ideal S4x4096x1024 .f32) (g : FVec Ideal S256 .f32) (u : FVec Ideal S4x4096x14592 .bf16) (b : Fin 4) (n : Fin 4096) (l : Fin 1024) :
    refH (refN (refO f h) g) (refR u) (ix3 b n l) = mixed (fun k => f (ix3 b n k) + h (ix3 b n k)) (fun k => u (ix3 b n ⟨12288 + k, by omega⟩)) (fun k => g (ix1 k)) l := by
  pointwise! [refH, refN, refO, refR, mixed, sigmoid]

theorem g_at (u : FVec Ideal S4x4096x14592 .bf16) (q : FVec Ideal S3x2048 .f32) (b : Fin 4) (n : Fin 4096) (i : Fin 3) (j : Fin 2048) :
    refG u q (ix4 b n i j) = sigmoid (u (ix3 b n ⟨i * 2048 + j, by omega⟩) + q (ix2 i j)) := by
  pointwise! [refG, sigmoid]

theorem y_at (x : FVec Ideal S4x4096x1024 .f32) (w : FVec Ideal S2x1024x2048 .f32) (b : Fin 4) (n : Fin 4096) (j : Fin 2048) :
    refY x w (ix3 b n j) = ∑ k : Fin 1024, x (ix3 b n k) * w (ix3 0 k j) := by
  pointwise! [refY]

theorem s_at (g : FVec Ideal S4x4096x3x2048 .f32) (ya yb yc : FVec Ideal S4x4096x2048 .f32) (b : Fin 4) (n : Fin 4096) (j : Fin 2048) :
    refS g ya yb yc (ix3 b n j) = g (ix4 b n 0 j) * ya (ix3 b n j) + g (ix4 b n 1 j) * yb (ix3 b n j) + g (ix4 b n 2 j) * yc (ix3 b n j) := by
  pointwise! [refS]

/-- The reference at an entry. -/
theorem ref_at (a b : FVec Ideal S4x4096x1024 .bf16) (f h : FVec Ideal S4x4096x1024 .f32) (u : FVec Ideal S4x4096x14592 .bf16) (g : FVec Ideal S256 .f32)
    (wa wb wc : FVec Ideal S2x1024x2048 .f32) (q : FVec Ideal S3x2048 .f32) (i : Fin 4) (n : Fin 4096) (j : Fin 2048) :
    REF a b f h u g wa wb wc q (ix3 i n j)
      = sigmoid (u (ix3 i n ⟨j, by omega⟩) + q (ix2 0 j)) * ∑ k : Fin 1024, a (ix3 i n k) * wa (ix3 0 k j)
        + sigmoid (u (ix3 i n ⟨2048 + j, by omega⟩) + q (ix2 1 j)) * ∑ k : Fin 1024, b (ix3 i n k) * wb (ix3 0 k j)
        + sigmoid (u (ix3 i n ⟨4096 + j, by omega⟩) + q (ix2 2 j)) * ∑ k : Fin 1024, mixed (fun k => f (ix3 i n k) + h (ix3 i n k)) (fun k => u (ix3 i n ⟨12288 + k, by omega⟩)) (fun k => g (ix1 k)) k * wc (ix3 0 k j) := by
  refine (s_at _ _ _ _ i n j).trans ?_
  have e0 : (⟨((0 : Fin 3) : ℕ) * 2048 + j, by simp; omega⟩ : Fin 14592) = ⟨j, by omega⟩ := Fin.ext (by simp)
  have e1 : (⟨((1 : Fin 3) : ℕ) * 2048 + j, by simp; omega⟩ : Fin 14592) = ⟨2048 + j, by omega⟩ := Fin.ext (by simp)
  have e2 : (⟨((2 : Fin 3) : ℕ) * 2048 + j, by simp; omega⟩ : Fin 14592) = ⟨4096 + j, by omega⟩ := Fin.ext (by simp)
  rw [g_at, g_at, g_at, y_at, y_at, y_at, e0, e1, e2]
  simp only [n_at]
  rfl

end Cert.MergeRefIdeal.Out

namespace Cert.MergeIdeal.Out

open Cert.MergeIdeal Cert.MergeIdeal.Gen Cert.MergeIdeal.Value

/-- The sum of the two directions, and the gate, as the body reads them. -/
theorem pay2_at (f h : FVec Ideal S1x512x1024 .f32) (r : Fin 512) (l : Fin 1024) :
    k0_pay2 (F := Ideal) f h (ix2 r l) = f (ix3 0 r l) + h (ix3 0 r l) := by
  pointwise! [k0_pay2]

theorem pay3_at (v : FVec Ideal S1x512x1024 .bf16) (r : Fin 512) (l : Fin 1024) :
    k0_pay3 (F := Ideal) v (ix2 r l) = v (ix3 0 r l) * sigmoid (v (ix3 0 r l)) := by
  pointwise [k0_pay3, sigmoid]
  rw [zero_sub]

/-- A head's columns `256 * h + l` of the gated, normalised rows, from its sum of directions and its gate. -/
theorem head0 (f h : FVec Ideal S1x512x1024 .f32) (v : FVec Ideal S1x512x1024 .bf16) (g : FVec Ideal S1x256 .f32) (r : Fin 512) (l : Fin 256) :
    k0_pay5 (F := Ideal) f h v g (ix2 r l) = mixed (fun k => f (ix3 0 r k) + h (ix3 0 r k)) (fun k => v (ix3 0 r k)) (fun k => g (ix2 0 k)) ⟨l, by omega⟩ := by
  have e : ∀ k : Fin 256, (⟨(l : ℕ) / 256 * 256 + k, by omega⟩ : Fin 1024) = ⟨k, by omega⟩ := fun k => Fin.ext (by simp only; omega)
  have e' : (⟨(l : ℕ) % 256, by omega⟩ : Fin 256) = l := Fin.ext (by simp only; omega)
  simp only [mixed, sigmoid, e, e']
  pointwise [k0_pay5, k0_pay2, k0_pay3, k0_pay4]
  simp only [zero_sub]

theorem head1 (f h : FVec Ideal S1x512x1024 .f32) (v : FVec Ideal S1x512x1024 .bf16) (g : FVec Ideal S1x256 .f32) (r : Fin 512) (l : Fin 256) :
    k0_pay8 (F := Ideal) (k0_pay3 v) (k0_pay4 g) (k0_pay6 f h) (k0_pay7 f h) (ix2 r l) = mixed (fun k => f (ix3 0 r k) + h (ix3 0 r k)) (fun k => v (ix3 0 r k)) (fun k => g (ix2 0 k)) ⟨256 + l, by omega⟩ := by
  have e : ∀ k : Fin 256, (⟨(256 + (l : ℕ)) / 256 * 256 + k, by omega⟩ : Fin 1024) = ⟨256 + k, by omega⟩ := fun k => Fin.ext (by simp only; omega)
  have e' : (⟨(256 + (l : ℕ)) % 256, by omega⟩ : Fin 256) = l := Fin.ext (by simp only; omega)
  simp only [mixed, sigmoid, e, e']
  pointwise [k0_pay8, k0_pay6, k0_pay7, k0_pay2, k0_pay3, k0_pay4]
  simp only [zero_sub]

theorem head2 (f h : FVec Ideal S1x512x1024 .f32) (v : FVec Ideal S1x512x1024 .bf16) (g : FVec Ideal S1x256 .f32) (r : Fin 512) (l : Fin 256) :
    k0_pay9 (F := Ideal) (k0_pay2 f h) (k0_pay3 v) (k0_pay4 g) (ix2 r l) = mixed (fun k => f (ix3 0 r k) + h (ix3 0 r k)) (fun k => v (ix3 0 r k)) (fun k => g (ix2 0 k)) ⟨512 + l, by omega⟩ := by
  have e : ∀ k : Fin 256, (⟨(512 + (l : ℕ)) / 256 * 256 + k, by omega⟩ : Fin 1024) = ⟨512 + k, by omega⟩ := fun k => Fin.ext (by simp only; omega)
  have e' : (⟨(512 + (l : ℕ)) % 256, by omega⟩ : Fin 256) = l := Fin.ext (by simp only; omega)
  simp only [mixed, sigmoid, e, e']
  pointwise [k0_pay9, k0_pay2, k0_pay3, k0_pay4]
  simp only [zero_sub]

theorem head3 (f h : FVec Ideal S1x512x1024 .f32) (v : FVec Ideal S1x512x1024 .bf16) (g : FVec Ideal S1x256 .f32) (r : Fin 512) (l : Fin 256) :
    k0_pay12 (F := Ideal) (k0_pay3 v) (k0_pay4 g) (k0_pay10 (k0_pay2 f h)) (k0_pay11 (k0_pay2 f h)) (ix2 r l) = mixed (fun k => f (ix3 0 r k) + h (ix3 0 r k)) (fun k => v (ix3 0 r k)) (fun k => g (ix2 0 k)) ⟨768 + l, by omega⟩ := by
  have e : ∀ k : Fin 256, (⟨(768 + (l : ℕ)) / 256 * 256 + k, by omega⟩ : Fin 1024) = ⟨768 + k, by omega⟩ := fun k => Fin.ext (by simp only; omega)
  have e' : (⟨(768 + (l : ℕ)) % 256, by omega⟩ : Fin 256) = l := Fin.ext (by simp only; omega)
  simp only [mixed, sigmoid, e, e']
  pointwise [k0_pay12, k0_pay10, k0_pay11, k0_pay2, k0_pay3, k0_pay4]
  simp only [zero_sub]

/-- What the body stores, at an entry. -/
theorem body_at (a b : FVec Ideal S1x512x1024 .bf16) (v : FVec Ideal S512x1024 .bf16) (wa wb wc : FVec Ideal S1x1024x1024 .bf16)
    (ua ub uc : FVec Ideal S1x512x1024 .bf16) (qa qb qc : FVec Ideal S1x1x1024 .f32) (r : Fin 512) (j : Fin 1024) :
    k0_pay1 (F := Ideal) (k0_pay15 v (k0_pay13 a wa ua qa) (k0_pay14 b wb) ub qb wc uc qc) (ix3 0 r j)
      = sigmoid (ua (ix3 0 r j) + qa (ix3 0 0 j)) * ∑ k : Fin 1024, a (ix3 0 r k) * wa (ix3 0 k j)
        + sigmoid (ub (ix3 0 r j) + qb (ix3 0 0 j)) * ∑ k : Fin 1024, b (ix3 0 r k) * wb (ix3 0 k j)
        + sigmoid (uc (ix3 0 r j) + qc (ix3 0 0 j)) * ∑ k : Fin 1024, v (ix2 r k) * wc (ix3 0 k j) := by
  pointwise [k0_pay1, k0_pay15, k0_pay13, k0_pay14, sigmoid]
  simp only [zero_sub]

theorem idx : ∀ t : Fin cfg0.N, win0_0.index t = ![t.val / 16, t.val / 2 % 8, 0] ∧ win0_1.index t = ![t.val / 16, t.val / 2 % 8, 0]
    ∧ win0_2.index t = ![t.val / 16, t.val / 2 % 8, 0] ∧ win0_3.index t = ![t.val / 16, t.val / 2 % 8, 0]
    ∧ win0_4.index t = ![t.val / 16, t.val / 2 % 8, 12] ∧ win0_5.index t = ![0, 0]
    ∧ win0_6.index t = ![t.val / 16, t.val / 2 % 8, t.val % 2] ∧ win0_7.index t = ![t.val / 16, t.val / 2 % 8, 2 + t.val % 2]
    ∧ win0_8.index t = ![t.val / 16, t.val / 2 % 8, 4 + t.val % 2] ∧ win0_9.index t = ![0, 0, t.val % 2] ∧ win0_10.index t = ![0, 0, t.val % 2]
    ∧ win0_11.index t = ![0, 0, t.val % 2] ∧ win0_12.index t = ![0, 0, t.val % 2] ∧ win0_13.index t = ![t.val / 16, t.val / 2 % 8, t.val % 2] :=
  (by decide +kernel : ∀ t : Fin grid0.N, _)

theorem lt (t : Fin cfg0.N) : t.val < 64 := lt_of_lt_of_eq t.isLt N_0

variable (m : (ℓ : Loc nD τ sig) → Buf (Elt Ideal) ℓ) (c : Dev nD)

/-- The arguments. -/
abbrev HA : FVec Ideal S4x4096x1024 .bf16 := m ((c.tc : Thread nD τ).loc main_arg0)
abbrev HB : FVec Ideal S4x4096x1024 .bf16 := m ((c.tc : Thread nD τ).loc main_arg1)
abbrev OF : FVec Ideal S4x4096x1024 .f32 := m ((c.tc : Thread nD τ).loc main_arg2)
abbrev OB : FVec Ideal S4x4096x1024 .f32 := m ((c.tc : Thread nD τ).loc main_arg3)
abbrev U : FVec Ideal S4x4096x14592 .bf16 := m ((c.tc : Thread nD τ).loc main_arg4)
abbrev GN : FVec Ideal S256 .f32 := m ((c.tc : Thread nD τ).loc main_arg5)
abbrev WA : FVec Ideal S2x1024x2048 .f32 := m ((c.tc : Thread nD τ).loc main_arg6)
abbrev WB : FVec Ideal S2x1024x2048 .f32 := m ((c.tc : Thread nD τ).loc main_arg7)
abbrev WC : FVec Ideal S2x1024x2048 .f32 := m ((c.tc : Thread nD τ).loc main_arg8)
abbrev BG : FVec Ideal S3x2048 .f32 := m ((c.tc : Thread nD τ).loc main_arg9)

/-- The batch, row and column that an entry of point `t`'s block is. -/
def bOf (t : Fin cfg0.N) : Fin 4 := ⟨t.val / 16, by have := lt t; omega⟩
def nOf (t : Fin cfg0.N) (r : Fin 512) : Fin 4096 := ⟨t.val / 2 % 8 * 512 + r, by omega⟩
def jOf (t : Fin cfg0.N) (j : Fin 1024) : Fin 2048 := ⟨t.val % 2 * 1024 + j, by omega⟩

theorem blk_a (t : Fin cfg0.N) (r : Fin 512) (k : Fin 1024) :
    (iblk m c 0 t : FVec Ideal S1x512x1024 .bf16) (ix3 0 r k) = HA m c (ix3 (bOf t) (nOf t r) k) := by
  blk_ext [iblk, Gen.V, idx t, bOf, nOf]

theorem blk_b (t : Fin cfg0.N) (r : Fin 512) (k : Fin 1024) :
    (iblk m c 1 t : FVec Ideal S1x512x1024 .bf16) (ix3 0 r k) = HB m c (ix3 (bOf t) (nOf t r) k) := by
  blk_ext [iblk, Gen.V, idx t, bOf, nOf]

theorem blk_f (t : Fin cfg0.N) (r : Fin 512) (k : Fin 1024) :
    (iblk m c 2 t : FVec Ideal S1x512x1024 .f32) (ix3 0 r k) = OF m c (ix3 (bOf t) (nOf t r) k) := by
  blk_ext [iblk, Gen.V, idx t, bOf, nOf]

theorem blk_h (t : Fin cfg0.N) (r : Fin 512) (k : Fin 1024) :
    (iblk m c 3 t : FVec Ideal S1x512x1024 .f32) (ix3 0 r k) = OB m c (ix3 (bOf t) (nOf t r) k) := by
  blk_ext [iblk, Gen.V, idx t, bOf, nOf]

theorem blk_r (t : Fin cfg0.N) (r : Fin 512) (k : Fin 1024) :
    (X0_4 m c t : FVec Ideal S1x512x1024 .bf16) (ix3 0 r k) = U m c (ix3 (bOf t) (nOf t r) ⟨12288 + k, by omega⟩) := by
  unfold X0_4 Pipeline.Window.fill
  refine (dif_pos (moved0_4 t _)).trans ?_
  blk_ext [iblk, Gen.V, idx t, bOf, nOf]

theorem blk_g (t : Fin cfg0.N) (k : Fin 256) : (iblk m c 5 t : FVec Ideal S1x256 .f32) (ix2 0 k) = GN m c (ix1 k) := by
  blk_simp [iblk, idx t]
  entry_read
  pointwise
  blk_ext [idx t]

theorem blk_ua (t : Fin cfg0.N) (r : Fin 512) (j : Fin 1024) :
    (X0_6 m c t : FVec Ideal S1x512x1024 .bf16) (ix3 0 r j) = U m c (ix3 (bOf t) (nOf t r) ⟨jOf t j, by omega⟩) := by
  unfold X0_6 Pipeline.Window.fill
  refine (dif_pos (moved0_6 t _)).trans ?_
  blk_ext [iblk, Gen.V, idx t, bOf, nOf, jOf]

theorem blk_ub (t : Fin cfg0.N) (r : Fin 512) (j : Fin 1024) :
    (X0_7 m c t : FVec Ideal S1x512x1024 .bf16) (ix3 0 r j) = U m c (ix3 (bOf t) (nOf t r) ⟨2048 + jOf t j, by omega⟩) := by
  unfold X0_7 Pipeline.Window.fill
  refine (dif_pos (moved0_7 t _)).trans ?_
  blk_ext [iblk, Gen.V, idx t, bOf, nOf, jOf]

theorem blk_uc (t : Fin cfg0.N) (r : Fin 512) (j : Fin 1024) :
    (X0_8 m c t : FVec Ideal S1x512x1024 .bf16) (ix3 0 r j) = U m c (ix3 (bOf t) (nOf t r) ⟨4096 + jOf t j, by omega⟩) := by
  unfold X0_8 Pipeline.Window.fill
  refine (dif_pos (moved0_8 t _)).trans ?_
  blk_ext [iblk, Gen.V, idx t, bOf, nOf, jOf]

theorem blk_wa (t : Fin cfg0.N) (k j : Fin 1024) :
    (iblk m c 9 t : FVec Ideal S1x1024x1024 .bf16) (ix3 0 k j) = WA m c (ix3 0 k (jOf t j)) := by
  blk_simp [iblk, idx t]
  entry_read
  pointwise
  blk_ext [idx t, jOf]

theorem blk_wb (t : Fin cfg0.N) (k j : Fin 1024) :
    (iblk m c 10 t : FVec Ideal S1x1024x1024 .bf16) (ix3 0 k j) = WB m c (ix3 0 k (jOf t j)) := by
  blk_simp [iblk, idx t]
  entry_read
  pointwise
  blk_ext [idx t, jOf]

theorem blk_wc (t : Fin cfg0.N) (k j : Fin 1024) :
    (iblk m c 11 t : FVec Ideal S1x1024x1024 .bf16) (ix3 0 k j) = WC m c (ix3 0 k (jOf t j)) := by
  blk_simp [iblk, idx t]
  entry_read
  pointwise
  blk_ext [idx t, jOf]

theorem blk_q (t : Fin cfg0.N) (i : Fin 3) (j : Fin 1024) :
    (iblk m c 12 t : FVec Ideal S3x1x1024 .f32) (ix3 i 0 j) = BG m c (ix2 i (jOf t j)) := by
  blk_simp [iblk, idx t]
  entry_read
  pointwise
  blk_ext [idx t, jOf]

/-- Plane `i` of the gates' bias, as the body loads it. -/
theorem bias (t : Fin cfg0.N) (i : Fin 3) (h : ∀ a, (![(i : ℕ), 0, 0] : Fin 3 → ℕ) a + S1x1x1024.size a ≤ S3x1x1024.size a) (j : Fin 1024) :
    (View.ld (iblk m c 12 t : FVec Ideal S3x1x1024 .f32) (Rect.unit (s := S3x1x1024) ![(i : ℕ), 0, 0] S1x1x1024.size h) : FVec Ideal S1x1x1024 .f32) (ix3 0 0 j)
      = BG m c (ix2 i (jOf t j)) := by
  refine Eq.trans (congrArg (iblk m c 12 t) ?_) (blk_q m c t i j)
  funext a; apply Fin.ext; fin_cases a <;> simp

/-- The gated, normalised entry `l` of token `n` of batch `b`. -/
def row (b : Fin 4) (n : Fin 4096) (l : Fin 1024) : EReal :=
  mixed (fun k => OF m c (ix3 b n k) + OB m c (ix3 b n k)) (fun k => U m c (ix3 b n ⟨12288 + k, by omega⟩)) (fun k => GN m c (ix1 k)) l

/-- A tile's rows, from the blocks of its point. -/
theorem tile (t : Fin cfg0.N) (r : Fin 512) (l : Fin 1024) (f h : FVec Ideal S1x512x1024 .f32) (v : FVec Ideal S1x512x1024 .bf16) (g : FVec Ideal S1x256 .f32)
    (hf : f = iblk m c 2 t) (hh : h = iblk m c 3 t) (hv : v = X0_4 m c t) (hg : g = iblk m c 5 t) :
    mixed (fun k => f (ix3 0 r k) + h (ix3 0 r k)) (fun k => v (ix3 0 r k)) (fun k => g (ix2 0 k)) l = row m c (bOf t) (nOf t r) l := by
  subst hf hh hv hg
  simp only [blk_f, blk_h, blk_r, blk_g]
  rfl

/-- The first point of a tile leaves the tile's rows in the scratch buffer. -/
theorem scratch_first (t : Fin cfg0.N) (h : t.val % 2 = 0) (r : Fin 512) (l : Fin 1024) :
    (outsAt0 m c t.val t.isLt).2 (ix2 r l) = row m c (bOf t) (nOf t r) l := by
  rw [← tile m c t r l _ _ _ _ rfl rfl rfl rfl, outsAt0_A m c t h]
  frame_out
  canon_tiles x hx <;> idx_vars x <;> obtain rfl : r = x0 := Fin.ext hx0
  · rw [show l = ⟨768 + x1, by omega⟩ from Fin.ext hx1]
    exact head3 _ _ _ _ _ _
  · rw [show l = ⟨512 + x1, by omega⟩ from Fin.ext hx1]
    exact head2 _ _ _ _ _ _
  · rw [show l = ⟨256 + x1, by omega⟩ from Fin.ext hx1]
    exact head1 _ _ _ _ _ _
  · rw [show l = ⟨x1, by omega⟩ from Fin.ext hx1]
    exact head0 _ _ _ _ _ _

/-- At every point the scratch buffer holds the rows of its tile. -/
theorem scratch : ∀ (n : ℕ) (hn : n < cfg0.N) (r : Fin 512) (d : Fin 1024),
    (outsAt0 m c n hn).2 (ix2 r d) = row m c (bOf ⟨n, hn⟩) (nOf ⟨n, hn⟩ r) d := by
  intro n
  induction n with
  | zero => exact fun hn => scratch_first m c ⟨0, hn⟩ rfl
  | succ n ih =>
    intro hn r d
    by_cases h : (n + 1) % 2 = 0
    · exact scratch_first m c ⟨n + 1, hn⟩ h r d
    · have e := outsAt0_B m c ⟨n + 1, hn⟩ h
      have eb : bOf ⟨n + 1, hn⟩ = bOf ⟨n, Nat.lt_of_succ_lt hn⟩ := Fin.ext (by simp only [bOf]; omega)
      have en : nOf ⟨n + 1, hn⟩ r = nOf ⟨n, Nat.lt_of_succ_lt hn⟩ r := Fin.ext (by simp only [nOf]; omega)
      rw [eb, en]
      exact (congrFun (congrArg (fun p => p.2) e) (ix2 r d)).trans (ih (Nat.lt_of_succ_lt hn) r d)

/-- The block that point `t` leaves. -/
theorem point (t : Fin cfg0.N) (y : S1x512x1024.Idx) :
    (outsAt0 m c t.val t.isLt).1 y = Cert.MergeRefIdeal.Out.REF (HA m c) (HB m c) (OF m c) (OB m c) (U m c) (GN m c) (WA m c) (WB m c) (WC m c) (BG m c)
      (ix3 (bOf t) (nOf t (y 1)) (jOf t (y 2))) := by
  idx_vars y
  rw [show y0 = 0 from Subsingleton.elim _ _]
  refine Eq.trans ?_ (Cert.MergeRefIdeal.Out.ref_at (HA m c) (HB m c) (OF m c) (OB m c) (U m c) (GN m c) (WA m c) (WB m c) (WC m c) (BG m c) (bOf t) (nOf t y1) (jOf t y2)).symm
  have key : ∀ (v : FVec Ideal S512x1024 .bf16) (qa qb qc : FVec Ideal S1x1x1024 .f32), v = (outsAt0 m c t.val t.isLt).2 →
      qa (ix3 0 0 y2) = BG m c (ix2 0 (jOf t y2)) → qb (ix3 0 0 y2) = BG m c (ix2 1 (jOf t y2)) → qc (ix3 0 0 y2) = BG m c (ix2 2 (jOf t y2)) →
      k0_pay1 (F := Ideal) (k0_pay15 v (k0_pay13 (iblk m c 0 t) (iblk m c 9 t) (X0_6 m c t) qa) (k0_pay14 (iblk m c 1 t) (iblk m c 10 t)) (X0_7 m c t) qb (iblk m c 11 t) (X0_8 m c t) qc) (ix3 0 y1 y2)
      = sigmoid (U m c (ix3 (bOf t) (nOf t y1) ⟨jOf t y2, by omega⟩) + BG m c (ix2 0 (jOf t y2))) * ∑ k : Fin 1024, HA m c (ix3 (bOf t) (nOf t y1) k) * WA m c (ix3 0 k (jOf t y2))
        + sigmoid (U m c (ix3 (bOf t) (nOf t y1) ⟨2048 + jOf t y2, by omega⟩) + BG m c (ix2 1 (jOf t y2))) * ∑ k : Fin 1024, HB m c (ix3 (bOf t) (nOf t y1) k) * WB m c (ix3 0 k (jOf t y2))
        + sigmoid (U m c (ix3 (bOf t) (nOf t y1) ⟨4096 + jOf t y2, by omega⟩) + BG m c (ix2 2 (jOf t y2))) * ∑ k : Fin 1024, row m c (bOf t) (nOf t y1) k * WC m c (ix3 0 k (jOf t y2)) := by
    rintro v qa qb qc rfl ha hb hc
    refine (body_at _ _ _ _ _ _ _ _ _ _ _ _ y1 y2).trans ?_
    simp only [scratch m c t.val t.isLt, blk_a, blk_b, blk_wa, blk_wb, blk_wc, blk_ua, blk_ub, blk_uc, ha, hb, hc]
  by_cases h : t.val % 2 = 0
  · rw [outsAt0_A m c t h]
    frame_out
    refine key _ _ _ _ ?_ (bias m c t 0 inb_S3x1x1024_S1x1x1024_0_0_0 y2) (bias m c t 1 inb_S3x1x1024_S1x1x1024_1_0_0 y2) (bias m c t 2 inb_S3x1x1024_S1x1x1024_2_0_0 y2)
    rw [outsAt0_A m c t h]
    rw [View.readCov_eq_canon']
    funext y
    frame_out
    exact congrArg (View.canon _) (by funext a; apply Fin.ext; fin_cases a <;> simp)
  · have e := outsAt0_B m c t h
    rw [e]
    frame_out
    refine key _ _ _ _ ?_ (bias m c t 0 inb_S3x1x1024_S1x1x1024_0_0_0 y2) (bias m c t 1 inb_S3x1x1024_S1x1x1024_1_0_0 y2) (bias m c t 2 inb_S3x1x1024_S1x1x1024_2_0_0 y2)
    rw [read_unread_whole]
    exact (congrArg (fun p => p.2) e).symm

/-- The result array after the run. -/
theorem final : (dats m 0 c).arrAt 13 cfg0.N = Cert.MergeRefIdeal.Out.REF (HA m c) (HB m c) (OF m c) (OB m c) (U m c) (GN m c) (WA m c) (WB m c) (WC m c) (BG m c) := by
  refine (dats m 0 c).arrAt_eq_of_covers 13 _ (by decide +kernel) fun t hf y => ?_
  blk_simp
  rw [after0_13]
  refine (point m c t y).trans (congrArg _ ?_)
  funext a; apply Fin.ext; fin_cases a <;> (blk_simp [idx t, bOf, nOf, jOf]; rfl)

end Cert.MergeIdeal.Out

end
-- ==== Proof.OutProj.lean ====
/- The projection of the merged branches: each entry of its result is the residual plus the gate times a
   whole contraction, for the kernel and for the reference. -/
module

public import proofs.«01_k».proof.Proof.Gen.OutProjIdeal.Value
public import proofs.«01_k».proof.Proof.Gen.OutProjRefIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjRefIdeal.Out

open Cert.OutProjRefIdeal Cert.OutProjRefIdeal.Gen Cert.OutProjRefIdeal.Value

/-- The reference as a function of its arguments. -/
def REF (a : FVec Ideal S4x4096x2048 .bf16) (x : FVec Ideal S4x4096x2048 .f32) (mod : FVec Ideal S16x12288 .f32) (w : FVec Ideal S2x2048x2048 .f32) :
    FVec Ideal S4x4096x2048 .f32 :=
  addf x (mulf (broadcastInDim S4x4096x2048 ![0, 1, 2] bcast_S4x1x2048_S4x4096x2048_0_1_2 (extractStridedSlice S4x1x2048 ![0, 0, 4096] (broadcastInDim S4x1x12288 ![0, 2] bcast_S4x12288_S4x1x12288_0_2 (extractStridedSlice S4x12288 ![0, 0] mod slices_S16x12288_S4x12288_0_0)) slices_S4x1x12288_S4x1x2048_0_0_4096))
    (Host.dotGeneral dot_S4x4096x2048_S2048x2048_S4x4096x2048_2_0_01_1_n_n none (extf .f32 a bitsLt_bf16_f32) (shapeCast _ (extractStridedSlice S1x2048x2048 ![0, 0, 0] w slices_S2x2048x2048_S1x2048x2048_0_0_0) shapeCasts_S1x2048x2048_S2048x2048)))

/-- The reference at an entry. -/
theorem ref_at (a : FVec Ideal S4x4096x2048 .bf16) (x : FVec Ideal S4x4096x2048 .f32) (mod : FVec Ideal S16x12288 .f32) (w : FVec Ideal S2x2048x2048 .f32)
    (b : Fin 4) (n : Fin 4096) (j : Fin 2048) :
    REF a x mod w (ix3 b n j) = x (ix3 b n j) + mod (ix2 ⟨b, by omega⟩ ⟨4096 + j, by omega⟩) * ∑ k : Fin 2048, a (ix3 b n k) * w (ix3 0 k j) := by
  pointwise! [REF]

end Cert.OutProjRefIdeal.Out

namespace Cert.OutProjIdeal.Out

open Cert.OutProjIdeal Cert.OutProjIdeal.Gen Cert.OutProjIdeal.Value

/-- What the body stores, at an entry. -/
theorem body_at (a : FVec Ideal S1x512x2048 .bf16) (w : FVec Ideal S1x2048x2048 .bf16) (x : FVec Ideal S1x512x2048 .f32) (g : FVec Ideal S1x1x1x2048 .f32)
    (r : Fin 512) (j : Fin 2048) :
    k0_pay1 (F := Ideal) a w x g (ix3 0 r j) = x (ix3 0 r j) + g (ix4 0 0 0 j) * ∑ k : Fin 2048, a (ix3 0 r k) * w (ix3 0 k j) := by
  pointwise! [k0_pay1]

theorem idx : ∀ t : Fin cfg0.N, win0_0.index t = ![t.val / 8, t.val % 8, 0] ∧ win0_1.index t = ![0, 0, 0]
    ∧ win0_2.index t = ![t.val / 8, t.val % 8, 0] ∧ win0_3.index t = ![t.val / 8, 2, 0, 0]
    ∧ win0_4.index t = ![t.val / 8, t.val % 8, 0] :=
  (by decide +kernel : ∀ t : Fin grid0.N, _)

theorem lt (t : Fin cfg0.N) : t.val < 32 := lt_of_lt_of_eq t.isLt N_0

variable (m : (ℓ : Loc nD τ sig) → Buf (Elt Ideal) ℓ) (c : Dev nD)

/-- The arguments. -/
abbrev A : FVec Ideal S4x4096x2048 .bf16 := m ((c.tc : Thread nD τ).loc main_arg0)
abbrev X : FVec Ideal S4x4096x2048 .f32 := m ((c.tc : Thread nD τ).loc main_arg1)
abbrev M : FVec Ideal S16x12288 .f32 := m ((c.tc : Thread nD τ).loc main_arg2)
abbrev W : FVec Ideal S2x2048x2048 .f32 := m ((c.tc : Thread nD τ).loc main_arg3)

/-- The batch and row that an entry of point `t`'s block is. -/
def bOf (t : Fin cfg0.N) : Fin 4 := ⟨t.val / 8, by have := lt t; omega⟩
def nOf (t : Fin cfg0.N) (r : Fin 512) : Fin 4096 := ⟨t.val % 8 * 512 + r, by omega⟩

theorem blk_a (t : Fin cfg0.N) (r : Fin 512) (k : Fin 2048) :
    (iblk m c 0 t : FVec Ideal S1x512x2048 .bf16) (ix3 0 r k) = A m c (ix3 (bOf t) (nOf t r) k) := by
  blk_ext [iblk, Gen.V, idx t, bOf, nOf]

theorem blk_w (t : Fin cfg0.N) (k : Fin 2048) (j : Fin 2048) :
    (iblk m c 1 t : FVec Ideal S1x2048x2048 .bf16) (ix3 0 k j) = W m c (ix3 0 k j) := by
  blk_simp [iblk, idx t]
  entry_read
  pointwise
  blk_ext [idx t]

theorem blk_x (t : Fin cfg0.N) (r : Fin 512) (j : Fin 2048) :
    (iblk m c 2 t : FVec Ideal S1x512x2048 .f32) (ix3 0 r j) = X m c (ix3 (bOf t) (nOf t r) j) := by
  blk_ext [iblk, Gen.V, idx t, bOf, nOf]

theorem blk_g (t : Fin cfg0.N) (j : Fin 2048) :
    (iblk m c 3 t : FVec Ideal S1x1x1x2048 .f32) (ix4 0 0 0 j) = M m c (ix2 ⟨bOf t, by omega⟩ ⟨4096 + j, by omega⟩) := by
  blk_simp [iblk, idx t]
  entry_read
  pointwise
  blk_ext [idx t, bOf]

/-- The block that point `t` leaves. -/
theorem point (t : Fin cfg0.N) (y : S1x512x2048.Idx) :
    out0_4 (F := Ideal) (iblk m c 0 t) (iblk m c 1 t) (iblk m c 2 t) (iblk m c 3 t) y
      = Cert.OutProjRefIdeal.Out.REF (A m c) (X m c) (M m c) (W m c) (ix3 (bOf t) (nOf t (y 1)) (y 2)) := by
  idx_vars y
  rw [show y0 = 0 from Subsingleton.elim _ _]
  refine Eq.trans ?_ (Cert.OutProjRefIdeal.Out.ref_at (A m c) (X m c) (M m c) (W m c) (bOf t) (nOf t y1) y2).symm
  frame_out
  refine (body_at _ _ _ _ y1 y2).trans ?_
  simp only [blk_x, blk_g, blk_a, blk_w]

/-- The result array after the run. -/
theorem final : (dats m 0 c).arrAt 4 cfg0.N = Cert.OutProjRefIdeal.Out.REF (A m c) (X m c) (M m c) (W m c) := by
  refine (dats m 0 c).arrAt_eq_of_covers 4 _ (by decide +kernel) fun t hf y => ?_
  blk_simp
  rw [after0_4]
  refine (point m c t y).trans (congrArg _ ?_)
  funext a; apply Fin.ext; fin_cases a <;> (blk_simp [idx t, bOf, nOf]; rfl)

end Cert.OutProjIdeal.Out

end
-- ==== Proof.Conformer.lean ====
/- The conformer convolution: each entry of the reference and of the kernel's result as a depthwise convolution of width 31 over zero
   padded gated rows, layer normalised and activated. -/
module

public import proofs.«01_k».proof.Proof.Gen.ConformerIdeal.Value
public import proofs.«01_k».proof.Proof.Gen.ConformerRefIdeal.Run
public import Idealize.ShloMosaic.Lib.Pointwise
public import Idealize.ShloMosaic.Lib.KernelVsHost
public import Idealize.ShloMosaic.Lib.Pipeline.ValueKit
public import Idealize.ShloMosaic.Lib.Pipeline.ReadBack
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.ConformerIdeal.Out

/-- The product of a value and the gate's logistic function. -/
def glu (v g : EReal) : EReal := v * Ideal.div 1 (1 + Ideal.exp (-g))

/-- The product of a value and its own logistic function. -/
def act (x : EReal) : EReal := x * Ideal.div 1 (1 + Ideal.exp (-x))

/-- The mean of a row, and the row less its mean. -/
def centred (x : Fin 1024 → EReal) (d : Fin 1024) : EReal := x d - Ideal.div (∑ k, x k) (Ideal.ofBits .f32 0x44800000#32)

/-- Entry `d` of a row after the layer norm with gain `g` and shift `b`. -/
def lnorm (x g b : Fin 1024 → EReal) (d : Fin 1024) : EReal :=
  centred x d * Ideal.rsqrt (Ideal.div (∑ k, centred x k * centred x k) (Ideal.ofBits .f32 0x44800000#32) + Ideal.ofBits .f32 0x358637BD#32) * g d + b d

/-- The rows `f` with zeros around them: row `p` is row `p - 16` of `f`. -/
def padded (f : Fin 4096 → Fin 1024 → EReal) (p : ℕ) (d : Fin 1024) : EReal :=
  if h : 16 ≤ p ∧ p < 4112 then f ⟨p - 16, by omega⟩ d else 0

open Cert.ConformerIdeal Cert.ConformerIdeal.Gen

/-! ## The kernel's arithmetic at an entry -/

theorem pay5_at (v55 : FVec Ideal S1x1024 .f32) (v59 : FVec Ideal S1x1024 .f32) (v60 : FVec Ideal S256x1024 .f32) (v64 : FVec Ideal S1x1024 .f32) (v65 : FVec Ideal S256x1024 .f32) (r : Fin 256) (d : Fin 1024) :
    k0_pay5 (F := Ideal) v55 v59 v60 v64 v65 (ix2 r d) = 0 + v55 (ix2 0 d) + v59 (ix2 0 d) * v60 (ix2 r d) + v64 (ix2 0 d) * v65 (ix2 r d) := by
  pointwise [k0_pay5]

theorem pay8_at (v68 : FVec Ideal S256x1024 .f32) (v70 : FVec Ideal S256x1024 .f32) (v71 : FVec Ideal S256x1024 .f32) (v78 : FVec Ideal S1x1024 .f32) (v79 : FVec Ideal S256x1024 .f32) (v83 : FVec Ideal S1x1024 .f32) (v84 : FVec Ideal S256x1024 .f32) (v88 : FVec Ideal S1x1024 .f32) (v89 : FVec Ideal S256x1024 .f32) (v93 : FVec Ideal S1x1024 .f32) (v94 : FVec Ideal S256x1024 .f32) (r : Fin 256) (d : Fin 1024) :
    k0_pay8 (F := Ideal) v68 v70 v71 v78 v79 v83 v84 v88 v89 v93 v94 (ix2 r d) = v68 (ix2 r d) + v71 (ix2 r d) * v70 (ix2 r d) + v78 (ix2 0 d) * v79 (ix2 r d) + v83 (ix2 0 d) * v84 (ix2 r d) + v88 (ix2 0 d) * v89 (ix2 r d) + v93 (ix2 0 d) * v94 (ix2 r d) := by
  pointwise [k0_pay8]

theorem pay11_at (v97 : FVec Ideal S256x1024 .f32) (v102 : FVec Ideal S1x1024 .f32) (v103 : FVec Ideal S256x1024 .f32) (v107 : FVec Ideal S1x1024 .f32) (v108 : FVec Ideal S256x1024 .f32) (v112 : FVec Ideal S1x1024 .f32) (v113 : FVec Ideal S256x1024 .f32) (v117 : FVec Ideal S1x1024 .f32) (v118 : FVec Ideal S256x1024 .f32) (v126 : FVec Ideal S1x1024 .f32) (v127 : FVec Ideal S256x1024 .f32) (v131 : FVec Ideal S1x1024 .f32) (v132 : FVec Ideal S256x1024 .f32) (r : Fin 256) (d : Fin 1024) :
    k0_pay11 (F := Ideal) v97 v102 v103 v107 v108 v112 v113 v117 v118 v126 v127 v131 v132 (ix2 r d) = v97 (ix2 r d) + v102 (ix2 0 d) * v103 (ix2 r d) + v107 (ix2 0 d) * v108 (ix2 r d) + v112 (ix2 0 d) * v113 (ix2 r d) + v117 (ix2 0 d) * v118 (ix2 r d) + v126 (ix2 0 d) * v127 (ix2 r d) + v131 (ix2 0 d) * v132 (ix2 r d) := by
  pointwise [k0_pay11]

theorem pay13_at (v135 : FVec Ideal S256x1024 .f32) (v136 : FVec Ideal S1x1024 .f32) (v137 : FVec Ideal S256x1024 .f32) (v141 : FVec Ideal S1x1024 .f32) (v142 : FVec Ideal S256x1024 .f32) (v150 : FVec Ideal S1x1024 .f32) (v151 : FVec Ideal S256x1024 .f32) (v155 : FVec Ideal S1x1024 .f32) (v156 : FVec Ideal S256x1024 .f32) (v160 : FVec Ideal S1x1024 .f32) (v161 : FVec Ideal S256x1024 .f32) (r : Fin 256) (d : Fin 1024) :
    k0_pay13 (F := Ideal) v135 v136 v137 v141 v142 v150 v151 v155 v156 v160 v161 (ix2 r d) = v135 (ix2 r d) + v136 (ix2 0 d) * v137 (ix2 r d) + v141 (ix2 0 d) * v142 (ix2 r d) + v150 (ix2 0 d) * v151 (ix2 r d) + v155 (ix2 0 d) * v156 (ix2 r d) + v160 (ix2 0 d) * v161 (ix2 r d) := by
  pointwise [k0_pay13]

theorem pay16_at (v164 : FVec Ideal S256x1024 .f32) (v166 : FVec Ideal S256x1024 .f32) (v167 : FVec Ideal S256x1024 .f32) (v174 : FVec Ideal S1x1024 .f32) (v175 : FVec Ideal S256x1024 .f32) (v179 : FVec Ideal S1x1024 .f32) (v180 : FVec Ideal S256x1024 .f32) (v184 : FVec Ideal S1x1024 .f32) (v185 : FVec Ideal S256x1024 .f32) (v189 : FVec Ideal S1x1024 .f32) (v190 : FVec Ideal S256x1024 .f32) (r : Fin 256) (d : Fin 1024) :
    k0_pay16 (F := Ideal) v164 v166 v167 v174 v175 v179 v180 v184 v185 v189 v190 (ix2 r d) = v164 (ix2 r d) + v167 (ix2 r d) * v166 (ix2 r d) + v174 (ix2 0 d) * v175 (ix2 r d) + v179 (ix2 0 d) * v180 (ix2 r d) + v184 (ix2 0 d) * v185 (ix2 r d) + v189 (ix2 0 d) * v190 (ix2 r d) := by
  pointwise [k0_pay16]

theorem pay19_at (v193 : FVec Ideal S256x1024 .f32) (v198 : FVec Ideal S1x1024 .f32) (v199 : FVec Ideal S256x1024 .f32) (v203 : FVec Ideal S1x1024 .f32) (v204 : FVec Ideal S256x1024 .f32) (v208 : FVec Ideal S1x1024 .f32) (v209 : FVec Ideal S256x1024 .f32) (v213 : FVec Ideal S1x1024 .f32) (v214 : FVec Ideal S256x1024 .f32) (v222 : FVec Ideal S1x1024 .f32) (v223 : FVec Ideal S256x1024 .f32) (v227 : FVec Ideal S1x1024 .f32) (v228 : FVec Ideal S256x1024 .f32) (r : Fin 256) (d : Fin 1024) :
    k0_pay19 (F := Ideal) v193 v198 v199 v203 v204 v208 v209 v213 v214 v222 v223 v227 v228 (ix2 r d) = v193 (ix2 r d) + v198 (ix2 0 d) * v199 (ix2 r d) + v203 (ix2 0 d) * v204 (ix2 r d) + v208 (ix2 0 d) * v209 (ix2 r d) + v213 (ix2 0 d) * v214 (ix2 r d) + v222 (ix2 0 d) * v223 (ix2 r d) + v227 (ix2 0 d) * v228 (ix2 r d) := by
  pointwise [k0_pay19]

theorem pay20_at (v231 : FVec Ideal S256x1024 .f32) (v232 : FVec Ideal S1x1024 .f32) (v233 : FVec Ideal S256x1024 .f32) (v237 : FVec Ideal S1x1024 .f32) (v238 : FVec Ideal S256x1024 .f32) (v258 : FVec Ideal S1x1024 .f32) (v262 : FVec Ideal S1x1024 .f32) (r : Fin 256) (j : Fin 1024) :
    k0_pay20 (F := Ideal) v231 v232 v233 v237 v238 v258 v262 (ix2 r j) = lnorm (fun d => v231 (ix2 r d) + v232 (ix2 0 d) * v233 (ix2 r d) + v237 (ix2 0 d) * v238 (ix2 r d)) (fun d => v258 (ix2 0 d)) (fun d => v262 (ix2 0 d)) j := by
  pointwise [k0_pay20, lnorm]
  rfl

theorem pay1_at (v231 : FVec Ideal S256x1024 .f32) (v232 : FVec Ideal S1x1024 .f32) (v233 : FVec Ideal S256x1024 .f32) (v237 : FVec Ideal S1x1024 .f32) (v238 : FVec Ideal S256x1024 .f32) (v258 : FVec Ideal S1x1024 .f32) (v262 : FVec Ideal S1x1024 .f32) (r : Fin 256) (j : Fin 1024) :
    k0_pay1 (F := Ideal) (k0_pay20 v231 v232 v233 v237 v238 v258 v262) (k0_pay21 v231 v232 v233 v237 v238 v258 v262) (ix3 0 r j) = act (k0_pay20 (F := Ideal) v231 v232 v233 v237 v238 v258 v262 (ix2 r j)) := by
  unfold k0_pay1 k0_pay21
  dsimp only
  generalize k0_pay20 (F := Ideal) v231 v232 v233 v237 v238 v258 v262 = y
  pointwise [act]
  simp only [zero_sub]

/-- A tile's own rows, gated. -/
theorem main_at (x : FVec Ideal S1x256x2048 .bf16) (r : Fin 256) (d : Fin 1024) :
    k0_pay3 (F := Ideal) x (ix2 r d) = glu (x (ix3 0 r ⟨d, by omega⟩)) (x (ix3 0 r ⟨1024 + d, by omega⟩)) := by
  pointwise! [k0_pay3, glu]
  simp only [zero_sub]

/-- The sixteen rows before a tile, zero at the first. -/
theorem before_at (i : grid0.Coords) (x : FVec Ideal S1x16x2048 .bf16) (r : Fin 16) (d : Fin 1024) :
    k0_pay2 (F := Ideal) i x (ix2 r d) = if Scalar.cmpi .sgt (BitVec.ofNat 32 (i 1).val) 0#32 = 1#1 then glu (x (ix3 0 r ⟨d, by omega⟩)) (x (ix3 0 r ⟨1024 + d, by omega⟩)) else 0 := by
  have e : k0_pay2 (F := Ideal) i x (ix2 r d) = Scalar.select (Scalar.cmpi .sgt (BitVec.ofNat 32 (i 1).val) 0#32) (glu (x (ix3 0 r ⟨d, by omega⟩)) (x (ix3 0 r ⟨1024 + d, by omega⟩))) 0 := by
    pointwise! [k0_pay2, glu]
    simp only [zero_sub]
  exact e

/-- The sixteen rows after a tile, zero at the last. -/
theorem after_at (i : BitVec 1) (x : FVec Ideal S1x16x2048 .bf16) (r : Fin 16) (d : Fin 1024) :
    k0_pay4 (F := Ideal) i x (ix2 r d) = if i = 1#1 then glu (x (ix3 0 r ⟨d, by omega⟩)) (x (ix3 0 r ⟨1024 + d, by omega⟩)) else 0 := by
  have e : k0_pay4 (F := Ideal) i x (ix2 r d) = Scalar.select i (glu (x (ix3 0 r ⟨d, by omega⟩)) (x (ix3 0 r ⟨1024 + d, by omega⟩))) 0 := by
    pointwise! [k0_pay4, glu]
    simp only [zero_sub]
  exact e

theorem pay6_at (v : FVec Ideal S1x1024 .f32) (r : Fin 256) (d : Fin 1024) : k0_pay6 (F := Ideal) v (ix2 r d) = v (ix2 0 d) := by
  pointwise [k0_pay6]
theorem pay14_at (v : FVec Ideal S1x1024 .f32) (r : Fin 256) (d : Fin 1024) : k0_pay14 (F := Ideal) v (ix2 r d) = v (ix2 0 d) := by
  pointwise [k0_pay14]

/-- The copies of the rows keep them as they are. -/
theorem pay7_eq (v : FVec Ideal S280x1024 .f32) : k0_pay7 (F := Ideal) v = v := by unfold k0_pay7; exact shapeCast_self _ _
theorem pay9_eq (v : FVec Ideal S280x1024 .f32) : k0_pay9 (F := Ideal) v = v := by unfold k0_pay9; exact shapeCast_self _ _
theorem pay10_eq (v : FVec Ideal S280x1024 .f32) : k0_pay10 (F := Ideal) v = v := by unfold k0_pay10; exact shapeCast_self _ _
theorem pay12_eq (v : FVec Ideal S280x1024 .f32) : k0_pay12 (F := Ideal) v = v := by unfold k0_pay12; exact shapeCast_self _ _
theorem pay15_eq (v : FVec Ideal S280x1024 .f32) : k0_pay15 (F := Ideal) v = v := by unfold k0_pay15; exact shapeCast_self _ _
theorem pay17_eq (v : FVec Ideal S280x1024 .f32) : k0_pay17 (F := Ideal) v = v := by unfold k0_pay17; exact shapeCast_self _ _
theorem pay18_eq (v : FVec Ideal S280x1024 .f32) : k0_pay18 (F := Ideal) v = v := by unfold k0_pay18; exact shapeCast_self _ _

/-! ## The scratch rows, read -/

/-- Rows `o` on of `H`. -/
def R (H : ℕ → Fin 1024 → EReal) (o : ℕ) : FVec Ideal S256x1024 .f32 := fun y => H (o + (y 0).val) (y 1)

theorem R_at (H : ℕ → Fin 1024 → EReal) (o : ℕ) (r : Fin 256) (d : Fin 1024) : R H o (ix2 r d) = H (o + r.val) d := rfl

/-- A read of the first scratch buffer. -/
theorem read_h (H : ℕ → Fin 1024 → EReal) (P : List (View.Piece (Elt Ideal) S288x1024 .f32)) (hP : ∀ (r : Fin 288) (d : Fin 1024), View.canon P (ix2 r d) = H r d)
    (o : ℕ) (inb : ∀ a, (![o, 0] : Fin 2 → ℕ) a + (![256, 1024] : Fin 2 → ℕ) a ≤ S288x1024.size a) :
    (View.whole cc0_scratch0).readCov P (Rect.unit (s := S288x1024) ![o, 0] ![256, 1024] inb).toLoadRect = R H o := by
  have ho : o + 256 ≤ 288 := inb 0
  rw [View.readCov_eq_canon']
  funext y
  idx_vars y
  refine Eq.trans (congrArg (View.canon P) ?_) (hP ⟨o + y0, by omega⟩ y1)
  funext a; apply Fin.ext; fin_cases a <;> simp

/-- A read of the second scratch buffer, which holds the first's rows `s` on. -/
theorem read_rot (H : ℕ → Fin 1024 → EReal) (P : List (View.Piece (Elt Ideal) S288x1024 .f32)) (hP : ∀ (r : Fin 288) (d : Fin 1024), View.canon P (ix2 r d) = H r d)
    (L : List (View.Piece (Elt Ideal) S280x1024 .f32)) (s o : ℕ) (inb0 : ∀ a, (![0, 0] : Fin 2 → ℕ) a + S280x1024.size a ≤ S280x1024.size a)
    (inb1 : ∀ a, (![s, 0] : Fin 2 → ℕ) a + (![280, 1024] : Fin 2 → ℕ) a ≤ S288x1024.size a)
    (inb2 : ∀ a, (![o, 0] : Fin 2 → ℕ) a + (![256, 1024] : Fin 2 → ℕ) a ≤ S280x1024.size a) :
    (View.whole cc0_scratch1).readCov (⟨Rect.unit (s := S280x1024) ![0, 0] ![280, 1024] inb0,
        (View.whole cc0_scratch0).readCov P (Rect.unit (s := S288x1024) ![s, 0] ![280, 1024] inb1).toLoadRect⟩ :: L)
      (Rect.unit (s := S280x1024) ![o, 0] ![256, 1024] inb2).toLoadRect = R H (s + o) := by
  have hs : s + 280 ≤ 288 := inb1 0
  have ho : o + 256 ≤ 280 := inb2 0
  rw [View.readCov_eq_canon', View.readCov_eq_canon']
  funext y
  idx_vars y
  have e : ((Rect.unit (s := S280x1024) ![o, 0] ![256, 1024] inb2).toLoadRect.idx (ix2 y0 y1) : S280x1024.Idx)
      = (Rect.unit (s := S280x1024) ![0, 0] ![280, 1024] inb0).emb (ix2 ⟨o + y0, by omega⟩ y1) := by
    funext a; apply Fin.ext; fin_cases a <;> simp
  rw [e, View.canon_cons_emb]
  refine Eq.trans (congrArg (View.canon P) ?_) ((hP ⟨s + (o + y0), by omega⟩ y1).trans (congrArg (fun n => H n y1) (Nat.add_assoc s o y0).symm))
  funext a; apply Fin.ext; fin_cases a <;> simp

theorem idx : ∀ t : Fin cfg0.N, win0_0.index t = ![t.val / 16, t.val % 16, 3] ∧ win0_1.index t = ![t.val / 16, t.val % 16 * 16 - 1, 3]
    ∧ win0_2.index t = ![t.val / 16, min (t.val % 16 * 16 + 16) 255, 3] ∧ win0_3.index t = ![0, 0]
    ∧ win0_4.index t = ![0, 0] ∧ win0_5.index t = ![0, 0] ∧ win0_6.index t = ![0, 0]
    ∧ win0_7.index t = ![t.val / 16, t.val % 16, 0] :=
  (by decide +kernel : ∀ t : Fin grid0.N, _)

/-- The tiles that have rows before them, and after them. -/
theorem hasBefore : ∀ t : Fin cfg0.N, Scalar.cmpi .sgt (BitVec.ofNat 32 (grid0.coords t 1).val) 0#32 = 1#1 ↔ 0 < t.val % 16 :=
  (by decide +kernel : ∀ t : Fin grid0.N, _)
theorem hasAfter : ∀ t : Fin cfg0.N, Scalar.cmpi .slt (BitVec.ofNat 32 (grid0.coords t 1).val) 15#32 = 1#1 ↔ t.val % 16 < 15 :=
  (by decide +kernel : ∀ t : Fin grid0.N, _)

theorem lt (t : Fin cfg0.N) : t.val < 64 := lt_of_lt_of_eq t.isLt N_0

variable (m : (ℓ : Loc nD τ sig) → Buf (Elt Ideal) ℓ) (c : Dev nD)

/-- The arguments. -/
abbrev U : FVec Ideal S4x4096x14592 .bf16 := m ((c.tc : Thread nD τ).loc main_arg0)
abbrev CW : FVec Ideal S31x1024 .f32 := m ((c.tc : Thread nD τ).loc main_arg1)
abbrev CB : FVec Ideal S1024 .f32 := m ((c.tc : Thread nD τ).loc main_arg2)
abbrev LG : FVec Ideal S1024 .f32 := m ((c.tc : Thread nD τ).loc main_arg3)
abbrev LB : FVec Ideal S1024 .f32 := m ((c.tc : Thread nD τ).loc main_arg4)

/-- The batch and row that an entry of point `t`'s block is. -/
def bOf (t : Fin cfg0.N) : Fin 4 := ⟨t.val / 16, by have := lt t; omega⟩
def nOf (t : Fin cfg0.N) (r : Fin 256) : Fin 4096 := ⟨t.val % 16 * 256 + r, by omega⟩

theorem blk_x (t : Fin cfg0.N) (r : Fin 256) (k : Fin 2048) :
    (X0_0 m c t : FVec Ideal S1x256x2048 .bf16) (ix3 0 r k) = U m c (ix3 (bOf t) (nOf t r) ⟨6144 + k, by omega⟩) := by
  unfold X0_0 Pipeline.Window.fill
  refine (dif_pos (moved0_0 t _)).trans ?_
  blk_ext [iblk, V, idx t, bOf, nOf]

theorem blk_p (t : Fin cfg0.N) (h : 0 < t.val % 16) (r : Fin 16) (k : Fin 2048) :
    (X0_1 m c t : FVec Ideal S1x16x2048 .bf16) (ix3 0 r k) = U m c (ix3 (bOf t) ⟨t.val % 16 * 256 + r - 16, by omega⟩ ⟨6144 + k, by omega⟩) := by
  unfold X0_1 Pipeline.Window.fill
  refine (dif_pos (moved0_1 t _)).trans ?_
  blk_ext [iblk, V, idx t, bOf]

theorem blk_n (t : Fin cfg0.N) (h : t.val % 16 < 15) (r : Fin 16) (k : Fin 2048) :
    (X0_2 m c t : FVec Ideal S1x16x2048 .bf16) (ix3 0 r k) = U m c (ix3 (bOf t) ⟨t.val % 16 * 256 + 256 + r, by omega⟩ ⟨6144 + k, by omega⟩) := by
  unfold X0_2 Pipeline.Window.fill
  refine (dif_pos (moved0_2 t _)).trans ?_
  blk_ext [iblk, V, idx t, bOf]

theorem blk_cw (t : Fin cfg0.N) (i : Fin 31) (k : Fin 1024) : (iblk m c 3 t : FVec Ideal S31x1024 .f32) (ix2 i k) = CW m c (ix2 i k) := by
  blk_ext [iblk, V, idx t]

theorem blk_cb (t : Fin cfg0.N) (k : Fin 1024) : (iblk m c 4 t : FVec Ideal S1x1024 .f32) (ix2 0 k) = CB m c (ix1 k) := by
  blk_simp [iblk, idx t]
  entry_read
  pointwise
  blk_ext [idx t]

theorem blk_lg (t : Fin cfg0.N) (k : Fin 1024) : (iblk m c 5 t : FVec Ideal S1x1024 .f32) (ix2 0 k) = LG m c (ix1 k) := by
  blk_simp [iblk, idx t]
  entry_read
  pointwise
  blk_ext [idx t]

theorem blk_lb (t : Fin cfg0.N) (k : Fin 1024) : (iblk m c 6 t : FVec Ideal S1x1024 .f32) (ix2 0 k) = LB m c (ix1 k) := by
  blk_simp [iblk, idx t]
  entry_read
  pointwise
  blk_ext [idx t]

/-- Entry `d` of token `n` of batch `b`, gated. -/
def row (b : Fin 4) (n : Fin 4096) (d : Fin 1024) : EReal :=
  glu (U m c (ix3 b n ⟨6144 + d, by omega⟩)) (U m c (ix3 b n ⟨6144 + (1024 + d), by omega⟩))

/-- Row `r` of the first scratch buffer at point `t`. -/
def srow (t : Fin cfg0.N) (r : ℕ) (d : Fin 1024) : EReal := padded (row m c (bOf t)) (t.val % 16 * 256 + r) d

/-- The stores into the first scratch buffer. -/
abbrev pieces (t : Fin cfg0.N) : List (View.Piece (Elt Ideal) S288x1024 .f32) :=
  [⟨Rect.unit (s := S288x1024) ![272, 0] ![16, 1024] inb_S288x1024_S16x1024_272_0, k0_pay4 (Scalar.cmpi .slt (BitVec.ofNat 32 (grid0.coords t 1).val) 15#32) (X0_2 m c t)⟩,
   ⟨Rect.unit (s := S288x1024) ![16, 0] ![256, 1024] inb_S288x1024_S256x1024_16_0, k0_pay3 (X0_0 m c t)⟩,
   ⟨Rect.unit (s := S288x1024) ![0, 0] ![16, 1024] inb_S288x1024_S16x1024_0_0, k0_pay2 (grid0.coords t) (X0_1 m c t)⟩]

/-- The entries of the rows that a store writes. -/
theorem holds (o n : ℕ) (inb : ∀ a, (![o, 0] : Fin 2 → ℕ) a + (![n, 1024] : Fin 2 → ℕ) a ≤ S288x1024.size a) (r : Fin 288) (d : Fin 1024) (h0 : o ≤ r.val) (h1 : r.val < o + n) :
    (ix2 r d : S288x1024.Idx) ∈ (Rect.unit (s := S288x1024) ![o, 0] ![n, 1024] inb).set := by
  rw [Rect.mem_set_unit]
  intro a
  fin_cases a
  · exact ⟨h0, h1⟩
  · exact ⟨Nat.zero_le _, lt_of_lt_of_eq d.isLt (Nat.zero_add _).symm⟩

/-- They leave the tile's gated rows there, with the sixteen before and the sixteen after. -/
theorem scratch (t : Fin cfg0.N) (r : Fin 288) (d : Fin 1024) : View.canon (pieces m c t) (ix2 r d) = srow m c t r d := by
  have hcover : ∃ p ∈ pieces m c t, (ix2 r d : S288x1024.Idx) ∈ p.fst.set := by
    by_cases h1 : r.val < 16
    · exact ⟨_, List.mem_cons_of_mem _ (List.mem_cons_of_mem _ List.mem_cons_self), holds 0 16 inb_S288x1024_S16x1024_0_0 r d (by omega) (by omega)⟩
    · by_cases h2 : r.val < 272
      · exact ⟨_, List.mem_cons_of_mem _ List.mem_cons_self, holds 16 256 inb_S288x1024_S256x1024_16_0 r d (by omega) (by omega)⟩
      · exact ⟨_, List.mem_cons_self, holds 272 16 inb_S288x1024_S16x1024_272_0 r d (by omega) (by omega)⟩
  unfold pieces at hcover ⊢
  canon_tiles x hx using hcover <;> idx_vars x <;> obtain rfl : d = x1 := Fin.ext hx1
  · refine (after_at _ _ x0 d).trans ?_
    unfold srow padded row
    by_cases hi : t.val % 16 < 15
    · rw [if_pos ((hasAfter t).mpr hi), dif_pos (by omega), blk_n m c t hi, blk_n m c t hi]
      simp only [show (⟨t.val % 16 * 256 + r.val - 16, by omega⟩ : Fin 4096) = ⟨t.val % 16 * 256 + 256 + x0, by omega⟩ from Fin.ext (by simp only; omega)]
    · rw [if_neg fun e => hi ((hasAfter t).mp e), dif_neg (by omega)]
  · refine (main_at _ x0 d).trans ?_
    unfold srow padded row
    rw [dif_pos (by omega), blk_x, blk_x]
    simp only [show (⟨t.val % 16 * 256 + r.val - 16, by omega⟩ : Fin 4096) = nOf t x0 from Fin.ext (by simp only [nOf]; omega)]
  · refine (before_at _ _ x0 d).trans ?_
    unfold srow padded row
    by_cases hi : 0 < t.val % 16
    · rw [if_pos ((hasBefore t).mpr hi), dif_pos (by omega), blk_p m c t hi, blk_p m c t hi]
      simp only [show (⟨t.val % 16 * 256 + r.val - 16, by omega⟩ : Fin 4096) = ⟨t.val % 16 * 256 + x0 - 16, by omega⟩ from Fin.ext (by simp only; omega)]
    · rw [if_neg fun e => hi ((hasBefore t).mp e), dif_neg (by omega)]

/-- The products added in the order in which the kernel takes them. -/
theorem reorder (b : EReal) (T : ℕ → EReal) :
    0 + b + T 7 + T 15 + T 23 + T 0 + T 8 + T 16 + T 24 + T 1 + T 9 + T 17 + T 25 + T 2 + T 10 + T 18 + T 26 + T 3 + T 11 + T 19 + T 27 + T 4 + T 12 + T 20 + T 28 + T 5 + T 13 + T 21 + T 29 + T 6 + T 14 + T 22 + T 30
      = (∑ k ∈ Finset.range 31, T k) + b := by
  simp only [Finset.sum_range_succ, Finset.sum_range_zero, zero_add]
  ac_rfl

/-- A row of the convolution's weights, loaded. -/
theorem ld_row (x : FVec Ideal S31x1024 .f32) (k : ℕ) (inb : ∀ a, (![k, 0] : Fin 2 → ℕ) a + (![1, 1024] : Fin 2 → ℕ) a ≤ S31x1024.size a) (d : Fin 1024) :
    (View.ld (Val := Elt Ideal) (e' := .f32) x (Rect.unit (s := S31x1024) ![k, 0] ![1, 1024] inb) : FVec Ideal S1x1024 .f32) (ix2 0 d) = x (ix2 (Fin.ofNat 31 k) d) := by
  have hk : k + 1 ≤ 31 := inb 0
  refine congrArg x ?_
  funext a; apply Fin.ext; fin_cases a <;> simp [Nat.mod_eq_of_lt (show k < 31 by omega)]

/-- The depthwise convolution of width 31 over zero padded rows, with its bias. -/
def conv (f : Fin 4096 → Fin 1024 → EReal) (w : ℕ → Fin 1024 → EReal) (b : Fin 1024 → EReal) (n : ℕ) (d : Fin 1024) : EReal :=
  (∑ k ∈ Finset.range 31, w k d * padded f (n + (k + 1)) d) + b d

/-- The convolution as a function of its arguments. -/
def SPEC (u : FVec Ideal S4x4096x14592 .bf16) (w : FVec Ideal S31x1024 .f32) (b g h : FVec Ideal S1024 .f32) (y : S4x4096x1024.Idx) : EReal :=
  act (lnorm (conv (fun n d => glu (u (ix3 (y 0) n ⟨6144 + d, by omega⟩)) (u (ix3 (y 0) n ⟨6144 + (1024 + d), by omega⟩))) (fun k d => w (ix2 (Fin.ofNat 31 k) d)) (fun d => b (ix1 d)) (y 1).val)
    (fun d => g (ix1 d)) (fun d => h (ix1 d)) (y 2))

theorem R_srow (t : Fin cfg0.N) (o : ℕ) (r : Fin 256) (d : Fin 1024) : R (srow m c t) o (ix2 r d) = padded (row m c (bOf t)) ((nOf t r).val + o) d := by
  rw [R_at]
  unfold srow nOf
  rw [show t.val % 16 * 256 + (o + r.val) = t.val % 16 * 256 + r.val + o by omega]

/-- The block that point `t` leaves. -/
theorem point (t : Fin cfg0.N) (y : S1x256x1024.Idx) :
    (outsAt0 m c t : FVec Ideal S1x256x1024 .bf16) y = SPEC (U m c) (CW m c) (CB m c) (LG m c) (LB m c) (ix3 (bOf t) (nOf t (y 1)) (y 2)) := by
  idx_vars y
  rw [show y0 = 0 from Subsingleton.elim _ _]
  unfold outsAt0 out0_A_7
  dsimp only
  frame_out
  simp only [pay7_eq, pay9_eq, pay10_eq, pay12_eq, pay15_eq, pay17_eq, pay18_eq, read_rot (srow m c t) (pieces m c t) (scratch m c t),
    read_h (srow m c t) (pieces m c t) (scratch m c t)]
  refine (pay1_at _ _ _ _ _ _ _ y1 y2).trans (congrArg act ?_)
  refine (pay20_at _ _ _ _ _ _ _ y1 y2).trans ?_
  simp only [pay5_at, pay6_at, pay8_at, pay11_at, pay13_at, pay14_at, pay16_at, pay19_at, R_srow, ld_row, blk_cw, blk_cb, blk_lg, blk_lb, Nat.reduceAdd]
  refine congrArg (fun x => lnorm x _ _ _) (funext fun d => ?_)
  refine Eq.trans ?_ (reorder (CB m c (ix1 d)) (fun k => CW m c (ix2 (Fin.ofNat 31 k) d) * padded (row m c (bOf t)) ((nOf t y1).val + (k + 1)) d))
  simp only [Nat.reduceAdd]
  iterate 31 refine congrArg₂ HAdd.hAdd ?_ (congrArg₂ HMul.hMul ((ld_row _ _ _ d).trans (blk_cw m c t _ d)) rfl)
  rfl

/-- The result array after the run. -/
theorem final : (dats m 0 c).arrAt 7 cfg0.N = SPEC (U m c) (CW m c) (CB m c) (LG m c) (LB m c) := by
  refine (dats m 0 c).arrAt_eq_of_covers 7 _ (by decide +kernel) fun t hf y => ?_
  blk_simp
  rw [after0_7]
  refine (point m c t y).trans (congrArg _ ?_)
  funext a; apply Fin.ext; fin_cases a <;> (blk_simp [idx t, bOf, nOf]; rfl)

end Cert.ConformerIdeal.Out

namespace Cert.ConformerRefIdeal.Out

open Cert.ConformerRefIdeal Cert.ConformerRefIdeal.Gen Cert.ConformerRefIdeal.Value
open Cert.ConformerIdeal.Out (glu act centred lnorm padded conv SPEC)

variable (V0 : Valuation τ sig (Elt Ideal))

/-- The arguments. -/
abbrev U : FVec Ideal S4x4096x14592 .bf16 := V0 (Proc.devRef .tc main_arg0)
abbrev CW : FVec Ideal S31x1024 .f32 := V0 (Proc.devRef .tc main_arg1)
abbrev CB : FVec Ideal S1024 .f32 := V0 (Proc.devRef .tc main_arg2)
abbrev LG : FVec Ideal S1024 .f32 := V0 (Proc.devRef .tc main_arg3)
abbrev LB : FVec Ideal S1024 .f32 := V0 (Proc.devRef .tc main_arg4)

/-- Entry `d` of token `n` of batch `b`, gated. -/
def row (b : Fin 4) (n : Fin 4096) (d : Fin 1024) : EReal :=
  glu (U V0 (ix3 b n ⟨6144 + d, by omega⟩)) (U V0 (ix3 b n ⟨6144 + (1024 + d), by omega⟩))

/-- The gated rows. -/
def gated (u : FVec Ideal S4x4096x2048 .f32) : FVec Ideal S4x4096x1024 .f32 :=
  mulf (extractStridedSlice S4x4096x1024 ![0, 0, 0] u slices_S4x4096x2048_S4x4096x1024_0_0_0) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 1024] u slices_S4x4096x2048_S4x4096x1024_0_0_1024)))))

theorem gated_at (u : FVec Ideal S4x4096x2048 .f32) (b : Fin 4) (n : Fin 4096) (d : Fin 1024) :
    gated u (ix3 b n d) = glu (u (ix3 b n ⟨d, by omega⟩)) (u (ix3 b n ⟨1024 + d, by omega⟩)) := by
  pointwise! [gated, glu]

theorem cols_at (b : Fin 4) (n : Fin 4096) (k : Fin 2048) : (res_main_v1 V0 : FVec Ideal S4x4096x2048 .f32) (ix3 b n k) = U V0 (ix3 b n ⟨6144 + k, by omega⟩) := by
  unfold res_main_v1 U
  generalize V0 (Proc.devRef .tc main_arg0) = u
  pointwise!

/-- A row of the padded gated rows, the rows outside being zero. -/
theorem pad_at (b : Fin 4) (q : Fin 4126) (d : Fin 1024) : (res_main_v11 V0 : FVec Ideal S4x4126x1024 .f32) (ix3 b q d) = padded (row V0 b) (q.val + 1) d := by
  show pad S4x4126x1024 ![0, 15, 0] ![0, 15, 0] ![0, 0, 0] (gated (res_main_v1 V0)) (sitofp (F := Ideal) .f32 (constantI S_ 32 0#32)) pads_S4x4096x1024_S4x4126x1024_000_15150_000 h_S_ (ix3 b q d) = _
  unfold padded
  by_cases hq : 15 ≤ q.val ∧ q.val < 4111
  · rw [dif_pos (by omega)]
    refine (pad_apply_of_inside _ _ _ _ _ _ _ _ (ix3 b ⟨q.val - 15, by omega⟩ d) fun a => ?_).trans ?_
    · fin_cases a <;> simp <;> omega
    · rw [gated_at, cols_at, cols_at]
      unfold row
      simp only [show (⟨q.val + 1 - 16, by omega⟩ : Fin 4096) = ⟨q.val - 15, by omega⟩ from Fin.ext (by simp only; omega)]
  · rw [dif_neg (by omega)]
    refine (pad_apply_of_not_inside _ _ _ _ _ _ _ _ 1 ?_).trans ?_
    · simp; omega
    · pointwise
      exact sitofp_zero

/-- The convolution at an entry. -/
theorem conv_at (b : Fin 4) (n : Fin 4096) (d : Fin 1024) :
    (res_main_v232 V0 : FVec Ideal S4x4096x1024 .f32) (ix3 b n d)
      = conv (row V0 b) (fun k d => CW V0 (ix2 (Fin.ofNat 31 k) d)) (fun d => CB V0 (ix1 d)) n.val d := by
  have hp : ∀ (k : ℕ) (h : k + n.val < 4126), (res_main_v11 V0 : FVec Ideal S4x4126x1024 .f32) (ix3 b ⟨k + n.val, h⟩ d) = padded (row V0 b) (n.val + (k + 1)) d := fun k h => by
    rw [pad_at]
    exact congrArg (fun p => padded (row V0 b) p d) (by simp only; omega)
  unfold conv res_main_v232 res_main_v166 res_main_v89 CW CB
  revert hp
  generalize row V0 b = f
  generalize res_main_v11 V0 = p
  generalize V0 (Proc.devRef .tc main_arg1) = w
  generalize V0 (Proc.devRef .tc main_arg2) = e
  intro hp
  simp only [Finset.sum_range_succ, Finset.sum_range_zero]
  pointwise
  refine congrArg₂ HAdd.hAdd ?_ rfl
  iterate 30 refine congrArg₂ HAdd.hAdd ?_ (congrArg₂ HMul.hMul rfl (hp _ _))
  exact congrArg₂ HMul.hMul rfl ((congrArg (fun q => p (ix3 b q d)) (Fin.ext (by simp))).trans (hp 0 (by omega)))

/-- A convolved row less its mean. -/
theorem centred_at (b : Fin 4) (n : Fin 4096) (d : Fin 1024) :
    (res_main_v238 V0 : FVec Ideal S4x4096x1024 .f32) (ix3 b n d) = centred (fun k => (res_main_v232 V0 : FVec Ideal S4x4096x1024 .f32) (ix3 b n k)) d := by
  unfold res_main_v238
  generalize res_main_v232 V0 = x
  pointwise! [centred]

/-- The layer norm's result, from the centred rows. -/
theorem scaled_at (b : Fin 4) (n : Fin 4096) (d : Fin 1024) :
    (res_main_v254 V0 : FVec Ideal S4x4096x1024 .f32) (ix3 b n d)
      = lnorm (fun k => (res_main_v232 V0 : FVec Ideal S4x4096x1024 .f32) (ix3 b n k)) (fun k => LG V0 (ix1 k)) (fun k => LB V0 (ix1 k)) d := by
  unfold lnorm
  simp only [← centred_at]
  unfold res_main_v254 LG LB
  generalize res_main_v238 V0 = x
  generalize V0 (Proc.devRef .tc main_arg3) = g
  generalize V0 (Proc.devRef .tc main_arg4) = h
  pointwise!

/-- The activation. -/
def refA (x : FVec Ideal S4x4096x1024 .f32) : FVec Ideal S4x4096x1024 .bf16 :=
  truncf .bf16 (mulf x (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf x))))) bitsLt_bf16_f32

theorem refA_at (x : FVec Ideal S4x4096x1024 .f32) (b : Fin 4) (n : Fin 4096) (d : Fin 1024) : refA x (ix3 b n d) = act (x (ix3 b n d)) := by
  pointwise! [refA, act]

/-- What the reference returns, of any contents. -/
theorem entries : refA (res_main_v254 V0) = SPEC (U V0) (CW V0) (CB V0) (LG V0) (LB V0) := by
  funext y
  idx_vars y
  refine (refA_at _ y0 y1 y2).trans (congrArg act ((scaled_at V0 y0 y1 y2).trans ?_))
  simp only [conv_at]
  rfl

/-- What the reference returns, of the arguments. -/
theorem res_eq (m : (ℓ : Loc nD τ sig) → Buf (Elt Ideal) ℓ) (c : Dev nD) : refA (res_main_v254 (StableHlo.launchContents m c))
    = SPEC (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := entries (StableHlo.launchContents m c)

end Cert.ConformerRefIdeal.Out

end
-- ==== Proof.Softmax.lean ====
/- Pure mathematics of one row of a base-2 softmax that is computed chunk by chunk with a running maximum, over
   the extended reals: what a chunk does to the row's maximum and to its sums, when every entry is a real. -/
module

public import Idealize.ShloMosaic.Lib.Pointwise

@[expose] public section

noncomputable section

namespace Att

open Idealize.ShloMosaic

/-- Two to a real power, as the real function. -/
abbrev p2 (x : ℝ) : ℝ := Real.rpow 2 x

theorem p2_pos (x : ℝ) : 0 < p2 x := Real.rpow_pos_of_pos (by norm_num) x

theorem p2_add (x y : ℝ) : p2 (x + y) = p2 x * p2 y := Real.rpow_add (by norm_num) x y

theorem exp2_coe (x : ℝ) : Ideal.exp2 (x : EReal) = ((p2 x : ℝ) : EReal) := rfl

/-- The bf16 pattern of minus infinity, at the idealized values. -/
theorem neg_inf_bf16 : Ideal.ofBits .bf16 0xFF80#16 = ⊥ := by simp [Ideal.ofBits, Ideal.ieee]

/-- The f32 pattern of minus infinity, at the idealized values. -/
theorem neg_inf_f32 : Ideal.ofBits .f32 0xFF800000#32 = ⊥ := by simp [Ideal.ofBits, Ideal.ieee]

/-- The f32 pattern of plus infinity, at the idealized values. -/
theorem pos_inf_f32 : Ideal.ofBits .f32 0x7F800000#32 = ⊤ := by simp [Ideal.ofBits, Ideal.ieee]

/-- A sum of reals, taken over the extended reals, is the real sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greatest of finitely many reals and of minus infinity is minus infinity or a real. -/
theorem fold_max_cases {ι : Type*} (s : Finset ι) (f : ι → ℝ) :
    s = ∅ ∨ ∃ M : ℝ, s.fold max (⊥ : EReal) (fun i => (f i : EReal)) = (M : EReal) := by
  classical
  induction s using Finset.induction_on with
  | empty => exact Or.inl rfl
  | insert a s ha ih =>
    refine Or.inr ?_
    rw [Finset.fold_insert ha]
    rcases ih with rfl | ⟨M, hM⟩
    · exact ⟨f a, by simp⟩
    · exact ⟨max (f a) M, by rw [hM]; exact (EReal.coe_strictMono.monotone.map_max).symm⟩

/-- The greatest of the reals of a nonempty row is a real. -/
theorem fold_max_real {n : ℕ} (hn : 0 < n) (f : Fin n → ℝ) :
    ∃ M : ℝ, Finset.univ.fold max (⊥ : EReal) (fun i => (f i : EReal)) = (M : EReal) := by
  rcases fold_max_cases Finset.univ f with h | h
  · exact absurd (h ▸ Finset.mem_univ (⟨0, hn⟩ : Fin n)) (Finset.notMem_empty _)
  · exact h

/-- A row's running state: its maximum is a real `M`, and each of its sums is `2^(-M)` times the sum `A j` taken
    without any shift. -/
def Row {n : ℕ} (m : EReal) (acc : Fin n → EReal) (A : Fin n → ℝ) : Prop :=
  ∃ M : ℝ, m = (M : EReal) ∧ ∀ j, acc j = ((p2 (-M) * A j : ℝ) : EReal)

/-- What the chunk of scores `s` with weights `x` adds to the unshifted sums. -/
def chunkSum {k : ℕ} (s : Fin k → ℝ) (x : Fin k → ℝ) : ℝ := ∑ l, p2 (s l) * x l

/-- A chunk's own shifted sum. -/
theorem chunk_part {k : ℕ} (M : ℝ) (s x : Fin k → ℝ) :
    ∑ l, Ideal.exp2 ((s l : EReal) - (M : EReal)) * (x l : EReal) = ((p2 (-M) * chunkSum s x : ℝ) : EReal) := by
  have h : ∀ l, Ideal.exp2 ((s l : EReal) - (M : EReal)) * (x l : EReal) = ((p2 (-M) * (p2 (s l) * x l) : ℝ) : EReal) := fun l => by
    rw [← EReal.coe_sub, exp2_coe, ← EReal.coe_mul, sub_eq_add_neg, p2_add]; congr 1; ring
  rw [Finset.sum_congr rfl fun l _ => h l, sum_coe, chunkSum, Finset.mul_sum]

/-- THE FIRST CHUNK: the row's state is the chunk's own maximum and shifted sums. -/
theorem Row.first {n k : ℕ} (hk : 0 < k) (s : Fin k → ℝ) (x : Fin k → Fin n → ℝ) (m : EReal) (acc : Fin n → EReal)
    (hm : m = Finset.univ.fold max (⊥ : EReal) (fun i => (s i : EReal)))
    (hacc : ∀ j, acc j = ∑ l, Ideal.exp2 ((s l : EReal) - m) * (x l j : EReal)) :
    Row m acc (fun j => chunkSum s fun l => x l j) := by
  obtain ⟨M, hM⟩ := fold_max_real hk s
  refine ⟨M, hm.trans hM, fun j => ?_⟩
  rw [hacc, hm, hM, chunk_part]

/-- A LATER CHUNK: the old sums are rescaled to the new maximum and the chunk's shifted sums are added. -/
theorem Row.next {n k : ℕ} (hk : 0 < k) (s : Fin k → ℝ) (x : Fin k → Fin n → ℝ) {m m' : EReal} {acc acc' : Fin n → EReal}
    {A : Fin n → ℝ} (h : Row m acc A)
    (hm : m' = max m (Finset.univ.fold max (⊥ : EReal) (fun i => (s i : EReal))))
    (hacc : ∀ j, acc' j = acc j * Ideal.exp2 (m - m') + ∑ l, Ideal.exp2 ((s l : EReal) - m') * (x l j : EReal)) :
    Row m' acc' (fun j => A j + chunkSum s fun l => x l j) := by
  obtain ⟨M, rfl, hA⟩ := h
  obtain ⟨C, hC⟩ := fold_max_real hk s
  have hm' : m' = ((max M C : ℝ) : EReal) := by rw [hm, hC]; exact (EReal.coe_strictMono.monotone.map_max).symm
  refine ⟨max M C, hm', fun j => ?_⟩
  rw [hacc, hm', chunk_part, hA, ← EReal.coe_sub, exp2_coe, ← EReal.coe_mul, ← EReal.coe_add, mul_add]
  congr 2
  rw [show -(max M C) = -M + (M - max M C) by ring, p2_add]; ring

/-- A quotient of two sums of a row does not see the shift. -/
theorem Row.quot {n : ℕ} {m : EReal} {acc : Fin n → EReal} {A : Fin n → ℝ} (h : Row m acc A) (j l : Fin n) (hl : 0 < A l) :
    Ideal.div (acc j) (acc l) = ((A j / A l : ℝ) : EReal) := by
  obtain ⟨M, rfl, hA⟩ := h
  have hp := p2_pos (-M)
  rw [hA j, hA l, Ideal.div_coe (mul_pos hp hl).ne', ← EReal.coe_mul]
  congr 1
  field_simp

/-! ### The softmax taken at once -/

/-- One weight of a softmax whose scores are reals: the shift by the maximum cancels. -/
theorem softmax_real {n : ℕ} (hn : 0 < n) (s : Fin n → ℝ) (M D : EReal)
    (hM : M = Finset.univ.fold max (⊥ : EReal) (fun i => (s i : EReal)))
    (hD : D = ∑ l, Ideal.exp ((s l : EReal) - M)) (k : Fin n) :
    Ideal.div (Ideal.exp ((s k : EReal) - M)) D = ((Real.exp (s k) / ∑ l, Real.exp (s l) : ℝ) : EReal) := by
  obtain ⟨R, hR⟩ := fold_max_real hn s
  have he : ∀ l, Ideal.exp ((s l : EReal) - M) = ((Real.exp (-R) * Real.exp (s l) : ℝ) : EReal) := fun l => by
    rw [hM, hR, ← EReal.coe_sub, Ideal.exp_coe, ← Real.exp_add, sub_eq_add_neg, add_comm]
  have hpos : 0 < ∑ l, Real.exp (s l) :=
    Finset.sum_pos (fun l _ => Real.exp_pos _) ⟨⟨0, hn⟩, Finset.mem_univ _⟩
  rw [hD, Finset.sum_congr rfl fun l _ => he l, sum_coe, he k, ← Finset.mul_sum,
    Ideal.div_coe (mul_pos (Real.exp_pos _) hpos).ne', ← EReal.coe_mul]
  congr 1
  have := (Real.exp_pos (-R)).ne'
  field_simp

/-- The exponential of `x · ln 2` is two to the `x`. -/
theorem exp_log_two (x : ℝ) : Real.exp (x * Real.log 2) = p2 x := by
  show _ = (2 : ℝ) ^ x
  rw [Real.rpow_def_of_pos (by norm_num), mul_comm]

/-- The difference of two weighted sums is the sum weighted by the difference. -/
theorem diff_weights {n : ℕ} (a b v : Fin n → ℝ) (da db lam : ℝ) :
    ∑ k, (a k / da - lam * (b k / db)) * v k = (∑ k, a k * v k) / da - lam * ((∑ k, b k * v k) / db) := by
  rw [Finset.sum_div, Finset.sum_div, Finset.mul_sum, ← Finset.sum_sub_distrib]
  exact Finset.sum_congr rfl fun k _ => by ring

/-! ### The layer's mathematics at an entry, over real queries, keys, values and scalar -/

/-- A row of the difference's norm and gain: the row over the root of its mean square, times the gain. -/
def normed (o : Fin 128 → EReal) (g : Fin 128 → EReal) (j : Fin 128) : EReal :=
  o j * Ideal.rsqrt (Ideal.div (∑ i, o i * o i) (Ideal.ofBits .f32 0x43000000#32) + Ideal.ofBits .f32 0x358637BD#32) * g j

/-- The softmax average of the values `V`, `VC` under base-2 scores `S`, `SC`: the quotient of the two unshifted sums. -/
def avg (S : Fin 4096 → ℝ) (SC : Fin 256 → ℝ) (V : Fin 4096 → ℝ) (VC : Fin 256 → ℝ) : ℝ :=
  (∑ k, p2 (S k) * V k + ∑ k, p2 (SC k) * VC k) / (∑ k, p2 (S k) + ∑ k, p2 (SC k))

theorem weights_pos (S : Fin 4096 → ℝ) (SC : Fin 256 → ℝ) : 0 < ∑ k, p2 (S k) + ∑ k, p2 (SC k) :=
  add_pos (Finset.sum_pos (fun k _ => p2_pos _) ⟨0, Finset.mem_univ _⟩) (Finset.sum_pos (fun k _ => p2_pos _) ⟨0, Finset.mem_univ _⟩)

/-- Lane `d` of component `s` of head `h`, among the 1024 lanes of queries and keys. -/
def comp (h : Fin 8) (s : Fin 2) (d : Fin 64) : Fin 1024 := ⟨h * 128 + s * 64 + d, by omega⟩

/-- Lane `i` of head `h`, among the 1024 lanes of the values. -/
def lane (h : Fin 8) (i : Fin 128) : Fin 1024 := ⟨h * 128 + i, by omega⟩

/-- The base-2 score of query `q` against key `k` in component `s` of head `h`. -/
def sc {n : ℕ} (Q : Fin 4 → Fin 4096 → Fin 1024 → ℝ) (K : Fin 4 → Fin n → Fin 1024 → ℝ) (b : Fin 4) (h : Fin 8) (s : Fin 2) (q : Fin 4096) (k : Fin n) : ℝ :=
  ∑ d : Fin 64, Q b q (comp h s d) * K b k (comp h s d)

/-- Component `s`'s attention of head `h`: the softmax average of the values over the latent and context keys. -/
def att (Q K : Fin 4 → Fin 4096 → Fin 1024 → ℝ) (V : Fin 4 → Fin 4096 → Fin 1024 → ℝ) (KC VC : Fin 4 → Fin 256 → Fin 1024 → ℝ)
    (b : Fin 4) (h : Fin 8) (s : Fin 2) (q : Fin 4096) (i : Fin 128) : ℝ :=
  avg (fun k => sc Q K b h s q k) (fun k => sc Q KC b h s q k) (fun k => V b k (lane h i)) (fun k => VC b k (lane h i))

/-- The differential attention's entry: the normed difference of the two components' averages. -/
def diffAtt (Q K : Fin 4 → Fin 4096 → Fin 1024 → ℝ) (V : Fin 4 → Fin 4096 → Fin 1024 → ℝ) (KC VC : Fin 4 → Fin 256 → Fin 1024 → ℝ)
    (lam : ℝ) (g : Fin 128 → EReal) (b : Fin 4) (h : Fin 8) (q : Fin 4096) (j : Fin 128) : EReal :=
  normed (fun i => ((att Q K V KC VC b h 0 q i - lam * att Q K V KC VC b h 1 q i : ℝ) : EReal)) g j

end Att

end
-- ==== Proof.Step.lean ====
/- The body of the attention call, one chunk of keys at a time: the row's scores against a chunk, the step of the
   running maximum and of the accumulator, each read at an entry. -/
module

public import proofs.«01_k».proof.Proof.Gen.KernelIdeal.Skeleton
public import proofs.«01_k».proof.Proof.Softmax

@[expose] public section

set_option maxRecDepth 16384

noncomputable section

namespace Cert.KernelIdeal.Att

open Idealize.ShloMosaic Idealize.ShloMosaic.TcCoe Idealize.SL.Sem
open Cert.KernelIdeal Cert.KernelIdeal.Gen
open _root_.Att

/-- The accumulator after a chunk of 512 keys: the old one rescaled to the new maximum, the chunk's weighted values added. -/
def stepA (qq : FVec Ideal S1024x128 .bf16) (m : FVec Ideal S1024x1 .f32) (acc : FVec Ideal S1024x256 .f32)
    (k : FVec Ideal S1x512x128 .bf16) (x : FVec Ideal S512x256 .bf16) : FVec Ideal S1024x256 .f32 :=
  addf (mulf acc (broadcastTo S1024x256 (exp2 (subf m (k0_pay13 qq m k))) broadcasts_S1024x1_S1024x256))
    (matmul dot_S1024x512_S512x256_S1024x256_1_0_0_1_n_n none
      (exp2 (subf (k0_pay12 qq k) (broadcastTo S1024x512 (truncf .bf16 (k0_pay13 qq m k) bitsLt_bf16_f32) broadcasts_S1024x1_S1024x512)))
      x (constant S1024x256 .f32 0x00000000#32))

/-- The context chunk's scores, its step of the maximum and of the accumulator (256 keys). -/
def scoreC (qq : FVec Ideal S1024x128 .bf16) (k : FVec Ideal S1x256x128 .bf16) : FVec Ideal S1024x256 .bf16 :=
  truncf .bf16 (matmul dot_S1024x128_S256x128_S1024x256_1_1_0_0_n_n none qq (shapeCast S256x128 k shapeCasts_S1x256x128_S256x128) (constant S1024x256 .f32 0x00000000#32)) bitsLt_bf16_f32

def maxC (qq : FVec Ideal S1024x128 .bf16) (m : FVec Ideal S1024x1 .f32) (k : FVec Ideal S1x256x128 .bf16) : FVec Ideal S1024x1 .f32 :=
  maximumf m (extf .f32 (shapeCast S1024x1 (multiReduction .maximumf [1] S1024 (scoreC qq k) 0xFF80#16 reduces_S1024x256_S1024 (.inr rfl) rfl) shapeCasts_S1024_S1024x1) bitsLt_bf16_f32)

def stepC (qq : FVec Ideal S1024x128 .bf16) (m : FVec Ideal S1024x1 .f32) (acc : FVec Ideal S1024x256 .f32)
    (k : FVec Ideal S1x256x128 .bf16) (x : FVec Ideal S256x256 .bf16) : FVec Ideal S1024x256 .f32 :=
  addf (mulf acc (broadcastTo S1024x256 (exp2 (subf m (maxC qq m k))) broadcasts_S1024x1_S1024x256))
    (matmul dot_S1024x256_S256x256_S1024x256_1_0_0_1_n_n none
      (exp2 (subf (scoreC qq k) (broadcastTo S1024x256 (truncf .bf16 (maxC qq m k) bitsLt_bf16_f32) broadcasts_S1024x1_S1024x256)))
      x (constant S1024x256 .f32 0x00000000#32))

/-- What the body makes of the last accumulator: the two quotients, their difference, its norm and gain. -/
def finish (acc : FVec Ideal S1024x256 .f32) (lam : FVec Ideal S1x1 .f32) (og : FVec Ideal S1x128 .f32) : FVec Ideal S512x128 .bf16 :=
  have v180 := shapeCast S1x1 lam shapeCasts_S1x1_S1x1
  have v184 := divf (extractStridedSlice S512x128 ![0, 0] acc slices_S1024x256_o0_0_S512x128) (broadcastTo S512x128 (extractStridedSlice S512x1 ![0, 128] acc slices_S1024x256_o0_128_S512x1) broadcasts_S512x1_S512x128)
  have v188 := divf (extractStridedSlice S512x128 ![512, 0] acc slices_S1024x256_o512_0_S512x128) (broadcastTo S512x128 (extractStridedSlice S512x1 ![512, 128] acc slices_S1024x256_o512_128_S512x1) broadcasts_S512x1_S512x128)
  have v191 := subf v184 (mulf (broadcastTo S512x128 v180 broadcasts_S1x1_S512x128) v188)
  have v194 := shapeCast S512x1 (multiReduction .add [1] S512 (mulf v191 v191) 0x00000000#32 reduces_S512x128_S512 (.inl rfl) rfl) shapeCasts_S512_S512x1
  have v196 := divf v194 (broadcast S512x1 (Scalar.ofBits .f32 0x43000000#32))
  have v199 := rsqrt (addf v196 (broadcast S512x1 (Scalar.ofBits .f32 0x358637BD#32)))
  have v201 := mulf v191 (broadcastTo S512x128 v199 broadcasts_S512x1_S512x128)
  have v205 := mulf v201 (broadcastTo S512x128 (shapeCast S1x128 og shapeCasts_S1x128_S1x128) broadcasts_S1x128_S512x128)
  truncf .bf16 v205 bitsLt_bf16_f32

/-- The last payload is the context chunk's step and then `finish`. -/
theorem pay30_eq (qq m acc k x lam og) :
    k0_pay30 (F := Ideal) qq m acc k x lam og = finish (stepC qq m acc k x) lam og := rfl

theorem pay14_eq (qq : FVec Ideal S1024x128 .bf16) (q : FVec Ideal S1x512x128 .bf16) (hq : qq = k0_pay6 q)
    (acc k0 k1 k2 x1 x2) :
    k0_pay14 (F := Ideal) qq (k0_pay8 q k0) acc (k0_pay10 q k1) (k0_pay11 q k0 k1) x1 k2 x2
      = stepA qq (k0_pay13 qq (k0_pay8 q k0) k1) (stepA qq (k0_pay8 q k0) acc k1 x1) k2 x2 := by subst hq; rfl

theorem pay20_eq (qq m acc k x k' x') :
    k0_pay20 (F := Ideal) qq m acc (k0_pay13 qq m k) (exp2 (subf (k0_pay12 qq k) (broadcastTo S1024x512 (truncf .bf16 (k0_pay13 qq m k) bitsLt_bf16_f32) broadcasts_S1024x1_S1024x512))) x k' x'
      = stepA qq (k0_pay13 qq m k) (stepA qq m acc k x) k' x' := rfl

theorem pay29_eq (qq m acc k5 x5 k6 x6 k7 x7) :
    k0_pay29 (F := Ideal) qq acc (k0_pay13 qq m k5)
        (matmul dot_S1024x512_S512x256_S1024x256_1_0_0_1_n_n none
          (exp2 (subf (k0_pay12 qq k5) (broadcastTo S1024x512 (truncf .bf16 (k0_pay13 qq m k5) bitsLt_bf16_f32) broadcasts_S1024x1_S1024x512)))
          x5 (constant S1024x256 .f32 0x00000000#32))
        (broadcastTo S1024x256 (exp2 (subf m (k0_pay13 qq m k5))) broadcasts_S1024x1_S1024x256) k6 x6 k7 x7
      = stepA qq (k0_pay13 qq (k0_pay13 qq m k5) k6) (stepA qq (k0_pay13 qq m k5) (stepA qq m acc k5 x5) k6 x6) k7 x7 := rfl

/-! ### The steps, read at an entry -/

/-- A score is the product of the query's row and the key's row. -/
theorem score_at (qq : FVec Ideal S1024x128 .bf16) (k : FVec Ideal S1x512x128 .bf16) (r : Fin 1024) (l : Fin 512) :
    k0_pay12 (F := Ideal) qq k (ix2 r l) = ∑ d : Fin 128, qq (ix2 r d) * k (ix3 0 l d) := by
  pointwise [k0_pay12]

theorem max_at (qq : FVec Ideal S1024x128 .bf16) (m : FVec Ideal S1024x1 .f32) (k : FVec Ideal S1x512x128 .bf16) (r : Fin 1024) :
    k0_pay13 (F := Ideal) qq m k (ix2 r 0)
      = max (m (ix2 r 0)) (Finset.univ.fold max (⊥ : EReal) fun l => k0_pay12 (F := Ideal) qq k (ix2 r l)) := by
  pointwise [k0_pay13, neg_inf_bf16]

theorem step_at (qq : FVec Ideal S1024x128 .bf16) (m : FVec Ideal S1024x1 .f32) (acc : FVec Ideal S1024x256 .f32)
    (k : FVec Ideal S1x512x128 .bf16) (x : FVec Ideal S512x256 .bf16) (r : Fin 1024) (j : Fin 256) :
    stepA qq m acc k x (ix2 r j) = acc (ix2 r j) * Ideal.exp2 (m (ix2 r 0) - k0_pay13 (F := Ideal) qq m k (ix2 r 0))
      + ∑ l : Fin 512, Ideal.exp2 (k0_pay12 (F := Ideal) qq k (ix2 r l) - k0_pay13 (F := Ideal) qq m k (ix2 r 0)) * x (ix2 l j) := by
  pointwise [stepA]
  rfl

theorem scoreC_at (qq : FVec Ideal S1024x128 .bf16) (k : FVec Ideal S1x256x128 .bf16) (r : Fin 1024) (l : Fin 256) :
    scoreC qq k (ix2 r l) = ∑ d : Fin 128, qq (ix2 r d) * k (ix3 0 l d) := by
  pointwise [scoreC]

theorem maxC_at (qq : FVec Ideal S1024x128 .bf16) (m : FVec Ideal S1024x1 .f32) (k : FVec Ideal S1x256x128 .bf16) (r : Fin 1024) :
    maxC qq m k (ix2 r 0) = max (m (ix2 r 0)) (Finset.univ.fold max (⊥ : EReal) fun l => scoreC qq k (ix2 r l)) := by
  pointwise [maxC, neg_inf_bf16]

theorem stepC_at (qq : FVec Ideal S1024x128 .bf16) (m : FVec Ideal S1024x1 .f32) (acc : FVec Ideal S1024x256 .f32)
    (k : FVec Ideal S1x256x128 .bf16) (x : FVec Ideal S256x256 .bf16) (r : Fin 1024) (j : Fin 256) :
    stepC qq m acc k x (ix2 r j) = acc (ix2 r j) * Ideal.exp2 (m (ix2 r 0) - maxC qq m k (ix2 r 0))
      + ∑ l : Fin 256, Ideal.exp2 (scoreC qq k (ix2 r l) - maxC qq m k (ix2 r 0)) * x (ix2 l j) := by
  pointwise [stepC]
  rfl

theorem max0_at (q : FVec Ideal S1x512x128 .bf16) (k : FVec Ideal S1x512x128 .bf16) (r : Fin 1024) :
    k0_pay8 (F := Ideal) q k (ix2 r 0)
      = Finset.univ.fold max (⊥ : EReal) fun l => k0_pay12 (F := Ideal) (k0_pay6 (F := Ideal) q) k (ix2 r l) := by
  have h : k0_pay7 (F := Ideal) q k = k0_pay12 (F := Ideal) (k0_pay6 (F := Ideal) q) k := rfl
  pointwise [k0_pay8, neg_inf_bf16, h]

theorem step0_at (q : FVec Ideal S1x512x128 .bf16) (k : FVec Ideal S1x512x128 .bf16) (x : FVec Ideal S512x256 .bf16) (r : Fin 1024) (j : Fin 256) :
    k0_pay9 (F := Ideal) q k x (ix2 r j)
      = ∑ l : Fin 512, Ideal.exp2 (k0_pay12 (F := Ideal) (k0_pay6 (F := Ideal) q) k (ix2 r l) - k0_pay8 (F := Ideal) q k (ix2 r 0)) * x (ix2 l j) := by
  have h : k0_pay7 (F := Ideal) q k = k0_pay12 (F := Ideal) (k0_pay6 (F := Ideal) q) k := rfl
  pointwise [k0_pay9, h]
  rfl

theorem lane_lt : ∀ d : Fin 128, IntOp.cmpi .slt (BitVec.ofNat 32 d) 64#32 = if (d : ℕ) < 64 then 1#1 else 0#1 := by decide

theorem lane_ge : ∀ d : Fin 128, IntOp.cmpi .sge (BitVec.ofNat 32 d) 64#32 = if (d : ℕ) < 64 then 0#1 else 1#1 := by decide

/-- The stacked queries: rows below 512 keep the first 64 lanes, the others the last 64. -/
theorem qq_lo (q : FVec Ideal S1x512x128 .bf16) (r : Fin 512) (d : Fin 128) :
    k0_pay6 (F := Ideal) q (ix2 ⟨r, by omega⟩ d) = if (d : ℕ) < 64 then q (ix3 0 r d) else 0 := by
  pointwise [k0_pay6]
  rw [lane_lt]
  by_cases h : (d : ℕ) < 64 <;> simp [h, Scalar.select]

theorem qq_hi (q : FVec Ideal S1x512x128 .bf16) (r : Fin 512) (d : Fin 128) :
    k0_pay6 (F := Ideal) q (ix2 ⟨512 + r, by omega⟩ d) = if (d : ℕ) < 64 then 0 else q (ix3 0 r d) := by
  pointwise [k0_pay6]
  rw [lane_ge]
  by_cases h : (d : ℕ) < 64 <;> simp [h, Scalar.select]

theorem finish_at (acc : FVec Ideal S1024x256 .f32) (lam : FVec Ideal S1x1 .f32) (og : FVec Ideal S1x128 .f32) (r : Fin 512) (j : Fin 128) :
    finish acc lam og (ix2 r j) = normed (fun i =>
        Ideal.div (acc (ix2 ⟨r, by omega⟩ ⟨i, by omega⟩)) (acc (ix2 ⟨r, by omega⟩ ⟨128, by omega⟩))
          - lam (ix2 0 0) * Ideal.div (acc (ix2 ⟨512 + r, by omega⟩ ⟨i, by omega⟩)) (acc (ix2 ⟨512 + r, by omega⟩ ⟨128, by omega⟩)))
      (fun i => og (ix2 0 i)) j := by
  pointwise [finish, normed]

end Cert.KernelIdeal.Att

end
-- ==== Proof.Body.lean ====
/- The body of the attention call as a whole: over queries, keys and values that are reals, its rows of sums after
   all nine chunks, and the entry it stores. -/
module

public import proofs.«01_k».proof.Proof.Step

@[expose] public section

set_option maxRecDepth 16384

noncomputable section

namespace Cert.KernelIdeal.Att

open Idealize.ShloMosaic Idealize.ShloMosaic.TcCoe Idealize.SL.Sem
open Cert.KernelIdeal Cert.KernelIdeal.Gen
open _root_.Att

/-- Every row of the running state: its maximum is a real and its sums are the shifted `A r j`. -/
def Rows (m : FVec Ideal S1024x1 .f32) (acc : FVec Ideal S1024x256 .f32) (A : Fin 1024 → Fin 256 → ℝ) : Prop :=
  ∀ r : Fin 1024, Row (m (ix2 r 0)) (fun j : Fin 256 => acc (ix2 r j)) (A r)

/-- The scores of a chunk of keys `K` against the queries `Q`. -/
def dotR {a b : ℕ} (Q : Fin a → Fin 128 → ℝ) (K : Fin b → Fin 128 → ℝ) (r : Fin a) (l : Fin b) : ℝ := ∑ d, Q r d * K l d

/-- What a chunk of keys `K` with values `X` adds to row `r`'s sum `j`. -/
def addR {b : ℕ} (Q : Fin 1024 → Fin 128 → ℝ) (K : Fin b → Fin 128 → ℝ) (X : Fin b → Fin 256 → ℝ) (r : Fin 1024) (j : Fin 256) : ℝ :=
  chunkSum (fun l => dotR Q K r l) fun l => X l j

theorem score_real (qq : FVec Ideal S1024x128 .bf16) (k : FVec Ideal S1x512x128 .bf16) (Q : Fin 1024 → Fin 128 → ℝ) (K : Fin 512 → Fin 128 → ℝ)
    (hq : ∀ r d, qq (ix2 r d) = (Q r d : EReal)) (hk : ∀ l d, k (ix3 0 l d) = (K l d : EReal)) (r : Fin 1024) (l : Fin 512) :
    k0_pay12 (F := Ideal) qq k (ix2 r l) = (dotR Q K r l : EReal) := by
  rw [score_at, dotR, ← sum_coe]
  exact Finset.sum_congr rfl fun d _ => by rw [hq, hk, EReal.coe_mul]

theorem scoreC_real (qq : FVec Ideal S1024x128 .bf16) (k : FVec Ideal S1x256x128 .bf16) (Q : Fin 1024 → Fin 128 → ℝ) (K : Fin 256 → Fin 128 → ℝ)
    (hq : ∀ r d, qq (ix2 r d) = (Q r d : EReal)) (hk : ∀ l d, k (ix3 0 l d) = (K l d : EReal)) (r : Fin 1024) (l : Fin 256) :
    scoreC qq k (ix2 r l) = (dotR Q K r l : EReal) := by
  rw [scoreC_at, dotR, ← sum_coe]
  exact Finset.sum_congr rfl fun d _ => by rw [hq, hk, EReal.coe_mul]

/-- The first chunk. -/
theorem rows_first (q : FVec Ideal S1x512x128 .bf16) (k : FVec Ideal S1x512x128 .bf16) (x : FVec Ideal S512x256 .bf16)
    (Q : Fin 1024 → Fin 128 → ℝ) (K : Fin 512 → Fin 128 → ℝ) (X : Fin 512 → Fin 256 → ℝ)
    (hq : ∀ r d, k0_pay6 (F := Ideal) q (ix2 r d) = (Q r d : EReal)) (hk : ∀ l d, k (ix3 0 l d) = (K l d : EReal))
    (hx : ∀ l j, x (ix2 l j) = (X l j : EReal)) :
    Rows (k0_pay8 (F := Ideal) q k) (k0_pay9 (F := Ideal) q k x) (addR Q K X) := fun r => by
  refine Row.first (by norm_num) (fun l => dotR Q K r l) X _ _ ?_ fun j => ?_
  · rw [max0_at]; simp only [score_real _ k Q K hq hk]
  · rw [step0_at]; simp only [score_real _ k Q K hq hk, hx]

/-- A later chunk. -/
theorem rows_next {qq : FVec Ideal S1024x128 .bf16} {m : FVec Ideal S1024x1 .f32} {acc : FVec Ideal S1024x256 .f32} {A : Fin 1024 → Fin 256 → ℝ}
    (k : FVec Ideal S1x512x128 .bf16) (x : FVec Ideal S512x256 .bf16)
    {Q : Fin 1024 → Fin 128 → ℝ} (K : Fin 512 → Fin 128 → ℝ) (X : Fin 512 → Fin 256 → ℝ)
    (hq : ∀ r d, qq (ix2 r d) = (Q r d : EReal)) (h : Rows m acc A) (hk : ∀ l d, k (ix3 0 l d) = (K l d : EReal))
    (hx : ∀ l j, x (ix2 l j) = (X l j : EReal)) :
    Rows (k0_pay13 (F := Ideal) qq m k) (stepA qq m acc k x) (fun r j => A r j + addR Q K X r j) := fun r => by
  refine Row.next (by norm_num) (fun l => dotR Q K r l) X (h r) ?_ fun j => ?_
  · rw [max_at]; simp only [score_real _ k Q K hq hk]
  · rw [step_at]; simp only [score_real _ k Q K hq hk, hx]

/-- The context chunk. -/
theorem rows_ctx {qq : FVec Ideal S1024x128 .bf16} {m : FVec Ideal S1024x1 .f32} {acc : FVec Ideal S1024x256 .f32} {A : Fin 1024 → Fin 256 → ℝ}
    (k : FVec Ideal S1x256x128 .bf16) (x : FVec Ideal S256x256 .bf16)
    {Q : Fin 1024 → Fin 128 → ℝ} (K : Fin 256 → Fin 128 → ℝ) (X : Fin 256 → Fin 256 → ℝ)
    (hq : ∀ r d, qq (ix2 r d) = (Q r d : EReal)) (h : Rows m acc A) (hk : ∀ l d, k (ix3 0 l d) = (K l d : EReal))
    (hx : ∀ l j, x (ix2 l j) = (X l j : EReal)) :
    Rows (maxC qq m k) (stepC qq m acc k x) (fun r j => A r j + addR Q K X r j) := fun r => by
  refine Row.next (by norm_num) (fun l => dotR Q K r l) X (h r) ?_ fun j => ?_
  · rw [maxC_at]; simp only [scoreC_real _ k Q K hq hk]
  · rw [stepC_at]; simp only [scoreC_real _ k Q K hq hk, hx]

/-- The accumulator after the nine chunks. -/
def accN (q : FVec Ideal S1x512x128 .bf16) (k0 k1 k2 k3 k4 k5 k6 k7 : FVec Ideal S1x512x128 .bf16)
    (x0 x1 x2 x3 x4 x5 x6 x7 : FVec Ideal S512x256 .bf16) (kc : FVec Ideal S1x256x128 .bf16) (xc : FVec Ideal S256x256 .bf16) :
    FVec Ideal S1024x256 .f32 :=
  let qq := k0_pay6 (F := Ideal) q
  let m0 := k0_pay8 (F := Ideal) q k0
  let a0 := k0_pay9 (F := Ideal) q k0 x0
  let m1 := k0_pay13 (F := Ideal) qq m0 k1
  let a1 := stepA qq m0 a0 k1 x1
  let m2 := k0_pay13 (F := Ideal) qq m1 k2
  let a2 := stepA qq m1 a1 k2 x2
  let m3 := k0_pay13 (F := Ideal) qq m2 k3
  let a3 := stepA qq m2 a2 k3 x3
  let m4 := k0_pay13 (F := Ideal) qq m3 k4
  let a4 := stepA qq m3 a3 k4 x4
  let m5 := k0_pay13 (F := Ideal) qq m4 k5
  let a5 := stepA qq m4 a4 k5 x5
  let m6 := k0_pay13 (F := Ideal) qq m5 k6
  let a6 := stepA qq m5 a5 k6 x6
  let m7 := k0_pay13 (F := Ideal) qq m6 k7
  let a7 := stepA qq m6 a6 k7 x7
  stepC qq m7 a7 kc xc

/-- The stored block, from the payloads of the body, is `finish` of the accumulator after the nine chunks. -/
theorem body_eq (q : FVec Ideal S1x512x128 .bf16) (k0 k1 k2 k3 k4 k5 k6 k7 : FVec Ideal S1x512x128 .bf16)
    (x0 x1 x2 x3 x4 x5 x6 x7 : FVec Ideal S512x256 .bf16) (kc : FVec Ideal S1x256x128 .bf16) (xc : FVec Ideal S256x256 .bf16)
    (lam : FVec Ideal S1x1 .f32) (og : FVec Ideal S1x128 .f32) :
    k0_pay1 (F := Ideal) (k0_pay30 (k0_pay6 q)
      (k0_pay28 (k0_pay6 q) (k0_pay22 (k0_pay6 q) (k0_pay16 (k0_pay6 q) (k0_pay11 q k0 k1) k2 k3) k4 k5) k6 k7)
      (k0_pay29 (k0_pay6 q)
        (k0_pay20 (k0_pay6 q) (k0_pay13 (k0_pay6 q) (k0_pay11 q k0 k1) k2)
          (k0_pay14 (k0_pay6 q) (k0_pay8 q k0) (k0_pay9 q k0 x0) (k0_pay10 q k1) (k0_pay11 q k0 k1) x1 k2 x2)
          (k0_pay16 (k0_pay6 q) (k0_pay11 q k0 k1) k2 k3) (k0_pay17 (k0_pay6 q) (k0_pay11 q k0 k1) k2 k3) x3 k4 x4)
        (k0_pay22 (k0_pay6 q) (k0_pay16 (k0_pay6 q) (k0_pay11 q k0 k1) k2 k3) k4 k5)
        (k0_pay23 (k0_pay6 q) (k0_pay16 (k0_pay6 q) (k0_pay11 q k0 k1) k2 k3) k4 k5 x5)
        (k0_pay24 (k0_pay6 q) (k0_pay16 (k0_pay6 q) (k0_pay11 q k0 k1) k2 k3) k4 k5) k6 x6 k7 x7)
      kc xc lam og)
    = k0_pay1 (F := Ideal) (finish (accN q k0 k1 k2 k3 k4 k5 k6 k7 x0 x1 x2 x3 x4 x5 x6 x7 kc xc) lam og) := rfl

/-- Chunk `c` of 512 rows of a table of 4096. -/
def part {β : Type} (c : ℕ) (hc : c < 8) (T : Fin 4096 → β) (l : Fin 512) : β := T ⟨c * 512 + l, by omega⟩

/-- After all nine chunks a row's sum is the sum over all keys. -/
def total (Q : Fin 1024 → Fin 128 → ℝ) (K : Fin 4096 → Fin 128 → ℝ) (X : Fin 4096 → Fin 256 → ℝ)
    (KC : Fin 256 → Fin 128 → ℝ) (XC : Fin 256 → Fin 256 → ℝ) (r : Fin 1024) (j : Fin 256) : ℝ :=
  ∑ k, p2 (dotR Q K r k) * X k j + ∑ k, p2 (dotR Q KC r k) * XC k j

theorem rows_total (q : FVec Ideal S1x512x128 .bf16) (k0 k1 k2 k3 k4 k5 k6 k7 : FVec Ideal S1x512x128 .bf16)
    (x0 x1 x2 x3 x4 x5 x6 x7 : FVec Ideal S512x256 .bf16) (kc : FVec Ideal S1x256x128 .bf16) (xc : FVec Ideal S256x256 .bf16)
    (Q : Fin 1024 → Fin 128 → ℝ) (K : Fin 4096 → Fin 128 → ℝ) (X : Fin 4096 → Fin 256 → ℝ) (KC : Fin 256 → Fin 128 → ℝ) (XC : Fin 256 → Fin 256 → ℝ)
    (hq : ∀ r d, k0_pay6 (F := Ideal) q (ix2 r d) = (Q r d : EReal))
    (h0 : ∀ l d, k0 (ix3 0 l d) = (part 0 (by norm_num) K l d : EReal)) (h1 : ∀ l d, k1 (ix3 0 l d) = (part 1 (by norm_num) K l d : EReal))
    (h2 : ∀ l d, k2 (ix3 0 l d) = (part 2 (by norm_num) K l d : EReal)) (h3 : ∀ l d, k3 (ix3 0 l d) = (part 3 (by norm_num) K l d : EReal))
    (h4 : ∀ l d, k4 (ix3 0 l d) = (part 4 (by norm_num) K l d : EReal)) (h5 : ∀ l d, k5 (ix3 0 l d) = (part 5 (by norm_num) K l d : EReal))
    (h6 : ∀ l d, k6 (ix3 0 l d) = (part 6 (by norm_num) K l d : EReal)) (h7 : ∀ l d, k7 (ix3 0 l d) = (part 7 (by norm_num) K l d : EReal))
    (g0 : ∀ l j, x0 (ix2 l j) = (part 0 (by norm_num) X l j : EReal)) (g1 : ∀ l j, x1 (ix2 l j) = (part 1 (by norm_num) X l j : EReal))
    (g2 : ∀ l j, x2 (ix2 l j) = (part 2 (by norm_num) X l j : EReal)) (g3 : ∀ l j, x3 (ix2 l j) = (part 3 (by norm_num) X l j : EReal))
    (g4 : ∀ l j, x4 (ix2 l j) = (part 4 (by norm_num) X l j : EReal)) (g5 : ∀ l j, x5 (ix2 l j) = (part 5 (by norm_num) X l j : EReal))
    (g6 : ∀ l j, x6 (ix2 l j) = (part 6 (by norm_num) X l j : EReal)) (g7 : ∀ l j, x7 (ix2 l j) = (part 7 (by norm_num) X l j : EReal))
    (hc : ∀ l d, kc (ix3 0 l d) = (KC l d : EReal)) (gc : ∀ l j, xc (ix2 l j) = (XC l j : EReal)) :
    ∃ m, Rows m (accN q k0 k1 k2 k3 k4 k5 k6 k7 x0 x1 x2 x3 x4 x5 x6 x7 kc xc) (total Q K X KC XC) := by
  have R0 := rows_first q k0 x0 Q _ _ hq h0 g0
  have R1 := rows_next k1 x1 _ _ hq R0 h1 g1
  have R2 := rows_next k2 x2 _ _ hq R1 h2 g2
  have R3 := rows_next k3 x3 _ _ hq R2 h3 g3
  have R4 := rows_next k4 x4 _ _ hq R3 h4 g4
  have R5 := rows_next k5 x5 _ _ hq R4 h5 g5
  have R6 := rows_next k6 x6 _ _ hq R5 h6 g6
  have R7 := rows_next k7 x7 _ _ hq R6 h7 g7
  have RC := rows_ctx kc xc _ _ hq R7 hc gc
  have e : ∃ m B, Rows m (accN q k0 k1 k2 k3 k4 k5 k6 k7 x0 x1 x2 x3 x4 x5 x6 x7 kc xc) B ∧ B = total Q K X KC XC := by
    refine ⟨_, _, RC, ?_⟩
    funext r j
    rw [total, Fin.sum_univ_tiles 8 512 rfl, Fin.sum_univ_eight]
    rfl
  obtain ⟨m, B, hB, rfl⟩ := e
  exact ⟨m, hB⟩

/-- The values with the lanes of ones beside them. -/
def withOnes {b : ℕ} (V : Fin b → Fin 128 → ℝ) (k : Fin b) (j : Fin 256) : ℝ := if h : (j : ℕ) < 128 then V k ⟨j, h⟩ else 1

/-- A row's quotient is the softmax average. -/
theorem quot_avg {m acc} {Q : Fin 1024 → Fin 128 → ℝ} {K : Fin 4096 → Fin 128 → ℝ} {V : Fin 4096 → Fin 128 → ℝ} {KC : Fin 256 → Fin 128 → ℝ} {VC : Fin 256 → Fin 128 → ℝ}
    (h : Rows m acc (total Q K (withOnes V) KC (withOnes VC))) (r : Fin 1024) (j : Fin 128) :
    Ideal.div (acc (ix2 r ⟨j, by omega⟩)) (acc (ix2 r ⟨128, by omega⟩))
      = (avg (fun k => dotR Q K r k) (fun k => dotR Q KC r k) (fun k => V k j) (fun k => VC k j) : EReal) := by
  have hn : ∀ j : Fin 128, total Q K (withOnes V) KC (withOnes VC) r ⟨j, by omega⟩
      = ∑ k, p2 (dotR Q K r k) * V k j + ∑ k, p2 (dotR Q KC r k) * VC k j := fun j => by
    simp only [total, withOnes, j.isLt, dite_true]
  have hd : total Q K (withOnes V) KC (withOnes VC) r ⟨128, by omega⟩ = ∑ k, p2 (dotR Q K r k) + ∑ k, p2 (dotR Q KC r k) := by
    simp [total, withOnes]
  have hp := weights_pos (fun k => dotR Q K r k) (fun k => dotR Q KC r k)
  rw [(h r).quot ⟨j, by omega⟩ ⟨128, by omega⟩ (by rw [hd]; exact hp), hn, hd]
  rfl

/-- THE STORED ENTRY, over real queries, keys, values and scalar: the normed difference of the two softmax averages. -/
theorem finish_real {m acc} {Q : Fin 1024 → Fin 128 → ℝ} {K : Fin 4096 → Fin 128 → ℝ} {V : Fin 4096 → Fin 128 → ℝ} {KC : Fin 256 → Fin 128 → ℝ} {VC : Fin 256 → Fin 128 → ℝ}
    (h : Rows m acc (total Q K (withOnes V) KC (withOnes VC))) (lam : FVec Ideal S1x1 .f32) (og : FVec Ideal S1x128 .f32) (lr : ℝ)
    (hl : lam (ix2 0 0) = (lr : EReal)) (r : Fin 512) (j : Fin 128) :
    k0_pay1 (F := Ideal) (finish acc lam og) (ix3 0 r j) = normed (fun i =>
      ((avg (fun k => dotR Q K ⟨r, by omega⟩ k) (fun k => dotR Q KC ⟨r, by omega⟩ k) (fun k => V k i) (fun k => VC k i)
        - lr * avg (fun k => dotR Q K ⟨512 + r, by omega⟩ k) (fun k => dotR Q KC ⟨512 + r, by omega⟩ k) (fun k => V k i) (fun k => VC k i) : ℝ) : EReal))
      (fun i => og (ix2 0 i)) j := by
  have e : k0_pay1 (F := Ideal) (finish acc lam og) (ix3 0 r j) = finish acc lam og (ix2 r j) := by pointwise [k0_pay1]
  rw [e, finish_at]
  congr 1
  funext i
  rw [quot_avg h ⟨r, by omega⟩ i, quot_avg h ⟨512 + r, by omega⟩ i, hl, ← EReal.coe_mul, ← EReal.coe_sub]

end Cert.KernelIdeal.Att

end
-- ==== Proof.Points.lean ====
/- The attention call point by point: what the windows' blocks and the two scratch buffers hold, and the block that
   each point leaves. -/
module

public import proofs.«01_k».proof.Proof.Gen.KernelIdeal.Value
public import proofs.«01_k».proof.Proof.Body
public import Idealize.ShloMosaic.Lib.Pipeline.ValueKit
public import Idealize.ShloMosaic.Lib.Pipeline.ReadBack

@[expose] public section

set_option maxRecDepth 16384

noncomputable section

namespace Cert.KernelIdeal.Att

open Idealize.ShloMosaic Idealize.ShloMosaic.TcCoe Idealize.SL.Sem
open Idealize.ShloMosaic.Pipeline (Dat)
open Cert.KernelIdeal Cert.KernelIdeal.Gen
open _root_.Att

variable (m : (ℓ : Loc nD τ sig) → Buf (Elt Ideal) ℓ)

/-- The blocks the windows stage at point `t` = (batch `t / 64`, head `t / 8 % 8`, query tile `t % 8`). -/
theorem idx : ∀ t : Fin cfg0.N, win0_0.index t = ![t.val / 64, t.val % 8, t.val / 8 % 8]
    ∧ win0_1.index t = ![t.val / 64, 0, t.val / 8 % 8] ∧ win0_2.index t = ![t.val / 64, 0, 80 + t.val / 8 % 8]
    ∧ win0_3.index t = ![t.val / 64, 0, t.val / 8 % 8] ∧ win0_4.index t = ![t.val / 64, 0, 80 + t.val / 8 % 8]
    ∧ win0_5.index t = ![0, 0] ∧ win0_6.index t = ![0, 0]
    ∧ win0_7.index t = ![t.val / 64, t.val % 8, t.val / 8 % 8] :=
  (by decide +kernel : ∀ t : Fin grid0.N, _)

/-- The batch, the head and the first query of point `t`. -/
def bOf (t : Fin cfg0.N) : Fin 4 := ⟨t.val / 64, by have := lt_of_lt_of_eq t.isLt (show cfg0.N = 256 from N_0); omega⟩
def hOf (t : Fin cfg0.N) : Fin 8 := ⟨t.val / 8 % 8, by omega⟩
def qOf (t : Fin cfg0.N) (r : Fin 512) : Fin 4096 := ⟨t.val % 8 * 512 + r, by omega⟩

/-- The arguments hold reals: the queries, the keys, the values' columns and the scalar. -/
structure Reals (c : Dev nD) (Q K V : Fin 4 → Fin 4096 → Fin 1024 → ℝ) (KC VC : Fin 4 → Fin 256 → Fin 1024 → ℝ) (lam : ℝ) : Prop where
  q : ∀ b n l, (m ((c.tc : Thread nD τ).loc main_arg0) : FVec Ideal S4x4096x1024 .bf16) (ix3 b n l) = (Q b n l : EReal)
  k : ∀ b n l, (m ((c.tc : Thread nD τ).loc main_arg1) : FVec Ideal S4x4096x1024 .bf16) (ix3 b n l) = (K b n l : EReal)
  v : ∀ b n (l : Fin 1024), (m ((c.tc : Thread nD τ).loc main_arg2) : FVec Ideal S4x4096x14592 .bf16) (ix3 b n ⟨10240 + l, by omega⟩) = (V b n l : EReal)
  kc : ∀ b n l, (m ((c.tc : Thread nD τ).loc main_arg3) : FVec Ideal S4x256x1024 .bf16) (ix3 b n l) = (KC b n l : EReal)
  vc : ∀ b n (l : Fin 1024), (m ((c.tc : Thread nD τ).loc main_arg4) : FVec Ideal S4x256x14592 .bf16) (ix3 b n ⟨10240 + l, by omega⟩) = (VC b n l : EReal)
  lam : ∀ i, (m ((c.tc : Thread nD τ).loc main_arg5) : FVec Ideal S_ .f32) i = (lam : EReal)

variable {m}
variable {c : Dev nD} {Q K V : Fin 4 → Fin 4096 → Fin 1024 → ℝ} {KC VC : Fin 4 → Fin 256 → Fin 1024 → ℝ} {lam : ℝ}

theorem blk_q (H : Reals m c Q K V KC VC lam) (t : Fin cfg0.N) (r : Fin 512) (d : Fin 128) :
    (iblk m c 0 t : FVec Ideal S1x512x128 .bf16) (ix3 0 r d) = (Q (bOf t) (qOf t r) (lane (hOf t) d) : EReal) := by
  rw [← H.q]
  blk_ext [iblk, Gen.V, idx t, bOf, hOf, qOf, lane]

theorem blk_k (H : Reals m c Q K V KC VC lam) (t : Fin cfg0.N) (k : Fin 4096) (d : Fin 128) :
    (iblk m c 1 t : FVec Ideal S1x4096x128 .bf16) (ix3 0 k d) = (K (bOf t) k (lane (hOf t) d) : EReal) := by
  rw [← H.k]
  blk_ext [iblk, Gen.V, idx t, bOf, hOf, qOf, lane]

theorem blk_v (H : Reals m c Q K V KC VC lam) (t : Fin cfg0.N) (k : Fin 4096) (d : Fin 128) :
    (iblk m c 2 t : FVec Ideal S1x4096x128 .bf16) (ix3 0 k d) = (V (bOf t) k (lane (hOf t) d) : EReal) := by
  rw [← H.v]
  blk_ext [iblk, Gen.V, idx t, bOf, hOf, qOf, lane]

theorem blk_kc (H : Reals m c Q K V KC VC lam) (t : Fin cfg0.N) (k : Fin 256) (d : Fin 128) :
    (iblk m c 3 t : FVec Ideal S1x256x128 .bf16) (ix3 0 k d) = (KC (bOf t) k (lane (hOf t) d) : EReal) := by
  rw [← H.kc]
  blk_ext [iblk, Gen.V, idx t, bOf, hOf, qOf, lane]

theorem blk_vc (H : Reals m c Q K V KC VC lam) (t : Fin cfg0.N) (k : Fin 256) (d : Fin 128) :
    (iblk m c 4 t : FVec Ideal S1x256x128 .bf16) (ix3 0 k d) = (VC (bOf t) k (lane (hOf t) d) : EReal) := by
  rw [← H.vc]
  blk_ext [iblk, Gen.V, idx t, bOf, hOf, qOf, lane]

theorem blk_lam (H : Reals m c Q K V KC VC lam) (t : Fin cfg0.N) (d : Fin 128) :
    (iblk m c 5 t : FVec Ideal S1x128 .f32) (ix2 0 d) = (lam : EReal) := by
  blk_simp [iblk, idx t]
  entry_read
  pointwise
  exact H.lam _

theorem blk_og (t : Fin cfg0.N) (d : Fin 128) :
    (iblk m c 6 t : FVec Ideal S1x128 .f32) (ix2 0 d) = (m ((c.tc : Thread nD τ).loc main_arg6) : FVec Ideal S128 .f32) (ix1 d) := by
  blk_simp [iblk, idx t]
  entry_read
  pointwise
  blk_ext [idx t]

/-! ### The scratch buffers: the head's values with lanes of ones beside them, from the head's first point on -/

/-- Storing the values and the ones side by side. -/
theorem scratch_first (H : Reals m c Q K V KC VC lam) (t : Fin cfg0.N) (h : t.val % 8 = 0) :
    (∀ (k : Fin 4096) (j : Fin 256), (outsAt0 m c t.val t.isLt).2.1 (ix2 k j) = (withOnes (fun k i => V (bOf t) k (lane (hOf t) i)) k j : EReal))
    ∧ ∀ (k : Fin 256) (j : Fin 256), (outsAt0 m c t.val t.isLt).2.2 (ix2 k j) = (withOnes (fun k i => VC (bOf t) k (lane (hOf t) i)) k j : EReal) := by
  constructor <;> intro k j <;> rw [outsAt0_A m c t h] <;> frame_out
  · canon_tiles x hx
    · change (j : ℕ) = 128 + (x 1 : ℕ) at hx1
      have hj : ¬ (j : ℕ) < 128 := by omega
      simp only [withOnes, hj, dite_false]
      pointwise [k0_pay3]
      exact EReal.coe_one.symm
    · change (k : ℕ) = (x 0 : ℕ) at hx0
      change (j : ℕ) = (x 1 : ℕ) at hx1
      have hj : (j : ℕ) < 128 := by omega
      simp only [withOnes, hj, dite_true]
      rw [← blk_v H t k ⟨j, hj⟩]
      pointwise [k0_pay2]
      blk_ext
  · canon_tiles x hx
    · change (j : ℕ) = 128 + (x 1 : ℕ) at hx1
      have hj : ¬ (j : ℕ) < 128 := by omega
      simp only [withOnes, hj, dite_false]
      pointwise [k0_pay5]
      exact EReal.coe_one.symm
    · change (k : ℕ) = (x 0 : ℕ) at hx0
      change (j : ℕ) = (x 1 : ℕ) at hx1
      have hj : (j : ℕ) < 128 := by omega
      simp only [withOnes, hj, dite_true]
      rw [← blk_vc H t k ⟨j, hj⟩]
      pointwise [k0_pay4]
      blk_ext

/-- At every point the scratch buffers hold the values of its batch and head. -/
theorem scratch (H : Reals m c Q K V KC VC lam) : ∀ (n : ℕ) (hn : n < cfg0.N),
    (∀ (k : Fin 4096) (j : Fin 256), (outsAt0 m c n hn).2.1 (ix2 k j) = (withOnes (fun k i => V (bOf ⟨n, hn⟩) k (lane (hOf ⟨n, hn⟩) i)) k j : EReal))
    ∧ ∀ (k : Fin 256) (j : Fin 256), (outsAt0 m c n hn).2.2 (ix2 k j) = (withOnes (fun k i => VC (bOf ⟨n, hn⟩) k (lane (hOf ⟨n, hn⟩) i)) k j : EReal) := by
  intro n
  induction n with
  | zero => exact fun hn => scratch_first H ⟨0, hn⟩ rfl
  | succ n ih =>
    intro hn
    by_cases h : (n + 1) % 8 = 0
    · exact scratch_first H ⟨n + 1, hn⟩ h
    · have e := outsAt0_B m c ⟨n + 1, hn⟩ h
      have eb : bOf ⟨n + 1, hn⟩ = bOf ⟨n, Nat.lt_of_succ_lt hn⟩ := Fin.ext (by simp only [bOf]; omega)
      have eh : hOf ⟨n + 1, hn⟩ = hOf ⟨n, Nat.lt_of_succ_lt hn⟩ := Fin.ext (by simp only [hOf]; omega)
      rw [eb, eh]
      obtain ⟨i1, i2⟩ := ih (Nat.lt_of_succ_lt hn)
      exact ⟨fun k j => (congrFun (congrArg (fun p => p.2.1) e) (ix2 k j)).trans (i1 k j), fun k j => (congrFun (congrArg (fun p => p.2.2) e) (ix2 k j)).trans (i2 k j)⟩

/-! ### The block a point leaves -/

/-- The doubled query tile: the first component's lanes above, the second's below. -/
def twice (q : Fin 512 → Fin 128 → ℝ) (r : Fin 1024) (d : Fin 128) : ℝ :=
  if h : (r : ℕ) < 512 then (if (d : ℕ) < 64 then q ⟨r, h⟩ d else 0) else (if (d : ℕ) < 64 then 0 else q ⟨r - 512, by omega⟩ d)

theorem qq_real_hi (H : Reals m c Q K V KC VC lam) (t : Fin cfg0.N) (s : Fin 512) (d : Fin 128) :
    k0_pay6 (F := Ideal) (iblk m c 0 t) (ix2 ⟨512 + s, by omega⟩ d)
      = (twice (fun r d => Q (bOf t) (qOf t r) (lane (hOf t) d)) ⟨512 + s, by omega⟩ d : EReal) := by
  rw [qq_hi, blk_q H]
  have h : ¬ (512 + (s : ℕ) < 512) := by omega
  have e : (⟨512 + (s : ℕ) - 512, by omega⟩ : Fin 512) = s := Fin.ext (by simp)
  simp only [twice, h, dite_false, e]
  split_ifs <;> rfl

theorem qq_real (H : Reals m c Q K V KC VC lam) (t : Fin cfg0.N) (r : Fin 1024) (d : Fin 128) :
    k0_pay6 (F := Ideal) (iblk m c 0 t) (ix2 r d) = (twice (fun r d => Q (bOf t) (qOf t r) (lane (hOf t) d)) r d : EReal) := by
  by_cases hr : (r : ℕ) < 512
  · rw [show r = ⟨(⟨r, hr⟩ : Fin 512), by omega⟩ from rfl, qq_lo, blk_q H]
    simp only [twice, hr, dite_true]
    split_ifs <;> rfl
  · have e : r = ⟨512 + (⟨r - 512, by omega⟩ : Fin 512), by simp only; omega⟩ := Fin.ext (show (r : ℕ) = 512 + (r - 512) by omega)
    rw [e]
    exact qq_real_hi H t _ d

theorem dot_lo {n : ℕ} (Q : Fin 4 → Fin 4096 → Fin 1024 → ℝ) (K : Fin 4 → Fin n → Fin 1024 → ℝ) (b : Fin 4) (h : Fin 8) (f : Fin 512 → Fin 4096) (r : Fin 512) (k : Fin n) :
    dotR (twice fun r d => Q b (f r) (lane h d)) (fun k d => K b k (lane h d)) ⟨r, by omega⟩ k = sc Q K b h 0 (f r) k := by
  have hr : (r : ℕ) < 512 := r.isLt
  rw [dotR, Fin.sum_univ_two_halves 64 64 rfl, sc]
  simp [twice, lane, comp]

theorem dot_hi {n : ℕ} (Q : Fin 4 → Fin 4096 → Fin 1024 → ℝ) (K : Fin 4 → Fin n → Fin 1024 → ℝ) (b : Fin 4) (h : Fin 8) (f : Fin 512 → Fin 4096) (r : Fin 512) (k : Fin n) :
    dotR (twice fun r d => Q b (f r) (lane h d)) (fun k d => K b k (lane h d)) ⟨512 + r, by omega⟩ k = sc Q K b h 1 (f r) k := by
  have hr : ¬ (512 + (r : ℕ) < 512) := by omega
  rw [dotR, Fin.sum_univ_two_halves 64 64 rfl, sc]
  simp [twice, lane, comp, add_assoc]

/-- The body at a point, over chunks that hold the keys and the values with ones. -/
theorem body_point (H : Reals m c Q K V KC VC lam) (t : Fin cfg0.N)
    (k0 k1 k2 k3 k4 k5 k6 k7 : FVec Ideal S1x512x128 .bf16) (x0 x1 x2 x3 x4 x5 x6 x7 : FVec Ideal S512x256 .bf16) (xc : FVec Ideal S256x256 .bf16)
    (l1 : FVec Ideal S1x1 .f32) (hl : l1 (ix2 0 0) = (lam : EReal))
    (hk : ∀ (l : Fin 512) (d : Fin 128), k0 (ix3 0 l d) = (iblk m c 1 t : FVec Ideal S1x4096x128 .bf16) (ix3 0 ⟨0 * 512 + l, by omega⟩ d)
      ∧ k1 (ix3 0 l d) = (iblk m c 1 t : FVec Ideal S1x4096x128 .bf16) (ix3 0 ⟨1 * 512 + l, by omega⟩ d)
      ∧ k2 (ix3 0 l d) = (iblk m c 1 t : FVec Ideal S1x4096x128 .bf16) (ix3 0 ⟨2 * 512 + l, by omega⟩ d)
      ∧ k3 (ix3 0 l d) = (iblk m c 1 t : FVec Ideal S1x4096x128 .bf16) (ix3 0 ⟨3 * 512 + l, by omega⟩ d)
      ∧ k4 (ix3 0 l d) = (iblk m c 1 t : FVec Ideal S1x4096x128 .bf16) (ix3 0 ⟨4 * 512 + l, by omega⟩ d)
      ∧ k5 (ix3 0 l d) = (iblk m c 1 t : FVec Ideal S1x4096x128 .bf16) (ix3 0 ⟨5 * 512 + l, by omega⟩ d)
      ∧ k6 (ix3 0 l d) = (iblk m c 1 t : FVec Ideal S1x4096x128 .bf16) (ix3 0 ⟨6 * 512 + l, by omega⟩ d)
      ∧ k7 (ix3 0 l d) = (iblk m c 1 t : FVec Ideal S1x4096x128 .bf16) (ix3 0 ⟨7 * 512 + l, by omega⟩ d))
    (hx : ∀ (l : Fin 512) (j : Fin 256), x0 (ix2 l j) = (outsAt0 m c t.val t.isLt).2.1 (ix2 ⟨0 * 512 + l, by omega⟩ j)
      ∧ x1 (ix2 l j) = (outsAt0 m c t.val t.isLt).2.1 (ix2 ⟨1 * 512 + l, by omega⟩ j)
      ∧ x2 (ix2 l j) = (outsAt0 m c t.val t.isLt).2.1 (ix2 ⟨2 * 512 + l, by omega⟩ j)
      ∧ x3 (ix2 l j) = (outsAt0 m c t.val t.isLt).2.1 (ix2 ⟨3 * 512 + l, by omega⟩ j)
      ∧ x4 (ix2 l j) = (outsAt0 m c t.val t.isLt).2.1 (ix2 ⟨4 * 512 + l, by omega⟩ j)
      ∧ x5 (ix2 l j) = (outsAt0 m c t.val t.isLt).2.1 (ix2 ⟨5 * 512 + l, by omega⟩ j)
      ∧ x6 (ix2 l j) = (outsAt0 m c t.val t.isLt).2.1 (ix2 ⟨6 * 512 + l, by omega⟩ j)
      ∧ x7 (ix2 l j) = (outsAt0 m c t.val t.isLt).2.1 (ix2 ⟨7 * 512 + l, by omega⟩ j))
    (hxc : ∀ (l : Fin 256) (j : Fin 256), xc (ix2 l j) = (outsAt0 m c t.val t.isLt).2.2 (ix2 l j))
    (r : Fin 512) (j : Fin 128) :
    k0_pay1 (F := Ideal) (finish (accN (iblk m c 0 t) k0 k1 k2 k3 k4 k5 k6 k7 x0 x1 x2 x3 x4 x5 x6 x7 (iblk m c 3 t) xc) l1 (iblk m c 6 t)) (ix3 0 r j)
      = diffAtt Q K V KC VC lam (fun i => (m ((c.tc : Thread nD τ).loc main_arg6) : FVec Ideal S128 .f32) (ix1 i)) (bOf t) (hOf t) (qOf t r) j := by
  obtain ⟨s1, s2⟩ := scratch H t.val t.isLt
  obtain ⟨mx, hR⟩ := rows_total (iblk m c 0 t) k0 k1 k2 k3 k4 k5 k6 k7 x0 x1 x2 x3 x4 x5 x6 x7 (iblk m c 3 t) xc
    (twice fun r d => Q (bOf t) (qOf t r) (lane (hOf t) d)) (fun k d => K (bOf t) k (lane (hOf t) d))
    (withOnes fun k i => V (bOf t) k (lane (hOf t) i)) (fun k d => KC (bOf t) k (lane (hOf t) d))
    (withOnes fun k i => VC (bOf t) k (lane (hOf t) i)) (qq_real H t)
    (fun l d => (hk l d).1.trans (blk_k H t _ d)) (fun l d => (hk l d).2.1.trans (blk_k H t _ d))
    (fun l d => (hk l d).2.2.1.trans (blk_k H t _ d)) (fun l d => (hk l d).2.2.2.1.trans (blk_k H t _ d))
    (fun l d => (hk l d).2.2.2.2.1.trans (blk_k H t _ d)) (fun l d => (hk l d).2.2.2.2.2.1.trans (blk_k H t _ d))
    (fun l d => (hk l d).2.2.2.2.2.2.1.trans (blk_k H t _ d)) (fun l d => (hk l d).2.2.2.2.2.2.2.trans (blk_k H t _ d))
    (fun l j => (hx l j).1.trans (s1 _ j)) (fun l j => (hx l j).2.1.trans (s1 _ j))
    (fun l j => (hx l j).2.2.1.trans (s1 _ j)) (fun l j => (hx l j).2.2.2.1.trans (s1 _ j))
    (fun l j => (hx l j).2.2.2.2.1.trans (s1 _ j)) (fun l j => (hx l j).2.2.2.2.2.1.trans (s1 _ j))
    (fun l j => (hx l j).2.2.2.2.2.2.1.trans (s1 _ j)) (fun l j => (hx l j).2.2.2.2.2.2.2.trans (s1 _ j))
    (blk_kc H t) (fun l j => (hxc l j).trans (s2 l j))
  rw [finish_real hR l1 (iblk m c 6 t) lam hl r j, diffAtt]
  simp only [dot_lo, dot_hi, att, blk_og]

/-- The block that point `t` leaves. -/
theorem point (H : Reals m c Q K V KC VC lam) (t : Fin cfg0.N) (r : Fin 512) (j : Fin 128) :
    (outsAt0 m c t.val t.isLt).1 (ix3 0 r j)
      = diffAtt Q K V KC VC lam (fun i => (m ((c.tc : Thread nD τ).loc main_arg6) : FVec Ideal S128 .f32) (ix1 i)) (bOf t) (hOf t) (qOf t r) j := by
  by_cases h : t.val % 8 = 0
  · rw [outsAt0_A m c t h]
    frame_out
    rw [body_eq]
    apply body_point H t
    case hl => exact (congrArg (iblk m c 5 t) (by funext a; apply Fin.ext; fin_cases a <;> simp)).trans (blk_lam H t 0)
    case hk => intro l d; refine ⟨?_, ?_, ?_, ?_, ?_, ?_, ?_, ?_⟩ <;> exact congrArg (iblk m c 1 t) (by funext a; apply Fin.ext; fin_cases a <;> simp <;> rfl)
    case hx =>
      intro l d
      rw [outsAt0_A m c t h]
      simp only [View.readCov_eq_canon']
      frame_out
      refine ⟨?_, ?_, ?_, ?_, ?_, ?_, ?_, ?_⟩ <;> exact congrArg (View.canon _) (by funext a; apply Fin.ext; fin_cases a <;> simp)
    case hxc =>
      intro l d
      rw [outsAt0_A m c t h]
      simp only [View.readCov_eq_canon']
      frame_out
      exact congrArg (View.canon _) (by funext a; apply Fin.ext; fin_cases a <;> simp)
  · have e := outsAt0_B m c t h
    have e1 : (outsAt0 m c t.val t.isLt).2.1 = (outsAt0 m c (t.val - 1) (Nat.lt_of_le_of_lt (Nat.sub_le _ _) t.isLt)).2.1 := congrArg (fun p => p.2.1) e
    have e2 : (outsAt0 m c t.val t.isLt).2.2 = (outsAt0 m c (t.val - 1) (Nat.lt_of_le_of_lt (Nat.sub_le _ _) t.isLt)).2.2 := congrArg (fun p => p.2.2) e
    rw [e]
    frame_out
    rw [body_eq]
    apply body_point H t
    case hl => exact (congrArg (iblk m c 5 t) (by funext a; apply Fin.ext; fin_cases a <;> simp)).trans (blk_lam H t 0)
    case hk => intro l d; refine ⟨?_, ?_, ?_, ?_, ?_, ?_, ?_, ?_⟩ <;> exact congrArg (iblk m c 1 t) (by funext a; apply Fin.ext; fin_cases a <;> simp <;> rfl)
    case hx =>
      intro l d
      rw [e1]
      simp only [read_unread_whole]
      refine ⟨?_, ?_, ?_, ?_, ?_, ?_, ?_, ?_⟩ <;> exact congrArg (outsAt0 m c (t.val - 1) _).2.1 (by funext a; apply Fin.ext; fin_cases a <;> simp)
    case hxc =>
      intro l d
      rw [e2]
      simp only [read_unread_whole]

/-- The whole result: at batch `b`, query `n` and lane `l`, head `l / 128`'s entry of lane `l % 128`. -/
def result (Q K V : Fin 4 → Fin 4096 → Fin 1024 → ℝ) (KC VC : Fin 4 → Fin 256 → Fin 1024 → ℝ) (lam : ℝ) (g : FVec Ideal S128 .f32) :
    FVec Ideal S4x4096x1024 .bf16 := fun i =>
  diffAtt Q K V KC VC lam (fun i => g (ix1 i)) (i 0) ⟨(i 2 : ℕ) / 128, by have : (i 2 : ℕ) < 1024 := (i 2).isLt; omega⟩ (i 1) ⟨(i 2 : ℕ) % 128, by omega⟩

theorem point_result (H : Reals m c Q K V KC VC lam) (t : Fin cfg0.N) (y : S1x512x128.Idx) (i : S4x4096x1024.Idx)
    (h0 : (i 0 : ℕ) = t.val / 64) (h1 : (i 1 : ℕ) = t.val % 8 * 512 + (y 1 : ℕ)) (h2 : (i 2 : ℕ) = t.val / 8 % 8 * 128 + (y 2 : ℕ)) :
    (outsAt0 m c t.val t.isLt).1 y = result Q K V KC VC lam (m ((c.tc : Thread nD τ).loc main_arg6) : FVec Ideal S128 .f32) i := by
  idx_vars y
  rw [show y0 = 0 from Subsingleton.elim _ _, point H t]
  have l2 : (y2 : ℕ) < 128 := y2.isLt
  change (i 1 : ℕ) = t.val % 8 * 512 + (y1 : ℕ) at h1
  change (i 2 : ℕ) = t.val / 8 % 8 * 128 + (y2 : ℕ) at h2
  rw [result]
  congr 1
  · exact Fin.ext h0.symm
  · exact Fin.ext (show t.val / 8 % 8 = (i 2 : ℕ) / 128 by omega)
  · exact Fin.ext h1.symm
  · exact Fin.ext (show (y2 : ℕ) = (i 2 : ℕ) % 128 by omega)

/-- The result array after the run, over real arguments. -/
theorem final (H : Reals m c Q K V KC VC lam) : (dats m 0 c).arrAt 7 cfg0.N
    = result Q K V KC VC lam (m ((c.tc : Thread nD τ).loc main_arg6) : FVec Ideal S128 .f32) := by
  refine (dats m 0 c).arrAt_eq_of_covers 7 _ (by decide +kernel) fun t hf y => ?_
  blk_simp
  rw [after0_7]
  refine point_result H t y _ ?_ ?_ ?_
  all_goals (blk_simp [idx t] <;> try omega)

end Cert.KernelIdeal.Att

end
-- ==== Proof.Finite.lean ====
/- What the precondition says: every entry of the queries, of the keys, of the values' columns and the scalar is a real number. -/
module

public import proofs.«01_k».proof.Defs
public import proofs.«01_k».proof.Proof.Points
public import Idealize.ShloMosaic.Lib.Pointwise
public import Idealize.ShloMosaic.Lib.ReduceAll

@[expose] public section

set_option maxRecDepth 16384

noncomputable section

namespace Cert.Pre_finite

open Idealize.ShloMosaic Idealize.ShloMosaic.TcCoe Idealize.SL.Sem

/-- The side conditions of the precondition's operations. -/
instance facts : Cert.Pre_finite.Facts where
  bitsLt_bf16_f32 := by decide
  bcast_S_S4x4096x1024 := by decide
  reducesTo_S4x4096x1024_S_d0_1_2 := by decide
  h_S_ := by decide
  slices_S4x4096x14592_S4x4096x1024_0_0_10240 := by decide
  bcast_S_S4x256x1024 := by decide
  reducesTo_S4x256x1024_S_d0_1_2 := by decide
  slices_S4x256x14592_S4x256x1024_0_0_10240 := by decide

/-- An extended real whose absolute value lies below `+∞` is a real number. -/
theorem real_of_abs (x : Ideal .f32) (h : FloatOps.cmpf .olt (FloatOps.hostAbsf x) (Ideal.ofBits .f32 0x7F800000#32) = 1#1) :
    x = ((EReal.toReal x : ℝ) : EReal) := by
  rw [_root_.Att.pos_inf_f32, Ideal.cmpf_def, Ideal.hostAbsf_def] at h
  induction x using EReal.rec with
  | bot => simp [Ideal.cmp, Ideal.absf_def] at h
  | coe r => simp
  | top => simp [Ideal.cmp, Ideal.absf_def] at h

/-- If all the comparisons of an array's absolute values with `+∞` hold, the entries are real. -/
theorem all_real {s t u : Shape} {axes : List (Fin s.rank)} [Subsingleton t.Idx] (x : FVec Ideal s .bf16) (hw : FTy.bits .bf16 < FTy.bits .f32)
    (c : FVec Ideal s .f32) (hc : ∀ i, c i = Ideal.ofBits .f32 0x7F800000#32) (init : IVec u 1) (h : s.ReducesTo axes t) (hu : 0 < u.numel) (j : t.Idx)
    (e : Host.reduce IntOp.andi (cmpf .olt (Host.absf (extf .f32 x hw)) c) init h hu j = 1#1) (i : s.Idx) : x i = ((EReal.toReal (x i) : ℝ) : EReal) := by
  have e1 := Host.reduce_andi_all _ init h hu j e i
  refine real_of_abs (x i) ?_
  rw [← hc i]
  exact e1

instance : Subsingleton (Shape.Idx S_) := ⟨fun a b => funext fun x => x.elim0⟩

/-- The values' columns cut out of the projection, at an entry. -/
theorem slice_latent (u : FVec Ideal S4x4096x14592 .bf16) (b : Fin 4) (n : Fin 4096) (l : Fin 1024) :
    extractStridedSlice S4x4096x1024 ![0, 0, 10240] u facts.slices_S4x4096x14592_S4x4096x1024_0_0_10240 (ix3 b n l) = u (ix3 b n ⟨10240 + l, by omega⟩) := by
  pointwise []

theorem slice_context (u : FVec Ideal S4x256x14592 .bf16) (b : Fin 4) (n : Fin 256) (l : Fin 1024) :
    extractStridedSlice S4x256x1024 ![0, 0, 10240] u facts.slices_S4x256x14592_S4x256x1024_0_0_10240 (ix3 b n l) = u (ix3 b n ⟨10240 + l, by omega⟩) := by
  pointwise []

/-- The precondition, read: each of the arguments it names has real entries. -/
theorem reals (q k : FVec Ideal S4x4096x1024 .bf16) (u : FVec Ideal S4x4096x14592 .bf16) (kc : FVec Ideal S4x256x1024 .bf16)
    (uc : FVec Ideal S4x256x14592 .bf16) (lam : FVec Ideal S_ .f32) (g : FVec Ideal S128 .f32)
    (h : Cert.Pre_finite.fn (F := Ideal) q k u kc uc lam g = fun _ => 1#1) :
    (∀ i, q i = ((q i).toReal : EReal)) ∧ (∀ i, k i = ((k i).toReal : EReal))
    ∧ (∀ i, (extractStridedSlice S4x4096x1024 ![0, 0, 10240] u facts.slices_S4x4096x14592_S4x4096x1024_0_0_10240) i = ((EReal.toReal ((extractStridedSlice S4x4096x1024 ![0, 0, 10240] u facts.slices_S4x4096x14592_S4x4096x1024_0_0_10240) i)) : EReal))
    ∧ (∀ i, kc i = ((kc i).toReal : EReal))
    ∧ (∀ i, (extractStridedSlice S4x256x1024 ![0, 0, 10240] uc facts.slices_S4x256x14592_S4x256x1024_0_0_10240) i = ((EReal.toReal ((extractStridedSlice S4x256x1024 ![0, 0, 10240] uc facts.slices_S4x256x14592_S4x256x1024_0_0_10240) i)) : EReal))
    ∧ (∀ i, lam i = ((lam i).toReal : EReal)) := by
  have h0 := congrFun h ix0
  unfold fn at h0
  unfold fn_part1 at h0
  obtain ⟨h1, hl⟩ := IntOp.andi_eq_one.1 h0
  obtain ⟨h2, hw⟩ := IntOp.andi_eq_one.1 h1
  obtain ⟨h3, hc⟩ := IntOp.andi_eq_one.1 h2
  obtain ⟨h4, hv⟩ := IntOp.andi_eq_one.1 h3
  obtain ⟨hq, hk⟩ := IntOp.andi_eq_one.1 h4
  refine ⟨fun i => all_real _ _ _ (fun _ => rfl) _ _ _ _ hq i, fun i => all_real _ _ _ (fun _ => rfl) _ _ _ _ hk i,
    fun i => all_real _ _ _ (fun _ => rfl) _ _ _ _ hv i, fun i => all_real _ _ _ (fun _ => rfl) _ _ _ _ hc i,
    fun i => all_real _ _ _ (fun _ => rfl) _ _ _ _ hw i, fun i => ?_⟩
  have : i = ix0 := Subsingleton.elim _ _
  subst this
  exact real_of_abs _ hl

/-- Under the precondition the attention's arguments are arrays of reals. -/
theorem kernel_reals (m : (ℓ : Loc Cert.KernelIdeal.nD Cert.KernelIdeal.τ Cert.KernelIdeal.sig) → Buf (Elt Ideal) ℓ)
    (h : Cert.Pre_KernelIdeal_finite m) (c : Dev Cert.KernelIdeal.nD) : ∃ Q K V KC VC lam, Cert.KernelIdeal.Att.Reals m c Q K V KC VC lam := by
  obtain ⟨hq, hk, hv, hc, hw, hl⟩ := reals _ _ _ _ _ _ _ (h c)
  exact ⟨_, _, _, _, _, _, ⟨fun b n l => hq (ix3 b n l), fun b n l => hk (ix3 b n l),
    fun b n l => (slice_latent _ b n l).symm.trans (hv (ix3 b n l)), fun b n l => hc (ix3 b n l),
    fun b n l => (slice_context _ b n l).symm.trans (hw (ix3 b n l)), fun i => by
      have : i = ix0 := Subsingleton.elim (α := Shape.Idx S_) _ _
      subst this
      exact hl ix0⟩⟩

end Cert.Pre_finite

end
-- ==== Proof.Adaln.lean ====
/- The projection of the conditioning vectors: what its precondition says, and each entry of its result as the bias
   plus a whole contraction, for the kernel and for the reference. -/
module

public import proofs.«01_k».proof.Defs
public import proofs.«01_k».proof.Proof.Finite
public import proofs.«01_k».proof.Proof.Gen.AdalnIdeal.Value
public import proofs.«01_k».proof.Proof.Gen.AdalnRefIdeal.Run
public import Idealize.ShloMosaic.Lib.Pointwise
public import Idealize.ShloMosaic.Lib.ReduceAll
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Pre_finite_conditioning

/-- The side conditions of the precondition's operations. -/
instance facts : Cert.Pre_finite_conditioning.Facts where
  bcast_S_S16x2048 := by decide
  reducesTo_S16x2048_S_d0_1 := by decide
  h_S_ := by decide
  slices_S2x2048x12288_S1x2048x12288_0_0_0 := by decide
  shapeCasts_S1x2048x12288_S2048x12288 := by decide
  bcast_S_S2048x12288 := by decide
  reducesTo_S2048x12288_S_d0_1 := by decide

/-- If all the comparisons of an array's absolute values with `+∞` hold, the entries are real. -/
theorem all_real {s t u : Shape} {axes : List (Fin s.rank)} [Subsingleton t.Idx] (x : FVec Ideal s .f32)
    (c : FVec Ideal s .f32) (hc : ∀ i, c i = Ideal.ofBits .f32 0x7F800000#32) (init : IVec u 1) (h : s.ReducesTo axes t) (hu : 0 < u.numel) (j : t.Idx)
    (e : Host.reduce IntOp.andi (cmpf .olt (Host.absf x) c) init h hu j = 1#1) (i : s.Idx) : x i = ((EReal.toReal (x i) : ℝ) : EReal) := by
  have e1 := Host.reduce_andi_all _ init h hu j e i
  refine Cert.Pre_finite.real_of_abs (x i) ?_
  rw [← hc i]
  exact e1

instance : Subsingleton (Shape.Idx S_) := ⟨fun a b => funext fun x => x.elim0⟩

/-- The layer's weight, at an entry. -/
theorem slice_weight (w : FVec Ideal S2x2048x12288 .f32) (k : Fin 2048) (j : Fin 12288) :
    shapeCast S2048x12288 (extractStridedSlice S1x2048x12288 ![0, 0, 0] w facts.slices_S2x2048x12288_S1x2048x12288_0_0_0)
      facts.shapeCasts_S1x2048x12288_S2048x12288 (ix2 k j) = w (ix3 0 k j) := by
  pointwise []

/-- The precondition, read: the conditioning vectors and the layer's weight have real entries. -/
theorem reals (x : FVec Ideal S16x2048 .f32) (w : FVec Ideal S2x2048x12288 .f32) (b : FVec Ideal S2x12288 .f32)
    (h : Cert.Pre_finite_conditioning.fn (F := Ideal) x w b = fun _ => 1#1) :
    (∀ i k, x (ix2 i k) = ((EReal.toReal (x (ix2 i k)) : ℝ) : EReal))
    ∧ ∀ k j, w (ix3 0 k j) = ((EReal.toReal (w (ix3 0 k j)) : ℝ) : EReal) := by
  have h0 := congrFun h ix0
  unfold fn at h0
  obtain ⟨hx, hw⟩ := IntOp.andi_eq_one.1 h0
  refine ⟨fun i k => all_real _ _ (fun _ => rfl) _ _ _ _ hx (ix2 i k), fun k j => ?_⟩
  have e := all_real _ _ (fun _ => rfl) _ _ _ _ hw (ix2 k j)
  rwa [slice_weight] at e

end Cert.Pre_finite_conditioning

namespace Cert.AdalnRefIdeal.Out

open Cert.AdalnRefIdeal Cert.AdalnRefIdeal.Gen Cert.AdalnRefIdeal.Value

/-- The product of a value and its logistic function. -/
def swish (x : EReal) : EReal := x * Ideal.div (Ideal.ofBits .f32 0x3F800000#32) (Ideal.ofBits .f32 0x3F800000#32 + Ideal.exp (-x))

theorem one_f32 : Ideal.ofBits .f32 0x3F800000#32 = ((1 : ℝ) : EReal) := by
  simp [Ideal.ofBits, Ideal.ieee]
  rw [← EReal.coe_mul]
  norm_num

/-- Of a real number it is a real number. -/
theorem swish_coe (r : ℝ) : ∃ s : ℝ, swish (r : EReal) = (s : EReal) := by
  have hp : (1 + Real.exp (-r)) ≠ 0 := (by positivity : (0 : ℝ) < 1 + Real.exp (-r)).ne'
  refine ⟨r * (1 * (1 / (1 + Real.exp (-r)))), ?_⟩
  unfold swish
  rw [one_f32, ← EReal.coe_neg, Ideal.exp_coe, ← EReal.coe_add, Ideal.div_coe hp, ← EReal.coe_mul, ← EReal.coe_mul]

/-- The reference as a function of its arguments. -/
def REF (a : FVec Ideal S16x2048 .f32) (w : FVec Ideal S2x2048x12288 .f32) (b : FVec Ideal S2x12288 .f32) : FVec Ideal S16x12288 .f32 :=
  addf (Host.dotGeneral dot_S16x2048_S2048x12288_S16x12288_1_0_0_1_n_n none (mulf a (Host.divf (broadcastInDim S16x2048 ![] bcast_S_S16x2048 (constant S_ .f32 0x3F800000#32)) (addf (broadcastInDim S16x2048 ![] bcast_S_S16x2048 (constant S_ .f32 0x3F800000#32)) (Host.exp (Host.negf a))))) (shapeCast _ (extractStridedSlice S1x2048x12288 ![0, 0, 0] w slices_S2x2048x12288_S1x2048x12288_0_0_0) shapeCasts_S1x2048x12288_S2048x12288))
    (broadcastInDim S16x12288 ![0, 1] bcast_S1x12288_S16x12288_0_1 (broadcastInDim S1x12288 ![1] bcast_S12288_S1x12288_1 (shapeCast _ (extractStridedSlice S1x12288 ![0, 0] b slices_S2x12288_S1x12288_0_0) shapeCasts_S1x12288_S12288)))

/-- The reference at an entry. -/
theorem ref_at (a : FVec Ideal S16x2048 .f32) (w : FVec Ideal S2x2048x12288 .f32) (b : FVec Ideal S2x12288 .f32) (p : Fin 16) (j : Fin 12288) :
    REF a w b (ix2 p j) = (∑ k : Fin 2048, swish (a (ix2 p k)) * w (ix3 0 k j)) + b (ix2 0 j) := by
  unfold swish
  pointwise! [REF]

end Cert.AdalnRefIdeal.Out

namespace Cert.AdalnIdeal.Out

open Cert.AdalnIdeal Cert.AdalnIdeal.Gen Cert.AdalnIdeal.Value
open Cert.AdalnRefIdeal.Out (swish swish_coe)

/-- The kernel's form of the product of a value and its logistic function. -/
theorem swish_kernel (x : EReal) :
    x * Ideal.div (Ideal.ofBits .f32 0x3F800000#32) (Ideal.ofBits .f32 0x3F800000#32 + Ideal.exp (Ideal.ofBits .f32 0x00000000#32 - x)) = swish x := by
  have h : Ideal.ofBits .f32 0x00000000#32 = 0 := by simp [Ideal.ofBits, Ideal.ieee]
  rw [h, zero_sub]
  rfl

/-- What the body stores, at an entry: the products of the rounded parts and of what the rounding leaves. -/
theorem body_at (x : FVec Ideal S16x2048 .f32) (w : FVec Ideal S1x2048x1024 .f32) (b : FVec Ideal S1x1x1024 .f32) (p : Fin 16) (j : Fin 1024) :
    k0_pay1 (F := Ideal) x w b (ix2 p j)
      = (((∑ k : Fin 2048, swish (x (ix2 p k)) * w (ix3 0 k j)) + ∑ k : Fin 2048, (swish (x (ix2 p k)) - swish (x (ix2 p k))) * w (ix3 0 k j))
          + ∑ k : Fin 2048, swish (x (ix2 p k)) * (w (ix3 0 k j) - w (ix3 0 k j))) + b (ix3 0 0 j) := by
  simp only [← swish_kernel]
  pointwise! [k0_pay1]

/-- Of real arguments only the first sum is left. -/
theorem body_real (x : FVec Ideal S16x2048 .f32) (w : FVec Ideal S1x2048x1024 .f32) (b : FVec Ideal S1x1x1024 .f32) (p : Fin 16) (j : Fin 1024)
    (hx : ∀ k : Fin 2048, x (ix2 p k) = ((EReal.toReal (x (ix2 p k)) : ℝ) : EReal)) (hw : ∀ k : Fin 2048, w (ix3 0 k j) = ((EReal.toReal (w (ix3 0 k j)) : ℝ) : EReal)) :
    k0_pay1 (F := Ideal) x w b (ix2 p j) = (∑ k : Fin 2048, swish (x (ix2 p k)) * w (ix3 0 k j)) + b (ix3 0 0 j) := by
  have h1 : ∀ k : Fin 2048, (swish (x (ix2 p k)) - swish (x (ix2 p k))) * w (ix3 0 k j) = 0 := fun k => by
    obtain ⟨s, hs⟩ := swish_coe (EReal.toReal (x (ix2 p k)))
    rw [← hx k] at hs
    rw [hs, ← EReal.coe_sub, sub_self, EReal.coe_zero, zero_mul]
  have h2 : ∀ k : Fin 2048, swish (x (ix2 p k)) * (w (ix3 0 k j) - w (ix3 0 k j)) = 0 := fun k => by
    rw [hw k, ← EReal.coe_sub, sub_self, EReal.coe_zero, mul_zero]
  rw [body_at]
  simp only [h1, h2, Finset.sum_const_zero, add_zero]

theorem idx : ∀ t : Fin cfg0.N, win0_0.index t = ![0, 0] ∧ win0_1.index t = ![0, 0, t.val]
    ∧ win0_2.index t = ![0, 0, t.val] ∧ win0_3.index t = ![0, t.val] :=
  (by decide +kernel : ∀ t : Fin grid0.N, _)

theorem lt (t : Fin cfg0.N) : t.val < 12 := lt_of_lt_of_eq t.isLt N_0

variable (m : (ℓ : Loc nD τ sig) → Buf (Elt Ideal) ℓ) (c : Dev nD)

/-- The arguments. -/
abbrev A : FVec Ideal S16x2048 .f32 := m ((c.tc : Thread nD τ).loc main_arg0)
abbrev W : FVec Ideal S2x2048x12288 .f32 := m ((c.tc : Thread nD τ).loc main_arg1)
abbrev B : FVec Ideal S2x12288 .f32 := m ((c.tc : Thread nD τ).loc main_arg2)

/-- The column that an entry of point `t`'s block is. -/
def jOf (t : Fin cfg0.N) (j : Fin 1024) : Fin 12288 := ⟨t.val * 1024 + j, by have := lt t; omega⟩

theorem blk_a (t : Fin cfg0.N) (p : Fin 16) (k : Fin 2048) : (iblk m c 0 t : FVec Ideal S16x2048 .f32) (ix2 p k) = A m c (ix2 p k) := by
  blk_ext [iblk, Gen.V, idx t]

theorem blk_w (t : Fin cfg0.N) (k : Fin 2048) (j : Fin 1024) :
    (iblk m c 1 t : FVec Ideal S1x2048x1024 .f32) (ix3 0 k j) = W m c (ix3 0 k (jOf t j)) := by
  blk_ext [iblk, Gen.V, idx t, jOf]

theorem blk_b (t : Fin cfg0.N) (j : Fin 1024) : (iblk m c 2 t : FVec Ideal S1x1x1024 .f32) (ix3 0 0 j) = B m c (ix2 0 (jOf t j)) := by
  blk_simp [iblk, idx t]
  entry_read
  pointwise
  blk_ext [idx t, jOf]

/-- The block that point `t` leaves. -/
theorem point (h : Cert.Pre_AdalnIdeal_finite_conditioning m) (t : Fin cfg0.N) (y : S16x1024.Idx) :
    out0_3 (F := Ideal) (iblk m c 0 t) (iblk m c 1 t) (iblk m c 2 t) y
      = Cert.AdalnRefIdeal.Out.REF (A m c) (W m c) (B m c) (ix2 (y 0) (jOf t (y 1))) := by
  obtain ⟨hx, hw⟩ := Cert.Pre_finite_conditioning.reals _ _ _ (h c)
  idx_vars y
  refine Eq.trans ?_ (Cert.AdalnRefIdeal.Out.ref_at (A m c) (W m c) (B m c) y0 (jOf t y1)).symm
  frame_out
  refine (body_real _ _ _ y0 y1 (fun k => ?_) (fun k => ?_)).trans ?_
  · rw [blk_a]; exact hx y0 k
  · rw [blk_w]; exact hw k (jOf t y1)
  simp only [blk_a, blk_w, blk_b]

/-- The result array after the run. -/
theorem final (h : Cert.Pre_AdalnIdeal_finite_conditioning m) :
    (dats m 0 c).arrAt 3 cfg0.N = Cert.AdalnRefIdeal.Out.REF (A m c) (W m c) (B m c) := by
  refine (dats m 0 c).arrAt_eq_of_covers 3 _ (by decide +kernel) fun t hf y => ?_
  blk_simp
  rw [after0_3]
  refine (point m c h t y).trans (congrArg _ ?_)
  funext a; apply Fin.ext; fin_cases a <;> (blk_simp [idx t, jOf]; rfl)

end Cert.AdalnIdeal.Out

end
-- ==== Proof.InProjCtx.lean ====
/- The input projection of the context tokens: each entry of its result is a whole contraction over a row that is normalised and modulated,
   for the kernel and for the reference. -/
module

public import proofs.«01_k».proof.Proof.Gen.InProjCtxIdeal.Value
public import proofs.«01_k».proof.Proof.Gen.InProjCtxRefIdeal.Run
public import Idealize.ShloMosaic.Lib.Pointwise
public import Idealize.ShloMosaic.Lib.Pipeline.ValueKit
public import Idealize.ShloMosaic.Lib.Pipeline.ReadBack
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.InProjCtxIdeal.Out

/-- Entry `d` of a row `x` after the root mean square norm with gain `g`, the scale `1 + s` and the shift `h`. -/
def normed (x g s h : Fin 2048 → EReal) (d : Fin 2048) : EReal :=
  x d * Ideal.rsqrt (Ideal.div (∑ k, x k * x k) (Ideal.ofBits .f32 0x45000000#32) + Ideal.ofBits .f32 0x358637BD#32) * g d * (1 + s d) + h d

end Cert.InProjCtxIdeal.Out

namespace Cert.InProjCtxRefIdeal.Out

open Cert.InProjCtxRefIdeal Cert.InProjCtxRefIdeal.Gen Cert.InProjCtxRefIdeal.Value

/-- The modulated rows. -/
def refH (x : FVec Ideal S1x1024x2048 .f32) (mod : FVec Ideal S16x12288 .f32) (g : FVec Ideal S2048 .f32) : FVec Ideal S1x1024x2048 .f32 :=
  addf (mulf (mulf (mulf x (broadcastInDim S1x1024x2048 ![0, 1, 2] bcast_S1x1024x1_S1x1024x2048_0_1_2 (Host.rsqrt (addf (Host.divf (broadcastInDim S1x1024x1 ![0, 1] bcast_S1x1024_S1x1024x1_0_1 (Host.reduceAdd (mulf x x) (constant S_ .f32 0x00000000#32) reducesTo_S1x1024x2048_S1x1024_d2 h_S_)) (broadcastInDim S1x1024x1 ![] bcast_S_S1x1024x1 (constant S_ .f32 0x45000000#32))) (broadcastInDim S1x1024x1 ![] bcast_S_S1x1024x1 (constant S_ .f32 0x358637BD#32))))))
    (broadcastInDim S1x1024x2048 ![0, 1, 2] bcast_S1x1x2048_S1x1024x2048_0_1_2 (broadcastInDim S1x1x2048 ![2] bcast_S2048_S1x1x2048_2 g)))
    (broadcastInDim S1x1024x2048 ![0, 1, 2] bcast_S1x1x2048_S1x1024x2048_0_1_2 (broadcastInDim S1x1x2048 ![2] bcast_S2048_S1x1x2048_2 (addf (broadcastInDim S2048 ![] bcast_S_S2048 (constant S_ .f32 0x3F800000#32)) (extractStridedSlice S2048 ![2048] (shapeCast _ (extractStridedSlice S1x12288 ![4, 0] mod slices_S16x12288_S1x12288_4_0) shapeCasts_S1x12288_S12288) slices_S12288_S2048_2048)))))
    (broadcastInDim S1x1024x2048 ![0, 1, 2] bcast_S1x1x2048_S1x1024x2048_0_1_2 (broadcastInDim S1x1x2048 ![2] bcast_S2048_S1x1x2048_2 (extractStridedSlice S2048 ![0] (shapeCast _ (extractStridedSlice S1x12288 ![4, 0] mod slices_S16x12288_S1x12288_4_0) shapeCasts_S1x12288_S12288) slices_S12288_S2048_0)))

/-- The reference as a function of its arguments. -/
def REF (x : FVec Ideal S1x1024x2048 .f32) (mod : FVec Ideal S16x12288 .f32) (g : FVec Ideal S2048 .f32) (w : FVec Ideal S2048x14592 .bf16) :
    FVec Ideal S1x1024x14592 .bf16 :=
  truncf .bf16 (Host.dotGeneral dot_S1x1024x2048_S2048x14592_S1x1024x14592_2_0_01_1_n_n none (refH x mod g) (extf .f32 w bitsLt_bf16_f32)) bitsLt_bf16_f32

theorem refH_at (x : FVec Ideal S1x1024x2048 .f32) (mod : FVec Ideal S16x12288 .f32) (g : FVec Ideal S2048 .f32) (n : Fin 1024) (d : Fin 2048) :
    refH x mod g (ix3 0 n d) = Cert.InProjCtxIdeal.Out.normed (fun k => x (ix3 0 n k)) (fun k => g (ix1 k))
      (fun k => mod (ix2 4 ⟨2048 + k, by omega⟩)) (fun k => mod (ix2 4 ⟨k, by omega⟩)) d := by
  pointwise! [refH, Cert.InProjCtxIdeal.Out.normed]

/-- The reference at an entry. -/
theorem ref_at (x : FVec Ideal S1x1024x2048 .f32) (mod : FVec Ideal S16x12288 .f32) (g : FVec Ideal S2048 .f32) (w : FVec Ideal S2048x14592 .bf16)
    (n : Fin 1024) (j : Fin 14592) :
    REF x mod g w (ix3 0 n j) = ∑ d : Fin 2048, Cert.InProjCtxIdeal.Out.normed (fun k => x (ix3 0 n k)) (fun k => g (ix1 k))
      (fun k => mod (ix2 4 ⟨2048 + k, by omega⟩)) (fun k => mod (ix2 4 ⟨k, by omega⟩)) d * w (ix2 d j) := by
  pointwise [REF]
  exact Finset.sum_congr rfl fun d _ => Ideal.mul_congr (refH_at x mod g n d) rfl

end Cert.InProjCtxRefIdeal.Out

namespace Cert.InProjCtxIdeal.Out

open Cert.InProjCtxIdeal Cert.InProjCtxIdeal.Gen Cert.InProjCtxIdeal.Value

/-- A chunk of 128 rows as the body normalises it. -/
theorem chunk_at (g : FVec Ideal S1x2048 .f32) (s h : FVec Ideal S1x1x1x2048 .f32) (x : FVec Ideal S1x128x2048 .f32) (r : Fin 128) (d : Fin 2048) :
    k0_pay1 (F := Ideal) g s h x (ix2 r d) = normed (fun k => x (ix3 0 r k)) (fun k => g (ix2 0 k)) (fun k => s (ix4 0 0 0 k)) (fun k => h (ix4 0 0 0 k)) d := by
  pointwise! [k0_pay1, normed]

/-- What the body stores, at an entry. -/
theorem body_at (v : FVec Ideal S512x2048 .bf16) (w : FVec Ideal S2048x2432 .bf16) (r : Fin 512) (j : Fin 2432) :
    k0_pay2 (F := Ideal) v w (ix3 0 r j) = ∑ d : Fin 2048, v (ix2 r d) * w (ix2 d j) := by
  pointwise! [k0_pay2]

theorem idx : ∀ t : Fin cfg0.N, win0_0.index t = ![0, t.val / 6, 0] ∧ win0_1.index t = ![0, 0]
    ∧ win0_2.index t = ![4, 0, 0, 0] ∧ win0_3.index t = ![4, 1, 0, 0] ∧ win0_4.index t = ![0, t.val % 6]
    ∧ win0_5.index t = ![0, t.val / 6, t.val % 6] :=
  (by decide +kernel : ∀ t : Fin grid0.N, _)

theorem lt (t : Fin cfg0.N) : t.val < 12 := lt_of_lt_of_eq t.isLt N_0

variable (m : (ℓ : Loc nD τ sig) → Buf (Elt Ideal) ℓ) (c : Dev nD)

/-- The arguments. -/
abbrev X : FVec Ideal S1x1024x2048 .f32 := m ((c.tc : Thread nD τ).loc main_arg0)
abbrev M : FVec Ideal S16x12288 .f32 := m ((c.tc : Thread nD τ).loc main_arg1)
abbrev G : FVec Ideal S2048 .f32 := m ((c.tc : Thread nD τ).loc main_arg2)
abbrev W : FVec Ideal S2048x14592 .bf16 := m ((c.tc : Thread nD τ).loc main_arg3)

/-- The row and column that an entry of point `t`'s block is. -/
def nOf (t : Fin cfg0.N) (r : Fin 512) : Fin 1024 := ⟨t.val / 6 * 512 + r, by have := lt t; omega⟩
def jOf (t : Fin cfg0.N) (j : Fin 2432) : Fin 14592 := ⟨t.val % 6 * 2432 + j, by omega⟩

theorem blk_x (t : Fin cfg0.N) (r : Fin 512) (k : Fin 2048) :
    (iblk m c 0 t : FVec Ideal S1x512x2048 .f32) (ix3 0 r k) = X m c (ix3 0 (nOf t r) k) := by
  blk_ext [iblk, Gen.V, idx t, nOf]

theorem blk_g (t : Fin cfg0.N) (k : Fin 2048) : (iblk m c 1 t : FVec Ideal S1x2048 .f32) (ix2 0 k) = G m c (ix1 k) := by
  blk_simp [iblk, idx t]
  entry_read
  pointwise
  blk_ext [idx t]

theorem blk_h (t : Fin cfg0.N) (k : Fin 2048) :
    (iblk m c 2 t : FVec Ideal S1x1x1x2048 .f32) (ix4 0 0 0 k) = M m c (ix2 4 ⟨k, by omega⟩) := by
  blk_simp [iblk, idx t]
  entry_read
  pointwise
  blk_ext [idx t]

theorem blk_s (t : Fin cfg0.N) (k : Fin 2048) :
    (iblk m c 3 t : FVec Ideal S1x1x1x2048 .f32) (ix4 0 0 0 k) = M m c (ix2 4 ⟨2048 + k, by omega⟩) := by
  blk_simp [iblk, idx t]
  entry_read
  pointwise
  blk_ext [idx t]

theorem blk_w (t : Fin cfg0.N) (k : Fin 2048) (j : Fin 2432) :
    (iblk m c 4 t : FVec Ideal S2048x2432 .bf16) (ix2 k j) = W m c (ix2 k (jOf t j)) := by
  blk_ext [iblk, Gen.V, idx t, jOf]

/-- Entry `d` of token `n`, normalised and modulated. -/
def row (n : Fin 1024) (d : Fin 2048) : EReal :=
  normed (fun k => X m c (ix3 0 n k)) (fun k => G m c (ix1 k)) (fun k => M m c (ix2 4 ⟨2048 + k, by omega⟩)) (fun k => M m c (ix2 4 ⟨k, by omega⟩)) d

/-- A trip of the loop takes the next 128 rows. -/
theorem off1 : ∀ k : Fin k0_t1_loop.trips, k0_off1 k = ![0, k.val * 128, 0] := by decide +kernel
theorem off2 : ∀ k : Fin k0_t1_loop.trips, k0_off2 k = ![k.val * 128, 0] := by decide +kernel

/-- The first point of a tile leaves the tile's rows in the scratch buffer. -/
theorem scratch_first (t : Fin cfg0.N) (h : t.val % 6 = 0) (r : Fin 512) (d : Fin 2048) :
    (outsAt0 m c t.val t.isLt).2 (ix2 r d) = row m c (nOf t r) d := by
  rw [outsAt0_A m c t h]
  frame_out
  refine View.canon_apply_of_pieces (Val := Elt Ideal) (S := S512x2048) (e := .bf16) (fun y => row m c (nOf t (y 0)) (y 1)) _ ?_ _ ?_
  case refine_2 => exact View.cover_of_tiledL (s := S512x2048) _ S128x2048.size (by sl_kernel_rfl) _
  generalize Scf.trips 0#32 (Scalar.addi 0#32 4#32) 1#32 = k
  induction k with
  | zero => intro p hp; exact absurd hp List.not_mem_nil
  | succ k ih =>
    intro p hp
    rw [pb_k0_t1] at hp
    unfold pb_k0_t1Step at hp
    split at hp
    · rename_i hk
      rcases List.mem_append.mp hp with hp | hp
      · unfold tripL_k0_t1 trip_k0_t1 at hp
        dsimp only at hp
        frame_open at hp
        obtain rfl := List.mem_singleton.mp hp
        have hk4 : k < 4 := lt_of_lt_of_eq hk (by decide)
        intro x
        idx_vars x
        have e1 : (Rect.unit (s := S512x2048) (k0_off2 ⟨k, hk⟩) S128x2048.size (k0_off2_inb (grid0.coords t) ⟨k, hk⟩ ((hcond0_0 t).mpr h))).emb (ix2 x0 x1)
            = ix2 ⟨k * 128 + x0, by omega⟩ x1 := by
          funext a; apply Fin.ext; fin_cases a <;> simp [off2]
        refine (chunk_at _ _ _ _ x0 x1).trans ?_
        refine Eq.trans ?_ (congrArg (fun y : S512x2048.Idx => row m c (nOf t (y 0)) (y 1)) e1).symm
        unfold row
        congr 1 <;> funext q
        · refine ((hs0_0 t).readAt_unread _ _ _).trans ((congrArg (iblk m c 0 t) ?_).trans (blk_x m c t ⟨k * 128 + x0, by omega⟩ q))
          funext a; apply Fin.ext; fin_cases a <;> simp [off1]
        · exact blk_g m c t q
        · exact blk_s m c t q
        · exact blk_h m c t q
      · exact ih p hp
    · exact ih p hp

/-- At every point the scratch buffer holds the rows of its tile. -/
theorem scratch : ∀ (n : ℕ) (hn : n < cfg0.N) (r : Fin 512) (d : Fin 2048),
    (outsAt0 m c n hn).2 (ix2 r d) = row m c (nOf ⟨n, hn⟩ r) d := by
  intro n
  induction n with
  | zero => exact fun hn => scratch_first m c ⟨0, hn⟩ rfl
  | succ n ih =>
    intro hn r d
    by_cases h : (n + 1) % 6 = 0
    · exact scratch_first m c ⟨n + 1, hn⟩ h r d
    · have e := outsAt0_B m c ⟨n + 1, hn⟩ h
      have en : nOf ⟨n + 1, hn⟩ r = nOf ⟨n, Nat.lt_of_succ_lt hn⟩ r := Fin.ext (by simp only [nOf]; omega)
      rw [en]
      exact (congrFun (congrArg (fun p => p.2) e) (ix2 r d)).trans (ih (Nat.lt_of_succ_lt hn) r d)

/-- The block that point `t` leaves. -/
theorem point (t : Fin cfg0.N) (y : S1x512x2432.Idx) :
    (outsAt0 m c t.val t.isLt).1 y = Cert.InProjCtxRefIdeal.Out.REF (X m c) (M m c) (G m c) (W m c) (ix3 0 (nOf t (y 1)) (jOf t (y 2))) := by
  idx_vars y
  rw [show y0 = 0 from Subsingleton.elim _ _]
  refine Eq.trans ?_ (Cert.InProjCtxRefIdeal.Out.ref_at (X m c) (M m c) (G m c) (W m c) (nOf t y1) (jOf t y2)).symm
  have key : ∀ v : FVec Ideal S512x2048 .bf16, v = (outsAt0 m c t.val t.isLt).2 → k0_pay2 (F := Ideal) v (iblk m c 4 t) (ix3 0 y1 y2)
      = ∑ d : Fin 2048, row m c (nOf t y1) d * W m c (ix2 d (jOf t y2)) := by
    rintro v rfl
    refine (body_at _ _ y1 y2).trans (Finset.sum_congr rfl fun d _ => ?_)
    rw [scratch m c t.val t.isLt, blk_w]
  by_cases h : t.val % 6 = 0
  · rw [outsAt0_A m c t h]
    frame_out
    refine key _ ?_
    rw [outsAt0_A m c t h]
    rw [View.readCov_eq_canon']
    funext y
    frame_out
    exact congrArg (View.canon _) (by funext a; apply Fin.ext; fin_cases a <;> simp)
  · have e := outsAt0_B m c t h
    rw [e]
    frame_out
    refine key _ ?_
    rw [read_unread_whole]
    exact (congrArg (fun p => p.2) e).symm

/-- The result array after the run. -/
theorem final : (dats m 0 c).arrAt 5 cfg0.N = Cert.InProjCtxRefIdeal.Out.REF (X m c) (M m c) (G m c) (W m c) := by
  refine (dats m 0 c).arrAt_eq_of_covers 5 _ (by decide +kernel) fun t hf y => ?_
  blk_simp
  rw [after0_5]
  refine (point m c t y).trans (congrArg _ ?_)
  funext a; apply Fin.ext; fin_cases a <;> blk_simp [idx t, nOf, jOf] <;> rfl

end Cert.InProjCtxIdeal.Out

end
-- ==== Proof.OutProjCtx.lean ====
/- The projection of the context tokens' merged branches: each entry of its result is the residual plus the gate times a
   whole contraction, for the kernel and for the reference. -/
module

public import proofs.«01_k».proof.Proof.Gen.OutProjCtxIdeal.Value
public import proofs.«01_k».proof.Proof.Gen.OutProjCtxRefIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjCtxRefIdeal.Out

open Cert.OutProjCtxRefIdeal Cert.OutProjCtxRefIdeal.Gen Cert.OutProjCtxRefIdeal.Value

/-- The reference as a function of its arguments. -/
def REF (a : FVec Ideal S1x1024x2048 .bf16) (x : FVec Ideal S1x1024x2048 .f32) (mod : FVec Ideal S16x12288 .f32) (w : FVec Ideal S2x2048x2048 .f32) :
    FVec Ideal S1x1024x2048 .f32 :=
  addf x (mulf (broadcastInDim S1x1024x2048 ![0, 1, 2] bcast_S1x1x2048_S1x1024x2048_0_1_2 (broadcastInDim S1x1x2048 ![2] bcast_S2048_S1x1x2048_2 (extractStridedSlice S2048 ![4096] (shapeCast _ (extractStridedSlice S1x12288 ![4, 0] mod slices_S16x12288_S1x12288_4_0) shapeCasts_S1x12288_S12288) slices_S12288_S2048_4096)))
    (Host.dotGeneral dot_S1x1024x2048_S2048x2048_S1x1024x2048_2_0_01_1_n_n none (extf .f32 a bitsLt_bf16_f32) (shapeCast _ (extractStridedSlice S1x2048x2048 ![0, 0, 0] w slices_S2x2048x2048_S1x2048x2048_0_0_0) shapeCasts_S1x2048x2048_S2048x2048)))

/-- The reference at an entry. -/
theorem ref_at (a : FVec Ideal S1x1024x2048 .bf16) (x : FVec Ideal S1x1024x2048 .f32) (mod : FVec Ideal S16x12288 .f32) (w : FVec Ideal S2x2048x2048 .f32)
    (n : Fin 1024) (j : Fin 2048) :
    REF a x mod w (ix3 0 n j) = x (ix3 0 n j) + mod (ix2 4 ⟨4096 + j, by omega⟩) * ∑ k : Fin 2048, a (ix3 0 n k) * w (ix3 0 k j) := by
  pointwise! [REF]

end Cert.OutProjCtxRefIdeal.Out

namespace Cert.OutProjCtxIdeal.Out

open Cert.OutProjCtxIdeal Cert.OutProjCtxIdeal.Gen Cert.OutProjCtxIdeal.Value

/-- What the body stores, at an entry. -/
theorem body_at (a : FVec Ideal S1x512x2048 .bf16) (w : FVec Ideal S1x2048x2048 .bf16) (x : FVec Ideal S1x512x2048 .f32) (g : FVec Ideal S1x1x1x2048 .f32)
    (r : Fin 512) (j : Fin 2048) :
    k0_pay1 (F := Ideal) a w x g (ix3 0 r j) = x (ix3 0 r j) + g (ix4 0 0 0 j) * ∑ k : Fin 2048, a (ix3 0 r k) * w (ix3 0 k j) := by
  pointwise! [k0_pay1]

theorem idx : ∀ t : Fin cfg0.N, win0_0.index t = ![0, t.val, 0] ∧ win0_1.index t = ![0, 0, 0]
    ∧ win0_2.index t = ![0, t.val, 0] ∧ win0_3.index t = ![4, 2, 0, 0]
    ∧ win0_4.index t = ![0, t.val, 0] :=
  (by decide +kernel : ∀ t : Fin grid0.N, _)

theorem lt (t : Fin cfg0.N) : t.val < 2 := lt_of_lt_of_eq t.isLt N_0

variable (m : (ℓ : Loc nD τ sig) → Buf (Elt Ideal) ℓ) (c : Dev nD)

/-- The arguments. -/
abbrev A : FVec Ideal S1x1024x2048 .bf16 := m ((c.tc : Thread nD τ).loc main_arg0)
abbrev X : FVec Ideal S1x1024x2048 .f32 := m ((c.tc : Thread nD τ).loc main_arg1)
abbrev M : FVec Ideal S16x12288 .f32 := m ((c.tc : Thread nD τ).loc main_arg2)
abbrev W : FVec Ideal S2x2048x2048 .f32 := m ((c.tc : Thread nD τ).loc main_arg3)

/-- The row that an entry of point `t`'s block is. -/
def nOf (t : Fin cfg0.N) (r : Fin 512) : Fin 1024 := ⟨t.val * 512 + r, by have := lt t; omega⟩

theorem blk_a (t : Fin cfg0.N) (r : Fin 512) (k : Fin 2048) :
    (iblk m c 0 t : FVec Ideal S1x512x2048 .bf16) (ix3 0 r k) = A m c (ix3 0 (nOf t r) k) := by
  blk_ext [iblk, Gen.V, idx t, nOf]

theorem blk_w (t : Fin cfg0.N) (k : Fin 2048) (j : Fin 2048) :
    (iblk m c 1 t : FVec Ideal S1x2048x2048 .bf16) (ix3 0 k j) = W m c (ix3 0 k j) := by
  blk_simp [iblk, idx t]
  entry_read
  pointwise
  blk_ext [idx t]

theorem blk_x (t : Fin cfg0.N) (r : Fin 512) (j : Fin 2048) :
    (iblk m c 2 t : FVec Ideal S1x512x2048 .f32) (ix3 0 r j) = X m c (ix3 0 (nOf t r) j) := by
  blk_ext [iblk, Gen.V, idx t, nOf]

theorem blk_g (t : Fin cfg0.N) (j : Fin 2048) :
    (iblk m c 3 t : FVec Ideal S1x1x1x2048 .f32) (ix4 0 0 0 j) = M m c (ix2 4 ⟨4096 + j, by omega⟩) := by
  blk_simp [iblk, idx t]
  entry_read
  pointwise
  blk_ext [idx t]

/-- The block that point `t` leaves. -/
theorem point (t : Fin cfg0.N) (y : S1x512x2048.Idx) :
    out0_4 (F := Ideal) (iblk m c 0 t) (iblk m c 1 t) (iblk m c 2 t) (iblk m c 3 t) y
      = Cert.OutProjCtxRefIdeal.Out.REF (A m c) (X m c) (M m c) (W m c) (ix3 0 (nOf t (y 1)) (y 2)) := by
  idx_vars y
  rw [show y0 = 0 from Subsingleton.elim _ _]
  refine Eq.trans ?_ (Cert.OutProjCtxRefIdeal.Out.ref_at (A m c) (X m c) (M m c) (W m c) (nOf t y1) y2).symm
  frame_out
  refine (body_at _ _ _ _ y1 y2).trans ?_
  simp only [blk_x, blk_g, blk_a, blk_w]

/-- The result array after the run. -/
theorem final : (dats m 0 c).arrAt 4 cfg0.N = Cert.OutProjCtxRefIdeal.Out.REF (A m c) (X m c) (M m c) (W m c) := by
  refine (dats m 0 c).arrAt_eq_of_covers 4 _ (by decide +kernel) fun t hf y => ?_
  blk_simp
  rw [after0_4]
  refine (point m c t y).trans (congrArg _ ?_)
  funext a; apply Fin.ext; fin_cases a <;> blk_simp [idx t, nOf] <;> rfl

end Cert.OutProjCtxIdeal.Out

end
-- ==== Proof.FfnDownCtx.lean ====
/- The second projection of the feed-forward part for the context tokens: each entry of its result is the residual plus the gate times a
   whole contraction, for the kernel and for the reference. -/
module

public import proofs.«01_k».proof.Proof.Gen.FfnDownCtxIdeal.Value
public import proofs.«01_k».proof.Proof.Gen.FfnDownCtxRefIdeal.Run
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnDownCtxRefIdeal.Out

open Cert.FfnDownCtxRefIdeal Cert.FfnDownCtxRefIdeal.Gen Cert.FfnDownCtxRefIdeal.Value

/-- The reference as a function of its arguments. -/
def REF (a : FVec Ideal S1x1024x5632 .bf16) (x : FVec Ideal S1x1024x2048 .f32) (mod : FVec Ideal S16x12288 .f32) (w : FVec Ideal S2x5632x2048 .f32) :
    FVec Ideal S1x1024x2048 .f32 :=
  addf x (mulf (broadcastInDim S1x1024x2048 ![0, 1, 2] bcast_S1x1x2048_S1x1024x2048_0_1_2 (broadcastInDim S1x1x2048 ![2] bcast_S2048_S1x1x2048_2 (extractStridedSlice S2048 ![10240] (shapeCast _ (extractStridedSlice S1x12288 ![4, 0] mod slices_S16x12288_S1x12288_4_0) shapeCasts_S1x12288_S12288) slices_S12288_S2048_10240)))
    (Host.dotGeneral dot_S1x1024x5632_S5632x2048_S1x1024x2048_2_0_01_1_n_n none (extf .f32 a bitsLt_bf16_f32) (shapeCast _ (extractStridedSlice S1x5632x2048 ![0, 0, 0] w slices_S2x5632x2048_S1x5632x2048_0_0_0) shapeCasts_S1x5632x2048_S5632x2048)))

/-- The reference at an entry. -/
theorem ref_at (a : FVec Ideal S1x1024x5632 .bf16) (x : FVec Ideal S1x1024x2048 .f32) (mod : FVec Ideal S16x12288 .f32) (w : FVec Ideal S2x5632x2048 .f32)
    (n : Fin 1024) (j : Fin 2048) :
    REF a x mod w (ix3 0 n j) = x (ix3 0 n j) + mod (ix2 4 ⟨10240 + j, by omega⟩) * ∑ k : Fin 5632, a (ix3 0 n k) * w (ix3 0 k j) := by
  pointwise! [REF]

end Cert.FfnDownCtxRefIdeal.Out

namespace Cert.FfnDownCtxIdeal.Out

open Cert.FfnDownCtxIdeal Cert.FfnDownCtxIdeal.Gen Cert.FfnDownCtxIdeal.Value

/-- What the body stores, at an entry. -/
theorem body_at (a : FVec Ideal S1x512x5632 .bf16) (w : FVec Ideal S1x5632x1024 .bf16) (x : FVec Ideal S1x512x1024 .f32) (g : FVec Ideal S1x1x1x1024 .f32)
    (r : Fin 512) (j : Fin 1024) :
    k0_pay1 (F := Ideal) a w x g (ix3 0 r j) = x (ix3 0 r j) + g (ix4 0 0 0 j) * ∑ k : Fin 5632, a (ix3 0 r k) * w (ix3 0 k j) := by
  pointwise! [k0_pay1]

theorem idx : ∀ t : Fin cfg0.N, win0_0.index t = ![0, t.val / 2, 0] ∧ win0_1.index t = ![0, 0, t.val % 2]
    ∧ win0_2.index t = ![0, t.val / 2, t.val % 2] ∧ win0_3.index t = ![4, 5, 0, t.val % 2]
    ∧ win0_4.index t = ![0, t.val / 2, t.val % 2] :=
  (by decide +kernel : ∀ t : Fin grid0.N, _)

theorem lt (t : Fin cfg0.N) : t.val < 4 := lt_of_lt_of_eq t.isLt N_0

variable (m : (ℓ : Loc nD τ sig) → Buf (Elt Ideal) ℓ) (c : Dev nD)

/-- The arguments. -/
abbrev A : FVec Ideal S1x1024x5632 .bf16 := m ((c.tc : Thread nD τ).loc main_arg0)
abbrev X : FVec Ideal S1x1024x2048 .f32 := m ((c.tc : Thread nD τ).loc main_arg1)
abbrev M : FVec Ideal S16x12288 .f32 := m ((c.tc : Thread nD τ).loc main_arg2)
abbrev W : FVec Ideal S2x5632x2048 .f32 := m ((c.tc : Thread nD τ).loc main_arg3)

/-- The row and column that an entry of point `t`'s block is. -/
def nOf (t : Fin cfg0.N) (r : Fin 512) : Fin 1024 := ⟨t.val / 2 * 512 + r, by have := lt t; omega⟩
def jOf (t : Fin cfg0.N) (j : Fin 1024) : Fin 2048 := ⟨t.val % 2 * 1024 + j, by omega⟩

theorem blk_a (t : Fin cfg0.N) (r : Fin 512) (k : Fin 5632) :
    (iblk m c 0 t : FVec Ideal S1x512x5632 .bf16) (ix3 0 r k) = A m c (ix3 0 (nOf t r) k) := by
  blk_ext [iblk, Gen.V, idx t, nOf]

theorem blk_w (t : Fin cfg0.N) (k : Fin 5632) (j : Fin 1024) :
    (iblk m c 1 t : FVec Ideal S1x5632x1024 .bf16) (ix3 0 k j) = W m c (ix3 0 k (jOf t j)) := by
  blk_simp [iblk, idx t]
  entry_read
  pointwise
  blk_ext [idx t, jOf]

theorem blk_x (t : Fin cfg0.N) (r : Fin 512) (j : Fin 1024) :
    (iblk m c 2 t : FVec Ideal S1x512x1024 .f32) (ix3 0 r j) = X m c (ix3 0 (nOf t r) (jOf t j)) := by
  blk_ext [iblk, Gen.V, idx t, nOf, jOf]

theorem blk_g (t : Fin cfg0.N) (j : Fin 1024) :
    (iblk m c 3 t : FVec Ideal S1x1x1x1024 .f32) (ix4 0 0 0 j) = M m c (ix2 4 ⟨10240 + jOf t j, by omega⟩) := by
  blk_simp [iblk, idx t]
  entry_read
  pointwise
  blk_ext [idx t, jOf]

/-- The block that point `t` leaves. -/
theorem point (t : Fin cfg0.N) (y : S1x512x1024.Idx) :
    out0_4 (F := Ideal) (iblk m c 0 t) (iblk m c 1 t) (iblk m c 2 t) (iblk m c 3 t) y
      = Cert.FfnDownCtxRefIdeal.Out.REF (A m c) (X m c) (M m c) (W m c) (ix3 0 (nOf t (y 1)) (jOf t (y 2))) := by
  idx_vars y
  rw [show y0 = 0 from Subsingleton.elim _ _]
  refine Eq.trans ?_ (Cert.FfnDownCtxRefIdeal.Out.ref_at (A m c) (X m c) (M m c) (W m c) (nOf t y1) (jOf t y2)).symm
  frame_out
  refine (body_at _ _ _ _ y1 y2).trans ?_
  simp only [blk_x, blk_g, blk_a, blk_w]

/-- The result array after the run. -/
theorem final : (dats m 0 c).arrAt 4 cfg0.N = Cert.FfnDownCtxRefIdeal.Out.REF (A m c) (X m c) (M m c) (W m c) := by
  refine (dats m 0 c).arrAt_eq_of_covers 4 _ (by decide +kernel) fun t hf y => ?_
  blk_simp
  rw [after0_4]
  refine (point m c t y).trans (congrArg _ ?_)
  funext a; apply Fin.ext; fin_cases a <;> blk_simp [idx t, nOf, jOf] <;> rfl

end Cert.FfnDownCtxIdeal.Out

end
-- ==== Proof.MergeCtx.lean ====
/- The merge of the branches: each entry of its result is the sum of three gated contractions, the last over a row that
   is normalised head by head, for the kernel and for the reference. -/
module

public import proofs.«01_k».proof.Proof.Gen.MergeCtxIdeal.Value
public import proofs.«01_k».proof.Proof.Gen.MergeCtxRefIdeal.Run
public import Idealize.ShloMosaic.Lib.Pointwise
public import Idealize.ShloMosaic.Lib.Pipeline.ValueKit
public import Idealize.ShloMosaic.Lib.Pipeline.ReadBack
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.MergeCtxIdeal.Out

/-- The logistic function. -/
def sigmoid (x : EReal) : EReal := Ideal.div 1 (1 + Ideal.exp (-x))

/-- Entry `l` of a row `o` after the root mean square norm of its head of 256 lanes with gain `g`, times the gate made of `r`. -/
def mixed (o r : Fin 1024 → EReal) (g : Fin 256 → EReal) (l : Fin 1024) : EReal :=
  o l * Ideal.rsqrt (Ideal.div (∑ k : Fin 256, o ⟨l / 256 * 256 + k, by omega⟩ * o ⟨l / 256 * 256 + k, by omega⟩) (Ideal.ofBits .f32 0x43800000#32) + Ideal.ofBits .f32 0x358637BD#32)
    * g ⟨l % 256, by omega⟩ * (r l * sigmoid (r l))

end Cert.MergeCtxIdeal.Out

namespace Cert.MergeCtxRefIdeal.Out

open Cert.MergeCtxRefIdeal Cert.MergeCtxRefIdeal.Gen Cert.MergeCtxRefIdeal.Value
open Cert.MergeCtxIdeal.Out (sigmoid mixed)

/-- The sum of the two directions, split into heads. -/
def refO (f h : FVec Ideal S4x256x1024 .f32) : FVec Ideal S4x256x4x256 .f32 :=
  shapeCast _ (addf f h) shapeCasts_S4x256x1024_S4x256x4x256

/-- The heads' norm with its gain. -/
def refN (o : FVec Ideal S4x256x4x256 .f32) (g : FVec Ideal S256 .f32) : FVec Ideal S4x256x1024 .f32 :=
  shapeCast _ (mulf (mulf o (broadcastInDim S4x256x4x256 ![0, 1, 2, 3] bcast_S4x256x4x1_S4x256x4x256_0_1_2_3 (Host.rsqrt (addf (Host.divf (broadcastInDim S4x256x4x1 ![0, 1, 2] bcast_S4x256x4_S4x256x4x1_0_1_2 (Host.reduceAdd (mulf o o) (constant S_ .f32 0x00000000#32) reducesTo_S4x256x4x256_S4x256x4_d3 h_S_)) (broadcastInDim S4x256x4x1 ![] bcast_S_S4x256x4x1 (constant S_ .f32 0x43800000#32))) (broadcastInDim S4x256x4x1 ![] bcast_S_S4x256x4x1 (constant S_ .f32 0x358637BD#32))))))
    (broadcastInDim S4x256x4x256 ![0, 1, 2, 3] bcast_S1x1x1x256_S4x256x4x256_0_1_2_3 (broadcastInDim S1x1x1x256 ![3] bcast_S256_S1x1x1x256_3 g))) shapeCasts_S4x256x4x256_S4x256x1024

/-- The columns that gate the normalised rows. -/
def refR (u : FVec Ideal S4x256x14592 .bf16) : FVec Ideal S4x256x1024 .f32 :=
  extf .f32 (extractStridedSlice S4x256x1024 ![0, 0, 12288] u slices_S4x256x14592_S4x256x1024_0_0_12288) bitsLt_bf16_f32

/-- The gated, normalised rows. -/
def refH (n r : FVec Ideal S4x256x1024 .f32) : FVec Ideal S4x256x1024 .f32 :=
  mulf n (mulf r (Host.divf (broadcastInDim S4x256x1024 ![] bcast_S_S4x256x1024 (constant S_ .f32 0x3F800000#32)) (addf (broadcastInDim S4x256x1024 ![] bcast_S_S4x256x1024 (constant S_ .f32 0x3F800000#32)) (Host.exp (Host.negf r)))))

/-- The branches' gates. -/
def refG (u : FVec Ideal S4x256x14592 .bf16) (q : FVec Ideal S3x2048 .f32) : FVec Ideal S4x256x3x2048 .f32 :=
  Host.divf (broadcastInDim S4x256x3x2048 ![] bcast_S_S4x256x3x2048 (constant S_ .f32 0x3F800000#32)) (addf (broadcastInDim S4x256x3x2048 ![] bcast_S_S4x256x3x2048 (constant S_ .f32 0x3F800000#32)) (Host.exp (Host.negf (addf (shapeCast _ (extf .f32 (extractStridedSlice S4x256x6144 ![0, 0, 0] u slices_S4x256x14592_S4x256x6144_0_0_0) bitsLt_bf16_f32) shapeCasts_S4x256x6144_S4x256x3x2048) (broadcastInDim S4x256x3x2048 ![0, 1, 2, 3] bcast_S1x1x3x2048_S4x256x3x2048_0_1_2_3 (broadcastInDim S1x1x3x2048 ![2, 3] bcast_S3x2048_S1x1x3x2048_2_3 q))))))

/-- A branch's output product. -/
def refY (x : FVec Ideal S4x256x1024 .f32) (w : FVec Ideal S2x1024x2048 .f32) : FVec Ideal S4x256x2048 .f32 :=
  Host.dotGeneral dot_S4x256x1024_S1024x2048_S4x256x2048_2_0_01_1_n_n none x (shapeCast _ (extractStridedSlice S1x1024x2048 ![0, 0, 0] w slices_S2x1024x2048_S1x1024x2048_0_0_0) shapeCasts_S1x1024x2048_S1024x2048)

/-- The gated sum of the branches. -/
def refS (g : FVec Ideal S4x256x3x2048 .f32) (ya yb yc : FVec Ideal S4x256x2048 .f32) : FVec Ideal S4x256x2048 .bf16 :=
  truncf .bf16 (addf (addf (mulf (shapeCast _ (extractStridedSlice S4x256x1x2048 ![0, 0, 0, 0] g slices_S4x256x3x2048_S4x256x1x2048_0_0_0_0) shapeCasts_S4x256x1x2048_S4x256x2048) ya)
    (mulf (shapeCast _ (extractStridedSlice S4x256x1x2048 ![0, 0, 1, 0] g slices_S4x256x3x2048_S4x256x1x2048_0_0_1_0) shapeCasts_S4x256x1x2048_S4x256x2048) yb))
    (mulf (shapeCast _ (extractStridedSlice S4x256x1x2048 ![0, 0, 2, 0] g slices_S4x256x3x2048_S4x256x1x2048_0_0_2_0) shapeCasts_S4x256x1x2048_S4x256x2048) yc)) bitsLt_bf16_f32

/-- The reference as a function of its arguments. -/
def REF (a b : FVec Ideal S4x256x1024 .bf16) (f h : FVec Ideal S4x256x1024 .f32) (u : FVec Ideal S4x256x14592 .bf16) (g : FVec Ideal S256 .f32)
    (wa wb wc : FVec Ideal S2x1024x2048 .f32) (q : FVec Ideal S3x2048 .f32) : FVec Ideal S4x256x2048 .bf16 :=
  refS (refG u q) (refY (extf .f32 a bitsLt_bf16_f32) wa) (refY (extf .f32 b bitsLt_bf16_f32) wb) (refY (refH (refN (refO f h) g) (refR u)) wc)

/-- What the reference returns is `REF` of its arguments. -/
theorem res_eq (m : (ℓ : Loc nD τ sig) → Buf (Elt Ideal) ℓ) (c : Dev nD) : res_out0 (F := Ideal) m c
    = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) := rfl

theorem n_at (f h : FVec Ideal S4x256x1024 .f32) (g : FVec Ideal S256 .f32) (u : FVec Ideal S4x256x14592 .bf16) (b : Fin 4) (n : Fin 256) (l : Fin 1024) :
    refH (refN (refO f h) g) (refR u) (ix3 b n l) = mixed (fun k => f (ix3 b n k) + h (ix3 b n k)) (fun k => u (ix3 b n ⟨12288 + k, by omega⟩)) (fun k => g (ix1 k)) l := by
  pointwise! [refH, refN, refO, refR, mixed, sigmoid]

theorem g_at (u : FVec Ideal S4x256x14592 .bf16) (q : FVec Ideal S3x2048 .f32) (b : Fin 4) (n : Fin 256) (i : Fin 3) (j : Fin 2048) :
    refG u q (ix4 b n i j) = sigmoid (u (ix3 b n ⟨i * 2048 + j, by omega⟩) + q (ix2 i j)) := by
  pointwise! [refG, sigmoid]

theorem y_at (x : FVec Ideal S4x256x1024 .f32) (w : FVec Ideal S2x1024x2048 .f32) (b : Fin 4) (n : Fin 256) (j : Fin 2048) :
    refY x w (ix3 b n j) = ∑ k : Fin 1024, x (ix3 b n k) * w (ix3 0 k j) := by
  pointwise! [refY]

theorem s_at (g : FVec Ideal S4x256x3x2048 .f32) (ya yb yc : FVec Ideal S4x256x2048 .f32) (b : Fin 4) (n : Fin 256) (j : Fin 2048) :
    refS g ya yb yc (ix3 b n j) = g (ix4 b n 0 j) * ya (ix3 b n j) + g (ix4 b n 1 j) * yb (ix3 b n j) + g (ix4 b n 2 j) * yc (ix3 b n j) := by
  pointwise! [refS]

/-- The reference at an entry. -/
theorem ref_at (a b : FVec Ideal S4x256x1024 .bf16) (f h : FVec Ideal S4x256x1024 .f32) (u : FVec Ideal S4x256x14592 .bf16) (g : FVec Ideal S256 .f32)
    (wa wb wc : FVec Ideal S2x1024x2048 .f32) (q : FVec Ideal S3x2048 .f32) (i : Fin 4) (n : Fin 256) (j : Fin 2048) :
    REF a b f h u g wa wb wc q (ix3 i n j)
      = sigmoid (u (ix3 i n ⟨j, by omega⟩) + q (ix2 0 j)) * ∑ k : Fin 1024, a (ix3 i n k) * wa (ix3 0 k j)
        + sigmoid (u (ix3 i n ⟨2048 + j, by omega⟩) + q (ix2 1 j)) * ∑ k : Fin 1024, b (ix3 i n k) * wb (ix3 0 k j)
        + sigmoid (u (ix3 i n ⟨4096 + j, by omega⟩) + q (ix2 2 j)) * ∑ k : Fin 1024, mixed (fun k => f (ix3 i n k) + h (ix3 i n k)) (fun k => u (ix3 i n ⟨12288 + k, by omega⟩)) (fun k => g (ix1 k)) k * wc (ix3 0 k j) := by
  refine (s_at _ _ _ _ i n j).trans ?_
  have e0 : (⟨((0 : Fin 3) : ℕ) * 2048 + j, by simp; omega⟩ : Fin 14592) = ⟨j, by omega⟩ := Fin.ext (by simp)
  have e1 : (⟨((1 : Fin 3) : ℕ) * 2048 + j, by simp; omega⟩ : Fin 14592) = ⟨2048 + j, by omega⟩ := Fin.ext (by simp)
  have e2 : (⟨((2 : Fin 3) : ℕ) * 2048 + j, by simp; omega⟩ : Fin 14592) = ⟨4096 + j, by omega⟩ := Fin.ext (by simp)
  rw [g_at, g_at, g_at, y_at, y_at, y_at, e0, e1, e2]
  simp only [n_at]
  rfl

end Cert.MergeCtxRefIdeal.Out

namespace Cert.MergeCtxIdeal.Out

open Cert.MergeCtxIdeal Cert.MergeCtxIdeal.Gen Cert.MergeCtxIdeal.Value

/-- The sum of the two directions, and the gate, as the body reads them. -/
theorem pay2_at (f h : FVec Ideal S1x256x1024 .f32) (r : Fin 256) (l : Fin 1024) :
    k0_pay2 (F := Ideal) f h (ix2 r l) = f (ix3 0 r l) + h (ix3 0 r l) := by
  pointwise! [k0_pay2]

theorem pay3_at (v : FVec Ideal S1x256x1024 .bf16) (r : Fin 256) (l : Fin 1024) :
    k0_pay3 (F := Ideal) v (ix2 r l) = v (ix3 0 r l) * sigmoid (v (ix3 0 r l)) := by
  pointwise [k0_pay3, sigmoid]
  rw [zero_sub]

/-- A head's columns `256 * h + l` of the gated, normalised rows, from its sum of directions and its gate. -/
theorem head0 (f h : FVec Ideal S1x256x1024 .f32) (v : FVec Ideal S1x256x1024 .bf16) (g : FVec Ideal S1x256 .f32) (r : Fin 256) (l : Fin 256) :
    k0_pay5 (F := Ideal) f h v g (ix2 r l) = mixed (fun k => f (ix3 0 r k) + h (ix3 0 r k)) (fun k => v (ix3 0 r k)) (fun k => g (ix2 0 k)) ⟨l, by omega⟩ := by
  have e : ∀ k : Fin 256, (⟨(l : ℕ) / 256 * 256 + k, by omega⟩ : Fin 1024) = ⟨k, by omega⟩ := fun k => Fin.ext (by simp only; omega)
  have e' : (⟨(l : ℕ) % 256, by omega⟩ : Fin 256) = l := Fin.ext (by simp only; omega)
  simp only [mixed, sigmoid, e, e']
  pointwise [k0_pay5, k0_pay2, k0_pay3, k0_pay4]
  simp only [zero_sub]

theorem head1 (f h : FVec Ideal S1x256x1024 .f32) (v : FVec Ideal S1x256x1024 .bf16) (g : FVec Ideal S1x256 .f32) (r : Fin 256) (l : Fin 256) :
    k0_pay8 (F := Ideal) (k0_pay3 v) (k0_pay4 g) (k0_pay6 f h) (k0_pay7 f h) (ix2 r l) = mixed (fun k => f (ix3 0 r k) + h (ix3 0 r k)) (fun k => v (ix3 0 r k)) (fun k => g (ix2 0 k)) ⟨256 + l, by omega⟩ := by
  have e : ∀ k : Fin 256, (⟨(256 + (l : ℕ)) / 256 * 256 + k, by omega⟩ : Fin 1024) = ⟨256 + k, by omega⟩ := fun k => Fin.ext (by simp only; omega)
  have e' : (⟨(256 + (l : ℕ)) % 256, by omega⟩ : Fin 256) = l := Fin.ext (by simp only; omega)
  simp only [mixed, sigmoid, e, e']
  pointwise [k0_pay8, k0_pay6, k0_pay7, k0_pay2, k0_pay3, k0_pay4]
  simp only [zero_sub]

theorem head2 (f h : FVec Ideal S1x256x1024 .f32) (v : FVec Ideal S1x256x1024 .bf16) (g : FVec Ideal S1x256 .f32) (r : Fin 256) (l : Fin 256) :
    k0_pay9 (F := Ideal) (k0_pay2 f h) (k0_pay3 v) (k0_pay4 g) (ix2 r l) = mixed (fun k => f (ix3 0 r k) + h (ix3 0 r k)) (fun k => v (ix3 0 r k)) (fun k => g (ix2 0 k)) ⟨512 + l, by omega⟩ := by
  have e : ∀ k : Fin 256, (⟨(512 + (l : ℕ)) / 256 * 256 + k, by omega⟩ : Fin 1024) = ⟨512 + k, by omega⟩ := fun k => Fin.ext (by simp only; omega)
  have e' : (⟨(512 + (l : ℕ)) % 256, by omega⟩ : Fin 256) = l := Fin.ext (by simp only; omega)
  simp only [mixed, sigmoid, e, e']
  pointwise [k0_pay9, k0_pay2, k0_pay3, k0_pay4]
  simp only [zero_sub]

theorem head3 (f h : FVec Ideal S1x256x1024 .f32) (v : FVec Ideal S1x256x1024 .bf16) (g : FVec Ideal S1x256 .f32) (r : Fin 256) (l : Fin 256) :
    k0_pay12 (F := Ideal) (k0_pay3 v) (k0_pay4 g) (k0_pay10 (k0_pay2 f h)) (k0_pay11 (k0_pay2 f h)) (ix2 r l) = mixed (fun k => f (ix3 0 r k) + h (ix3 0 r k)) (fun k => v (ix3 0 r k)) (fun k => g (ix2 0 k)) ⟨768 + l, by omega⟩ := by
  have e : ∀ k : Fin 256, (⟨(768 + (l : ℕ)) / 256 * 256 + k, by omega⟩ : Fin 1024) = ⟨768 + k, by omega⟩ := fun k => Fin.ext (by simp only; omega)
  have e' : (⟨(768 + (l : ℕ)) % 256, by omega⟩ : Fin 256) = l := Fin.ext (by simp only; omega)
  simp only [mixed, sigmoid, e, e']
  pointwise [k0_pay12, k0_pay10, k0_pay11, k0_pay2, k0_pay3, k0_pay4]
  simp only [zero_sub]

/-- What the body stores, at an entry. -/
theorem body_at (a b : FVec Ideal S1x256x1024 .bf16) (v : FVec Ideal S256x1024 .bf16) (wa wb wc : FVec Ideal S1x1024x1024 .bf16)
    (ua ub uc : FVec Ideal S1x256x1024 .bf16) (qa qb qc : FVec Ideal S1x1x1024 .f32) (r : Fin 256) (j : Fin 1024) :
    k0_pay1 (F := Ideal) (k0_pay15 v (k0_pay13 a wa ua qa) (k0_pay14 b wb) ub qb wc uc qc) (ix3 0 r j)
      = sigmoid (ua (ix3 0 r j) + qa (ix3 0 0 j)) * ∑ k : Fin 1024, a (ix3 0 r k) * wa (ix3 0 k j)
        + sigmoid (ub (ix3 0 r j) + qb (ix3 0 0 j)) * ∑ k : Fin 1024, b (ix3 0 r k) * wb (ix3 0 k j)
        + sigmoid (uc (ix3 0 r j) + qc (ix3 0 0 j)) * ∑ k : Fin 1024, v (ix2 r k) * wc (ix3 0 k j) := by
  pointwise [k0_pay1, k0_pay15, k0_pay13, k0_pay14, sigmoid]
  simp only [zero_sub]

theorem idx : ∀ t : Fin cfg0.N, win0_0.index t = ![t.val / 2, 0, 0] ∧ win0_1.index t = ![t.val / 2, 0, 0]
    ∧ win0_2.index t = ![t.val / 2, 0, 0] ∧ win0_3.index t = ![t.val / 2, 0, 0]
    ∧ win0_4.index t = ![t.val / 2, 0, 12] ∧ win0_5.index t = ![0, 0]
    ∧ win0_6.index t = ![t.val / 2, 0, t.val % 2] ∧ win0_7.index t = ![t.val / 2, 0, 2 + t.val % 2]
    ∧ win0_8.index t = ![t.val / 2, 0, 4 + t.val % 2] ∧ win0_9.index t = ![0, 0, t.val % 2] ∧ win0_10.index t = ![0, 0, t.val % 2]
    ∧ win0_11.index t = ![0, 0, t.val % 2] ∧ win0_12.index t = ![0, 0, t.val % 2] ∧ win0_13.index t = ![t.val / 2, 0, t.val % 2] :=
  (by decide +kernel : ∀ t : Fin grid0.N, _)

theorem lt (t : Fin cfg0.N) : t.val < 8 := lt_of_lt_of_eq t.isLt N_0

variable (m : (ℓ : Loc nD τ sig) → Buf (Elt Ideal) ℓ) (c : Dev nD)

/-- The arguments. -/
abbrev HA : FVec Ideal S4x256x1024 .bf16 := m ((c.tc : Thread nD τ).loc main_arg0)
abbrev HB : FVec Ideal S4x256x1024 .bf16 := m ((c.tc : Thread nD τ).loc main_arg1)
abbrev OF : FVec Ideal S4x256x1024 .f32 := m ((c.tc : Thread nD τ).loc main_arg2)
abbrev OB : FVec Ideal S4x256x1024 .f32 := m ((c.tc : Thread nD τ).loc main_arg3)
abbrev U : FVec Ideal S4x256x14592 .bf16 := m ((c.tc : Thread nD τ).loc main_arg4)
abbrev GN : FVec Ideal S256 .f32 := m ((c.tc : Thread nD τ).loc main_arg5)
abbrev WA : FVec Ideal S2x1024x2048 .f32 := m ((c.tc : Thread nD τ).loc main_arg6)
abbrev WB : FVec Ideal S2x1024x2048 .f32 := m ((c.tc : Thread nD τ).loc main_arg7)
abbrev WC : FVec Ideal S2x1024x2048 .f32 := m ((c.tc : Thread nD τ).loc main_arg8)
abbrev BG : FVec Ideal S3x2048 .f32 := m ((c.tc : Thread nD τ).loc main_arg9)

/-- The batch, row and column that an entry of point `t`'s block is. -/
def bOf (t : Fin cfg0.N) : Fin 4 := ⟨t.val / 2, by have := lt t; omega⟩
def nOf (t : Fin cfg0.N) (r : Fin 256) : Fin 256 := r
def jOf (t : Fin cfg0.N) (j : Fin 1024) : Fin 2048 := ⟨t.val % 2 * 1024 + j, by omega⟩

theorem blk_a (t : Fin cfg0.N) (r : Fin 256) (k : Fin 1024) :
    (iblk m c 0 t : FVec Ideal S1x256x1024 .bf16) (ix3 0 r k) = HA m c (ix3 (bOf t) (nOf t r) k) := by
  blk_ext [iblk, Gen.V, idx t, bOf, nOf]

theorem blk_b (t : Fin cfg0.N) (r : Fin 256) (k : Fin 1024) :
    (iblk m c 1 t : FVec Ideal S1x256x1024 .bf16) (ix3 0 r k) = HB m c (ix3 (bOf t) (nOf t r) k) := by
  blk_ext [iblk, Gen.V, idx t, bOf, nOf]

theorem blk_f (t : Fin cfg0.N) (r : Fin 256) (k : Fin 1024) :
    (iblk m c 2 t : FVec Ideal S1x256x1024 .f32) (ix3 0 r k) = OF m c (ix3 (bOf t) (nOf t r) k) := by
  blk_ext [iblk, Gen.V, idx t, bOf, nOf]

theorem blk_h (t : Fin cfg0.N) (r : Fin 256) (k : Fin 1024) :
    (iblk m c 3 t : FVec Ideal S1x256x1024 .f32) (ix3 0 r k) = OB m c (ix3 (bOf t) (nOf t r) k) := by
  blk_ext [iblk, Gen.V, idx t, bOf, nOf]

theorem blk_r (t : Fin cfg0.N) (r : Fin 256) (k : Fin 1024) :
    (X0_4 m c t : FVec Ideal S1x256x1024 .bf16) (ix3 0 r k) = U m c (ix3 (bOf t) (nOf t r) ⟨12288 + k, by omega⟩) := by
  unfold X0_4 Pipeline.Window.fill
  refine (dif_pos (moved0_4 t _)).trans ?_
  blk_ext [iblk, Gen.V, idx t, bOf, nOf]

theorem blk_g (t : Fin cfg0.N) (k : Fin 256) : (iblk m c 5 t : FVec Ideal S1x256 .f32) (ix2 0 k) = GN m c (ix1 k) := by
  blk_simp [iblk, idx t]
  entry_read
  pointwise
  blk_ext [idx t]

theorem blk_ua (t : Fin cfg0.N) (r : Fin 256) (j : Fin 1024) :
    (X0_6 m c t : FVec Ideal S1x256x1024 .bf16) (ix3 0 r j) = U m c (ix3 (bOf t) (nOf t r) ⟨jOf t j, by omega⟩) := by
  unfold X0_6 Pipeline.Window.fill
  refine (dif_pos (moved0_6 t _)).trans ?_
  blk_ext [iblk, Gen.V, idx t, bOf, nOf, jOf]

theorem blk_ub (t : Fin cfg0.N) (r : Fin 256) (j : Fin 1024) :
    (X0_7 m c t : FVec Ideal S1x256x1024 .bf16) (ix3 0 r j) = U m c (ix3 (bOf t) (nOf t r) ⟨2048 + jOf t j, by omega⟩) := by
  unfold X0_7 Pipeline.Window.fill
  refine (dif_pos (moved0_7 t _)).trans ?_
  blk_ext [iblk, Gen.V, idx t, bOf, nOf, jOf]

theorem blk_uc (t : Fin cfg0.N) (r : Fin 256) (j : Fin 1024) :
    (X0_8 m c t : FVec Ideal S1x256x1024 .bf16) (ix3 0 r j) = U m c (ix3 (bOf t) (nOf t r) ⟨4096 + jOf t j, by omega⟩) := by
  unfold X0_8 Pipeline.Window.fill
  refine (dif_pos (moved0_8 t _)).trans ?_
  blk_ext [iblk, Gen.V, idx t, bOf, nOf, jOf]

theorem blk_wa (t : Fin cfg0.N) (k j : Fin 1024) :
    (iblk m c 9 t : FVec Ideal S1x1024x1024 .bf16) (ix3 0 k j) = WA m c (ix3 0 k (jOf t j)) := by
  blk_simp [iblk, idx t]
  entry_read
  pointwise
  blk_ext [idx t, jOf]

theorem blk_wb (t : Fin cfg0.N) (k j : Fin 1024) :
    (iblk m c 10 t : FVec Ideal S1x1024x1024 .bf16) (ix3 0 k j) = WB m c (ix3 0 k (jOf t j)) := by
  blk_simp [iblk, idx t]
  entry_read
  pointwise
  blk_ext [idx t, jOf]

theorem blk_wc (t : Fin cfg0.N) (k j : Fin 1024) :
    (iblk m c 11 t : FVec Ideal S1x1024x1024 .bf16) (ix3 0 k j) = WC m c (ix3 0 k (jOf t j)) := by
  blk_simp [iblk, idx t]
  entry_read
  pointwise
  blk_ext [idx t, jOf]

theorem blk_q (t : Fin cfg0.N) (i : Fin 3) (j : Fin 1024) :
    (iblk m c 12 t : FVec Ideal S3x1x1024 .f32) (ix3 i 0 j) = BG m c (ix2 i (jOf t j)) := by
  blk_simp [iblk, idx t]
  entry_read
  pointwise
  blk_ext [idx t, jOf]

/-- Plane `i` of the gates' bias, as the body loads it. -/
theorem bias (t : Fin cfg0.N) (i : Fin 3) (h : ∀ a, (![(i : ℕ), 0, 0] : Fin 3 → ℕ) a + S1x1x1024.size a ≤ S3x1x1024.size a) (j : Fin 1024) :
    (View.ld (iblk m c 12 t : FVec Ideal S3x1x1024 .f32) (Rect.unit (s := S3x1x1024) ![(i : ℕ), 0, 0] S1x1x1024.size h) : FVec Ideal S1x1x1024 .f32) (ix3 0 0 j)
      = BG m c (ix2 i (jOf t j)) := by
  refine Eq.trans (congrArg (iblk m c 12 t) ?_) (blk_q m c t i j)
  funext a; apply Fin.ext; fin_cases a <;> simp

/-- The gated, normalised entry `l` of token `n` of batch `b`. -/
def row (b : Fin 4) (n : Fin 256) (l : Fin 1024) : EReal :=
  mixed (fun k => OF m c (ix3 b n k) + OB m c (ix3 b n k)) (fun k => U m c (ix3 b n ⟨12288 + k, by omega⟩)) (fun k => GN m c (ix1 k)) l

/-- A tile's rows, from the blocks of its point. -/
theorem tile (t : Fin cfg0.N) (r : Fin 256) (l : Fin 1024) (f h : FVec Ideal S1x256x1024 .f32) (v : FVec Ideal S1x256x1024 .bf16) (g : FVec Ideal S1x256 .f32)
    (hf : f = iblk m c 2 t) (hh : h = iblk m c 3 t) (hv : v = X0_4 m c t) (hg : g = iblk m c 5 t) :
    mixed (fun k => f (ix3 0 r k) + h (ix3 0 r k)) (fun k => v (ix3 0 r k)) (fun k => g (ix2 0 k)) l = row m c (bOf t) (nOf t r) l := by
  subst hf hh hv hg
  simp only [blk_f, blk_h, blk_r, blk_g]
  rfl

/-- The first point of a tile leaves the tile's rows in the scratch buffer. -/
theorem scratch_first (t : Fin cfg0.N) (h : t.val % 2 = 0) (r : Fin 256) (l : Fin 1024) :
    (outsAt0 m c t.val t.isLt).2 (ix2 r l) = row m c (bOf t) (nOf t r) l := by
  rw [← tile m c t r l _ _ _ _ rfl rfl rfl rfl, outsAt0_A m c t h]
  frame_out
  canon_tiles x hx <;> idx_vars x <;> obtain rfl : r = x0 := Fin.ext hx0
  · rw [show l = ⟨768 + x1, by omega⟩ from Fin.ext hx1]
    exact head3 _ _ _ _ _ _
  · rw [show l = ⟨512 + x1, by omega⟩ from Fin.ext hx1]
    exact head2 _ _ _ _ _ _
  · rw [show l = ⟨256 + x1, by omega⟩ from Fin.ext hx1]
    exact head1 _ _ _ _ _ _
  · rw [show l = ⟨x1, by omega⟩ from Fin.ext hx1]
    exact head0 _ _ _ _ _ _

/-- At every point the scratch buffer holds the rows of its tile. -/
theorem scratch : ∀ (n : ℕ) (hn : n < cfg0.N) (r : Fin 256) (d : Fin 1024),
    (outsAt0 m c n hn).2 (ix2 r d) = row m c (bOf ⟨n, hn⟩) (nOf ⟨n, hn⟩ r) d := by
  intro n
  induction n with
  | zero => exact fun hn => scratch_first m c ⟨0, hn⟩ rfl
  | succ n ih =>
    intro hn r d
    by_cases h : (n + 1) % 2 = 0
    · exact scratch_first m c ⟨n + 1, hn⟩ h r d
    · have e := outsAt0_B m c ⟨n + 1, hn⟩ h
      have eb : bOf ⟨n + 1, hn⟩ = bOf ⟨n, Nat.lt_of_succ_lt hn⟩ := Fin.ext (by simp only [bOf]; omega)
      have en : nOf ⟨n + 1, hn⟩ r = nOf ⟨n, Nat.lt_of_succ_lt hn⟩ r := rfl
      rw [eb, en]
      exact (congrFun (congrArg (fun p => p.2) e) (ix2 r d)).trans (ih (Nat.lt_of_succ_lt hn) r d)

/-- The block that point `t` leaves. -/
theorem point (t : Fin cfg0.N) (y : S1x256x1024.Idx) :
    (outsAt0 m c t.val t.isLt).1 y = Cert.MergeCtxRefIdeal.Out.REF (HA m c) (HB m c) (OF m c) (OB m c) (U m c) (GN m c) (WA m c) (WB m c) (WC m c) (BG m c)
      (ix3 (bOf t) (nOf t (y 1)) (jOf t (y 2))) := by
  idx_vars y
  rw [show y0 = 0 from Subsingleton.elim _ _]
  refine Eq.trans ?_ (Cert.MergeCtxRefIdeal.Out.ref_at (HA m c) (HB m c) (OF m c) (OB m c) (U m c) (GN m c) (WA m c) (WB m c) (WC m c) (BG m c) (bOf t) (nOf t y1) (jOf t y2)).symm
  have key : ∀ (v : FVec Ideal S256x1024 .bf16) (qa qb qc : FVec Ideal S1x1x1024 .f32), v = (outsAt0 m c t.val t.isLt).2 →
      qa (ix3 0 0 y2) = BG m c (ix2 0 (jOf t y2)) → qb (ix3 0 0 y2) = BG m c (ix2 1 (jOf t y2)) → qc (ix3 0 0 y2) = BG m c (ix2 2 (jOf t y2)) →
      k0_pay1 (F := Ideal) (k0_pay15 v (k0_pay13 (iblk m c 0 t) (iblk m c 9 t) (X0_6 m c t) qa) (k0_pay14 (iblk m c 1 t) (iblk m c 10 t)) (X0_7 m c t) qb (iblk m c 11 t) (X0_8 m c t) qc) (ix3 0 y1 y2)
      = sigmoid (U m c (ix3 (bOf t) (nOf t y1) ⟨jOf t y2, by omega⟩) + BG m c (ix2 0 (jOf t y2))) * ∑ k : Fin 1024, HA m c (ix3 (bOf t) (nOf t y1) k) * WA m c (ix3 0 k (jOf t y2))
        + sigmoid (U m c (ix3 (bOf t) (nOf t y1) ⟨2048 + jOf t y2, by omega⟩) + BG m c (ix2 1 (jOf t y2))) * ∑ k : Fin 1024, HB m c (ix3 (bOf t) (nOf t y1) k) * WB m c (ix3 0 k (jOf t y2))
        + sigmoid (U m c (ix3 (bOf t) (nOf t y1) ⟨4096 + jOf t y2, by omega⟩) + BG m c (ix2 2 (jOf t y2))) * ∑ k : Fin 1024, row m c (bOf t) (nOf t y1) k * WC m c (ix3 0 k (jOf t y2)) := by
    rintro v qa qb qc rfl ha hb hc
    refine (body_at _ _ _ _ _ _ _ _ _ _ _ _ y1 y2).trans ?_
    simp only [scratch m c t.val t.isLt, blk_a, blk_b, blk_wa, blk_wb, blk_wc, blk_ua, blk_ub, blk_uc, ha, hb, hc]
  by_cases h : t.val % 2 = 0
  · rw [outsAt0_A m c t h]
    frame_out
    refine key _ _ _ _ ?_ (bias m c t 0 inb_S3x1x1024_S1x1x1024_0_0_0 y2) (bias m c t 1 inb_S3x1x1024_S1x1x1024_1_0_0 y2) (bias m c t 2 inb_S3x1x1024_S1x1x1024_2_0_0 y2)
    rw [outsAt0_A m c t h]
    rw [View.readCov_eq_canon']
    funext y
    frame_out
    exact congrArg (View.canon _) (by funext a; apply Fin.ext; fin_cases a <;> simp)
  · have e := outsAt0_B m c t h
    rw [e]
    frame_out
    refine key _ _ _ _ ?_ (bias m c t 0 inb_S3x1x1024_S1x1x1024_0_0_0 y2) (bias m c t 1 inb_S3x1x1024_S1x1x1024_1_0_0 y2) (bias m c t 2 inb_S3x1x1024_S1x1x1024_2_0_0 y2)
    rw [read_unread_whole]
    exact (congrArg (fun p => p.2) e).symm

/-- The result array after the run. -/
theorem final : (dats m 0 c).arrAt 13 cfg0.N = Cert.MergeCtxRefIdeal.Out.REF (HA m c) (HB m c) (OF m c) (OB m c) (U m c) (GN m c) (WA m c) (WB m c) (WC m c) (BG m c) := by
  refine (dats m 0 c).arrAt_eq_of_covers 13 _ (by decide +kernel) fun t hf y => ?_
  blk_simp
  rw [after0_13]
  refine (point m c t y).trans (congrArg _ ?_)
  funext a; apply Fin.ext; fin_cases a <;> (blk_simp [idx t, bOf, nOf, jOf]; rfl)

end Cert.MergeCtxIdeal.Out

end
-- ==== Proof.ConformerCtx.lean ====
/- The conformer convolution of the context tokens: each entry of the reference and of the kernel's result as a depthwise convolution of width 31 over zero
   padded gated rows, layer normalised and activated. -/
module

public import proofs.«01_k».proof.Proof.Gen.ConformerCtxIdeal.Value
public import proofs.«01_k».proof.Proof.Gen.ConformerCtxRefIdeal.Run
public import Idealize.ShloMosaic.Lib.Pointwise
public import Idealize.ShloMosaic.Lib.KernelVsHost
public import Idealize.ShloMosaic.Lib.Pipeline.ValueKit
public import Idealize.ShloMosaic.Lib.Pipeline.ReadBack
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.ConformerCtxIdeal.Out

/-- The product of a value and the gate's logistic function. -/
def glu (v g : EReal) : EReal := v * Ideal.div 1 (1 + Ideal.exp (-g))

/-- The product of a value and its own logistic function. -/
def act (x : EReal) : EReal := x * Ideal.div 1 (1 + Ideal.exp (-x))

/-- The mean of a row, and the row less its mean. -/
def centred (x : Fin 1024 → EReal) (d : Fin 1024) : EReal := x d - Ideal.div (∑ k, x k) (Ideal.ofBits .f32 0x44800000#32)

/-- Entry `d` of a row after the layer norm with gain `g` and shift `b`. -/
def lnorm (x g b : Fin 1024 → EReal) (d : Fin 1024) : EReal :=
  centred x d * Ideal.rsqrt (Ideal.div (∑ k, centred x k * centred x k) (Ideal.ofBits .f32 0x44800000#32) + Ideal.ofBits .f32 0x358637BD#32) * g d + b d

/-- The rows `f` with zeros around them: row `p` is row `p - 16` of `f`. -/
def padded (f : Fin 256 → Fin 1024 → EReal) (p : ℕ) (d : Fin 1024) : EReal :=
  if h : 16 ≤ p ∧ p < 272 then f ⟨p - 16, by omega⟩ d else 0

open Cert.ConformerCtxIdeal Cert.ConformerCtxIdeal.Gen

/-! ## The kernel's arithmetic at an entry -/

theorem pay5_at (v55 : FVec Ideal S1x1024 .f32) (v59 : FVec Ideal S1x1024 .f32) (v60 : FVec Ideal S256x1024 .f32) (v64 : FVec Ideal S1x1024 .f32) (v65 : FVec Ideal S256x1024 .f32) (r : Fin 256) (d : Fin 1024) :
    k0_pay5 (F := Ideal) v55 v59 v60 v64 v65 (ix2 r d) = 0 + v55 (ix2 0 d) + v59 (ix2 0 d) * v60 (ix2 r d) + v64 (ix2 0 d) * v65 (ix2 r d) := by
  pointwise [k0_pay5]

theorem pay8_at (v68 : FVec Ideal S256x1024 .f32) (v70 : FVec Ideal S256x1024 .f32) (v71 : FVec Ideal S256x1024 .f32) (v78 : FVec Ideal S1x1024 .f32) (v79 : FVec Ideal S256x1024 .f32) (v83 : FVec Ideal S1x1024 .f32) (v84 : FVec Ideal S256x1024 .f32) (v88 : FVec Ideal S1x1024 .f32) (v89 : FVec Ideal S256x1024 .f32) (v93 : FVec Ideal S1x1024 .f32) (v94 : FVec Ideal S256x1024 .f32) (r : Fin 256) (d : Fin 1024) :
    k0_pay8 (F := Ideal) v68 v70 v71 v78 v79 v83 v84 v88 v89 v93 v94 (ix2 r d) = v68 (ix2 r d) + v71 (ix2 r d) * v70 (ix2 r d) + v78 (ix2 0 d) * v79 (ix2 r d) + v83 (ix2 0 d) * v84 (ix2 r d) + v88 (ix2 0 d) * v89 (ix2 r d) + v93 (ix2 0 d) * v94 (ix2 r d) := by
  pointwise [k0_pay8]

theorem pay11_at (v97 : FVec Ideal S256x1024 .f32) (v102 : FVec Ideal S1x1024 .f32) (v103 : FVec Ideal S256x1024 .f32) (v107 : FVec Ideal S1x1024 .f32) (v108 : FVec Ideal S256x1024 .f32) (v112 : FVec Ideal S1x1024 .f32) (v113 : FVec Ideal S256x1024 .f32) (v117 : FVec Ideal S1x1024 .f32) (v118 : FVec Ideal S256x1024 .f32) (v126 : FVec Ideal S1x1024 .f32) (v127 : FVec Ideal S256x1024 .f32) (v131 : FVec Ideal S1x1024 .f32) (v132 : FVec Ideal S256x1024 .f32) (r : Fin 256) (d : Fin 1024) :
    k0_pay11 (F := Ideal) v97 v102 v103 v107 v108 v112 v113 v117 v118 v126 v127 v131 v132 (ix2 r d) = v97 (ix2 r d) + v102 (ix2 0 d) * v103 (ix2 r d) + v107 (ix2 0 d) * v108 (ix2 r d) + v112 (ix2 0 d) * v113 (ix2 r d) + v117 (ix2 0 d) * v118 (ix2 r d) + v126 (ix2 0 d) * v127 (ix2 r d) + v131 (ix2 0 d) * v132 (ix2 r d) := by
  pointwise [k0_pay11]

theorem pay13_at (v135 : FVec Ideal S256x1024 .f32) (v136 : FVec Ideal S1x1024 .f32) (v137 : FVec Ideal S256x1024 .f32) (v141 : FVec Ideal S1x1024 .f32) (v142 : FVec Ideal S256x1024 .f32) (v150 : FVec Ideal S1x1024 .f32) (v151 : FVec Ideal S256x1024 .f32) (v155 : FVec Ideal S1x1024 .f32) (v156 : FVec Ideal S256x1024 .f32) (v160 : FVec Ideal S1x1024 .f32) (v161 : FVec Ideal S256x1024 .f32) (r : Fin 256) (d : Fin 1024) :
    k0_pay13 (F := Ideal) v135 v136 v137 v141 v142 v150 v151 v155 v156 v160 v161 (ix2 r d) = v135 (ix2 r d) + v136 (ix2 0 d) * v137 (ix2 r d) + v141 (ix2 0 d) * v142 (ix2 r d) + v150 (ix2 0 d) * v151 (ix2 r d) + v155 (ix2 0 d) * v156 (ix2 r d) + v160 (ix2 0 d) * v161 (ix2 r d) := by
  pointwise [k0_pay13]

theorem pay16_at (v164 : FVec Ideal S256x1024 .f32) (v166 : FVec Ideal S256x1024 .f32) (v167 : FVec Ideal S256x1024 .f32) (v174 : FVec Ideal S1x1024 .f32) (v175 : FVec Ideal S256x1024 .f32) (v179 : FVec Ideal S1x1024 .f32) (v180 : FVec Ideal S256x1024 .f32) (v184 : FVec Ideal S1x1024 .f32) (v185 : FVec Ideal S256x1024 .f32) (v189 : FVec Ideal S1x1024 .f32) (v190 : FVec Ideal S256x1024 .f32) (r : Fin 256) (d : Fin 1024) :
    k0_pay16 (F := Ideal) v164 v166 v167 v174 v175 v179 v180 v184 v185 v189 v190 (ix2 r d) = v164 (ix2 r d) + v167 (ix2 r d) * v166 (ix2 r d) + v174 (ix2 0 d) * v175 (ix2 r d) + v179 (ix2 0 d) * v180 (ix2 r d) + v184 (ix2 0 d) * v185 (ix2 r d) + v189 (ix2 0 d) * v190 (ix2 r d) := by
  pointwise [k0_pay16]

theorem pay19_at (v193 : FVec Ideal S256x1024 .f32) (v198 : FVec Ideal S1x1024 .f32) (v199 : FVec Ideal S256x1024 .f32) (v203 : FVec Ideal S1x1024 .f32) (v204 : FVec Ideal S256x1024 .f32) (v208 : FVec Ideal S1x1024 .f32) (v209 : FVec Ideal S256x1024 .f32) (v213 : FVec Ideal S1x1024 .f32) (v214 : FVec Ideal S256x1024 .f32) (v222 : FVec Ideal S1x1024 .f32) (v223 : FVec Ideal S256x1024 .f32) (v227 : FVec Ideal S1x1024 .f32) (v228 : FVec Ideal S256x1024 .f32) (r : Fin 256) (d : Fin 1024) :
    k0_pay19 (F := Ideal) v193 v198 v199 v203 v204 v208 v209 v213 v214 v222 v223 v227 v228 (ix2 r d) = v193 (ix2 r d) + v198 (ix2 0 d) * v199 (ix2 r d) + v203 (ix2 0 d) * v204 (ix2 r d) + v208 (ix2 0 d) * v209 (ix2 r d) + v213 (ix2 0 d) * v214 (ix2 r d) + v222 (ix2 0 d) * v223 (ix2 r d) + v227 (ix2 0 d) * v228 (ix2 r d) := by
  pointwise [k0_pay19]

theorem pay20_at (v231 : FVec Ideal S256x1024 .f32) (v232 : FVec Ideal S1x1024 .f32) (v233 : FVec Ideal S256x1024 .f32) (v237 : FVec Ideal S1x1024 .f32) (v238 : FVec Ideal S256x1024 .f32) (v258 : FVec Ideal S1x1024 .f32) (v262 : FVec Ideal S1x1024 .f32) (r : Fin 256) (j : Fin 1024) :
    k0_pay20 (F := Ideal) v231 v232 v233 v237 v238 v258 v262 (ix2 r j) = lnorm (fun d => v231 (ix2 r d) + v232 (ix2 0 d) * v233 (ix2 r d) + v237 (ix2 0 d) * v238 (ix2 r d)) (fun d => v258 (ix2 0 d)) (fun d => v262 (ix2 0 d)) j := by
  pointwise [k0_pay20, lnorm]
  rfl

theorem pay1_at (v231 : FVec Ideal S256x1024 .f32) (v232 : FVec Ideal S1x1024 .f32) (v233 : FVec Ideal S256x1024 .f32) (v237 : FVec Ideal S1x1024 .f32) (v238 : FVec Ideal S256x1024 .f32) (v258 : FVec Ideal S1x1024 .f32) (v262 : FVec Ideal S1x1024 .f32) (r : Fin 256) (j : Fin 1024) :
    k0_pay1 (F := Ideal) (k0_pay20 v231 v232 v233 v237 v238 v258 v262) (k0_pay21 v231 v232 v233 v237 v238 v258 v262) (ix3 0 r j) = act (k0_pay20 (F := Ideal) v231 v232 v233 v237 v238 v258 v262 (ix2 r j)) := by
  unfold k0_pay1 k0_pay21
  dsimp only
  generalize k0_pay20 (F := Ideal) v231 v232 v233 v237 v238 v258 v262 = y
  pointwise [act]
  simp only [zero_sub]

/-- A tile's own rows, gated. -/
theorem main_at (x : FVec Ideal S1x256x2048 .bf16) (r : Fin 256) (d : Fin 1024) :
    k0_pay3 (F := Ideal) x (ix2 r d) = glu (x (ix3 0 r ⟨d, by omega⟩)) (x (ix3 0 r ⟨1024 + d, by omega⟩)) := by
  pointwise! [k0_pay3, glu]
  simp only [zero_sub]

/-- The sixteen rows before a tile, zero at the first. -/
theorem before_at (i : grid0.Coords) (x : FVec Ideal S1x16x2048 .bf16) (r : Fin 16) (d : Fin 1024) :
    k0_pay2 (F := Ideal) i x (ix2 r d) = if Scalar.cmpi .sgt (BitVec.ofNat 32 (i 1).val) 0#32 = 1#1 then glu (x (ix3 0 r ⟨d, by omega⟩)) (x (ix3 0 r ⟨1024 + d, by omega⟩)) else 0 := by
  have e : k0_pay2 (F := Ideal) i x (ix2 r d) = Scalar.select (Scalar.cmpi .sgt (BitVec.ofNat 32 (i 1).val) 0#32) (glu (x (ix3 0 r ⟨d, by omega⟩)) (x (ix3 0 r ⟨1024 + d, by omega⟩))) 0 := by
    pointwise! [k0_pay2, glu]
  exact e

/-- The sixteen rows after a tile, zero at the last. -/
theorem after_at (i : BitVec 1) (x : FVec Ideal S1x16x2048 .bf16) (r : Fin 16) (d : Fin 1024) :
    k0_pay4 (F := Ideal) i x (ix2 r d) = if i = 1#1 then glu (x (ix3 0 r ⟨d, by omega⟩)) (x (ix3 0 r ⟨1024 + d, by omega⟩)) else 0 := by
  have e : k0_pay4 (F := Ideal) i x (ix2 r d) = Scalar.select i (glu (x (ix3 0 r ⟨d, by omega⟩)) (x (ix3 0 r ⟨1024 + d, by omega⟩))) 0 := by
    pointwise! [k0_pay4, glu]
    simp only [zero_sub]
  exact e

theorem pay6_at (v : FVec Ideal S1x1024 .f32) (r : Fin 256) (d : Fin 1024) : k0_pay6 (F := Ideal) v (ix2 r d) = v (ix2 0 d) := by
  pointwise [k0_pay6]
theorem pay14_at (v : FVec Ideal S1x1024 .f32) (r : Fin 256) (d : Fin 1024) : k0_pay14 (F := Ideal) v (ix2 r d) = v (ix2 0 d) := by
  pointwise [k0_pay14]

/-- The copies of the rows keep them as they are. -/
theorem pay7_eq (v : FVec Ideal S280x1024 .f32) : k0_pay7 (F := Ideal) v = v := by unfold k0_pay7; exact shapeCast_self _ _
theorem pay9_eq (v : FVec Ideal S280x1024 .f32) : k0_pay9 (F := Ideal) v = v := by unfold k0_pay9; exact shapeCast_self _ _
theorem pay10_eq (v : FVec Ideal S280x1024 .f32) : k0_pay10 (F := Ideal) v = v := by unfold k0_pay10; exact shapeCast_self _ _
theorem pay12_eq (v : FVec Ideal S280x1024 .f32) : k0_pay12 (F := Ideal) v = v := by unfold k0_pay12; exact shapeCast_self _ _
theorem pay15_eq (v : FVec Ideal S280x1024 .f32) : k0_pay15 (F := Ideal) v = v := by unfold k0_pay15; exact shapeCast_self _ _
theorem pay17_eq (v : FVec Ideal S280x1024 .f32) : k0_pay17 (F := Ideal) v = v := by unfold k0_pay17; exact shapeCast_self _ _
theorem pay18_eq (v : FVec Ideal S280x1024 .f32) : k0_pay18 (F := Ideal) v = v := by unfold k0_pay18; exact shapeCast_self _ _

/-! ## The scratch rows, read -/

/-- Rows `o` on of `H`. -/
def R (H : ℕ → Fin 1024 → EReal) (o : ℕ) : FVec Ideal S256x1024 .f32 := fun y => H (o + (y 0).val) (y 1)

theorem R_at (H : ℕ → Fin 1024 → EReal) (o : ℕ) (r : Fin 256) (d : Fin 1024) : R H o (ix2 r d) = H (o + r.val) d := rfl

/-- A read of the first scratch buffer. -/
theorem read_h (H : ℕ → Fin 1024 → EReal) (P : List (View.Piece (Elt Ideal) S288x1024 .f32)) (hP : ∀ (r : Fin 288) (d : Fin 1024), View.canon P (ix2 r d) = H r d)
    (o : ℕ) (inb : ∀ a, (![o, 0] : Fin 2 → ℕ) a + (![256, 1024] : Fin 2 → ℕ) a ≤ S288x1024.size a) :
    (View.whole cc0_scratch0).readCov P (Rect.unit (s := S288x1024) ![o, 0] ![256, 1024] inb).toLoadRect = R H o := by
  have ho : o + 256 ≤ 288 := inb 0
  rw [View.readCov_eq_canon']
  funext y
  idx_vars y
  refine Eq.trans (congrArg (View.canon P) ?_) (hP ⟨o + y0, by omega⟩ y1)
  funext a; apply Fin.ext; fin_cases a <;> simp

/-- A read of the second scratch buffer, which holds the first's rows `s` on. -/
theorem read_rot (H : ℕ → Fin 1024 → EReal) (P : List (View.Piece (Elt Ideal) S288x1024 .f32)) (hP : ∀ (r : Fin 288) (d : Fin 1024), View.canon P (ix2 r d) = H r d)
    (L : List (View.Piece (Elt Ideal) S280x1024 .f32)) (s o : ℕ) (inb0 : ∀ a, (![0, 0] : Fin 2 → ℕ) a + S280x1024.size a ≤ S280x1024.size a)
    (inb1 : ∀ a, (![s, 0] : Fin 2 → ℕ) a + (![280, 1024] : Fin 2 → ℕ) a ≤ S288x1024.size a)
    (inb2 : ∀ a, (![o, 0] : Fin 2 → ℕ) a + (![256, 1024] : Fin 2 → ℕ) a ≤ S280x1024.size a) :
    (View.whole cc0_scratch1).readCov (⟨Rect.unit (s := S280x1024) ![0, 0] ![280, 1024] inb0,
        (View.whole cc0_scratch0).readCov P (Rect.unit (s := S288x1024) ![s, 0] ![280, 1024] inb1).toLoadRect⟩ :: L)
      (Rect.unit (s := S280x1024) ![o, 0] ![256, 1024] inb2).toLoadRect = R H (s + o) := by
  have hs : s + 280 ≤ 288 := inb1 0
  have ho : o + 256 ≤ 280 := inb2 0
  rw [View.readCov_eq_canon', View.readCov_eq_canon']
  funext y
  idx_vars y
  have e : ((Rect.unit (s := S280x1024) ![o, 0] ![256, 1024] inb2).toLoadRect.idx (ix2 y0 y1) : S280x1024.Idx)
      = (Rect.unit (s := S280x1024) ![0, 0] ![280, 1024] inb0).emb (ix2 ⟨o + y0, by omega⟩ y1) := by
    funext a; apply Fin.ext; fin_cases a <;> simp
  rw [e, View.canon_cons_emb]
  refine Eq.trans (congrArg (View.canon P) ?_) ((hP ⟨s + (o + y0), by omega⟩ y1).trans (congrArg (fun n => H n y1) (Nat.add_assoc s o y0).symm))
  funext a; apply Fin.ext; fin_cases a <;> simp

theorem idx : ∀ t : Fin cfg0.N, win0_0.index t = ![t.val, 0, 3] ∧ win0_3.index t = ![0, 0]
    ∧ win0_4.index t = ![0, 0] ∧ win0_5.index t = ![0, 0] ∧ win0_6.index t = ![0, 0]
    ∧ win0_7.index t = ![t.val, 0, 0] :=
  (by decide +kernel : ∀ t : Fin grid0.N, _)

/-- No tile has rows before it or after it. -/
theorem noBefore : ∀ t : Fin cfg0.N, ¬ Scalar.cmpi .sgt (BitVec.ofNat 32 (grid0.coords t 1).val) 0#32 = 1#1 :=
  (by decide +kernel : ∀ t : Fin grid0.N, _)
theorem noAfter : ∀ t : Fin cfg0.N, ¬ Scalar.cmpi .slt (BitVec.ofNat 32 (grid0.coords t 1).val) 0#32 = 1#1 :=
  (by decide +kernel : ∀ t : Fin grid0.N, _)

theorem lt (t : Fin cfg0.N) : t.val < 4 := lt_of_lt_of_eq t.isLt N_0

variable (m : (ℓ : Loc nD τ sig) → Buf (Elt Ideal) ℓ) (c : Dev nD)

/-- The arguments. -/
abbrev U : FVec Ideal S4x256x14592 .bf16 := m ((c.tc : Thread nD τ).loc main_arg0)
abbrev CW : FVec Ideal S31x1024 .f32 := m ((c.tc : Thread nD τ).loc main_arg1)
abbrev CB : FVec Ideal S1024 .f32 := m ((c.tc : Thread nD τ).loc main_arg2)
abbrev LG : FVec Ideal S1024 .f32 := m ((c.tc : Thread nD τ).loc main_arg3)
abbrev LB : FVec Ideal S1024 .f32 := m ((c.tc : Thread nD τ).loc main_arg4)

/-- The batch and row that an entry of point `t`'s block is. -/
def bOf (t : Fin cfg0.N) : Fin 4 := ⟨t.val, lt t⟩
def nOf (t : Fin cfg0.N) (r : Fin 256) : Fin 256 := r

theorem blk_x (t : Fin cfg0.N) (r : Fin 256) (k : Fin 2048) :
    (X0_0 m c t : FVec Ideal S1x256x2048 .bf16) (ix3 0 r k) = U m c (ix3 (bOf t) (nOf t r) ⟨6144 + k, by omega⟩) := by
  unfold X0_0 Pipeline.Window.fill
  refine (dif_pos (moved0_0 t _)).trans ?_
  blk_ext [iblk, V, idx t, bOf, nOf]

theorem blk_cw (t : Fin cfg0.N) (i : Fin 31) (k : Fin 1024) : (iblk m c 3 t : FVec Ideal S31x1024 .f32) (ix2 i k) = CW m c (ix2 i k) := by
  blk_ext [iblk, V, idx t]

theorem blk_cb (t : Fin cfg0.N) (k : Fin 1024) : (iblk m c 4 t : FVec Ideal S1x1024 .f32) (ix2 0 k) = CB m c (ix1 k) := by
  blk_simp [iblk, idx t]
  entry_read
  pointwise
  blk_ext [idx t]

theorem blk_lg (t : Fin cfg0.N) (k : Fin 1024) : (iblk m c 5 t : FVec Ideal S1x1024 .f32) (ix2 0 k) = LG m c (ix1 k) := by
  blk_simp [iblk, idx t]
  entry_read
  pointwise
  blk_ext [idx t]

theorem blk_lb (t : Fin cfg0.N) (k : Fin 1024) : (iblk m c 6 t : FVec Ideal S1x1024 .f32) (ix2 0 k) = LB m c (ix1 k) := by
  blk_simp [iblk, idx t]
  entry_read
  pointwise
  blk_ext [idx t]

/-- Entry `d` of token `n` of batch `b`, gated. -/
def row (b : Fin 4) (n : Fin 256) (d : Fin 1024) : EReal :=
  glu (U m c (ix3 b n ⟨6144 + d, by omega⟩)) (U m c (ix3 b n ⟨6144 + (1024 + d), by omega⟩))

/-- Row `r` of the first scratch buffer at point `t`. -/
def srow (t : Fin cfg0.N) (r : ℕ) (d : Fin 1024) : EReal := padded (row m c (bOf t)) r d

/-- The stores into the first scratch buffer. -/
abbrev pieces (t : Fin cfg0.N) : List (View.Piece (Elt Ideal) S288x1024 .f32) :=
  [⟨Rect.unit (s := S288x1024) ![272, 0] ![16, 1024] inb_S288x1024_S16x1024_272_0, k0_pay4 (Scalar.cmpi .slt (BitVec.ofNat 32 (grid0.coords t 1).val) 0#32) (X0_2 m c t)⟩,
   ⟨Rect.unit (s := S288x1024) ![16, 0] ![256, 1024] inb_S288x1024_S256x1024_16_0, k0_pay3 (X0_0 m c t)⟩,
   ⟨Rect.unit (s := S288x1024) ![0, 0] ![16, 1024] inb_S288x1024_S16x1024_0_0, k0_pay2 (grid0.coords t) (X0_1 m c t)⟩]

/-- The entries of the rows that a store writes. -/
theorem holds (o n : ℕ) (inb : ∀ a, (![o, 0] : Fin 2 → ℕ) a + (![n, 1024] : Fin 2 → ℕ) a ≤ S288x1024.size a) (r : Fin 288) (d : Fin 1024) (h0 : o ≤ r.val) (h1 : r.val < o + n) :
    (ix2 r d : S288x1024.Idx) ∈ (Rect.unit (s := S288x1024) ![o, 0] ![n, 1024] inb).set := by
  rw [Rect.mem_set_unit]
  intro a
  fin_cases a
  · exact ⟨h0, h1⟩
  · exact ⟨Nat.zero_le _, lt_of_lt_of_eq d.isLt (Nat.zero_add _).symm⟩

/-- They leave the tile's gated rows there, with the sixteen before and the sixteen after. -/
theorem scratch (t : Fin cfg0.N) (r : Fin 288) (d : Fin 1024) : View.canon (pieces m c t) (ix2 r d) = srow m c t r d := by
  have hcover : ∃ p ∈ pieces m c t, (ix2 r d : S288x1024.Idx) ∈ p.fst.set := by
    by_cases h1 : r.val < 16
    · exact ⟨_, List.mem_cons_of_mem _ (List.mem_cons_of_mem _ List.mem_cons_self), holds 0 16 inb_S288x1024_S16x1024_0_0 r d (by omega) (by omega)⟩
    · by_cases h2 : r.val < 272
      · exact ⟨_, List.mem_cons_of_mem _ List.mem_cons_self, holds 16 256 inb_S288x1024_S256x1024_16_0 r d (by omega) (by omega)⟩
      · exact ⟨_, List.mem_cons_self, holds 272 16 inb_S288x1024_S16x1024_272_0 r d (by omega) (by omega)⟩
  unfold pieces at hcover ⊢
  canon_tiles x hx using hcover <;> idx_vars x <;> obtain rfl : d = x1 := Fin.ext hx1
  · refine (after_at _ _ x0 d).trans ?_
    unfold srow padded
    rw [if_neg (noAfter t), dif_neg (by omega)]
  · refine (main_at _ x0 d).trans ?_
    unfold srow padded row
    rw [dif_pos (by omega), blk_x, blk_x]
    simp only [show (⟨r.val - 16, by omega⟩ : Fin 256) = nOf t x0 from Fin.ext (by simp only [nOf]; omega)]
  · refine (before_at _ _ x0 d).trans ?_
    unfold srow padded
    rw [if_neg (noBefore t), dif_neg (by omega)]

/-- The products added in the order in which the kernel takes them. -/
theorem reorder (b : EReal) (T : ℕ → EReal) :
    0 + b + T 7 + T 15 + T 23 + T 0 + T 8 + T 16 + T 24 + T 1 + T 9 + T 17 + T 25 + T 2 + T 10 + T 18 + T 26 + T 3 + T 11 + T 19 + T 27 + T 4 + T 12 + T 20 + T 28 + T 5 + T 13 + T 21 + T 29 + T 6 + T 14 + T 22 + T 30
      = (∑ k ∈ Finset.range 31, T k) + b := by
  simp only [Finset.sum_range_succ, Finset.sum_range_zero, zero_add]
  ac_rfl

/-- A row of the convolution's weights, loaded. -/
theorem ld_row (x : FVec Ideal S31x1024 .f32) (k : ℕ) (inb : ∀ a, (![k, 0] : Fin 2 → ℕ) a + (![1, 1024] : Fin 2 → ℕ) a ≤ S31x1024.size a) (d : Fin 1024) :
    (View.ld (Val := Elt Ideal) (e' := .f32) x (Rect.unit (s := S31x1024) ![k, 0] ![1, 1024] inb) : FVec Ideal S1x1024 .f32) (ix2 0 d) = x (ix2 (Fin.ofNat 31 k) d) := by
  have hk : k + 1 ≤ 31 := inb 0
  refine congrArg x ?_
  funext a; apply Fin.ext; fin_cases a <;> simp [Nat.mod_eq_of_lt (show k < 31 by omega)]

/-- The depthwise convolution of width 31 over zero padded rows, with its bias. -/
def conv (f : Fin 256 → Fin 1024 → EReal) (w : ℕ → Fin 1024 → EReal) (b : Fin 1024 → EReal) (n : ℕ) (d : Fin 1024) : EReal :=
  (∑ k ∈ Finset.range 31, w k d * padded f (n + (k + 1)) d) + b d

/-- The convolution as a function of its arguments. -/
def SPEC (u : FVec Ideal S4x256x14592 .bf16) (w : FVec Ideal S31x1024 .f32) (b g h : FVec Ideal S1024 .f32) (y : S4x256x1024.Idx) : EReal :=
  act (lnorm (conv (fun n d => glu (u (ix3 (y 0) n ⟨6144 + d, by omega⟩)) (u (ix3 (y 0) n ⟨6144 + (1024 + d), by omega⟩))) (fun k d => w (ix2 (Fin.ofNat 31 k) d)) (fun d => b (ix1 d)) (y 1).val)
    (fun d => g (ix1 d)) (fun d => h (ix1 d)) (y 2))

theorem R_srow (t : Fin cfg0.N) (o : ℕ) (r : Fin 256) (d : Fin 1024) : R (srow m c t) o (ix2 r d) = padded (row m c (bOf t)) ((nOf t r).val + o) d := by
  rw [R_at]
  unfold srow nOf
  rw [Nat.add_comm]

/-- The block that point `t` leaves. -/
theorem point (t : Fin cfg0.N) (y : S1x256x1024.Idx) :
    (outsAt0 m c t : FVec Ideal S1x256x1024 .bf16) y = SPEC (U m c) (CW m c) (CB m c) (LG m c) (LB m c) (ix3 (bOf t) (nOf t (y 1)) (y 2)) := by
  idx_vars y
  rw [show y0 = 0 from Subsingleton.elim _ _]
  unfold outsAt0 out0_A_7
  dsimp only
  frame_out
  simp only [pay7_eq, pay9_eq, pay10_eq, pay12_eq, pay15_eq, pay17_eq, pay18_eq, read_rot (srow m c t) (pieces m c t) (scratch m c t),
    read_h (srow m c t) (pieces m c t) (scratch m c t)]
  refine (pay1_at _ _ _ _ _ _ _ y1 y2).trans (congrArg act ?_)
  refine (pay20_at _ _ _ _ _ _ _ y1 y2).trans ?_
  simp only [pay5_at, pay6_at, pay8_at, pay11_at, pay13_at, pay14_at, pay16_at, pay19_at, R_srow, ld_row, blk_cw, blk_cb, blk_lg, blk_lb, Nat.reduceAdd]
  refine congrArg (fun x => lnorm x _ _ _) (funext fun d => ?_)
  refine Eq.trans ?_ (reorder (CB m c (ix1 d)) (fun k => CW m c (ix2 (Fin.ofNat 31 k) d) * padded (row m c (bOf t)) ((nOf t y1).val + (k + 1)) d))
  simp only [Nat.reduceAdd]
  iterate 31 refine congrArg₂ HAdd.hAdd ?_ (congrArg₂ HMul.hMul ((ld_row _ _ _ d).trans (blk_cw m c t _ d)) rfl)
  rfl

/-- The result array after the run. -/
theorem final : (dats m 0 c).arrAt 7 cfg0.N = SPEC (U m c) (CW m c) (CB m c) (LG m c) (LB m c) := by
  refine (dats m 0 c).arrAt_eq_of_covers 7 _ (by decide +kernel) fun t hf y => ?_
  blk_simp
  rw [after0_7]
  refine (point m c t y).trans (congrArg _ ?_)
  funext a; apply Fin.ext; fin_cases a <;> (blk_simp [idx t, bOf, nOf]; rfl)

end Cert.ConformerCtxIdeal.Out

namespace Cert.ConformerCtxRefIdeal.Out

open Cert.ConformerCtxRefIdeal Cert.ConformerCtxRefIdeal.Gen Cert.ConformerCtxRefIdeal.Value
open Cert.ConformerCtxIdeal.Out (glu act centred lnorm padded conv SPEC)

variable (V0 : Valuation τ sig (Elt Ideal))

/-- The arguments. -/
abbrev U : FVec Ideal S4x256x14592 .bf16 := V0 (Proc.devRef .tc main_arg0)
abbrev CW : FVec Ideal S31x1024 .f32 := V0 (Proc.devRef .tc main_arg1)
abbrev CB : FVec Ideal S1024 .f32 := V0 (Proc.devRef .tc main_arg2)
abbrev LG : FVec Ideal S1024 .f32 := V0 (Proc.devRef .tc main_arg3)
abbrev LB : FVec Ideal S1024 .f32 := V0 (Proc.devRef .tc main_arg4)

/-- Entry `d` of token `n` of batch `b`, gated. -/
def row (b : Fin 4) (n : Fin 256) (d : Fin 1024) : EReal :=
  glu (U V0 (ix3 b n ⟨6144 + d, by omega⟩)) (U V0 (ix3 b n ⟨6144 + (1024 + d), by omega⟩))

/-- The gated rows. -/
def gated (u : FVec Ideal S4x256x2048 .f32) : FVec Ideal S4x256x1024 .f32 :=
  mulf (extractStridedSlice S4x256x1024 ![0, 0, 0] u slices_S4x256x2048_S4x256x1024_0_0_0) (Host.divf (broadcastInDim S4x256x1024 ![] bcast_S_S4x256x1024 (constant S_ .f32 0x3F800000#32)) (addf (broadcastInDim S4x256x1024 ![] bcast_S_S4x256x1024 (constant S_ .f32 0x3F800000#32)) (Host.exp (Host.negf (extractStridedSlice S4x256x1024 ![0, 0, 1024] u slices_S4x256x2048_S4x256x1024_0_0_1024)))))

theorem gated_at (u : FVec Ideal S4x256x2048 .f32) (b : Fin 4) (n : Fin 256) (d : Fin 1024) :
    gated u (ix3 b n d) = glu (u (ix3 b n ⟨d, by omega⟩)) (u (ix3 b n ⟨1024 + d, by omega⟩)) := by
  pointwise! [gated, glu]

theorem cols_at (b : Fin 4) (n : Fin 256) (k : Fin 2048) : (res_main_v1 V0 : FVec Ideal S4x256x2048 .f32) (ix3 b n k) = U V0 (ix3 b n ⟨6144 + k, by omega⟩) := by
  unfold res_main_v1 U
  generalize V0 (Proc.devRef .tc main_arg0) = u
  pointwise!

/-- A row of the padded gated rows, the rows outside being zero. -/
theorem pad_at (b : Fin 4) (q : Fin 286) (d : Fin 1024) : (res_main_v11 V0 : FVec Ideal S4x286x1024 .f32) (ix3 b q d) = padded (row V0 b) (q.val + 1) d := by
  show pad S4x286x1024 ![0, 15, 0] ![0, 15, 0] ![0, 0, 0] (gated (res_main_v1 V0)) (sitofp (F := Ideal) .f32 (constantI S_ 32 0#32)) pads_S4x256x1024_S4x286x1024_000_15150_000 h_S_ (ix3 b q d) = _
  unfold padded
  by_cases hq : 15 ≤ q.val ∧ q.val < 271
  · rw [dif_pos (by omega)]
    refine (pad_apply_of_inside _ _ _ _ _ _ _ _ (ix3 b ⟨q.val - 15, by omega⟩ d) fun a => ?_).trans ?_
    · fin_cases a <;> simp <;> omega
    · rw [gated_at, cols_at, cols_at]
      unfold row
      simp only [show (⟨q.val + 1 - 16, by omega⟩ : Fin 256) = ⟨q.val - 15, by omega⟩ from Fin.ext (by simp only; omega)]
  · rw [dif_neg (by omega)]
    refine (pad_apply_of_not_inside _ _ _ _ _ _ _ _ 1 ?_).trans ?_
    · simp; omega
    · pointwise
      exact sitofp_zero

/-- The convolution at an entry. -/
theorem conv_at (b : Fin 4) (n : Fin 256) (d : Fin 1024) :
    (res_main_v232 V0 : FVec Ideal S4x256x1024 .f32) (ix3 b n d)
      = conv (row V0 b) (fun k d => CW V0 (ix2 (Fin.ofNat 31 k) d)) (fun d => CB V0 (ix1 d)) n.val d := by
  have hp : ∀ (k : ℕ) (h : k + n.val < 286), (res_main_v11 V0 : FVec Ideal S4x286x1024 .f32) (ix3 b ⟨k + n.val, h⟩ d) = padded (row V0 b) (n.val + (k + 1)) d := fun k h => by
    rw [pad_at]
    exact congrArg (fun p => padded (row V0 b) p d) (by simp only; omega)
  unfold conv res_main_v232 res_main_v166 res_main_v89 CW CB
  revert hp
  generalize row V0 b = f
  generalize res_main_v11 V0 = p
  generalize V0 (Proc.devRef .tc main_arg1) = w
  generalize V0 (Proc.devRef .tc main_arg2) = e
  intro hp
  simp only [Finset.sum_range_succ, Finset.sum_range_zero]
  pointwise
  refine congrArg₂ HAdd.hAdd ?_ rfl
  iterate 30 refine congrArg₂ HAdd.hAdd ?_ (congrArg₂ HMul.hMul rfl (hp _ _))
  exact congrArg₂ HMul.hMul rfl ((congrArg (fun q => p (ix3 b q d)) (Fin.ext (by simp))).trans (hp 0 (by omega)))

/-- A convolved row less its mean. -/
theorem centred_at (b : Fin 4) (n : Fin 256) (d : Fin 1024) :
    (res_main_v238 V0 : FVec Ideal S4x256x1024 .f32) (ix3 b n d) = centred (fun k => (res_main_v232 V0 : FVec Ideal S4x256x1024 .f32) (ix3 b n k)) d := by
  unfold res_main_v238
  generalize res_main_v232 V0 = x
  pointwise! [centred]

/-- The layer norm's result, from the centred rows. -/
theorem scaled_at (b : Fin 4) (n : Fin 256) (d : Fin 1024) :
    (res_main_v254 V0 : FVec Ideal S4x256x1024 .f32) (ix3 b n d)
      = lnorm (fun k => (res_main_v232 V0 : FVec Ideal S4x256x1024 .f32) (ix3 b n k)) (fun k => LG V0 (ix1 k)) (fun k => LB V0 (ix1 k)) d := by
  unfold lnorm
  simp only [← centred_at]
  unfold res_main_v254 LG LB
  generalize res_main_v238 V0 = x
  generalize V0 (Proc.devRef .tc main_arg3) = g
  generalize V0 (Proc.devRef .tc main_arg4) = h
  pointwise!

/-- The activation. -/
def refA (x : FVec Ideal S4x256x1024 .f32) : FVec Ideal S4x256x1024 .bf16 :=
  truncf .bf16 (mulf x (Host.divf (broadcastInDim S4x256x1024 ![] bcast_S_S4x256x1024 (constant S_ .f32 0x3F800000#32)) (addf (broadcastInDim S4x256x1024 ![] bcast_S_S4x256x1024 (constant S_ .f32 0x3F800000#32)) (Host.exp (Host.negf x))))) bitsLt_bf16_f32

theorem refA_at (x : FVec Ideal S4x256x1024 .f32) (b : Fin 4) (n : Fin 256) (d : Fin 1024) : refA x (ix3 b n d) = act (x (ix3 b n d)) := by
  pointwise! [refA, act]

/-- What the reference returns, of any contents. -/
theorem entries : refA (res_main_v254 V0) = SPEC (U V0) (CW V0) (CB V0) (LG V0) (LB V0) := by
  funext y
  idx_vars y
  refine (refA_at _ y0 y1 y2).trans (congrArg act ((scaled_at V0 y0 y1 y2).trans ?_))
  simp only [conv_at]
  rfl

/-- What the reference returns, of the arguments. -/
theorem res_eq (m : (ℓ : Loc nD τ sig) → Buf (Elt Ideal) ℓ) (c : Dev nD) : refA (res_main_v254 (StableHlo.launchContents m c))
    = SPEC (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := entries (StableHlo.launchContents m c)

end Cert.ConformerCtxRefIdeal.Out

end
-- ==== Proof.Reference.lean ====
/- The reference at an entry: over real queries, keys, values and scalar it is the differential attention. -/
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdeal.Att

open Idealize.ShloMosaic Idealize.ShloMosaic.TcCoe Idealize.SL.Sem
open Cert.ReferenceIdeal Cert.ReferenceIdeal.Gen Cert.ReferenceIdeal.Value
open _root_.Att

/-! ### The stages of the reference -/

/-- Queries in natural units, split into heads' components. -/
def refQ (a : FVec Ideal S4x4096x1024 .bf16) : FVec Ideal S4x16x4096x64 .f32 :=
  mulf (transpose S4x16x4096x64 [0, 2, 1, 3] (shapeCast _ (extf .f32 a bitsLt_bf16_f32) shapeCasts_S4x4096x1024_S4x4096x16x64) transposes_S4x4096x16x64_S4x16x4096x64_0_2_1_3)
    (broadcastInDim S4x16x4096x64 ![] bcast_S_S4x16x4096x64 (Host.log (constant S_ .f32 0x40000000#32)))

/-- Keys, latent then context. -/
def refK (a : FVec Ideal S4x4096x1024 .bf16) (d : FVec Ideal S4x256x1024 .bf16) : FVec Ideal S4x16x4352x64 .f32 :=
  fn_main_v12 (F := Ideal) (transpose S4x16x4096x64 [0, 2, 1, 3] (shapeCast _ (extf .f32 a bitsLt_bf16_f32) shapeCasts_S4x4096x1024_S4x4096x16x64) transposes_S4x4096x16x64_S4x16x4096x64_0_2_1_3)
    (transpose S4x16x256x64 [0, 2, 1, 3] (shapeCast _ (extf .f32 d bitsLt_bf16_f32) shapeCasts_S4x256x1024_S4x256x16x64) transposes_S4x256x16x64_S4x16x256x64_0_2_1_3)

/-- Values, latent then context. -/
def refV (a : FVec Ideal S4x4096x14592 .bf16) (d : FVec Ideal S4x256x14592 .bf16) : FVec Ideal S4x8x4352x128 .f32 :=
  fn_main_v21 (F := Ideal) (transpose S4x8x4096x128 [0, 2, 1, 3] (shapeCast _ (extf .f32 (extractStridedSlice S4x4096x1024 ![0, 0, 10240] a slices_S4x4096x14592_S4x4096x1024_0_0_10240) bitsLt_bf16_f32) shapeCasts_S4x4096x1024_S4x4096x8x128) transposes_S4x4096x8x128_S4x8x4096x128_0_2_1_3)
    (transpose S4x8x256x128 [0, 2, 1, 3] (shapeCast _ (extf .f32 (extractStridedSlice S4x256x1024 ![0, 0, 10240] d slices_S4x256x14592_S4x256x1024_0_0_10240) bitsLt_bf16_f32) shapeCasts_S4x256x1024_S4x256x8x128) transposes_S4x256x8x128_S4x8x256x128_0_2_1_3)

/-- Scores. -/
def refS (q : FVec Ideal S4x16x4096x64 .f32) (k : FVec Ideal S4x16x4352x64 .f32) : FVec Ideal S4x16x4096x4352 .f32 :=
  Host.dotGeneral dot_S4x16x4096x64_S4x16x4352x64_S4x16x4096x4352_3_3_2_2_01_01 none q k

/-- Each row's greatest score. -/
def refMax (s : FVec Ideal S4x16x4096x4352 .f32) : FVec Ideal S4x16x4096 .f32 :=
  Host.reduce FloatOps.maximumf s (constant S_ .f32 0xFF800000#32) reducesTo_S4x16x4096x4352_S4x16x4096_d3 h_S_

/-- The exponentials, each row shifted by `M`. -/
def shifted (s : FVec Ideal S4x16x4096x4352 .f32) (M : FVec Ideal S4x16x4096 .f32) : FVec Ideal S4x16x4096x4352 .f32 :=
  Host.exp (subf s (broadcastInDim S4x16x4096x4352 ![0, 1, 2, 3] bcast_S4x16x4096x1_S4x16x4096x4352_0_1_2_3 (broadcastInDim S4x16x4096x1 ![0, 1, 2] bcast_S4x16x4096_S4x16x4096x1_0_1_2
    (maximumf (broadcastInDim S4x16x4096 ![] bcast_S_S4x16x4096 (constant S_ .f32 0xFF800000#32)) M))))

/-- The exponentials, each row shifted by its maximum. -/
def refE (s : FVec Ideal S4x16x4096x4352 .f32) : FVec Ideal S4x16x4096x4352 .f32 := shifted s (refMax s)

/-- The exponentials over their row's sum. -/
def refP (e : FVec Ideal S4x16x4096x4352 .f32) : FVec Ideal S4x16x4096x4352 .f32 :=
  Host.divf e (broadcastInDim S4x16x4096x4352 ![0, 1, 2, 3] bcast_S4x16x4096x1_S4x16x4096x4352_0_1_2_3 (broadcastInDim S4x16x4096x1 ![0, 1, 2] bcast_S4x16x4096_S4x16x4096x1_0_1_2
    (Host.reduceAdd e (constant S_ .f32 0x00000000#32) reducesTo_S4x16x4096x4352_S4x16x4096_d3 h_S_)))

/-- The difference of the two components' weights. -/
def refW (p : FVec Ideal S4x16x4096x4352 .f32) (lam : FVec Ideal S_ .f32) : FVec Ideal S4x8x4096x4352 .f32 :=
  subf (shapeCast _ (extractStridedSlice S4x8x1x4096x4352 ![0, 0, 0, 0, 0] (shapeCast S4x8x2x4096x4352 p shapeCasts_S4x16x4096x4352_S4x8x2x4096x4352) slices_S4x8x2x4096x4352_S4x8x1x4096x4352_0_0_0_0_0) shapeCasts_S4x8x1x4096x4352_S4x8x4096x4352)
    (mulf (broadcastInDim S4x8x4096x4352 ![] bcast_S_S4x8x4096x4352 lam)
      (shapeCast _ (extractStridedSlice S4x8x1x4096x4352 ![0, 0, 1, 0, 0] (shapeCast S4x8x2x4096x4352 p shapeCasts_S4x16x4096x4352_S4x8x2x4096x4352) slices_S4x8x2x4096x4352_S4x8x1x4096x4352_0_0_1_0_0) shapeCasts_S4x8x1x4096x4352_S4x8x4096x4352))

/-- The weighted values. -/
def refO (w : FVec Ideal S4x8x4096x4352 .f32) (v : FVec Ideal S4x8x4352x128 .f32) : FVec Ideal S4x8x4096x128 .f32 :=
  Host.dotGeneral dot_S4x8x4096x4352_S4x8x4352x128_S4x8x4096x128_3_2_2_3_01_01 none w v

/-- Each head's norm and gain, heads side by side. -/
def refY (o : FVec Ideal S4x8x4096x128 .f32) (g : FVec Ideal S128 .f32) : FVec Ideal S4x4096x1024 .bf16 :=
  truncf .bf16 (shapeCast S4x4096x1024 (transpose S4x4096x8x128 [0, 2, 1, 3] (mulf (mulf o (broadcastInDim S4x8x4096x128 ![0, 1, 2, 3] bcast_S4x8x4096x1_S4x8x4096x128_0_1_2_3
    (Host.rsqrt (addf (Host.divf (broadcastInDim S4x8x4096x1 ![0, 1, 2] bcast_S4x8x4096_S4x8x4096x1_0_1_2 (Host.reduceAdd (mulf o o) (constant S_ .f32 0x00000000#32) reducesTo_S4x8x4096x128_S4x8x4096_d3 h_S_))
      (broadcastInDim S4x8x4096x1 ![] bcast_S_S4x8x4096x1 (constant S_ .f32 0x43000000#32))) (broadcastInDim S4x8x4096x1 ![] bcast_S_S4x8x4096x1 (constant S_ .f32 0x358637BD#32))))))
    (broadcastInDim S4x8x4096x128 ![0, 1, 2, 3] bcast_S1x1x1x128_S4x8x4096x128_0_1_2_3 (broadcastInDim S1x1x1x128 ![3] bcast_S128_S1x1x1x128_3 g))) transposes_S4x8x4096x128_S4x4096x8x128_0_2_1_3) shapeCasts_S4x4096x8x128_S4x4096x1024) bitsLt_bf16_f32

/-- The reference, in stages. -/
def REF (q k : FVec Ideal S4x4096x1024 .bf16) (u : FVec Ideal S4x4096x14592 .bf16) (kc : FVec Ideal S4x256x1024 .bf16) (uc : FVec Ideal S4x256x14592 .bf16)
    (lam : FVec Ideal S_ .f32) (g : FVec Ideal S128 .f32) : FVec Ideal S4x4096x1024 .bf16 :=
  refY (refO (refW (refP (refE (refS (refQ q) (refK k kc)))) lam) (refV u uc)) g

theorem res_eq (m : (ℓ : Loc nD τ sig) → Buf (Elt Ideal) ℓ) (c : Dev nD) : res_out0 (F := Ideal) m c
    = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

/-! ### The stages at an entry -/

theorem q_at (a : FVec Ideal S4x4096x1024 .bf16) (b : Fin 4) (e : Fin 16) (n : Fin 4096) (d : Fin 64) :
    refQ a (ix4 b e n d) = a (ix3 b n ⟨e * 64 + d, by omega⟩) * Ideal.log (Ideal.ofBits .f32 0x40000000#32) := by
  pointwise [refQ]

theorem k_at (a : FVec Ideal S4x4096x1024 .bf16) (g : FVec Ideal S4x256x1024 .bf16) (b : Fin 4) (e : Fin 16) (n : Fin 4352) (d : Fin 64) :
    refK a g (ix4 b e n d) = if h : (n : ℕ) < 4096 then a (ix3 b ⟨n, h⟩ ⟨e * 64 + d, by omega⟩) else g (ix3 b ⟨n - 4096, by omega⟩ ⟨e * 64 + d, by omega⟩) := by
  pointwise [refK, fn_main_v12]

theorem v_at (a : FVec Ideal S4x4096x14592 .bf16) (g : FVec Ideal S4x256x14592 .bf16) (b : Fin 4) (h : Fin 8) (n : Fin 4352) (i : Fin 128) :
    refV a g (ix4 b h n i) = if hn : (n : ℕ) < 4096 then a (ix3 b ⟨n, hn⟩ ⟨10240 + (h * 128 + i), by omega⟩) else g (ix3 b ⟨n - 4096, by omega⟩ ⟨10240 + (h * 128 + i), by omega⟩) := by
  pointwise [refV, fn_main_v21]

theorem s_at (q : FVec Ideal S4x16x4096x64 .f32) (k : FVec Ideal S4x16x4352x64 .f32) (b : Fin 4) (e : Fin 16) (n : Fin 4096) (l : Fin 4352) :
    refS q k (ix4 b e n l) = ∑ d : Fin 64, q (ix4 b e n d) * k (ix4 b e l d) := by
  pointwise [refS]

/-- The host's maximum over the last of four axes, at an entry. -/
theorem rowMax {n0 n1 n2 n3 : ℕ} (x : FVec Ideal ⟨4, ![n0, n1, n2, n3]⟩ .f32) (z : FVec Ideal S_ .f32)
    (h : (⟨4, ![n0, n1, n2, n3]⟩ : Shape).ReducesTo [3] ⟨3, ![n0, n1, n2]⟩) (hu : 0 < S_.numel) (b : Fin n0) (e : Fin n1) (n : Fin n2) :
    Host.reduce FloatOps.maximumf x z h hu (ix3 b e n) = Finset.univ.fold max (z (Shape.Idx.first hu)) fun l : Fin n3 => x (ix4 b e n l) :=
  (Host.reduce_eq_fold _ x z h hu _).trans (h.fold_fiber_r4_a3 _ _ _ _)

theorem max_at (s : FVec Ideal S4x16x4096x4352 .f32) (b : Fin 4) (e : Fin 16) (n : Fin 4096) :
    refMax s (ix3 b e n) = Finset.univ.fold max ⊥ fun l : Fin 4352 => s (ix4 b e n l) := by
  unfold refMax
  exact (rowMax s _ _ _ b e n).trans (by rw [show (constant S_ .f32 0xFF800000#32 : FVec Ideal S_ .f32) (Shape.Idx.first h_S_) = ⊥ from neg_inf_f32])

theorem shifted_at (s : FVec Ideal S4x16x4096x4352 .f32) (M : FVec Ideal S4x16x4096 .f32) (b : Fin 4) (e : Fin 16) (n : Fin 4096) (l : Fin 4352) :
    shifted s M (ix4 b e n l) = Ideal.exp (s (ix4 b e n l) - M (ix3 b e n)) := by
  pointwise [shifted]
  rw [neg_inf_f32, max_eq_right bot_le]

theorem e_at (s : FVec Ideal S4x16x4096x4352 .f32) (b : Fin 4) (e : Fin 16) (n : Fin 4096) (l : Fin 4352) :
    refE s (ix4 b e n l) = Ideal.exp (s (ix4 b e n l) - refMax s (ix3 b e n)) := by
  unfold refE
  exact shifted_at s (refMax s) b e n l

theorem p_at (s : FVec Ideal S4x16x4096x4352 .f32) (b : Fin 4) (e : Fin 16) (n : Fin 4096) (l : Fin 4352) :
    refP s (ix4 b e n l) = Ideal.div (s (ix4 b e n l)) (∑ l : Fin 4352, s (ix4 b e n l)) := by
  pointwise [refP]

theorem w_at (p : FVec Ideal S4x16x4096x4352 .f32) (lam : FVec Ideal S_ .f32) (b : Fin 4) (h : Fin 8) (n : Fin 4096) (l : Fin 4352) :
    refW p lam (ix4 b h n l) = p (ix4 b ⟨h * 2, by omega⟩ n l) - lam ix0 * p (ix4 b ⟨h * 2 + 1, by omega⟩ n l) := by
  pointwise [refW]

theorem o_at (w : FVec Ideal S4x8x4096x4352 .f32) (v : FVec Ideal S4x8x4352x128 .f32) (b : Fin 4) (h : Fin 8) (n : Fin 4096) (i : Fin 128) :
    refO w v (ix4 b h n i) = ∑ l : Fin 4352, w (ix4 b h n l) * v (ix4 b h l i) := by
  pointwise [refO]

theorem y_at (o : FVec Ideal S4x8x4096x128 .f32) (g : FVec Ideal S128 .f32) (b : Fin 4) (n : Fin 4096) (l : Fin 1024) :
    refY o g (ix3 b n l) = normed (fun i => o (ix4 b ⟨l / 128, by omega⟩ n i)) (fun i => g (ix1 i)) ⟨l % 128, by omega⟩ := by
  pointwise [refY, normed]

/-! ### Over reals -/

section Reals

variable {q k : FVec Ideal S4x4096x1024 .bf16} {u : FVec Ideal S4x4096x14592 .bf16} {kc : FVec Ideal S4x256x1024 .bf16} {uc : FVec Ideal S4x256x14592 .bf16}
  {Q K V : Fin 4 → Fin 4096 → Fin 1024 → ℝ} {KC VC : Fin 4 → Fin 256 → Fin 1024 → ℝ}

/-- Latent rows followed by context rows. -/
def both {β : Type} (a : Fin 4096 → β) (c : Fin 256 → β) (l : Fin 4352) : β := if h : (l : ℕ) < 4096 then a ⟨l, h⟩ else c ⟨l - 4096, by omega⟩

theorem sum_both {β : Type} (a : Fin 4096 → β) (c : Fin 256 → β) (f : β → ℝ) : ∑ l, f (both a c l) = ∑ l, f (a l) + ∑ l, f (c l) := by
  rw [Fin.sum_univ_two_halves 4096 256 rfl]
  exact congrArg₂ (· + ·) (Finset.sum_congr rfl fun l _ => by simp [both]) (Finset.sum_congr rfl fun l _ => by simp [both])

/-- The score of a row in base 2, over latent and context keys. -/
def row (Q K : Fin 4 → Fin 4096 → Fin 1024 → ℝ) (KC : Fin 4 → Fin 256 → Fin 1024 → ℝ) (b : Fin 4) (h : Fin 8) (s : Fin 2) (n : Fin 4096) : Fin 4352 → ℝ :=
  both (fun l => sc Q K b h s n l) (fun l => sc Q KC b h s n l)

theorem log_two : Ideal.log (Ideal.ofBits .f32 0x40000000#32) = (Real.log 2 : EReal) := by
  have : Ideal.ofBits .f32 0x40000000#32 = ((2 : ℝ) : EReal) := by simp [Ideal.ofBits, Ideal.ieee, ← EReal.coe_mul]; norm_num
  rw [this, Ideal.log_coe, if_neg (by norm_num)]

/-- Component `s` of head `h`, among the 16 half heads. -/
def half (h : Fin 8) (s : Fin 2) : Fin 16 := ⟨h * 2 + s, by omega⟩

theorem scores_real (hq : ∀ b n l, q (ix3 b n l) = (Q b n l : EReal)) (hk : ∀ b n l, k (ix3 b n l) = (K b n l : EReal)) (hc : ∀ b n l, kc (ix3 b n l) = (KC b n l : EReal))
    (b : Fin 4) (h : Fin 8) (s : Fin 2) (n : Fin 4096) (l : Fin 4352) :
    refS (refQ q) (refK k kc) (ix4 b (half h s) n l) = (row Q K KC b h s n l * Real.log 2 : ℝ) := by
  have ec : ∀ d : Fin 64, (⟨(half h s : ℕ) * 64 + d, by have := (half h s).isLt; omega⟩ : Fin 1024) = comp h s d := fun d => Fin.ext (by simp only [half, comp]; omega)
  rw [s_at]
  simp only [q_at, k_at, ec, hq, hk, hc, log_two]
  rw [row, both]
  split_ifs with hl
  · rw [sc, Finset.sum_mul, ← sum_coe]
    exact Finset.sum_congr rfl fun d _ => by rw [← EReal.coe_mul, ← EReal.coe_mul]; congr 1; ring
  · rw [sc, Finset.sum_mul, ← sum_coe]
    exact Finset.sum_congr rfl fun d _ => by rw [← EReal.coe_mul, ← EReal.coe_mul]; congr 1; ring

theorem weights_real (hq : ∀ b n l, q (ix3 b n l) = (Q b n l : EReal)) (hk : ∀ b n l, k (ix3 b n l) = (K b n l : EReal)) (hc : ∀ b n l, kc (ix3 b n l) = (KC b n l : EReal))
    (b : Fin 4) (h : Fin 8) (s : Fin 2) (n : Fin 4096) (l : Fin 4352) :
    refP (refE (refS (refQ q) (refK k kc))) (ix4 b (half h s) n l) = (p2 (row Q K KC b h s n l) / ∑ l, p2 (row Q K KC b h s n l) : ℝ) := by
  rw [p_at]
  simp only [e_at, scores_real hq hk hc]
  rw [softmax_real (by norm_num) (fun l => row Q K KC b h s n l * Real.log 2) _ _ (by rw [max_at]; simp only [scores_real hq hk hc]) rfl l]
  simp only [exp_log_two]

theorem out_real (hq : ∀ b n l, q (ix3 b n l) = (Q b n l : EReal)) (hk : ∀ b n l, k (ix3 b n l) = (K b n l : EReal)) (hc : ∀ b n l, kc (ix3 b n l) = (KC b n l : EReal))
    (hu : ∀ b n (l : Fin 1024), u (ix3 b n ⟨10240 + l, by omega⟩) = (V b n l : EReal)) (hw : ∀ b n (l : Fin 1024), uc (ix3 b n ⟨10240 + l, by omega⟩) = (VC b n l : EReal))
    (lam : FVec Ideal S_ .f32) (lr : ℝ) (hl : ∀ i, lam i = (lr : EReal)) (b : Fin 4) (h : Fin 8) (n : Fin 4096) (i : Fin 128) :
    refO (refW (refP (refE (refS (refQ q) (refK k kc)))) lam) (refV u uc) (ix4 b h n i)
      = (att Q K V KC VC b h 0 n i - lr * att Q K V KC VC b h 1 n i : ℝ) := by
  have hv : ∀ l, refV u uc (ix4 b h l i) = (both (fun l => V b l (lane h i)) (fun l => VC b l (lane h i)) l : ℝ) := fun l => by
    rw [v_at, both]
    split_ifs with hn
    · exact hu b _ (lane h i)
    · exact hw b _ (lane h i)
  have h0 : (⟨h * 2, by omega⟩ : Fin 16) = half h 0 := rfl
  have h1 : (⟨h * 2 + 1, by omega⟩ : Fin 16) = half h 1 := rfl
  rw [o_at]
  simp only [w_at, h0, h1, weights_real hq hk hc, hl, hv, ← EReal.coe_mul, ← EReal.coe_sub]
  rw [sum_coe, diff_weights]
  have hs : ∀ s, (∑ l, p2 (row Q K KC b h s n l) * both (fun l => V b l (lane h i)) (fun l => VC b l (lane h i)) l) / ∑ l, p2 (row Q K KC b h s n l) = att Q K V KC VC b h s n i := fun s => by
    have e : ∀ l, p2 (row Q K KC b h s n l) * both (fun l => V b l (lane h i)) (fun l => VC b l (lane h i)) l
        = (fun x : ℝ × ℝ => p2 x.1 * x.2) (both (fun l => (sc Q K b h s n l, V b l (lane h i))) (fun l => (sc Q KC b h s n l, VC b l (lane h i))) l) := fun l => by
      simp only [row, both]
      split_ifs <;> rfl
    rw [Finset.sum_congr rfl fun l _ => e l, sum_both _ _ fun x : ℝ × ℝ => p2 x.1 * x.2, row, sum_both _ _ p2]
    rfl
  rw [hs, hs]

/-- THE REFERENCE, over real queries, keys, values and scalar, at an entry. -/
theorem ref_real (hq : ∀ b n l, q (ix3 b n l) = (Q b n l : EReal)) (hk : ∀ b n l, k (ix3 b n l) = (K b n l : EReal)) (hc : ∀ b n l, kc (ix3 b n l) = (KC b n l : EReal))
    (hu : ∀ b n (l : Fin 1024), u (ix3 b n ⟨10240 + l, by omega⟩) = (V b n l : EReal)) (hw : ∀ b n (l : Fin 1024), uc (ix3 b n ⟨10240 + l, by omega⟩) = (VC b n l : EReal))
    (lam : FVec Ideal S_ .f32) (lr : ℝ) (hl : ∀ i, lam i = (lr : EReal)) (g : FVec Ideal S128 .f32) (b : Fin 4) (n : Fin 4096) (l : Fin 1024) :
    REF q k u kc uc lam g (ix3 b n l) = diffAtt Q K V KC VC lr (fun i => g (ix1 i)) b ⟨l / 128, by omega⟩ n ⟨l % 128, by omega⟩ := by
  rw [REF, y_at, diffAtt]
  simp only [out_real hq hk hc hu hw lam lr hl]

end Reals

end Cert.ReferenceIdeal.Att

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpRefIdeal
public import proofs.«01_k».proof.Proof.Gen.FfnUpRefIdeal.Run
public import proofs.«01_k».proof.Proof.InProj
public import proofs.«01_k».proof.Proof.FfnUpFrame
public import proofs.«01_k».proof.Proof.FfnUp
public import proofs.«01_k».proof.Proof.FfnDown
public import proofs.«01_k».proof.Proof.Merge
public import proofs.«01_k».proof.Proof.OutProj
public import proofs.«01_k».proof.Proof.Gen.Conformer
public import proofs.«01_k».proof.Proof.Gen.Conformer.Skeleton
public import proofs.«01_k».proof.Proof.Gen.Conformer.Launch
public import proofs.«01_k».proof.Proof.Gen.Conformer.Points
public import proofs.«01_k».proof.Proof.Gen.Conformer.Frame
public import proofs.«01_k».proof.Proof.Gen.ConformerIdeal
public import proofs.«01_k».proof.Proof.Gen.ConformerIdeal.Skeleton
public import proofs.«01_k».proof.Proof.Gen.ConformerIdeal.Launch
public import proofs.«01_k».proof.Proof.Gen.ConformerIdeal.Points
public import proofs.«01_k».proof.Proof.Gen.ConformerIdeal.Frame
public import proofs.«01_k».proof.Proof.Gen.ConformerIdeal.Value
public import proofs.«01_k».proof.Proof.Gen.ConformerRefIdeal
public import proofs.«01_k».proof.Proof.Gen.ConformerRefIdeal.Run
public import proofs.«01_k».proof.Proof.Gen.Adaln
public import proofs.«01_k».proof.Proof.Gen.Adaln.Skeleton
public import proofs.«01_k».proof.Proof.Gen.Adaln.Launch
public import proofs.«01_k».proof.Proof.Gen.Adaln.Points
public import proofs.«01_k».proof.Proof.Gen.Adaln.Frame
public import proofs.«01_k».proof.Proof.Gen.AdalnIdeal
public import proofs.«01_k».proof.Proof.Gen.AdalnIdeal.Skeleton
public import proofs.«01_k».proof.Proof.Gen.AdalnIdeal.Launch
public import proofs.«01_k».proof.Proof.Gen.AdalnIdeal.Points
public import proofs.«01_k».proof.Proof.Gen.AdalnIdeal.Frame
public import proofs.«01_k».proof.Proof.Gen.AdalnIdeal.Value
public import proofs.«01_k».proof.Proof.Gen.AdalnRefIdeal
public import proofs.«01_k».proof.Proof.Gen.AdalnRefIdeal.Run
public import proofs.«01_k».proof.Proof.Conformer
public import proofs.«01_k».proof.Proof.Adaln
public import proofs.«01_k».proof.Proof.Gen.InProjCtx
public import proofs.«01_k».proof.Proof.Gen.InProjCtx.Skeleton
public import proofs.«01_k».proof.Proof.Gen.InProjCtx.Launch
public import proofs.«01_k».proof.Proof.Gen.InProjCtx.Points
public import proofs.«01_k».proof.Proof.Gen.InProjCtx.Frame
public import proofs.«01_k».proof.Proof.Gen.InProjCtxIdeal
public import proofs.«01_k».proof.Proof.Gen.InProjCtxIdeal.Skeleton
public import proofs.«01_k».proof.Proof.Gen.InProjCtxIdeal.Launch
public import proofs.«01_k».proof.Proof.Gen.InProjCtxIdeal.Points
public import proofs.«01_k».proof.Proof.Gen.InProjCtxIdeal.Frame
public import proofs.«01_k».proof.Proof.Gen.InProjCtxIdeal.Value
public import proofs.«01_k».proof.Proof.Gen.InProjCtxRefIdeal
public import proofs.«01_k».proof.Proof.Gen.InProjCtxRefIdeal.Run
public import proofs.«01_k».proof.Proof.Gen.OutProjCtx
public import proofs.«01_k».proof.Proof.Gen.OutProjCtx.Skeleton
public import proofs.«01_k».proof.Proof.Gen.OutProjCtx.Launch
public import proofs.«01_k».proof.Proof.Gen.OutProjCtx.Points
public import proofs.«01_k».proof.Proof.Gen.OutProjCtx.Frame
public import proofs.«01_k».proof.Proof.Gen.OutProjCtxIdeal
public import proofs.«01_k».proof.Proof.Gen.OutProjCtxIdeal.Skeleton
public import proofs.«01_k».proof.Proof.Gen.OutProjCtxIdeal.Launch
public import proofs.«01_k».proof.Proof.Gen.OutProjCtxIdeal.Points
public import proofs.«01_k».proof.Proof.Gen.OutProjCtxIdeal.Frame
public import proofs.«01_k».proof.Proof.Gen.OutProjCtxIdeal.Value
public import proofs.«01_k».proof.Proof.Gen.OutProjCtxRefIdeal
public import proofs.«01_k».proof.Proof.Gen.OutProjCtxRefIdeal.Run
public import proofs.«01_k».proof.Proof.Gen.FfnDownCtx
public import proofs.«01_k».proof.Proof.Gen.FfnDownCtx.Skeleton
public import proofs.«01_k».proof.Proof.Gen.FfnDownCtx.Launch
public import proofs.«01_k».proof.Proof.Gen.FfnDownCtx.Points
public import proofs.«01_k».proof.Proof.Gen.FfnDownCtx.Frame
public import proofs.«01_k».proof.Proof.Gen.FfnDownCtxIdeal
public import proofs.«01_k».proof.Proof.Gen.FfnDownCtxIdeal.Skeleton
public import proofs.«01_k».proof.Proof.Gen.FfnDownCtxIdeal.Launch
public import proofs.«01_k».proof.Proof.Gen.FfnDownCtxIdeal.Points
public import proofs.«01_k».proof.Proof.Gen.FfnDownCtxIdeal.Frame
public import proofs.«01_k».proof.Proof.Gen.FfnDownCtxIdeal.Value
public import proofs.«01_k».proof.Proof.Gen.FfnDownCtxRefIdeal
public import proofs.«01_k».proof.Proof.Gen.FfnDownCtxRefIdeal.Run
public import proofs.«01_k».proof.Proof.Gen.MergeCtx
public import proofs.«01_k».proof.Proof.Gen.MergeCtx.Skeleton
public import proofs.«01_k».proof.Proof.Gen.MergeCtx.Launch
public import proofs.«01_k».proof.Proof.Gen.MergeCtx.Points
public import proofs.«01_k».proof.Proof.Gen.MergeCtx.Frame
public import proofs.«01_k».proof.Proof.Gen.MergeCtxIdeal
public import proofs.«01_k».proof.Proof.Gen.MergeCtxIdeal.Skeleton
public import proofs.«01_k».proof.Proof.Gen.MergeCtxIdeal.Launch
public import proofs.«01_k».proof.Proof.Gen.MergeCtxIdeal.Points
public import proofs.«01_k».proof.Proof.Gen.MergeCtxIdeal.Frame
public import proofs.«01_k».proof.Proof.Gen.MergeCtxIdeal.Value
public import proofs.«01_k».proof.Proof.Gen.MergeCtxRefIdeal
public import proofs.«01_k».proof.Proof.Gen.MergeCtxRefIdeal.Run
public import proofs.«01_k».proof.Proof.Gen.ConformerCtx
public import proofs.«01_k».proof.Proof.Gen.ConformerCtx.Skeleton
public import proofs.«01_k».proof.Proof.Gen.ConformerCtx.Launch
public import proofs.«01_k».proof.Proof.Gen.ConformerCtx.Points
public import proofs.«01_k».proof.Proof.Gen.ConformerCtx.Frame
public import proofs.«01_k».proof.Proof.Gen.ConformerCtxIdeal
public import proofs.«01_k».proof.Proof.Gen.ConformerCtxIdeal.Skeleton
public import proofs.«01_k».proof.Proof.Gen.ConformerCtxIdeal.Launch
public import proofs.«01_k».proof.Proof.Gen.ConformerCtxIdeal.Points
public import proofs.«01_k».proof.Proof.Gen.ConformerCtxIdeal.Frame
public import proofs.«01_k».proof.Proof.Gen.ConformerCtxIdeal.Value
public import proofs.«01_k».proof.Proof.Gen.ConformerCtxRefIdeal
public import proofs.«01_k».proof.Proof.Gen.ConformerCtxRefIdeal.Run
public import proofs.«01_k».proof.Proof.InProjCtx
public import proofs.«01_k».proof.Proof.OutProjCtx
public import proofs.«01_k».proof.Proof.FfnDownCtx
public import proofs.«01_k».proof.Proof.MergeCtx
public import proofs.«01_k».proof.Proof.ConformerCtx
public import proofs.«01_k».proof.Proof.Points
public import proofs.«01_k».proof.Proof.Reference
public import proofs.«01_k».proof.Proof.Finite
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Frame: the attention kernel, at any floats, returns with its arguments unchanged and every counter at zero. -/
theorem frame_kernel : Cert.quiescent_Kernel (hKernel := Cert.Kernel.Gen.facts) := fun m g _ => Cert.Kernel.Gen.frame m g

/-- The same of the kernel over the extended reals. -/
theorem frame_ideal : Cert.quiescent_KernelIdeal (hKernelIdeal := Cert.KernelIdeal.Gen.facts) := fun m g _ => Cert.KernelIdeal.Gen.frame m g

/-- The same of the reference: its run leaves the arguments, and it declares no counter. -/
theorem frame_reference : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run m g)

/-- Both arrays, at an entry, are the differential attention of the reals that the arguments hold. -/
theorem result_eq {m : (ℓ : Loc Cert.KernelIdeal.nD Cert.KernelIdeal.τ Cert.KernelIdeal.sig) → Buf (Elt Ideal) ℓ} {c : Dev Cert.KernelIdeal.nD}
    {Q K V : Fin 4 → Fin 4096 → Fin 1024 → ℝ} {KC VC : Fin 4 → Fin 256 → Fin 1024 → ℝ} {lam : ℝ}
    (H : Cert.KernelIdeal.Att.Reals m c Q K V KC VC lam) :
    Cert.ReferenceIdeal.Att.REF (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.Att.result Q K V KC VC lam (m ((c.tc : Thread Cert.KernelIdeal.nD Cert.KernelIdeal.τ).loc Cert.KernelIdeal.main_arg6)) := by
  funext i
  idx_vars i
  exact Cert.ReferenceIdeal.Att.ref_real H.q H.k H.kc H.v H.vc _ _ H.lam _ _ _ _

/-- Value: from arguments that agree, the idealized attention kernel and the reference's attention leave the same array. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  pair_intro
  · run_from Cert.KernelIdeal.Value.run_blocks m g
  · run_from Cert.ReferenceIdeal.Value.run m' g'
    obtain ⟨Q, K, V, KC, VC, lam, H⟩ := Cert.Pre_finite.kernel_reals m hpre c
    rw [Cert.KernelIdeal.Att.final H, ← result_eq H]
    refine (Cert.ReferenceIdeal.Att.res_eq m' c).trans ?_
    obtain ⟨h0, h1, h2, h3, h4, h5, h6⟩ := hagree c
    rw [h0, h1, h2, h3, h4, h5, h6]

/-- Frame: the input projection, at any floats, returns with its arguments unchanged and every counter at zero. -/
theorem frame_inProj : Cert.quiescent_InProj (hInProj := Cert.InProj.Gen.facts) := fun m g _ => Cert.InProj.Gen.frame m g

/-- The same of the input projection over the extended reals. -/
theorem frame_inProj_ideal : Cert.quiescent_InProjIdeal (hInProjIdeal := Cert.InProjIdeal.Gen.facts) := fun m g _ => Cert.InProjIdeal.Gen.frame m g

/-- The same of its reference. -/
theorem frame_inProj_reference : Cert.quiescent_InProjRefIdeal (hInProjRefIdeal := Cert.InProjRefIdeal.Gen.facts) := by
  intro m g _
  exact (θ_run Cert.InProjRefIdeal.defs _ _).mono (fun r h => ⟨fun c => (h c).2, sem_eq_zero_of_no_sems (by decide) r.2⟩)
    (Cert.InProjRefIdeal.Value.run m g)

/-- Value: from arguments that agree, the idealized input projection and its reference leave the same array. -/
theorem algebraic_inProj : Cert.algebraic_InProjIdeal_InProjRefIdeal (hInProjIdeal := Cert.InProjIdeal.Gen.facts)
    (hInProjRefIdeal := Cert.InProjRefIdeal.Gen.facts) := by
  pair_intro
  · run_from Cert.InProjIdeal.Value.run_blocks m g
  · run_from Cert.InProjRefIdeal.Value.run m' g'
    exact (Cert.InProjIdeal.Out.final m c).symm

/-- Frame: the up-projection, at any floats, returns with its arguments unchanged and every counter at zero. -/
theorem frame_ffnUp : Cert.quiescent_FfnUp (hFfnUp := Cert.FfnUp.Gen.facts) := fun m g _ => Cert.FfnUp.Body.frame m g

/-- The same of the up-projection over the extended reals. -/
theorem frame_ffnUp_ideal : Cert.quiescent_FfnUpIdeal (hFfnUpIdeal := Cert.FfnUpIdeal.Gen.facts) := fun m g _ => Cert.FfnUpIdeal.Body.frame m g

/-- The same of its reference. -/
theorem frame_ffnUp_reference : Cert.quiescent_FfnUpRefIdeal (hFfnUpRefIdeal := Cert.FfnUpRefIdeal.Gen.facts) := by
  intro m g _
  exact (θ_run Cert.FfnUpRefIdeal.defs _ _).mono (fun r h => ⟨fun c => (h c).2, sem_eq_zero_of_no_sems (by decide) r.2⟩)
    (Cert.FfnUpRefIdeal.Value.run m g)

/-- Value: from arguments that agree, the idealized up-projection and its reference leave the same array. -/
theorem algebraic_ffnUp : Cert.algebraic_FfnUpIdeal_FfnUpRefIdeal (hFfnUpIdeal := Cert.FfnUpIdeal.Gen.facts)
    (hFfnUpRefIdeal := Cert.FfnUpRefIdeal.Gen.facts) := by
  pair_intro
  · run_from Cert.FfnUpIdeal.Body.run_main m g
  · run_from Cert.FfnUpRefIdeal.Value.run m' g'
    rw [Cert.FfnUpIdeal.Out.final m c]
    refine Eq.trans (Cert.FfnUpRefIdeal.Out.res_eq m' c) ?_
    obtain ⟨h0, h1, h2, h3, h4, h5⟩ := hagree c
    rw [h0, h1, h2, h3, h4, h5]

/-- Frame: the down-projection, at any floats, returns with its arguments unchanged and every counter at zero. -/
theorem frame_ffnDown : Cert.quiescent_FfnDown (hFfnDown := Cert.FfnDown.Gen.facts) := fun m g _ => Cert.FfnDown.Gen.frame m g

/-- The same of the down-projection over the extended reals. -/
theorem frame_ffnDown_ideal : Cert.quiescent_FfnDownIdeal (hFfnDownIdeal := Cert.FfnDownIdeal.Gen.facts) := fun m g _ => Cert.FfnDownIdeal.Gen.frame m g

/-- The same of its reference. -/
theorem frame_ffnDown_reference : Cert.quiescent_FfnDownRefIdeal (hFfnDownRefIdeal := Cert.FfnDownRefIdeal.Gen.facts) := by
  intro m g _
  exact (θ_run Cert.FfnDownRefIdeal.defs _ _).mono (fun r h => ⟨fun c => (h c).2, sem_eq_zero_of_no_sems (by decide) r.2⟩)
    (Cert.FfnDownRefIdeal.Value.run m g)

/-- Value: from arguments that agree, the idealized down-projection and its reference leave the same array. -/
theorem algebraic_ffnDown : Cert.algebraic_FfnDownIdeal_FfnDownRefIdeal (hFfnDownIdeal := Cert.FfnDownIdeal.Gen.facts)
    (hFfnDownRefIdeal := Cert.FfnDownRefIdeal.Gen.facts) := by
  pair_intro
  · run_from Cert.FfnDownIdeal.Value.run_blocks m g
  · run_from Cert.FfnDownRefIdeal.Value.run m' g'
    exact (Cert.FfnDownIdeal.Out.final m c).symm

/-- Frame: the merge of the branches, at any floats, returns with its arguments unchanged and every counter at zero. -/
theorem frame_merge : Cert.quiescent_Merge (hMerge := Cert.Merge.Gen.facts) := fun m g _ => Cert.Merge.Gen.frame m g

/-- The same of the merge over the extended reals. -/
theorem frame_merge_ideal : Cert.quiescent_MergeIdeal (hMergeIdeal := Cert.MergeIdeal.Gen.facts) := fun m g _ => Cert.MergeIdeal.Gen.frame m g

/-- The same of its reference. -/
theorem frame_merge_reference : Cert.quiescent_MergeRefIdeal (hMergeRefIdeal := Cert.MergeRefIdeal.Gen.facts) := by
  intro m g _
  exact (θ_run Cert.MergeRefIdeal.defs _ _).mono (fun r h => ⟨fun c => (h c).2, sem_eq_zero_of_no_sems (by decide) r.2⟩)
    (Cert.MergeRefIdeal.Value.run m g)

/-- Value: from arguments that agree, the idealized merge and its reference leave the same array. -/
theorem algebraic_merge : Cert.algebraic_MergeIdeal_MergeRefIdeal (hMergeIdeal := Cert.MergeIdeal.Gen.facts)
    (hMergeRefIdeal := Cert.MergeRefIdeal.Gen.facts) := by
  pair_intro
  · run_from Cert.MergeIdeal.Value.run_blocks m g
  · run_from Cert.MergeRefIdeal.Value.run m' g'
    rw [Cert.MergeIdeal.Out.final m c]
    refine Eq.trans (Cert.MergeRefIdeal.Out.res_eq m' c) ?_
    obtain ⟨h0, h1, h2, h3, h4, h5, h6, h7, h8, h9⟩ := hagree c
    rw [h0, h1, h2, h3, h4, h5, h6, h7, h8, h9]

/-- Frame: the output projection, at any floats, returns with its arguments unchanged and every counter at zero. -/
theorem frame_outProj : Cert.quiescent_OutProj (hOutProj := Cert.OutProj.Gen.facts) := fun m g _ => Cert.OutProj.Gen.frame m g

/-- The same of the output projection over the extended reals. -/
theorem frame_outProj_ideal : Cert.quiescent_OutProjIdeal (hOutProjIdeal := Cert.OutProjIdeal.Gen.facts) := fun m g _ => Cert.OutProjIdeal.Gen.frame m g

/-- The same of its reference. -/
theorem frame_outProj_reference : Cert.quiescent_OutProjRefIdeal (hOutProjRefIdeal := Cert.OutProjRefIdeal.Gen.facts) := by
  intro m g _
  exact (θ_run Cert.OutProjRefIdeal.defs _ _).mono (fun r h => ⟨fun c => (h c).2, sem_eq_zero_of_no_sems (by decide) r.2⟩)
    (Cert.OutProjRefIdeal.Value.run m g)

/-- Value: from arguments that agree, the idealized output projection and its reference leave the same array. -/
theorem algebraic_outProj : Cert.algebraic_OutProjIdeal_OutProjRefIdeal (hOutProjIdeal := Cert.OutProjIdeal.Gen.facts)
    (hOutProjRefIdeal := Cert.OutProjRefIdeal.Gen.facts) := by
  pair_intro
  · run_from Cert.OutProjIdeal.Value.run_blocks m g
  · run_from Cert.OutProjRefIdeal.Value.run m' g'
    exact (Cert.OutProjIdeal.Out.final m c).symm

/-- Frame: the conformer convolution, at any floats, returns with its arguments unchanged and every counter at zero. -/
theorem frame_conformer : Cert.quiescent_Conformer (hConformer := Cert.Conformer.Gen.facts) := fun m g _ => Cert.Conformer.Gen.frame m g

/-- The same of the conformer convolution over the extended reals. -/
theorem frame_conformer_ideal : Cert.quiescent_ConformerIdeal (hConformerIdeal := Cert.ConformerIdeal.Gen.facts) := fun m g _ => Cert.ConformerIdeal.Gen.frame m g

/-- The same of its reference. -/
theorem frame_conformer_reference : Cert.quiescent_ConformerRefIdeal (hConformerRefIdeal := Cert.ConformerRefIdeal.Gen.facts) := by
  intro m g _
  exact (θ_run Cert.ConformerRefIdeal.defs _ _).mono (fun r h => ⟨fun c => (h c).2, sem_eq_zero_of_no_sems (by decide) r.2⟩)
    (Cert.ConformerRefIdeal.Value.run m g)

/-- Value: from arguments that agree, the idealized conformer convolution and its reference leave the same array. -/
theorem algebraic_conformer : Cert.algebraic_ConformerIdeal_ConformerRefIdeal (hConformerIdeal := Cert.ConformerIdeal.Gen.facts)
    (hConformerRefIdeal := Cert.ConformerRefIdeal.Gen.facts) := by
  pair_intro
  · run_from Cert.ConformerIdeal.Value.run_blocks m g
  · run_from Cert.ConformerRefIdeal.Value.run m' g'
    rw [Cert.ConformerIdeal.Out.final m c]
    refine Eq.trans (Cert.ConformerRefIdeal.Out.res_eq m' c) ?_
    obtain ⟨h0, h1, h2, h3, h4⟩ := hagree c
    rw [h0, h1, h2, h3, h4]

/-- Frame: the modulation, at any floats, returns with its arguments unchanged and every counter at zero. -/
theorem frame_adaln : Cert.quiescent_Adaln (hAdaln := Cert.Adaln.Gen.facts) := fun m g _ => Cert.Adaln.Gen.frame m g

/-- The same of the modulation over the extended reals. -/
theorem frame_adaln_ideal : Cert.quiescent_AdalnIdeal (hAdalnIdeal := Cert.AdalnIdeal.Gen.facts) := fun m g _ => Cert.AdalnIdeal.Gen.frame m g

/-- The same of its reference. -/
theorem frame_adaln_reference : Cert.quiescent_AdalnRefIdeal (hAdalnRefIdeal := Cert.AdalnRefIdeal.Gen.facts) := by
  intro m g _
  exact (θ_run Cert.AdalnRefIdeal.defs _ _).mono (fun r h => ⟨fun c => (h c).2, sem_eq_zero_of_no_sems (by decide) r.2⟩)
    (Cert.AdalnRefIdeal.Value.run m g)

/-- Value: from finite arguments that agree, the idealized modulation and its reference leave the same array. -/
theorem algebraic_adaln : Cert.algebraic_AdalnIdeal_AdalnRefIdeal_pre_finite_conditioning (hAdalnIdeal := Cert.AdalnIdeal.Gen.facts)
    (hAdalnRefIdeal := Cert.AdalnRefIdeal.Gen.facts) (hPre_finite_conditioning := Cert.Pre_finite_conditioning.facts) := by
  pair_intro
  · run_from Cert.AdalnIdeal.Value.run_blocks m g
  · run_from Cert.AdalnRefIdeal.Value.run m' g'
    exact (Cert.AdalnIdeal.Out.final m c hpre).symm

/-- Frame: the input projection of the context tokens, at any floats, returns with its arguments unchanged and every counter at zero. -/
theorem frame_inProjCtx : Cert.quiescent_InProjCtx (hInProjCtx := Cert.InProjCtx.Gen.facts) := fun m g _ => Cert.InProjCtx.Gen.frame m g

/-- The same of the input projection of the context tokens over the extended reals. -/
theorem frame_inProjCtx_ideal : Cert.quiescent_InProjCtxIdeal (hInProjCtxIdeal := Cert.InProjCtxIdeal.Gen.facts) := fun m g _ => Cert.InProjCtxIdeal.Gen.frame m g

/-- The same of its reference. -/
theorem frame_inProjCtx_reference : Cert.quiescent_InProjCtxRefIdeal (hInProjCtxRefIdeal := Cert.InProjCtxRefIdeal.Gen.facts) := by
  intro m g _
  exact (θ_run Cert.InProjCtxRefIdeal.defs _ _).mono (fun r h => ⟨fun c => (h c).2, sem_eq_zero_of_no_sems (by decide) r.2⟩)
    (Cert.InProjCtxRefIdeal.Value.run m g)

/-- Value: from arguments that agree, the idealized input projection of the context tokens and its reference leave the same array. -/
theorem algebraic_inProjCtx : Cert.algebraic_InProjCtxIdeal_InProjCtxRefIdeal (hInProjCtxIdeal := Cert.InProjCtxIdeal.Gen.facts)
    (hInProjCtxRefIdeal := Cert.InProjCtxRefIdeal.Gen.facts) := by
  pair_intro
  · run_from Cert.InProjCtxIdeal.Value.run_blocks m g
  · run_from Cert.InProjCtxRefIdeal.Value.run m' g'
    exact (Cert.InProjCtxIdeal.Out.final m c).symm

/-- Frame: the output projection of the context tokens, at any floats, returns with its arguments unchanged and every counter at zero. -/
theorem frame_outProjCtx : Cert.quiescent_OutProjCtx (hOutProjCtx := Cert.OutProjCtx.Gen.facts) := fun m g _ => Cert.OutProjCtx.Gen.frame m g

/-- The same of the output projection of the context tokens over the extended reals. -/
theorem frame_outProjCtx_ideal : Cert.quiescent_OutProjCtxIdeal (hOutProjCtxIdeal := Cert.OutProjCtxIdeal.Gen.facts) := fun m g _ => Cert.OutProjCtxIdeal.Gen.frame m g

/-- The same of its reference. -/
theorem frame_outProjCtx_reference : Cert.quiescent_OutProjCtxRefIdeal (hOutProjCtxRefIdeal := Cert.OutProjCtxRefIdeal.Gen.facts) := by
  intro m g _
  exact (θ_run Cert.OutProjCtxRefIdeal.defs _ _).mono (fun r h => ⟨fun c => (h c).2, sem_eq_zero_of_no_sems (by decide) r.2⟩)
    (Cert.OutProjCtxRefIdeal.Value.run m g)

/-- Value: from arguments that agree, the idealized output projection of the context tokens and its reference leave the same array. -/
theorem algebraic_outProjCtx : Cert.algebraic_OutProjCtxIdeal_OutProjCtxRefIdeal (hOutProjCtxIdeal := Cert.OutProjCtxIdeal.Gen.facts)
    (hOutProjCtxRefIdeal := Cert.OutProjCtxRefIdeal.Gen.facts) := by
  pair_intro
  · run_from Cert.OutProjCtxIdeal.Value.run_blocks m g
  · run_from Cert.OutProjCtxRefIdeal.Value.run m' g'
    exact (Cert.OutProjCtxIdeal.Out.final m c).symm

/-- Frame: the down-projection of the context tokens, at any floats, returns with its arguments unchanged and every counter at zero. -/
theorem frame_ffnDownCtx : Cert.quiescent_FfnDownCtx (hFfnDownCtx := Cert.FfnDownCtx.Gen.facts) := fun m g _ => Cert.FfnDownCtx.Gen.frame m g

/-- The same of the down-projection of the context tokens over the extended reals. -/
theorem frame_ffnDownCtx_ideal : Cert.quiescent_FfnDownCtxIdeal (hFfnDownCtxIdeal := Cert.FfnDownCtxIdeal.Gen.facts) := fun m g _ => Cert.FfnDownCtxIdeal.Gen.frame m g

/-- The same of its reference. -/
theorem frame_ffnDownCtx_reference : Cert.quiescent_FfnDownCtxRefIdeal (hFfnDownCtxRefIdeal := Cert.FfnDownCtxRefIdeal.Gen.facts) := by
  intro m g _
  exact (θ_run Cert.FfnDownCtxRefIdeal.defs _ _).mono (fun r h => ⟨fun c => (h c).2, sem_eq_zero_of_no_sems (by decide) r.2⟩)
    (Cert.FfnDownCtxRefIdeal.Value.run m g)

/-- Value: from arguments that agree, the idealized down-projection of the context tokens and its reference leave the same array. -/
theorem algebraic_ffnDownCtx : Cert.algebraic_FfnDownCtxIdeal_FfnDownCtxRefIdeal (hFfnDownCtxIdeal := Cert.FfnDownCtxIdeal.Gen.facts)
    (hFfnDownCtxRefIdeal := Cert.FfnDownCtxRefIdeal.Gen.facts) := by
  pair_intro
  · run_from Cert.FfnDownCtxIdeal.Value.run_blocks m g
  · run_from Cert.FfnDownCtxRefIdeal.Value.run m' g'
    exact (Cert.FfnDownCtxIdeal.Out.final m c).symm

/-- Frame: the merge of the context tokens' branches, at any floats, returns with its arguments unchanged and every counter at zero. -/
theorem frame_mergeCtx : Cert.quiescent_MergeCtx (hMergeCtx := Cert.MergeCtx.Gen.facts) := fun m g _ => Cert.MergeCtx.Gen.frame m g

/-- The same of the merge of the context tokens' branches over the extended reals. -/
theorem frame_mergeCtx_ideal : Cert.quiescent_MergeCtxIdeal (hMergeCtxIdeal := Cert.MergeCtxIdeal.Gen.facts) := fun m g _ => Cert.MergeCtxIdeal.Gen.frame m g

/-- The same of its reference. -/
theorem frame_mergeCtx_reference : Cert.quiescent_MergeCtxRefIdeal (hMergeCtxRefIdeal := Cert.MergeCtxRefIdeal.Gen.facts) := by
  intro m g _
  exact (θ_run Cert.MergeCtxRefIdeal.defs _ _).mono (fun r h => ⟨fun c => (h c).2, sem_eq_zero_of_no_sems (by decide) r.2⟩)
    (Cert.MergeCtxRefIdeal.Value.run m g)

/-- Value: from arguments that agree, the idealized merge of the context tokens' branches and its reference leave the same array. -/
theorem algebraic_mergeCtx : Cert.algebraic_MergeCtxIdeal_MergeCtxRefIdeal (hMergeCtxIdeal := Cert.MergeCtxIdeal.Gen.facts)
    (hMergeCtxRefIdeal := Cert.MergeCtxRefIdeal.Gen.facts) := by
  pair_intro
  · run_from Cert.MergeCtxIdeal.Value.run_blocks m g
  · run_from Cert.MergeCtxRefIdeal.Value.run m' g'
    rw [Cert.MergeCtxIdeal.Out.final m c]
    refine Eq.trans (Cert.MergeCtxRefIdeal.Out.res_eq m' c) ?_
    obtain ⟨h0, h1, h2, h3, h4, h5, h6, h7, h8, h9⟩ := hagree c
    rw [h0, h1, h2, h3, h4, h5, h6, h7, h8, h9]

/-- Frame: the conformer convolution of the context tokens, at any floats, returns with its arguments unchanged and every counter at zero. -/
theorem frame_conformerCtx : Cert.quiescent_ConformerCtx (hConformerCtx := Cert.ConformerCtx.Gen.facts) := fun m g _ => Cert.ConformerCtx.Gen.frame m g

/-- The same of the conformer convolution of the context tokens over the extended reals. -/
theorem frame_conformerCtx_ideal : Cert.quiescent_ConformerCtxIdeal (hConformerCtxIdeal := Cert.ConformerCtxIdeal.Gen.facts) := fun m g _ => Cert.ConformerCtxIdeal.Gen.frame m g

/-- The same of its reference. -/
theorem frame_conformerCtx_reference : Cert.quiescent_ConformerCtxRefIdeal (hConformerCtxRefIdeal := Cert.ConformerCtxRefIdeal.Gen.facts) := by
  intro m g _
  exact (θ_run Cert.ConformerCtxRefIdeal.defs _ _).mono (fun r h => ⟨fun c => (h c).2, sem_eq_zero_of_no_sems (by decide) r.2⟩)
    (Cert.ConformerCtxRefIdeal.Value.run m g)

/-- Value: from arguments that agree, the idealized conformer convolution of the context tokens and its reference leave the same array. -/
theorem algebraic_conformerCtx : Cert.algebraic_ConformerCtxIdeal_ConformerCtxRefIdeal (hConformerCtxIdeal := Cert.ConformerCtxIdeal.Gen.facts)
    (hConformerCtxRefIdeal := Cert.ConformerCtxRefIdeal.Gen.facts) := by
  pair_intro
  · run_from Cert.ConformerCtxIdeal.Value.run_blocks m g
  · run_from Cert.ConformerCtxRefIdeal.Value.run m' g'
    rw [Cert.ConformerCtxIdeal.Out.final m c]
    refine Eq.trans (Cert.ConformerCtxRefIdeal.Out.res_eq m' c) ?_
    obtain ⟨h0, h1, h2, h3, h4⟩ := hagree c
    rw [h0, h1, h2, h3, h4]

/-- The certificate: every program's frames, and the value claims. -/
theorem claim : Cert.Claim := ⟨Cert.Kernel.Gen.facts, Cert.KernelIdeal.Gen.facts, Cert.ReferenceIdeal.Gen.facts,
  Cert.InProj.Gen.facts, Cert.InProjIdeal.Gen.facts, Cert.InProjRefIdeal.Gen.facts, Cert.Conformer.Gen.facts, Cert.ConformerIdeal.Gen.facts, Cert.ConformerRefIdeal.Gen.facts, Cert.Adaln.Gen.facts, Cert.AdalnIdeal.Gen.facts, Cert.AdalnRefIdeal.Gen.facts,
  Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts,
  Cert.InProjCtx.Gen.facts, Cert.InProjCtxIdeal.Gen.facts, Cert.InProjCtxRefIdeal.Gen.facts,
  Cert.OutProjCtx.Gen.facts, Cert.OutProjCtxIdeal.Gen.facts, Cert.OutProjCtxRefIdeal.Gen.facts,
  Cert.FfnDownCtx.Gen.facts, Cert.FfnDownCtxIdeal.Gen.facts, Cert.FfnDownCtxRefIdeal.Gen.facts,
  Cert.MergeCtx.Gen.facts, Cert.MergeCtxIdeal.Gen.facts, Cert.MergeCtxRefIdeal.Gen.facts,
  Cert.ConformerCtx.Gen.facts, Cert.ConformerCtxIdeal.Gen.facts, Cert.ConformerCtxRefIdeal.Gen.facts, Cert.Pre_finite.facts, Cert.Pre_finite_conditioning.facts,
  frame_kernel, frame_ideal, fun m g _ => frame_ideal m g trivial, frame_reference, fun m g _ => frame_reference m g trivial,
  frame_inProj, frame_inProj_ideal, frame_inProj_reference, frame_conformer, frame_conformer_ideal, frame_conformer_reference,
  frame_adaln, frame_adaln_ideal, fun m g _ => frame_adaln_ideal m g trivial, frame_adaln_reference, fun m g _ => frame_adaln_reference m g trivial,
  frame_ffnUp, frame_ffnUp_ideal, frame_ffnUp_reference, frame_ffnDown, frame_ffnDown_ideal, frame_ffnDown_reference, frame_merge, frame_merge_ideal, frame_merge_reference, frame_outProj, frame_outProj_ideal, frame_outProj_reference,
  frame_inProjCtx, frame_inProjCtx_ideal, frame_inProjCtx_reference,
  frame_outProjCtx, frame_outProjCtx_ideal, frame_outProjCtx_reference,
  frame_ffnDownCtx, frame_ffnDownCtx_ideal, frame_ffnDownCtx_reference,
  frame_mergeCtx, frame_mergeCtx_ideal, frame_mergeCtx_reference,
  frame_conformerCtx, frame_conformerCtx_ideal, frame_conformerCtx_reference,
  trivial, algebraic, trivial, algebraic_inProj, trivial, algebraic_conformer, trivial, algebraic_adaln, trivial, algebraic_ffnUp, trivial, algebraic_ffnDown, trivial, algebraic_merge, trivial, algebraic_outProj, trivial, algebraic_inProjCtx, trivial, algebraic_outProjCtx, trivial, algebraic_ffnDownCtx, trivial, algebraic_mergeCtx, trivial, algebraic_conformerCtx⟩

end Cert.Proof

end
